-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSRefIdeal (m : (ℓ : Loc Cert.PostSRefIdeal.nD Cert.PostSRefIdeal.τ Cert.PostSRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3)
      ∧ r.2.mem ((c.tc : Thread Cert.InprojS.nD Cert.InprojS.τ).loc Cert.InprojS.main_arg4) = m ((c.tc : Thread Cert.InprojS.nD Cert.InprojS.τ).loc Cert.InprojS.main_arg4))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
      ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3)
      ∧ r.2.mem ((c.tc : Thread Cert.InprojSRefIdeal.nD Cert.InprojSRefIdeal.τ).loc Cert.InprojSRefIdeal.main_arg4) = m ((c.tc : Thread Cert.InprojSRefIdeal.nD Cert.InprojSRefIdeal.τ).loc Cert.InprojSRefIdeal.main_arg4))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9)
      ∧ r.2.mem ((c.tc : Thread Cert.PostS.nD Cert.PostS.τ).loc Cert.PostS.main_arg10) = m ((c.tc : Thread Cert.PostS.nD Cert.PostS.τ).loc Cert.PostS.main_arg10)
      ∧ r.2.mem ((c.tc : Thread Cert.PostS.nD Cert.PostS.τ).loc Cert.PostS.main_arg11) = m ((c.tc : Thread Cert.PostS.nD Cert.PostS.τ).loc Cert.PostS.main_arg11)
      ∧ r.2.mem ((c.tc : Thread Cert.PostS.nD Cert.PostS.τ).loc Cert.PostS.main_arg12) = m ((c.tc : Thread Cert.PostS.nD Cert.PostS.τ).loc Cert.PostS.main_arg12)
      ∧ r.2.mem ((c.tc : Thread Cert.PostS.nD Cert.PostS.τ).loc Cert.PostS.main_arg13) = m ((c.tc : Thread Cert.PostS.nD Cert.PostS.τ).loc Cert.PostS.main_arg13)
      ∧ r.2.mem ((c.tc : Thread Cert.PostS.nD Cert.PostS.τ).loc Cert.PostS.main_arg14) = m ((c.tc : Thread Cert.PostS.nD Cert.PostS.τ).loc Cert.PostS.main_arg14))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
      ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
      ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
      ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13)
      ∧ r.2.mem ((c.tc : Thread Cert.PostSIdeal.nD Cert.PostSIdeal.τ).loc Cert.PostSIdeal.main_arg14) = m ((c.tc : Thread Cert.PostSIdeal.nD Cert.PostSIdeal.τ).loc Cert.PostSIdeal.main_arg14))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10)
      ∧ r.2.mem ((c.tc : Thread Cert.PostSRefIdeal.nD Cert.PostSRefIdeal.τ).loc Cert.PostSRefIdeal.main_arg11) = m ((c.tc : Thread Cert.PostSRefIdeal.nD Cert.PostSRefIdeal.τ).loc Cert.PostSRefIdeal.main_arg11)
      ∧ r.2.mem ((c.tc : Thread Cert.PostSRefIdeal.nD Cert.PostSRefIdeal.τ).loc Cert.PostSRefIdeal.main_arg12) = m ((c.tc : Thread Cert.PostSRefIdeal.nD Cert.PostSRefIdeal.τ).loc Cert.PostSRefIdeal.main_arg12)
      ∧ r.2.mem ((c.tc : Thread Cert.PostSRefIdeal.nD Cert.PostSRefIdeal.τ).loc Cert.PostSRefIdeal.main_arg13) = m ((c.tc : Thread Cert.PostSRefIdeal.nD Cert.PostSRefIdeal.τ).loc Cert.PostSRefIdeal.main_arg13)
      ∧ r.2.mem ((c.tc : Thread Cert.PostSRefIdeal.nD Cert.PostSRefIdeal.τ).loc Cert.PostSRefIdeal.main_arg14) = m ((c.tc : Thread Cert.PostSRefIdeal.nD Cert.PostSRefIdeal.τ).loc Cert.PostSRefIdeal.main_arg14))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v12_0)) (v1 : (c : Dev Cert.PostIdeal.nD) → Buf (Elt Ideal) ((c.tc : Thread Cert.PostIdeal.nD Cert.PostIdeal.τ).loc Cert.PostIdeal.main_v12_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v12_0) = v0 c
          ∧ r.2.mem ((c.tc : Thread Cert.PostIdeal.nD Cert.PostIdeal.τ).loc Cert.PostIdeal.main_v12_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v77) = v0 c
          ∧ r.2.mem ((c.tc : Thread Cert.PostRefIdeal.nD Cert.PostRefIdeal.τ).loc Cert.PostRefIdeal.main_v78) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14))

def preserves_Conv_ConvIdeal : Prop :=
  True

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v41_0)) (v1 : (c : Dev Cert.InprojIdeal.nD) → Buf (Elt Ideal) ((c.tc : Thread Cert.InprojIdeal.nD Cert.InprojIdeal.τ).loc Cert.InprojIdeal.main_v41_1)) (v2 : (c : Dev Cert.InprojIdeal.nD) → Buf (Elt Ideal) ((c.tc : Thread Cert.InprojIdeal.nD Cert.InprojIdeal.τ).loc Cert.InprojIdeal.main_v41_2)) (v3 : (c : Dev Cert.InprojIdeal.nD) → Buf (Elt Ideal) ((c.tc : Thread Cert.InprojIdeal.nD Cert.InprojIdeal.τ).loc Cert.InprojIdeal.main_v41_3)) (v4 : (c : Dev Cert.InprojIdeal.nD) → Buf (Elt Ideal) ((c.tc : Thread Cert.InprojIdeal.nD Cert.InprojIdeal.τ).loc Cert.InprojIdeal.main_v41_4)) (v5 : (c : Dev Cert.InprojIdeal.nD) → Buf (Elt Ideal) ((c.tc : Thread Cert.InprojIdeal.nD Cert.InprojIdeal.τ).loc Cert.InprojIdeal.main_v41_5)) (v6 : (c : Dev Cert.InprojIdeal.nD) → Buf (Elt Ideal) ((c.tc : Thread Cert.InprojIdeal.nD Cert.InprojIdeal.τ).loc Cert.InprojIdeal.main_v41_6)) (v7 : (c : Dev Cert.InprojIdeal.nD) → Buf (Elt Ideal) ((c.tc : Thread Cert.InprojIdeal.nD Cert.InprojIdeal.τ).loc Cert.InprojIdeal.main_v41_7)) (v8 : (c : Dev Cert.InprojIdeal.nD) → Buf (Elt Ideal) ((c.tc : Thread Cert.InprojIdeal.nD Cert.InprojIdeal.τ).loc Cert.InprojIdeal.main_v41_8)) (v9 : (c : Dev Cert.InprojIdeal.nD) → Buf (Elt Ideal) ((c.tc : Thread Cert.InprojIdeal.nD Cert.InprojIdeal.τ).loc Cert.InprojIdeal.main_v41_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v41_0) = v0 c
          ∧ r.2.mem ((c.tc : Thread Cert.InprojIdeal.nD Cert.InprojIdeal.τ).loc Cert.InprojIdeal.main_v41_1) = v1 c
          ∧ r.2.mem ((c.tc : Thread Cert.InprojIdeal.nD Cert.InprojIdeal.τ).loc Cert.InprojIdeal.main_v41_2) = v2 c
          ∧ r.2.mem ((c.tc : Thread Cert.InprojIdeal.nD Cert.InprojIdeal.τ).loc Cert.InprojIdeal.main_v41_3) = v3 c
          ∧ r.2.mem ((c.tc : Thread Cert.InprojIdeal.nD Cert.InprojIdeal.τ).loc Cert.InprojIdeal.main_v41_4) = v4 c
          ∧ r.2.mem ((c.tc : Thread Cert.InprojIdeal.nD Cert.InprojIdeal.τ).loc Cert.InprojIdeal.main_v41_5) = v5 c
          ∧ r.2.mem ((c.tc : Thread Cert.InprojIdeal.nD Cert.InprojIdeal.τ).loc Cert.InprojIdeal.main_v41_6) = v6 c
          ∧ r.2.mem ((c.tc : Thread Cert.InprojIdeal.nD Cert.InprojIdeal.τ).loc Cert.InprojIdeal.main_v41_7) = v7 c
          ∧ r.2.mem ((c.tc : Thread Cert.InprojIdeal.nD Cert.InprojIdeal.τ).loc Cert.InprojIdeal.main_v41_8) = v8 c
          ∧ r.2.mem ((c.tc : Thread Cert.InprojIdeal.nD Cert.InprojIdeal.τ).loc Cert.InprojIdeal.main_v41_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v113) = v0 c
          ∧ r.2.mem ((c.tc : Thread Cert.InprojRefIdeal.nD Cert.InprojRefIdeal.τ).loc Cert.InprojRefIdeal.main_v115) = v1 c
          ∧ r.2.mem ((c.tc : Thread Cert.InprojRefIdeal.nD Cert.InprojRefIdeal.τ).loc Cert.InprojRefIdeal.main_v117) = v2 c
          ∧ r.2.mem ((c.tc : Thread Cert.InprojRefIdeal.nD Cert.InprojRefIdeal.τ).loc Cert.InprojRefIdeal.main_v119) = v3 c
          ∧ r.2.mem ((c.tc : Thread Cert.InprojRefIdeal.nD Cert.InprojRefIdeal.τ).loc Cert.InprojRefIdeal.main_v121) = v4 c
          ∧ r.2.mem ((c.tc : Thread Cert.InprojRefIdeal.nD Cert.InprojRefIdeal.τ).loc Cert.InprojRefIdeal.main_v122) = v5 c
          ∧ r.2.mem ((c.tc : Thread Cert.InprojRefIdeal.nD Cert.InprojRefIdeal.τ).loc Cert.InprojRefIdeal.main_v123) = v6 c
          ∧ r.2.mem ((c.tc : Thread Cert.InprojRefIdeal.nD Cert.InprojRefIdeal.τ).loc Cert.InprojRefIdeal.main_v125) = v7 c
          ∧ r.2.mem ((c.tc : Thread Cert.InprojRefIdeal.nD Cert.InprojRefIdeal.τ).loc Cert.InprojRefIdeal.main_v126) = v8 c
          ∧ r.2.mem ((c.tc : Thread Cert.InprojRefIdeal.nD Cert.InprojRefIdeal.τ).loc Cert.InprojRefIdeal.main_v127) = v9 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)
      ∧ m' ((c.tc : Thread Cert.InprojSRefIdeal.nD Cert.InprojSRefIdeal.τ).loc Cert.InprojSRefIdeal.main_arg4) = m ((c.tc : Thread Cert.InprojSIdeal.nD Cert.InprojSIdeal.τ).loc Cert.InprojSIdeal.main_arg4)) →
    ∃ (v0 : (c : Dev Cert.InprojSIdeal.nD) → Buf (Elt Ideal) ((c.tc : Thread Cert.InprojSIdeal.nD Cert.InprojSIdeal.τ).loc Cert.InprojSIdeal.main_v54_0)) (v1 : (c : Dev Cert.InprojSIdeal.nD) → Buf (Elt Ideal) ((c.tc : Thread Cert.InprojSIdeal.nD Cert.InprojSIdeal.τ).loc Cert.InprojSIdeal.main_v54_1)) (v2 : (c : Dev Cert.InprojSIdeal.nD) → Buf (Elt Ideal) ((c.tc : Thread Cert.InprojSIdeal.nD Cert.InprojSIdeal.τ).loc Cert.InprojSIdeal.main_v54_2)) (v3 : (c : Dev Cert.InprojSIdeal.nD) → Buf (Elt Ideal) ((c.tc : Thread Cert.InprojSIdeal.nD Cert.InprojSIdeal.τ).loc Cert.InprojSIdeal.main_v54_3)) (v4 : (c : Dev Cert.InprojSIdeal.nD) → Buf (Elt Ideal) ((c.tc : Thread Cert.InprojSIdeal.nD Cert.InprojSIdeal.τ).loc Cert.InprojSIdeal.main_v54_4)) (v5 : (c : Dev Cert.InprojSIdeal.nD) → Buf (Elt Ideal) ((c.tc : Thread Cert.InprojSIdeal.nD Cert.InprojSIdeal.τ).loc Cert.InprojSIdeal.main_v54_5)) (v6 : (c : Dev Cert.InprojSIdeal.nD) → Buf (Elt Ideal) ((c.tc : Thread Cert.InprojSIdeal.nD Cert.InprojSIdeal.τ).loc Cert.InprojSIdeal.main_v54_6)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v54_0) = v0 c
          ∧ r.2.mem ((c.tc : Thread Cert.InprojSIdeal.nD Cert.InprojSIdeal.τ).loc Cert.InprojSIdeal.main_v54_1) = v1 c
          ∧ r.2.mem ((c.tc : Thread Cert.InprojSIdeal.nD Cert.InprojSIdeal.τ).loc Cert.InprojSIdeal.main_v54_2) = v2 c
          ∧ r.2.mem ((c.tc : Thread Cert.InprojSIdeal.nD Cert.InprojSIdeal.τ).loc Cert.InprojSIdeal.main_v54_3) = v3 c
          ∧ r.2.mem ((c.tc : Thread Cert.InprojSIdeal.nD Cert.InprojSIdeal.τ).loc Cert.InprojSIdeal.main_v54_4) = v4 c
          ∧ r.2.mem ((c.tc : Thread Cert.InprojSIdeal.nD Cert.InprojSIdeal.τ).loc Cert.InprojSIdeal.main_v54_5) = v5 c
          ∧ r.2.mem ((c.tc : Thread Cert.InprojSIdeal.nD Cert.InprojSIdeal.τ).loc Cert.InprojSIdeal.main_v54_6) = v6 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
          ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v114) = v0 c
          ∧ r.2.mem ((c.tc : Thread Cert.InprojSRefIdeal.nD Cert.InprojSRefIdeal.τ).loc Cert.InprojSRefIdeal.main_v116) = v1 c
          ∧ r.2.mem ((c.tc : Thread Cert.InprojSRefIdeal.nD Cert.InprojSRefIdeal.τ).loc Cert.InprojSRefIdeal.main_v118) = v2 c
          ∧ r.2.mem ((c.tc : Thread Cert.InprojSRefIdeal.nD Cert.InprojSRefIdeal.τ).loc Cert.InprojSRefIdeal.main_v119) = v3 c
          ∧ r.2.mem ((c.tc : Thread Cert.InprojSRefIdeal.nD Cert.InprojSRefIdeal.τ).loc Cert.InprojSRefIdeal.main_v120) = v4 c
          ∧ r.2.mem ((c.tc : Thread Cert.InprojSRefIdeal.nD Cert.InprojSRefIdeal.τ).loc Cert.InprojSRefIdeal.main_v121) = v5 c
          ∧ r.2.mem ((c.tc : Thread Cert.InprojSRefIdeal.nD Cert.InprojSRefIdeal.τ).loc Cert.InprojSRefIdeal.main_v122) = v6 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3)
          ∧ r.2.mem ((c.tc : Thread Cert.InprojSRefIdeal.nD Cert.InprojSRefIdeal.τ).loc Cert.InprojSRefIdeal.main_arg4) = m' ((c.tc : Thread Cert.InprojSRefIdeal.nD Cert.InprojSRefIdeal.τ).loc Cert.InprojSRefIdeal.main_arg4))

def preserves_PostS_PostSIdeal : Prop :=
  True

def algebraic_PostSIdeal_PostSRefIdeal [hPostSIdeal : Cert.PostSIdeal.Facts] [hPostSRefIdeal : Cert.PostSRefIdeal.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)
      ∧ m' ((c.tc : Thread Cert.PostSRefIdeal.nD Cert.PostSRefIdeal.τ).loc Cert.PostSRefIdeal.main_arg11) = m ((c.tc : Thread Cert.PostSIdeal.nD Cert.PostSIdeal.τ).loc Cert.PostSIdeal.main_arg11)
      ∧ m' ((c.tc : Thread Cert.PostSRefIdeal.nD Cert.PostSRefIdeal.τ).loc Cert.PostSRefIdeal.main_arg12) = m ((c.tc : Thread Cert.PostSIdeal.nD Cert.PostSIdeal.τ).loc Cert.PostSIdeal.main_arg12)
      ∧ m' ((c.tc : Thread Cert.PostSRefIdeal.nD Cert.PostSRefIdeal.τ).loc Cert.PostSRefIdeal.main_arg13) = m ((c.tc : Thread Cert.PostSIdeal.nD Cert.PostSIdeal.τ).loc Cert.PostSIdeal.main_arg13)
      ∧ m' ((c.tc : Thread Cert.PostSRefIdeal.nD Cert.PostSRefIdeal.τ).loc Cert.PostSRefIdeal.main_arg14) = m ((c.tc : Thread Cert.PostSIdeal.nD Cert.PostSIdeal.τ).loc Cert.PostSIdeal.main_arg14)) →
    ∃ (v0 : (c : Dev Cert.PostSIdeal.nD) → Buf (Elt Ideal) ((c.tc : Thread Cert.PostSIdeal.nD Cert.PostSIdeal.τ).loc Cert.PostSIdeal.main_v17_0)) (v1 : (c : Dev Cert.PostSIdeal.nD) → Buf (Elt Ideal) ((c.tc : Thread Cert.PostSIdeal.nD Cert.PostSIdeal.τ).loc Cert.PostSIdeal.main_v17_1)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v17_0) = v0 c
          ∧ r.2.mem ((c.tc : Thread Cert.PostSIdeal.nD Cert.PostSIdeal.τ).loc Cert.PostSIdeal.main_v17_1) = v1 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
          ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
          ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11)
          ∧ r.2.mem ((c.tc : Thread Cert.PostSIdeal.nD Cert.PostSIdeal.τ).loc Cert.PostSIdeal.main_arg12) = m ((c.tc : Thread Cert.PostSIdeal.nD Cert.PostSIdeal.τ).loc Cert.PostSIdeal.main_arg12)
          ∧ r.2.mem ((c.tc : Thread Cert.PostSIdeal.nD Cert.PostSIdeal.τ).loc Cert.PostSIdeal.main_arg13) = m ((c.tc : Thread Cert.PostSIdeal.nD Cert.PostSIdeal.τ).loc Cert.PostSIdeal.main_arg13)
          ∧ r.2.mem ((c.tc : Thread Cert.PostSIdeal.nD Cert.PostSIdeal.τ).loc Cert.PostSIdeal.main_arg14) = m ((c.tc : Thread Cert.PostSIdeal.nD Cert.PostSIdeal.τ).loc Cert.PostSIdeal.main_arg14))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v76) = v0 c
          ∧ r.2.mem ((c.tc : Thread Cert.PostSRefIdeal.nD Cert.PostSRefIdeal.τ).loc Cert.PostSRefIdeal.main_v77) = v1 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9)
          ∧ r.2.mem ((c.tc : Thread Cert.PostSRefIdeal.nD Cert.PostSRefIdeal.τ).loc Cert.PostSRefIdeal.main_arg10) = m' ((c.tc : Thread Cert.PostSRefIdeal.nD Cert.PostSRefIdeal.τ).loc Cert.PostSRefIdeal.main_arg10)
          ∧ r.2.mem ((c.tc : Thread Cert.PostSRefIdeal.nD Cert.PostSRefIdeal.τ).loc Cert.PostSRefIdeal.main_arg11) = m' ((c.tc : Thread Cert.PostSRefIdeal.nD Cert.PostSRefIdeal.τ).loc Cert.PostSRefIdeal.main_arg11)
          ∧ r.2.mem ((c.tc : Thread Cert.PostSRefIdeal.nD Cert.PostSRefIdeal.τ).loc Cert.PostSRefIdeal.main_arg12) = m' ((c.tc : Thread Cert.PostSRefIdeal.nD Cert.PostSRefIdeal.τ).loc Cert.PostSRefIdeal.main_arg12)
          ∧ r.2.mem ((c.tc : Thread Cert.PostSRefIdeal.nD Cert.PostSRefIdeal.τ).loc Cert.PostSRefIdeal.main_arg13) = m' ((c.tc : Thread Cert.PostSRefIdeal.nD Cert.PostSRefIdeal.τ).loc Cert.PostSRefIdeal.main_arg13)
          ∧ r.2.mem ((c.tc : Thread Cert.PostSRefIdeal.nD Cert.PostSRefIdeal.τ).loc Cert.PostSRefIdeal.main_arg14) = m' ((c.tc : Thread Cert.PostSRefIdeal.nD Cert.PostSRefIdeal.τ).loc Cert.PostSRefIdeal.main_arg14))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hPost : Cert.Post.Facts) (hPostIdeal : Cert.PostIdeal.Facts) (hPostRefIdeal : Cert.PostRefIdeal.Facts) (hConv : Cert.Conv.Facts) (hConvIdeal : Cert.ConvIdeal.Facts) (hConvRefIdeal : Cert.ConvRefIdeal.Facts) (hInproj : Cert.Inproj.Facts) (hInprojIdeal : Cert.InprojIdeal.Facts) (hInprojRefIdeal : Cert.InprojRefIdeal.Facts) (hInprojS : Cert.InprojS.Facts) (hInprojSIdeal : Cert.InprojSIdeal.Facts) (hInprojSRefIdeal : Cert.InprojSRefIdeal.Facts) (hPostS : Cert.PostS.Facts) (hPostSIdeal : Cert.PostSIdeal.Facts) (hPostSRefIdeal : Cert.PostSRefIdeal.Facts) (hMod : Cert.Mod.Facts) (hModIdeal : Cert.ModIdeal.Facts) (hModRefIdeal : Cert.ModRefIdeal.Facts),
    quiescent_Post (hPost := hPost)
    ∧ quiescent_PostIdeal (hPostIdeal := hPostIdeal)
    ∧ quiescent_PostRefIdeal (hPostRefIdeal := hPostRefIdeal)
    ∧ quiescent_Conv (hConv := hConv)
    ∧ quiescent_ConvIdeal (hConvIdeal := hConvIdeal)
    ∧ quiescent_ConvRefIdeal (hConvRefIdeal := hConvRefIdeal)
    ∧ quiescent_Inproj (hInproj := hInproj)
    ∧ quiescent_InprojIdeal (hInprojIdeal := hInprojIdeal)
    ∧ quiescent_InprojRefIdeal (hInprojRefIdeal := hInprojRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_PostS (hPostS := hPostS)
    ∧ quiescent_PostSIdeal (hPostSIdeal := hPostSIdeal)
    ∧ quiescent_PostSRefIdeal (hPostSRefIdeal := hPostSRefIdeal)
    ∧ quiescent_Mod (hMod := hMod)
    ∧ quiescent_ModIdeal (hModIdeal := hModIdeal)
    ∧ quiescent_ModRefIdeal (hModRefIdeal := hModRefIdeal)
    ∧ preserves_Post_PostIdeal
    ∧ algebraic_PostIdeal_PostRefIdeal (hPostIdeal := hPostIdeal) (hPostRefIdeal := hPostRefIdeal)
    ∧ preserves_Conv_ConvIdeal
    ∧ preserves_Inproj_InprojIdeal
    ∧ algebraic_InprojIdeal_InprojRefIdeal (hInprojIdeal := hInprojIdeal) (hInprojRefIdeal := hInprojRefIdeal)
    ∧ preserves_InprojS_InprojSIdeal
    ∧ algebraic_InprojSIdeal_InprojSRefIdeal (hInprojSIdeal := hInprojSIdeal) (hInprojSRefIdeal := hInprojSRefIdeal)
    ∧ preserves_PostS_PostSIdeal
    ∧ algebraic_PostSIdeal_PostSRefIdeal (hPostSIdeal := hPostSIdeal) (hPostSRefIdeal := hPostSRefIdeal)
    ∧ preserves_Mod_ModIdeal
    ∧ algebraic_ModIdeal_ModRefIdeal (hModIdeal := hModIdeal) (hModRefIdeal := hModRefIdeal)
-- ==== Post.lean ====
abbrev S8x2048x1024 : Shape := ⟨3, ![8, 2048, 1024]⟩
abbrev S8x2048x512 : Shape := ⟨3, ![8, 2048, 512]⟩
abbrev S8x512x2048 : Shape := ⟨3, ![8, 512, 2048]⟩
abbrev S8x1024 : Shape := ⟨2, ![8, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S3x5632 : Shape := ⟨2, ![3, 5632]⟩
abbrev S5632 : Shape := ⟨1, ![5632]⟩
abbrev S8x2x5632 : Shape := ⟨3, ![8, 2, 5632]⟩
abbrev S8x1x1024 : Shape := ⟨3, ![8, 1, 1024]⟩
abbrev S16384x1024 : Shape := ⟨2, ![16384, 1024]⟩
abbrev S16384x512 : Shape := ⟨2, ![16384, 512]⟩
abbrev S1x1024 : Shape := ⟨2, ![1, 1024]⟩
abbrev S1x5632 : Shape := ⟨2, ![1, 5632]⟩
abbrev S512x1024 : Shape := ⟨2, ![512, 1024]⟩
abbrev S512x512 : Shape := ⟨2, ![512, 512]⟩
abbrev S1x512x512 : Shape := ⟨3, ![1, 512, 512]⟩
abbrev S1x1x1024 : Shape := ⟨3, ![1, 1, 1024]⟩
abbrev S1x2x5632 : Shape := ⟨3, ![1, 2, 5632]⟩
abbrev S2x5632 : Shape := ⟨2, ![2, 5632]⟩
abbrev S512 : Shape := ⟨1, ![512]⟩
abbrev S512x1 : Shape := ⟨2, ![512, 1]⟩
abbrev S8x1 : Shape := ⟨2, ![8, 1]⟩
abbrev S1024x2816 : Shape := ⟨2, ![1024, 2816]⟩
abbrev S512x2816 : Shape := ⟨2, ![512, 2816]⟩
abbrev S1x2816 : Shape := ⟨2, ![1, 2816]⟩
abbrev S8x2816 : Shape := ⟨2, ![8, 2816]⟩
abbrev S504x2816 : Shape := ⟨2, ![504, 2816]⟩
abbrev S2x2816 : Shape := ⟨2, ![2, 2816]⟩

abbrev nBuf : Space → Nat
  | .hbm => 29
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x512x2048, .bf16⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S3x5632, .f32⟩
  | .hbm, ⟨13, _⟩ => ⟨S5632, .f32⟩
  | .hbm, ⟨14, _⟩ => ⟨S8x2x5632, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S16384x1024, .f32⟩
  | .hbm, ⟨20, _⟩ => ⟨S16384x512, .bf16⟩
  | .hbm, ⟨21, _⟩ => ⟨S1x1024, .f32⟩
  | .hbm, ⟨22, _⟩ => ⟨S1x1024, .f32⟩
  | .hbm, ⟨23, _⟩ => ⟨S1024x1024, .bf16⟩
  | .hbm, ⟨24, _⟩ => ⟨S1024x5632, .bf16⟩
  | .hbm, ⟨25, _⟩ => ⟨S2816x1024, .bf16⟩
  | .hbm, ⟨26, _⟩ => ⟨S1x5632, .f32⟩
  | .hbm, ⟨27, _⟩ => ⟨S16384x1024, .f32⟩
  | .hbm, ⟨28, _⟩ => ⟨S8x2x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x5632, .bf16⟩
  | .local _ .vmem, ⟨18, _⟩ => ⟨S2816x1024, .bf16⟩
  | .local _ .vmem, ⟨19, _⟩ => ⟨S3x5632, .f32⟩
  | .local _ .vmem, ⟨20, _⟩ => ⟨S1x5632, .f32⟩
  | .local _ .vmem, ⟨21, _⟩ => ⟨S1x2x5632, .f32⟩
  | .local _ .vmem, ⟨22, _⟩ => ⟨S1x2x5632, .f32⟩
  | .local _ .vmem, ⟨23, _⟩ => ⟨S512x1024, .f32⟩
  | .local _ .vmem, ⟨24, _⟩ => ⟨S512x1024, .f32⟩
  | .local _ .vmem, ⟨25, _⟩ => ⟨S1x2x5632, .f32⟩
  | .local _ .vmem, ⟨26, _⟩ => ⟨S1x2x5632, .f32⟩
  | .local _ .vmem, ⟨27, _⟩ => ⟨S2x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c4_i32_74 : BitVec 32 := 4#32
  let c0_i32_75 : BitVec 32 := 0#32
  let v172 : BitVec 1 := Scalar.cmpi .eq c4_i32_74 c0_i32_75
  let c1_i32_76 : BitVec 32 := 1#32
  let v173 : BitVec 32 := Scalar.select v172 c1_i32_76 c4_i32_74
  let v174 : BitVec 32 := Scalar.remsi arg0 v173
  let c0_i32_78 : BitVec 32 := 0#32
  let v176 : BitVec 1 := Scalar.cmpi .slt v174 c0_i32_78
  let c0_i32_79 : BitVec 32 := 0#32
  let v177 : BitVec 1 := Scalar.cmpi .slt v173 c0_i32_79
  let v178 : BitVec 1 := Scalar.xori v176 v177
  let c0_i32_77 : BitVec 32 := 0#32
  let v175 : BitVec 1 := Scalar.cmpi .ne v174 c0_i32_77
  let v179 : BitVec 1 := Scalar.andi v178 v175
  let v180 : BitVec 32 := Scalar.addi v174 v173
  let v181 : BitVec 32 := Scalar.select v179 v180 v174
  let c3_i32 : BitVec 32 := 3#32
  let v182 : BitVec 1 := Scalar.cmpi .eq v181 c3_i32
  let v183 : BitVec 32 := Scalar.extui v182
  let c0_i32_80 : BitVec 32 := 0#32
  let v184 : BitVec 1 := Scalar.cmpi .ne v183 c0_i32_80
  v184

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c1_i32 : BitVec 32 := 1#32
  let v0 : BitVec 32 := Scalar.muli arg0 c1_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c1_i32 : BitVec 32 := 1#32
  let v0 : BitVec 32 := Scalar.muli arg0 c1_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x2x5632 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x5632 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PostRefIdeal.lean ====
abbrev S8x2048x1024 : Shape := ⟨3, ![8, 2048, 1024]⟩
abbrev S8x2048x512 : Shape := ⟨3, ![8, 2048, 512]⟩
abbrev S8x512x2048 : Shape := ⟨3, ![8, 512, 2048]⟩
abbrev S8x1024 : Shape := ⟨2, ![8, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S3x5632 : Shape := ⟨2, ![3, 5632]⟩
abbrev S5632 : Shape := ⟨1, ![5632]⟩
abbrev S8x2x5632 : Shape := ⟨3, ![8, 2, 5632]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S16384x1024 : Shape := ⟨2, ![16384, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x512x2048, .bf16⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S3x5632, .f32⟩
  | .hbm, ⟨13, _⟩ => ⟨S5632, .f32⟩
  | .hbm, ⟨14, _⟩ => ⟨S8x2x5632, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x512x2048, .f32⟩
  | .hbm, ⟨20, _⟩ => ⟨S8x2048x512, .f32⟩
  | .hbm, ⟨21, _⟩ => ⟨S8x2048x512, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x5632, .f32⟩
  | .hbm, ⟨51, _⟩ => ⟨S8x2050x5632, .f32⟩
  | .hbm, ⟨52, _⟩ => ⟨S8x2048x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S8x2048x5632, .f32⟩
  | .hbm, ⟨57, _⟩ => ⟨S8x2048x5632, .f32⟩
  | .hbm, ⟨58, _⟩ => ⟨S8x2048x5632, .f32⟩
  | .hbm, ⟨59, _⟩ => ⟨S1x5632, .f32⟩
  | .hbm, ⟨60, _⟩ => ⟨S5632, .f32⟩
  | .hbm, ⟨61, _⟩ => ⟨S1x1x5632, .f32⟩
  | .hbm, ⟨62, _⟩ => ⟨S8x2048x5632, .f32⟩
  | .hbm, ⟨63, _⟩ => ⟨S8x2048x5632, .f32⟩
  | .hbm, ⟨64, _⟩ => ⟨S8x2048x5632, .f32⟩
  | .hbm, ⟨65, _⟩ => ⟨S8x2048x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S8x2048x5632, .f32⟩
  | .hbm, ⟨70, _⟩ => ⟨S8x2048x5632, .f32⟩
  | .hbm, ⟨71, _⟩ => ⟨S8x2048x5632, .f32⟩
  | .hbm, ⟨72, _⟩ => ⟨S1x1x5632, .f32⟩
  | .hbm, ⟨73, _⟩ => ⟨S8x2048x5632, .f32⟩
  | .hbm, ⟨74, _⟩ => ⟨S8x2048x5632, .f32⟩
  | .hbm, ⟨75, _⟩ => ⟨S8x2048x2816, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S_, .f32⟩
  | .hbm, ⟨80, _⟩ => ⟨S8x2048x2816, .f32⟩
  | .hbm, ⟨81, _⟩ => ⟨S8x2048x2816, .f32⟩
  | .hbm, ⟨82, _⟩ => ⟨S_, .f32⟩
  | .hbm, ⟨83, _⟩ => ⟨S8x2048x2816, .f32⟩
  | .hbm, ⟨84, _⟩ => ⟨S8x2048x2816, .f32⟩
  | .hbm, ⟨85, _⟩ => ⟨S8x2048x2816, .f32⟩
  | .hbm, ⟨86, _⟩ => ⟨S8x2048x2816, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S_, .f32⟩
  | .hbm, ⟨93, _⟩ => ⟨S8x2048, .f32⟩
  | .hbm, ⟨94, _⟩ => ⟨S8x2048x1, .f32⟩
  | .hbm, ⟨95, _⟩ => ⟨S_, .f32⟩
  | .hbm, ⟨96, _⟩ => ⟨S8x2048x1, .f32⟩
  | .hbm, ⟨97, _⟩ => ⟨S8x2048x1, .f32⟩
  | .hbm, ⟨98, _⟩ => ⟨S_, .f32⟩
  | .hbm, ⟨99, _⟩ => ⟨S8x2048x1, .f32⟩
  | .hbm, ⟨100, _⟩ => ⟨S8x2048x1, .f32⟩
  | .hbm, ⟨101, _⟩ => ⟨S8x2048x1, .f32⟩
  | .hbm, ⟨102, _⟩ => ⟨S8x2048x1024, .f32⟩
  | .hbm, ⟨103, _⟩ => ⟨S8x2048x1024, .f32⟩
  | .hbm, ⟨104, _⟩ => ⟨S1x1x1024, .f32⟩
  | .hbm, ⟨105, _⟩ => ⟨S8x2048x1024, .f32⟩
  | .hbm, ⟨106, _⟩ => ⟨S8x2048x1024, .f32⟩
  | .hbm, ⟨107, _⟩ => ⟨S16384x1024, .f32⟩
  | .hbm, ⟨108, _⟩ => ⟨S8x2x5632, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_3 : Ref sig .tc := ⟨.hbm, 92, rfl⟩
abbrev main_v65 : Ref sig .tc := ⟨.hbm, 93, rfl⟩
abbrev main_v66 : Ref sig .tc := ⟨.hbm, 94, rfl⟩
abbrev main_cst_4 : Ref sig .tc := ⟨.hbm, 95, rfl⟩
abbrev main_v67 : Ref sig .tc := ⟨.hbm, 96, rfl⟩
abbrev main_v68 : Ref sig .tc := ⟨.hbm, 97, rfl⟩
abbrev main_cst_5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Conv.lean ====
abbrev S8x2048x512 : Shape := ⟨3, ![8, 2048, 512]⟩
abbrev S8x30x512 : Shape := ⟨3, ![8, 30, 512]⟩
abbrev S31x512 : Shape := ⟨2, ![31, 512]⟩
abbrev S512 : Shape := ⟨1, ![512]⟩
abbrev S1x512 : Shape := ⟨2, ![1, 512]⟩
abbrev S1x512x512 : Shape := ⟨3, ![1, 512, 512]⟩
abbrev S1x30x512 : Shape := ⟨3, ![1, 30, 512]⟩
abbrev S544x512 : Shape := ⟨2, ![544, 512]⟩
abbrev S512x512 : Shape := ⟨2, ![512, 512]⟩
abbrev S2x512 : Shape := ⟨2, ![2, 512]⟩
abbrev S30x512 : Shape := ⟨2, ![30, 512]⟩
abbrev S32x512 : Shape := ⟨2, ![32, 512]⟩
abbrev S96x128 : Shape := ⟨2, ![96, 128]⟩
abbrev S64x128 : Shape := ⟨2, ![64, 128]⟩
abbrev S1x128 : Shape := ⟨2, ![1, 128]⟩
abbrev S88x128 : Shape := ⟨2, ![88, 128]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8x2048x512, .f32⟩
  | .hbm, ⟨1, _⟩ => ⟨S8x30x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S8x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x30x512, .f32⟩
  | .local _ .vmem, ⟨3, _⟩ => ⟨S1x30x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512x512, .bf16⟩
  | .local _ .vmem, ⟨9, _⟩ => ⟨S1x512x512, .bf16⟩
  | .local _ .vmem, ⟨10, _⟩ => ⟨S544x512, .f32⟩
  | .local _ .vmem, ⟨11, _⟩ => ⟨S512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S8x2048x512 : Shape := ⟨3, ![8, 2048, 512]⟩
abbrev S8x30x512 : Shape := ⟨3, ![8, 30, 512]⟩
abbrev S31x512 : Shape := ⟨2, ![31, 512]⟩
abbrev S512 : Shape := ⟨1, ![512]⟩
abbrev S8x2078x512 : Shape := ⟨3, ![8, 2078, 512]⟩
abbrev S1x512 : Shape := ⟨2, ![1, 512]⟩
abbrev S1x1x512 : Shape := ⟨3, ![1, 1, 512]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 265
  | .vmem => 0
  | .smem => 0
  | _ => 0

abbrev hbmTy0_0 (i : Nat) : BufTy := match i % 128 with
  | 0 => ⟨S8x2048x512, .f32⟩
  | 1 => ⟨S8x30x512, .f32⟩
  | 2 => ⟨S31x512, .f32⟩
  | 3 => ⟨S512, .f32⟩
  | 4 => ⟨S512, .f32⟩
  | 5 => ⟨S512, .f32⟩
  | 6 => ⟨S8x2078x512, .f32⟩
  | 7 => ⟨S8x2048x512, .f32⟩
  | 8 => ⟨S1x512, .f32⟩
  | 9 => ⟨S512, .f32⟩
  | 10 => ⟨S1x1x512, .f32⟩
  | 11 => ⟨S8x2048x512, .f32⟩
  | 12 => ⟨S8x2048x512, .f32⟩
  | 13 => ⟨S8x2048x512, .f32⟩
  | 14 => ⟨S1x512, .f32⟩
  | 15 => ⟨S512, .f32⟩
  | 16 => ⟨S1x1x512, .f32⟩
  | 17 => ⟨S8x2048x512, .f32⟩
  | 18 => ⟨S8x2048x512, .f32⟩
  | 19 => ⟨S8x2048x512, .f32⟩
  | 20 => ⟨S8x2048x512, .f32⟩
  | 21 => ⟨S1x512, .f32⟩
  | 22 => ⟨S512, .f32⟩
  | 23 => ⟨S1x1x512, .f32⟩
  | 24 => ⟨S8x2048x512, .f32⟩
  | 25 => ⟨S8x2048x512, .f32⟩
  | 26 => ⟨S8x2048x512, .f32⟩
  | 27 => ⟨S8x2048x512, .f32⟩
  | 28 => ⟨S1x512, .f32⟩
  | 29 => ⟨S512, .f32⟩
  | 30 => ⟨S1x1x512, .f32⟩
  | 31 => ⟨S8x2048x512, .f32⟩
  | 32 => ⟨S8x2048x512, .f32⟩
  | 33 => ⟨S8x2048x512, .f32⟩
  | 34 => ⟨S8x2048x512, .f32⟩
  | 35 => ⟨S1x512, .f32⟩
  | 36 => ⟨S512, .f32⟩
  | 37 => ⟨S1x1x512, .f32⟩
  | 38 => ⟨S8x2048x512, .f32⟩
  | 39 => ⟨S8x2048x512, .f32⟩
  | 40 => ⟨S8x2048x512, .f32⟩
  | 41 => ⟨S8x2048x512, .f32⟩
  | 42 => ⟨S1x512, .f32⟩
  | 43 => ⟨S512, .f32⟩
  | 44 => ⟨S1x1x512, .f32⟩
  | 45 => ⟨S8x2048x512, .f32⟩
  | 46 => ⟨S8x2048x512, .f32⟩
  | 47 => ⟨S8x2048x512, .f32⟩
  | 48 => ⟨S8x2048x512, .f32⟩
  | 49 => ⟨S1x512, .f32⟩
  | 50 => ⟨S512, .f32⟩
  | 51 => ⟨S1x1x512, .f32⟩
  | 52 => ⟨S8x2048x512, .f32⟩
  | 53 => ⟨S8x2048x512, .f32⟩
  | 54 => ⟨S8x2048x512, .f32⟩
  | 55 => ⟨S8x2048x512, .f32⟩
  | 56 => ⟨S1x512, .f32⟩
  | 57 => ⟨S512, .f32⟩
  | 58 => ⟨S1x1x512, .f32⟩
  | 59 => ⟨S8x2048x512, .f32⟩
  | 60 => ⟨S8x2048x512, .f32⟩
  | 61 => ⟨S8x2048x512, .f32⟩
  | 62 => ⟨S8x2048x512, .f32⟩
  | 63 => ⟨S1x512, .f32⟩
  | 64 => ⟨S512, .f32⟩
  | 65 => ⟨S1x1x512, .f32⟩
  | 66 => ⟨S8x2048x512, .f32⟩
  | 67 => ⟨S8x2048x512, .f32⟩
  | 68 => ⟨S8x2048x512, .f32⟩
  | 69 => ⟨S8x2048x512, .f32⟩
  | 70 => ⟨S1x512, .f32⟩
  | 71 => ⟨S512, .f32⟩
  | 72 => ⟨S1x1x512, .f32⟩
  | 73 => ⟨S8x2048x512, .f32⟩
  | 74 => ⟨S8x2048x512, .f32⟩
  | 75 => ⟨S8x2048x512, .f32⟩
  | 76 => ⟨S8x2048x512, .f32⟩
  | 77 => ⟨S1x512, .f32⟩
  | 78 => ⟨S512, .f32⟩
  | 79 => ⟨S1x1x512, .f32⟩
  | 80 => ⟨S8x2048x512, .f32⟩
  | 81 => ⟨S8x2048x512, .f32⟩
  | 82 => ⟨S8x2048x512, .f32⟩
  | 83 => ⟨S8x2048x512, .f32⟩
  | 84 => ⟨S1x512, .f32⟩
  | 85 => ⟨S512, .f32⟩
  | 86 => ⟨S1x1x512, .f32⟩
  | 87 => ⟨S8x2048x512, .f32⟩
  | 88 => ⟨S8x2048x512, .f32⟩
  | 89 => ⟨S8x2048x512, .f32⟩
  | 90 => ⟨S8x2048x512, .f32⟩
  | 91 => ⟨S1x512, .f32⟩
  | 92 => ⟨S512, .f32⟩
  | 93 => ⟨S1x1x512, .f32⟩
  | 94 => ⟨S8x2048x512, .f32⟩
  | 95 => ⟨S8x2048x512, .f32⟩
  | 96 => ⟨S8x2048x512, .f32⟩
  | 97 => ⟨S8x2048x512, .f32⟩
  | 98 => ⟨S1x512, .f32⟩
  | 99 => ⟨S512, .f32⟩
  | 100 => ⟨S1x1x512, .f32⟩
  | 101 => ⟨S8x2048x512, .f32⟩
  | 102 => ⟨S8x2048x512, .f32⟩
  | 103 => ⟨S8x2048x512, .f32⟩
  | 104 => ⟨S8x2048x512, .f32⟩
  | 105 => ⟨S1x512, .f32⟩
  | 106 => ⟨S512, .f32⟩
  | 107 => ⟨S1x1x512, .f32⟩
  | 108 => ⟨S8x2048x512, .f32⟩
  | 109 => ⟨S8x2048x512, .f32⟩
  | 110 => ⟨S8x2048x512, .f32⟩
  | 111 => ⟨S8x2048x512, .f32⟩
  | 112 => ⟨S1x512, .f32⟩
  | 113 => ⟨S512, .f32⟩
  | 114 => ⟨S1x1x512, .f32⟩
  | 115 => ⟨S8x2048x512, .f32⟩
  | 116 => ⟨S8x2048x512, .f32⟩
  | 117 => ⟨S8x2048x512, .f32⟩
  | 118 => ⟨S8x2048x512, .f32⟩
  | 119 => ⟨S1x512, .f32⟩
  | 120 => ⟨S512, .f32⟩
  | 121 => ⟨S1x1x512, .f32⟩
  | 122 => ⟨S8x2048x512, .f32⟩
  | 123 => ⟨S8x2048x512, .f32⟩
  | 124 => ⟨S8x2048x512, .f32⟩
  | 125 => ⟨S8x2048x512, .f32⟩
  | 126 => ⟨S1x512, .f32⟩
  | 127 => ⟨S512, .f32⟩
  | _ => ⟨S8x2048x512, .f32⟩

abbrev hbmTy0_1 (i : Nat) : BufTy := match i % 128 with
  | 0 => ⟨S1x1x512, .f32⟩
  | 1 => ⟨S8x2048x512, .f32⟩
  | 2 => ⟨S8x2048x512, .f32⟩
  | 3 => ⟨S8x2048x512, .f32⟩
  | 4 => ⟨S8x2048x512, .f32⟩
  | 5 => ⟨S1x512, .f32⟩
  | 6 => ⟨S512, .f32⟩
  | 7 => ⟨S1x1x512, .f32⟩
  | 8 => ⟨S8x2048x512, .f32⟩
  | 9 => ⟨S8x2048x512, .f32⟩
  | 10 => ⟨S8x2048x512, .f32⟩
  | 11 => ⟨S8x2048x512, .f32⟩
  | 12 => ⟨S1x512, .f32⟩
  | 13 => ⟨S512, .f32⟩
  | 14 => ⟨S1x1x512, .f32⟩
  | 15 => ⟨S8x2048x512, .f32⟩
  | 16 => ⟨S8x2048x512, .f32⟩
  | 17 => ⟨S8x2048x512, .f32⟩
  | 18 => ⟨S8x2048x512, .f32⟩
  | 19 => ⟨S1x512, .f32⟩
  | 20 => ⟨S512, .f32⟩
  | 21 => ⟨S1x1x512, .f32⟩
  | 22 => ⟨S8x2048x512, .f32⟩
  | 23 => ⟨S8x2048x512, .f32⟩
  | 24 => ⟨S8x2048x512, .f32⟩
  | 25 => ⟨S8x2048x512, .f32⟩
  | 26 => ⟨S1x512, .f32⟩
  | 27 => ⟨S512, .f32⟩
  | 28 => ⟨S1x1x512, .f32⟩
  | 29 => ⟨S8x2048x512, .f32⟩
  | 30 => ⟨S8x2048x512, .f32⟩
  | 31 => ⟨S8x2048x512, .f32⟩
  | 32 => ⟨S8x2048x512, .f32⟩
  | 33 => ⟨S1x512, .f32⟩
  | 34 => ⟨S512, .f32⟩
  | 35 => ⟨S1x1x512, .f32⟩
  | 36 => ⟨S8x2048x512, .f32⟩
  | 37 => ⟨S8x2048x512, .f32⟩
  | 38 => ⟨S8x2048x512, .f32⟩
  | 39 => ⟨S8x2048x512, .f32⟩
  | 40 => ⟨S1x512, .f32⟩
  | 41 => ⟨S512, .f32⟩
  | 42 => ⟨S1x1x512, .f32⟩
  | 43 => ⟨S8x2048x512, .f32⟩
  | 44 => ⟨S8x2048x512, .f32⟩
  | 45 => ⟨S8x2048x512, .f32⟩
  | 46 => ⟨S8x2048x512, .f32⟩
  | 47 => ⟨S1x512, .f32⟩
  | 48 => ⟨S512, .f32⟩
  | 49 => ⟨S1x1x512, .f32⟩
  | 50 => ⟨S8x2048x512, .f32⟩
  | 51 => ⟨S8x2048x512, .f32⟩
  | 52 => ⟨S8x2048x512, .f32⟩
  | 53 => ⟨S8x2048x512, .f32⟩
  | 54 => ⟨S1x512, .f32⟩
  | 55 => ⟨S512, .f32⟩
  | 56 => ⟨S1x1x512, .f32⟩
  | 57 => ⟨S8x2048x512, .f32⟩
  | 58 => ⟨S8x2048x512, .f32⟩
  | 59 => ⟨S8x2048x512, .f32⟩
  | 60 => ⟨S8x2048x512, .f32⟩
  | 61 => ⟨S1x512, .f32⟩
  | 62 => ⟨S512, .f32⟩
  | 63 => ⟨S1x1x512, .f32⟩
  | 64 => ⟨S8x2048x512, .f32⟩
  | 65 => ⟨S8x2048x512, .f32⟩
  | 66 => ⟨S8x2048x512, .f32⟩
  | 67 => ⟨S8x2048x512, .f32⟩
  | 68 => ⟨S1x512, .f32⟩
  | 69 => ⟨S512, .f32⟩
  | 70 => ⟨S1x1x512, .f32⟩
  | 71 => ⟨S8x2048x512, .f32⟩
  | 72 => ⟨S8x2048x512, .f32⟩
  | 73 => ⟨S8x2048x512, .f32⟩
  | 74 => ⟨S8x2048x512, .f32⟩
  | 75 => ⟨S1x512, .f32⟩
  | 76 => ⟨S512, .f32⟩
  | 77 => ⟨S1x1x512, .f32⟩
  | 78 => ⟨S8x2048x512, .f32⟩
  | 79 => ⟨S8x2048x512, .f32⟩
  | 80 => ⟨S8x2048x512, .f32⟩
  | 81 => ⟨S8x2048x512, .f32⟩
  | 82 => ⟨S1x512, .f32⟩
  | 83 => ⟨S512, .f32⟩
  | 84 => ⟨S1x1x512, .f32⟩
  | 85 => ⟨S8x2048x512, .f32⟩
  | 86 => ⟨S8x2048x512, .f32⟩
  | 87 => ⟨S8x2048x512, .f32⟩
  | 88 => ⟨S8x2048x512, .f32⟩
  | 89 => ⟨S1x512, .f32⟩
  | 90 => ⟨S512, .f32⟩
  | 91 => ⟨S1x1x512, .f32⟩
  | 92 => ⟨S8x2048x512, .f32⟩
  | 93 => ⟨S8x2048x512, .f32⟩
  | 94 => ⟨S8x2048x512, .f32⟩
  | 95 => ⟨S1x1x512, .f32⟩
  | 96 => ⟨S8x2048x512, .f32⟩
  | 97 => ⟨S8x2048x512, .f32⟩
  | 98 => ⟨S_, .f32⟩
  | 99 => ⟨S8x2048, .f32⟩
  | 100 => ⟨S8x2048x1, .f32⟩
  | 101 => ⟨S_, .f32⟩
  | 102 => ⟨S8x2048x1, .f32⟩
  | 103 => ⟨S8x2048x1, .f32⟩
  | 104 => ⟨S8x2048x512, .f32⟩
  | 105 => ⟨S8x2048x512, .f32⟩
  | 106 => ⟨S8x2048x512, .f32⟩
  | 107 => ⟨S_, .f32⟩
  | 108 => ⟨S8x2048, .f32⟩
  | 109 => ⟨S8x2048x1, .f32⟩
  | 110 => ⟨S_, .f32⟩
  | 111 => ⟨S8x2048x1, .f32⟩
  | 112 => ⟨S8x2048x1, .f32⟩
  | 113 => ⟨S8x2048x512, .f32⟩
  | 114 => ⟨S8x2048x512, .f32⟩
  | 115 => ⟨S_, .f32⟩
  | 116 => ⟨S8x2048x1, .f32⟩
  | 117 => ⟨S8x2048x1, .f32⟩
  | 118 => ⟨S8x2048x1, .f32⟩
  | 119 => ⟨S8x2048x512, .f32⟩
  | 120 => ⟨S8x2048x512, .f32⟩
  | 121 => ⟨S1x1x512, .f32⟩
  | 122 => ⟨S8x2048x512, .f32⟩
  | 123 => ⟨S8x2048x512, .f32⟩
  | 124 => ⟨S1x1x512, .f32⟩
  | 125 => ⟨S8x2048x512, .f32⟩
  | 126 => ⟨S8x2048x512, .f32⟩
  | 127 => ⟨S8x2048x512, .f32⟩
  | _ => ⟨S8x2048x512, .f32⟩

abbrev hbmTy0_2 (i : Nat) : BufTy := match i % 128 with
  | 0 => ⟨S8x2048x512, .f32⟩
  | 1 => ⟨S_, .f32⟩
  | 2 => ⟨S8x2048x512, .f32⟩
  | 3 => ⟨S8x2048x512, .f32⟩
  | 4 => ⟨S_, .f32⟩
  | 5 => ⟨S8x2048x512, .f32⟩
  | 6 => ⟨S8x2048x512, .f32⟩
  | 7 => ⟨S8x2048x512, .f32⟩
  | 8 => ⟨S8x2048x512, .bf16⟩
  | _ => ⟨S8x2048x512, .f32⟩

abbrev hbmTy (i : Nat) : BufTy := match i / 128 with
  | 0 => hbmTy0_0 i
  | 1 => hbmTy0_1 i
  | 2 => hbmTy0_2 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_cst : Ref sig .tc := ⟨.hbm, 226, rfl⟩
abbrev main_v220 : Ref sig .tc := ⟨.hbm, 227, rfl⟩
abbrev main_v221 : Ref sig .tc := ⟨.hbm, 228, rfl⟩
abbrev main_cst_0 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_cst_1 : Ref sig .tc := ⟨.hbm, 235, rfl⟩
abbrev main_v227 : Ref sig .tc := ⟨.hbm, 236, rfl⟩
abbrev main_v228 : Ref sig .tc := ⟨.hbm, 237, rfl⟩
abbrev main_cst_2 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_call0_v0 : Ref sig .tc := ⟨.hbm, 255, rfl⟩
abbrev main_call0_v1 : Ref sig .tc := ⟨.hbm, 256, rfl⟩
abbrev main_call0_cst : Ref sig .tc := ⟨.hbm, 257, rfl⟩
abbrev main_call0_v2 : Ref sig .tc := ⟨.hbm, 258, rfl⟩
abbrev main_call0_v3 : Ref sig .tc := ⟨.hbm, 259, rfl⟩
abbrev main_call0_cst_0 : Ref sig .tc := ⟨.hbm, 260, rfl⟩
abbrev main_call0_v4 : Ref sig .tc := ⟨.hbm, 261, rfl⟩
abbrev main_call0_v5 : Ref sig .tc := ⟨.hbm, 262, rfl⟩
abbrev main_v244 : Ref sig .tc := ⟨.hbm, 263, rfl⟩
abbrev main_v245 : Ref sig .tc := ⟨.hbm, 264, rfl⟩

abbrev nD : Nat := 1
abbrev τ : Topo := Topo.v7x

variable {F : FTy → Type} [FloatOps F]
-- ==== Inproj.lean ====
abbrev S8x2048x1024 : Shape := ⟨3, ![8, 2048, 1024]⟩
abbrev S8x1024 : Shape := ⟨2, ![8, 1024]⟩
abbrev S1024 : Shape := ⟨1, ![1024]⟩
abbrev S1024x2088 : Shape := ⟨2, ![1024, 2088]⟩
abbrev S8x1x1024 : Shape := ⟨3, ![8, 1, 1024]⟩
abbrev S16384x1024 : Shape := ⟨2, ![16384, 1024]⟩
abbrev S1x1024 : Shape := ⟨2, ![1, 1024]⟩
abbrev S2088x1024 : Shape := ⟨2, ![2088, 1024]⟩
abbrev S2080x1024 : Shape := ⟨2, ![2080, 1024]⟩
abbrev S_ : Shape := ⟨0, ![]⟩
abbrev S96x1024 : Shape := ⟨2, ![96, 1024]⟩
abbrev S120x1024 : Shape := ⟨2, ![120, 1024]⟩
abbrev S2304x1024 : Shape := ⟨2, ![2304, 1024]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S16384x512 : Shape := ⟨2, ![16384, 512]⟩
abbrev S16384x256 : Shape := ⟨2, ![16384, 256]⟩
abbrev S16384x128 : Shape := ⟨2, ![16384, 128]⟩
abbrev S16384x32 : Shape := ⟨2, ![16384, 32]⟩
abbrev S8x128x2048 : Shape := ⟨3, ![8, 128, 2048]⟩
abbrev S8x32x2048 : Shape := ⟨3, ![8, 32, 2048]⟩
abbrev S8x8x2048 : Shape := ⟨3, ![8, 8, 2048]⟩
abbrev S1024x1024 : Shape := ⟨2, ![1024, 1024]⟩
abbrev S1x1x1024 : Shape := ⟨3, ![1, 1, 1024]⟩
abbrev S1024x128 : Shape := ⟨2, ![1024, 128]⟩
abbrev S1024x512 : Shape := ⟨2, ![1024, 512]⟩
abbrev S1024x256 : Shape := ⟨2, ![1024, 256]⟩
abbrev S1024x32 : Shape := ⟨2, ![1024, 32]⟩
abbrev S1x128x1024 : Shape := ⟨3, ![1, 128, 1024]⟩
abbrev S1x32x1024 : Shape := ⟨3, ![1, 32, 1024]⟩
abbrev S1x8x1024 : Shape := ⟨3, ![1, 8, 1024]⟩
abbrev S1024x1 : Shape := ⟨2, ![1024, 1]⟩
abbrev S1024x2304 : Shape := ⟨2, ![1024, 2304]⟩
abbrev S128x1024 : Shape := ⟨2, ![128, 1024]⟩
abbrev S32x1024 : Shape := ⟨2, ![32, 1024]⟩

abbrev nBuf : Space → Nat
  | .hbm => 66
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x2088, .f32⟩
  | .hbm, ⟨5, _⟩ => ⟨S8x1x1024, .f32⟩
  | .hbm, ⟨6, _⟩ => ⟨S8x1x1024, .f32⟩
  | .hbm, ⟨7, _⟩ => ⟨S16384x1024, .f32⟩
  | .hbm, ⟨8, _⟩ => ⟨S1x1024, .f32⟩
  | .hbm, ⟨9, _⟩ => ⟨S2088x1024, .f32⟩
  | .hbm, ⟨10, _⟩ => ⟨S2088x1024, .bf16⟩
  | .hbm, ⟨11, _⟩ => ⟨S2080x1024, .bf16⟩
  | .hbm, ⟨12, _⟩ => ⟨S_, .bf16⟩
  | .hbm, ⟨13, _⟩ => ⟨S96x1024, .bf16⟩
  | .hbm, ⟨14, _⟩ => ⟨S8x1024, .bf16⟩
  | .hbm, ⟨15, _⟩ => ⟨S_, .bf16⟩
  | .hbm, ⟨16, _⟩ => ⟨S120x1024, .bf16⟩
  | .hbm, ⟨17, _⟩ => ⟨S2304x1024, .bf16⟩
  | .hbm, ⟨18, _⟩ => ⟨S2048, .i32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S2048, .f32⟩
  | .hbm, ⟨36, _⟩ => ⟨S2048x1, .f32⟩
  | .hbm, ⟨37, _⟩ => ⟨S1x8, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S_, .f32⟩
  | .hbm, ⟨44, _⟩ => ⟨S2048x48, .f32⟩
  | .hbm, ⟨45, _⟩ => ⟨S_, .f32⟩
  | .hbm, ⟨46, _⟩ => ⟨S2048x48, .f32⟩
  | .hbm, ⟨47, _⟩ => ⟨S_, .f32⟩
  | .hbm, ⟨48, _⟩ => ⟨S2048x8, .f32⟩
  | .hbm, ⟨49, _⟩ => ⟨S2048x64, .f32⟩
  | .hbm, ⟨50, _⟩ => ⟨S2048x64, .f32⟩
  | .hbm, ⟨51, _⟩ => ⟨S2048x8, .f32⟩
  | .hbm, ⟨52, _⟩ => ⟨S2048x64, .f32⟩
  | .hbm, ⟨53, _⟩ => ⟨S2048x128, .f32⟩
  | .hbm, ⟨54, _⟩ => ⟨S2048x128, .f32⟩
  | .hbm, ⟨55, _⟩ => ⟨S2048x128, .f32⟩
  | .hbm, ⟨56, _⟩ => ⟨S16384x512, .f32⟩
  | .hbm, ⟨57, _⟩ => ⟨S16384x512, .bf16⟩
  | .hbm, ⟨58, _⟩ => ⟨S16384x256, .bf16⟩
  | .hbm, ⟨59, _⟩ => ⟨S16384x128, .bf16⟩
  | .hbm, ⟨60, _⟩ => ⟨S16384x32, .bf16⟩
  | .hbm, ⟨61, _⟩ => ⟨S8x128x2048, .f32⟩
  | .hbm, ⟨62, _⟩ => ⟨S8x128x2048, .f32⟩
  | .hbm, ⟨63, _⟩ => ⟨S8x128x2048, .bf16⟩
  | .hbm, ⟨64, _⟩ => ⟨S8x32x2048, .f32⟩
  | .hbm, ⟨65, _⟩ => ⟨S8x8x2048, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S2304x1024, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x256, .bf16⟩
  | .local _ .vmem, ⟨19, _⟩ => ⟨S1024x256, .bf16⟩
  | .local _ .vmem, ⟨20, _⟩ => ⟨S1024x128, .bf16⟩
  | .local _ .vmem, ⟨21, _⟩ => ⟨S1024x128, .bf16⟩
  | .local _ .vmem, ⟨22, _⟩ => ⟨S1024x32, .bf16⟩
  | .local _ .vmem, ⟨23, _⟩ => ⟨S1024x32, .bf16⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | .local _ .vmem, ⟨27, _⟩ => ⟨S1x128x1024, .f32⟩
  | .local _ .vmem, ⟨28, _⟩ => ⟨S1x128x1024, .bf16⟩
  | .local _ .vmem, ⟨29, _⟩ => ⟨S1x128x1024, .bf16⟩
  | .local _ .vmem, ⟨30, _⟩ => ⟨S1x32x1024, .f32⟩
  | .local _ .vmem, ⟨31, _⟩ => ⟨S1x32x1024, .f32⟩
  | .local _ .vmem, ⟨32, _⟩ => ⟨S1x8x1024, .f32⟩
  | .local _ .vmem, ⟨33, _⟩ => ⟨S1x8x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev main_v41_3 : Ref sig .tc := ⟨.hbm, 59, rfl⟩
abbrev main_v41_4 : Ref sig .tc := ⟨.hbm, 60, rfl⟩
abbrev main_v41_5 : Ref sig .tc := ⟨.hbm, 61, rfl⟩
abbrev main_v41_6 : Ref sig .tc := ⟨.hbm, 62, rfl⟩
abbrev main_v41_7 : Ref sig .tc := ⟨.hbm, 63, rfl⟩
abbrev main_v41_8 : Ref sig .tc := ⟨.hbm, 64, rfl⟩
abbrev main_v41_9 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x32 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InprojRefIdeal.lean ====
abbrev S8x2048x1024 : Shape := ⟨3, ![8, 2048, 1024]⟩
abbrev S8x1024 : Shape := ⟨2, ![8, 1024]⟩
abbrev S1024 : Shape := ⟨1, ![1024]⟩
abbrev S1024x2088 : Shape := ⟨2, ![1024, 2088]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x2088 : Shape := ⟨3, ![8, 2048, 2088]⟩
abbrev S8x2048x512 : Shape := ⟨3, ![8, 2048, 512]⟩
abbrev S8x2048x128 : Shape := ⟨3, ![8, 2048, 128]⟩
abbrev S8x2048x256 : Shape := ⟨3, ![8, 2048, 256]⟩
abbrev S8x2048x32 : Shape := ⟨3, ![8, 2048, 32]⟩
abbrev S8x2048x8 : Shape := ⟨3, ![8, 2048, 8]⟩
abbrev S2048 : Shape := ⟨1, ![2048]⟩
abbrev S8x2048x8x64 : Shape := ⟨4, ![8, 2048, 8, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x8x8 : Shape := ⟨4, ![8, 2048, 8, 8]⟩
abbrev S8x2048x8x48 : Shape := ⟨4, ![8, 2048, 8, 48]⟩
abbrev S8x2048x2x64 : Shape := ⟨4, ![8, 2048, 2, 64]⟩
abbrev S8x2048x2x8 : Shape := ⟨4, ![8, 2048, 2, 8]⟩
abbrev S8x2048x2x48 : Shape := ⟨4, ![8, 2048, 2, 48]⟩
abbrev S16384x512 : Shape := ⟨2, ![16384, 512]⟩
abbrev S16384x256 : Shape := ⟨2, ![16384, 256]⟩
abbrev S16384x128 : Shape := ⟨2, ![16384, 128]⟩
abbrev S16384x32 : Shape := ⟨2, ![16384, 32]⟩
abbrev S8x128x2048 : Shape := ⟨3, ![8, 128, 2048]⟩
abbrev S8x32x2048 : Shape := ⟨3, ![8, 32, 2048]⟩
abbrev S8x8x2048 : Shape := ⟨3, ![8, 8, 2048]⟩

abbrev nBuf : Space → Nat
  | .hbm => 150
  | .vmem => 0
  | .smem => 0
  | _ => 0

abbrev hbmTy0_0 (i : Nat) : BufTy := match i % 128 with
  | 0 => ⟨S8x2048x1024, .f32⟩
  | 1 => ⟨S8x1024, .f32⟩
  | 2 => ⟨S8x1024, .f32⟩
  | 3 => ⟨S1024, .f32⟩
  | 4 => ⟨S1024x2088, .f32⟩
  | 5 => ⟨S8x2048x1024, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x1024, .f32⟩
  | 17 => ⟨S8x2048x1024, .f32⟩
  | 18 => ⟨S1x1x1024, .f32⟩
  | 19 => ⟨S8x2048x1024, .f32⟩
  | 20 => ⟨S8x2048x1024, .f32⟩
  | 21 => ⟨S8x1x1024, .f32⟩
  | 22 => ⟨S_, .f32⟩
  | 23 => ⟨S8x1x1024, .f32⟩
  | 24 => ⟨S8x1x1024, .f32⟩
  | 25 => ⟨S8x2048x1024, .f32⟩
  | 26 => ⟨S8x2048x1024, .f32⟩
  | 27 => ⟨S8x1x1024, .f32⟩
  | 28 => ⟨S8x2048x1024, .f32⟩
  | 29 => ⟨S8x2048x1024, .f32⟩
  | 30 => ⟨S8x2048x2088, .f32⟩
  | 31 => ⟨S8x2048x512, .f32⟩
  | 32 => ⟨S8x2048x512, .f32⟩
  | 33 => ⟨S8x2048x512, .f32⟩
  | 34 => ⟨S8x2048x128, .f32⟩
  | 35 => ⟨S8x2048x128, .f32⟩
  | 36 => ⟨S8x2048x256, .f32⟩
  | 37 => ⟨S8x2048x32, .f32⟩
  | 38 => ⟨S8x2048x8, .f32⟩
  | 39 => ⟨S8x2048x512, .f32⟩
  | 40 => ⟨S8x2048x512, .f32⟩
  | 41 => ⟨S_, .f32⟩
  | 42 => ⟨S8x2048x512, .f32⟩
  | 43 => ⟨S8x2048x512, .f32⟩
  | 44 => ⟨S_, .f32⟩
  | 45 => ⟨S8x2048x512, .f32⟩
  | 46 => ⟨S8x2048x512, .f32⟩
  | 47 => ⟨S8x2048x512, .f32⟩
  | 48 => ⟨S2048, .i32⟩
  | 49 => ⟨S8x2048x8x64, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S2048, .f32⟩
  | 67 => ⟨S2048x1, .f32⟩
  | 68 => ⟨S1x8, .f32⟩
  | 69 => ⟨S2048x8, .f32⟩
  | 70 => ⟨S2048x8, .f32⟩
  | 71 => ⟨S2048x8, .f32⟩
  | 72 => ⟨S2048x8, .f32⟩
  | 73 => ⟨S1x2048x1x8, .f32⟩
  | 74 => ⟨S2048x8, .f32⟩
  | 75 => ⟨S1x2048x1x8, .f32⟩
  | 76 => ⟨S8x2048x8x8, .f32⟩
  | 77 => ⟨S8x2048x8x8, .f32⟩
  | 78 => ⟨S8x2048x8x8, .f32⟩
  | 79 => ⟨S8x2048x8x8, .f32⟩
  | 80 => ⟨S8x2048x8x8, .f32⟩
  | 81 => ⟨S8x2048x8x8, .f32⟩
  | 82 => ⟨S8x2048x8x8, .f32⟩
  | 83 => ⟨S8x2048x8x8, .f32⟩
  | 84 => ⟨S8x2048x8x8, .f32⟩
  | 85 => ⟨S8x2048x8x8, .f32⟩
  | 86 => ⟨S8x2048x8x8, .f32⟩
  | 87 => ⟨S8x2048x8x8, .f32⟩
  | 88 => ⟨S8x2048x8x48, .f32⟩
  | 89 => ⟨S8x2048x8x64, .f32⟩
  | 90 => ⟨S_, .f32⟩
  | 91 => ⟨S8x2048x8x64, .f32⟩
  | 92 => ⟨S8x2048x8x64, .f32⟩
  | 93 => ⟨S8x2048x2x64, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S2048, .f32⟩
  | 111 => ⟨S2048x1, .f32⟩
  | 112 => ⟨S1x8, .f32⟩
  | 113 => ⟨S2048x8, .f32⟩
  | 114 => ⟨S2048x8, .f32⟩
  | 115 => ⟨S2048x8, .f32⟩
  | 116 => ⟨S2048x8, .f32⟩
  | 117 => ⟨S1x2048x1x8, .f32⟩
  | 118 => ⟨S2048x8, .f32⟩
  | 119 => ⟨S1x2048x1x8, .f32⟩
  | 120 => ⟨S8x2048x2x8, .f32⟩
  | 121 => ⟨S8x2048x2x8, .f32⟩
  | 122 => ⟨S8x2048x2x8, .f32⟩
  | 123 => ⟨S8x2048x2x8, .f32⟩
  | 124 => ⟨S8x2048x2x8, .f32⟩
  | 125 => ⟨S8x2048x2x8, .f32⟩
  | 126 => ⟨S8x2048x2x8, .f32⟩
  | 127 => ⟨S8x2048x2x8, .f32⟩
  | _ => ⟨S8x2048x1024, .f32⟩

abbrev hbmTy0_1 (i : Nat) : BufTy := match i % 128 with
  | 0 => ⟨S8x2048x2x8, .f32⟩
  | 1 => ⟨S8x2048x2x8, .f32⟩
  | 2 => ⟨S8x2048x2x8, .f32⟩
  | 3 => ⟨S8x2048x2x8, .f32⟩
  | 4 => ⟨S8x2048x2x48, .f32⟩
  | 5 => ⟨S8x2048x2x64, .f32⟩
  | 6 => ⟨S8x2048x128, .f32⟩
  | 7 => ⟨S16384x512, .f32⟩
  | 8 => ⟨S16384x512, .f32⟩
  | 9 => ⟨S16384x512, .bf16⟩
  | 10 => ⟨S16384x256, .f32⟩
  | 11 => ⟨S16384x256, .bf16⟩
  | 12 => ⟨S16384x128, .f32⟩
  | 13 => ⟨S16384x128, .bf16⟩
  | 14 => ⟨S16384x32, .f32⟩
  | 15 => ⟨S16384x32, .bf16⟩
  | 16 => ⟨S8x128x2048, .f32⟩
  | 17 => ⟨S8x128x2048, .f32⟩
  | 18 => ⟨S8x128x2048, .f32⟩
  | 19 => ⟨S8x128x2048, .bf16⟩
  | 20 => ⟨S8x32x2048, .f32⟩
  | 21 => ⟨S8x8x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_11 : Ref sig .tc := ⟨.hbm, 95, rfl⟩
abbrev main_v78 : Ref sig .tc := ⟨.hbm, 96, rfl⟩
abbrev main_v79 : Ref sig .tc := ⟨.hbm, 97, rfl⟩
abbrev main_cst_12 : Ref sig .tc := ⟨.hbm, 98, rfl⟩
abbrev main_v80 : Ref sig .tc := ⟨.hbm, 99, rfl⟩
abbrev main_v81 : Ref sig .tc := ⟨.hbm, 100, rfl⟩
abbrev main_cst_13 : Ref sig .tc := ⟨.hbm, 101, rfl⟩
abbrev main_v82 : Ref sig .tc := ⟨.hbm, 102, rfl⟩
abbrev main_v83 : Ref sig .tc := ⟨.hbm, 103, rfl⟩
abbrev main_cst_14 : Ref sig .tc := ⟨.hbm, 104, rfl⟩
abbrev main_v84 : Ref sig .tc := ⟨.hbm, 105, rfl⟩
abbrev main_v85 : Ref sig .tc := ⟨.hbm, 106, rfl⟩
abbrev main_cst_15 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩

abbrev nD : Nat := 1
abbrev τ : Topo := Topo.v7x

variable {F : FTy → Type} [FloatOps F]
-- ==== InprojS.lean ====
abbrev S16x32x1024 : Shape := ⟨3, ![16, 32, 1024]⟩
abbrev S16x1024 : Shape := ⟨2, ![16, 1024]⟩
abbrev S1024 : Shape := ⟨1, ![1024]⟩
abbrev S1024x2088 : Shape := ⟨2, ![1024, 2088]⟩
abbrev S512x1024 : Shape := ⟨2, ![512, 1024]⟩
abbrev S32 : Shape := ⟨1, ![32]⟩
abbrev S_ : Shape := ⟨0, ![]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S32x128 : Shape := ⟨2, ![32, 128]⟩
abbrev S1x32x1x128 : Shape := ⟨4, ![1, 32, 1, 128]⟩
abbrev S16x32x1x128 : Shape := ⟨4, ![16, 32, 1, 128]⟩
abbrev S512x128 : Shape := ⟨2, ![512, 128]⟩
abbrev S1x1024 : Shape := ⟨2, ![1, 1024]⟩
abbrev S2088x1024 : Shape := ⟨2, ![2088, 1024]⟩
abbrev S2080x1024 : Shape := ⟨2, ![2080, 1024]⟩
abbrev S96x1024 : Shape := ⟨2, ![96, 1024]⟩
abbrev S8x1024 : Shape := ⟨2, ![8, 1024]⟩
abbrev S120x1024 : Shape := ⟨2, ![120, 1024]⟩
abbrev S2304x1024 : Shape := ⟨2, ![2304, 1024]⟩
abbrev S512x512 : Shape := ⟨2, ![512, 512]⟩
abbrev S512x256 : Shape := ⟨2, ![512, 256]⟩
abbrev S512x32 : Shape := ⟨2, ![512, 32]⟩
abbrev S512x8 : Shape := ⟨2, ![512, 8]⟩
abbrev S512 : Shape := ⟨1, ![512]⟩
abbrev S512x1 : Shape := ⟨2, ![512, 1]⟩
abbrev S512x2304 : Shape := ⟨2, ![512, 2304]⟩

abbrev nBuf : Space → Nat
  | .hbm => 77
  | .vmem => 15
  | .smem => 0
  | _ => 0

abbrev bufTy : (tb : Table) → Fin (tcTables nBuf tb) → BufTy
  | .hbm, ⟨0, _⟩ => ⟨S16x32x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x2088, .f32⟩
  | .hbm, ⟨5, _⟩ => ⟨S16x32x1024, .f32⟩
  | .hbm, ⟨6, _⟩ => ⟨S512x1024, .f32⟩
  | .hbm, ⟨7, _⟩ => ⟨S16x32x1024, .f32⟩
  | .hbm, ⟨8, _⟩ => ⟨S512x1024, .f32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S32, .f32⟩
  | .hbm, ⟨30, _⟩ => ⟨S32x1, .f32⟩
  | .hbm, ⟨31, _⟩ => ⟨S1x8, .f32⟩
  | .hbm, ⟨32, _⟩ => ⟨S32x8, .f32⟩
  | .hbm, ⟨33, _⟩ => ⟨S32x8, .f32⟩
  | .hbm, ⟨34, _⟩ => ⟨S32x8, .f32⟩
  | .hbm, ⟨35, _⟩ => ⟨S32x8, .f32⟩
  | .hbm, ⟨36, _⟩ => ⟨S32x8, .f32⟩
  | .hbm, ⟨37, _⟩ => ⟨S_, .f32⟩
  | .hbm, ⟨38, _⟩ => ⟨S32x48, .f32⟩
  | .hbm, ⟨39, _⟩ => ⟨S_, .f32⟩
  | .hbm, ⟨40, _⟩ => ⟨S32x48, .f32⟩
  | .hbm, ⟨41, _⟩ => ⟨S_, .f32⟩
  | .hbm, ⟨42, _⟩ => ⟨S32x8, .f32⟩
  | .hbm, ⟨43, _⟩ => ⟨S32x64, .f32⟩
  | .hbm, ⟨44, _⟩ => ⟨S32x64, .f32⟩
  | .hbm, ⟨45, _⟩ => ⟨S32x8, .f32⟩
  | .hbm, ⟨46, _⟩ => ⟨S32x64, .f32⟩
  | .hbm, ⟨47, _⟩ => ⟨S32x128, .f32⟩
  | .hbm, ⟨48, _⟩ => ⟨S32x128, .f32⟩
  | .hbm, ⟨49, _⟩ => ⟨S32x128, .f32⟩
  | .hbm, ⟨50, _⟩ => ⟨S1x32x1x128, .f32⟩
  | .hbm, ⟨51, _⟩ => ⟨S16x32x1x128, .f32⟩
  | .hbm, ⟨52, _⟩ => ⟨S512x128, .f32⟩
  | .hbm, ⟨53, _⟩ => ⟨S1x32x1x128, .f32⟩
  | .hbm, ⟨54, _⟩ => ⟨S16x32x1x128, .f32⟩
  | .hbm, ⟨55, _⟩ => ⟨S512x128, .f32⟩
  | .hbm, ⟨56, _⟩ => ⟨S1x32x1x128, .f32⟩
  | .hbm, ⟨57, _⟩ => ⟨S16x32x1x128, .f32⟩
  | .hbm, ⟨58, _⟩ => ⟨S512x128, .f32⟩
  | .hbm, ⟨59, _⟩ => ⟨S512x1024, .f32⟩
  | .hbm, ⟨60, _⟩ => ⟨S1x1024, .f32⟩
  | .hbm, ⟨61, _⟩ => ⟨S2088x1024, .f32⟩
  | .hbm, ⟨62, _⟩ => ⟨S2088x1024, .bf16⟩
  | .hbm, ⟨63, _⟩ => ⟨S2080x1024, .bf16⟩
  | .hbm, ⟨64, _⟩ => ⟨S_, .bf16⟩
  | .hbm, ⟨65, _⟩ => ⟨S96x1024, .bf16⟩
  | .hbm, ⟨66, _⟩ => ⟨S8x1024, .bf16⟩
  | .hbm, ⟨67, _⟩ => ⟨S_, .bf16⟩
  | .hbm, ⟨68, _⟩ => ⟨S120x1024, .bf16⟩
  | .hbm, ⟨69, _⟩ => ⟨S2304x1024, .bf16⟩
  | .hbm, ⟨70, _⟩ => ⟨S512x512, .f32⟩
  | .hbm, ⟨71, _⟩ => ⟨S512x512, .bf16⟩
  | .hbm, ⟨72, _⟩ => ⟨S512x256, .bf16⟩
  | .hbm, ⟨73, _⟩ => ⟨S512x128, .f32⟩
  | .hbm, ⟨74, _⟩ => ⟨S512x128, .f32⟩
  | .hbm, ⟨75, _⟩ => ⟨S512x32, .f32⟩
  | .hbm, ⟨76, _⟩ => ⟨S512x8, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S2304x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .bf16⟩
  | .local _ .vmem, ⟨10, _⟩ => ⟨S512x256, .bf16⟩
  | .local _ .vmem, ⟨11, _⟩ => ⟨S512x128, .f32⟩
  | .local _ .vmem, ⟨12, _⟩ => ⟨S512x128, .f32⟩
  | .local _ .vmem, ⟨13, _⟩ => ⟨S512x32, .f32⟩
  | .local _ .vmem, ⟨14, _⟩ => ⟨S512x8, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54_0 : Ref sig .tc := ⟨.hbm, 70, rfl⟩
abbrev main_v54_1 : Ref sig .tc := ⟨.hbm, 71, rfl⟩
abbrev main_v54_2 : Ref sig .tc := ⟨.hbm, 72, rfl⟩
abbrev main_v54_3 : Ref sig .tc := ⟨.hbm, 73, rfl⟩
abbrev main_v54_4 : Ref sig .tc := ⟨.hbm, 74, rfl⟩
abbrev main_v54_5 : Ref sig .tc := ⟨.hbm, 75, rfl⟩
abbrev main_v54_6 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== InprojSRefIdeal.lean ====
abbrev S16x32x1024 : Shape := ⟨3, ![16, 32, 1024]⟩
abbrev S16x1024 : Shape := ⟨2, ![16, 1024]⟩
abbrev S1024 : Shape := ⟨1, ![1024]⟩
abbrev S1024x2088 : Shape := ⟨2, ![1024, 2088]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x1x1024 : Shape := ⟨3, ![16, 1, 1024]⟩
abbrev S16x32x2088 : Shape := ⟨3, ![16, 32, 2088]⟩
abbrev S16x32x512 : Shape := ⟨3, ![16, 32, 512]⟩
abbrev S16x32x128 : Shape := ⟨3, ![16, 32, 128]⟩
abbrev S16x32x256 : Shape := ⟨3, ![16, 32, 256]⟩
abbrev S16x32x32 : Shape := ⟨3, ![16, 32, 32]⟩
abbrev S16x32x8 : Shape := ⟨3, ![16, 32, 8]⟩
abbrev S32 : Shape := ⟨1, ![32]⟩
abbrev S16x32x8x64 : Shape := ⟨4, ![16, 32, 8, 64]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S1x32x1x8 : Shape := ⟨4, ![1, 32, 1, 8]⟩
abbrev S16x32x8x8 : Shape := ⟨4, ![16, 32, 8, 8]⟩
abbrev S16x32x8x48 : Shape := ⟨4, ![16, 32, 8, 48]⟩
abbrev S16x32x2x64 : Shape := ⟨4, ![16, 32, 2, 64]⟩
abbrev S16x32x2x8 : Shape := ⟨4, ![16, 32, 2, 8]⟩
abbrev S16x32x2x48 : Shape := ⟨4, ![16, 32, 2, 48]⟩
abbrev S512x512 : Shape := ⟨2, ![512, 512]⟩
abbrev S512x256 : Shape := ⟨2, ![512, 256]⟩
abbrev S512x128 : Shape := ⟨2, ![512, 128]⟩
abbrev S512x32 : Shape := ⟨2, ![512, 32]⟩
abbrev S512x8 : Shape := ⟨2, ![512, 8]⟩

abbrev nBuf : Space → Nat
  | .hbm => 146
  | .vmem => 0
  | .smem => 0
  | _ => 0

abbrev hbmTy0_0 (i : Nat) : BufTy := match i % 128 with
  | 0 => ⟨S16x32x1024, .f32⟩
  | 1 => ⟨S16x1024, .f32⟩
  | 2 => ⟨S16x1024, .f32⟩
  | 3 => ⟨S1024, .f32⟩
  | 4 => ⟨S1024x2088, .f32⟩
  | 5 => ⟨S16x32x1024, .f32⟩
  | 6 => ⟨S_, .f32⟩
  | 7 => ⟨S16x32, .f32⟩
  | 8 => ⟨S16x32x1, .f32⟩
  | 9 => ⟨S_, .f32⟩
  | 10 => ⟨S16x32x1, .f32⟩
  | 11 => ⟨S16x32x1, .f32⟩
  | 12 => ⟨S_, .f32⟩
  | 13 => ⟨S16x32x1, .f32⟩
  | 14 => ⟨S16x32x1, .f32⟩
  | 15 => ⟨S16x32x1, .f32⟩
  | 16 => ⟨S16x32x1024, .f32⟩
  | 17 => ⟨S16x32x1024, .f32⟩
  | 18 => ⟨S1x1x1024, .f32⟩
  | 19 => ⟨S16x32x1024, .f32⟩
  | 20 => ⟨S16x32x1024, .f32⟩
  | 21 => ⟨S16x1x1024, .f32⟩
  | 22 => ⟨S_, .f32⟩
  | 23 => ⟨S16x1x1024, .f32⟩
  | 24 => ⟨S16x1x1024, .f32⟩
  | 25 => ⟨S16x32x1024, .f32⟩
  | 26 => ⟨S16x32x1024, .f32⟩
  | 27 => ⟨S16x1x1024, .f32⟩
  | 28 => ⟨S16x32x1024, .f32⟩
  | 29 => ⟨S16x32x1024, .f32⟩
  | 30 => ⟨S16x32x2088, .f32⟩
  | 31 => ⟨S16x32x512, .f32⟩
  | 32 => ⟨S16x32x512, .f32⟩
  | 33 => ⟨S16x32x512, .f32⟩
  | 34 => ⟨S16x32x128, .f32⟩
  | 35 => ⟨S16x32x128, .f32⟩
  | 36 => ⟨S16x32x256, .f32⟩
  | 37 => ⟨S16x32x32, .f32⟩
  | 38 => ⟨S16x32x8, .f32⟩
  | 39 => ⟨S16x32x512, .f32⟩
  | 40 => ⟨S16x32x512, .f32⟩
  | 41 => ⟨S_, .f32⟩
  | 42 => ⟨S16x32x512, .f32⟩
  | 43 => ⟨S16x32x512, .f32⟩
  | 44 => ⟨S_, .f32⟩
  | 45 => ⟨S16x32x512, .f32⟩
  | 46 => ⟨S16x32x512, .f32⟩
  | 47 => ⟨S16x32x512, .f32⟩
  | 48 => ⟨S32, .i32⟩
  | 49 => ⟨S_, .i32⟩
  | 50 => ⟨S32, .i32⟩
  | 51 => ⟨S32, .i32⟩
  | 52 => ⟨S16x32x8x64, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S32, .f32⟩
  | 70 => ⟨S32x1, .f32⟩
  | 71 => ⟨S1x8, .f32⟩
  | 72 => ⟨S32x8, .f32⟩
  | 73 => ⟨S32x8, .f32⟩
  | 74 => ⟨S32x8, .f32⟩
  | 75 => ⟨S32x8, .f32⟩
  | 76 => ⟨S1x32x1x8, .f32⟩
  | 77 => ⟨S32x8, .f32⟩
  | 78 => ⟨S1x32x1x8, .f32⟩
  | 79 => ⟨S16x32x8x8, .f32⟩
  | 80 => ⟨S16x32x8x8, .f32⟩
  | 81 => ⟨S16x32x8x8, .f32⟩
  | 82 => ⟨S16x32x8x8, .f32⟩
  | 83 => ⟨S16x32x8x8, .f32⟩
  | 84 => ⟨S16x32x8x8, .f32⟩
  | 85 => ⟨S16x32x8x8, .f32⟩
  | 86 => ⟨S16x32x8x8, .f32⟩
  | 87 => ⟨S16x32x8x8, .f32⟩
  | 88 => ⟨S16x32x8x8, .f32⟩
  | 89 => ⟨S16x32x8x8, .f32⟩
  | 90 => ⟨S16x32x8x8, .f32⟩
  | 91 => ⟨S16x32x8x48, .f32⟩
  | 92 => ⟨S16x32x8x64, .f32⟩
  | 93 => ⟨S_, .f32⟩
  | 94 => ⟨S16x32x8x64, .f32⟩
  | 95 => ⟨S16x32x8x64, .f32⟩
  | 96 => ⟨S16x32x2x64, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S32, .f32⟩
  | 114 => ⟨S32x1, .f32⟩
  | 115 => ⟨S1x8, .f32⟩
  | 116 => ⟨S32x8, .f32⟩
  | 117 => ⟨S32x8, .f32⟩
  | 118 => ⟨S32x8, .f32⟩
  | 119 => ⟨S32x8, .f32⟩
  | 120 => ⟨S1x32x1x8, .f32⟩
  | 121 => ⟨S32x8, .f32⟩
  | 122 => ⟨S1x32x1x8, .f32⟩
  | 123 => ⟨S16x32x2x8, .f32⟩
  | 124 => ⟨S16x32x2x8, .f32⟩
  | 125 => ⟨S16x32x2x8, .f32⟩
  | 126 => ⟨S16x32x2x8, .f32⟩
  | 127 => ⟨S16x32x2x8, .f32⟩
  | _ => ⟨S16x32x1024, .f32⟩

abbrev hbmTy0_1 (i : Nat) : BufTy := match i % 128 with
  | 0 => ⟨S16x32x2x8, .f32⟩
  | 1 => ⟨S16x32x2x8, .f32⟩
  | 2 => ⟨S16x32x2x8, .f32⟩
  | 3 => ⟨S16x32x2x8, .f32⟩
  | 4 => ⟨S16x32x2x8, .f32⟩
  | 5 => ⟨S16x32x2x8, .f32⟩
  | 6 => ⟨S16x32x2x8, .f32⟩
  | 7 => ⟨S16x32x2x48, .f32⟩
  | 8 => ⟨S16x32x2x64, .f32⟩
  | 9 => ⟨S512x512, .f32⟩
  | 10 => ⟨S512x512, .f32⟩
  | 11 => ⟨S512x512, .bf16⟩
  | 12 => ⟨S512x256, .f32⟩
  | 13 => ⟨S512x256, .bf16⟩
  | 14 => ⟨S512x128, .f32⟩
  | 15 => ⟨S512x128, .f32⟩
  | 16 => ⟨S512x32, .f32⟩
  | 17 => ⟨S512x8, .f32⟩
  | _ => ⟨S16x32x1024, .f32⟩

abbrev hbmTy (i : Nat) : BufTy := match i / 128 with
  | 0 => hbmTy0_0 i
  | 1 => hbmTy0_1 i
  | _ => ⟨S16x32x1024, .f32⟩

abbrev bufTy : (tb : Table) → Fin (tcTables nBuf tb) → BufTy
  | .hbm, ⟨i, _⟩ => hbmTy i
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_cst_13 : Ref sig .tc := ⟨.hbm, 104, rfl⟩
abbrev main_v84 : Ref sig .tc := ⟨.hbm, 105, rfl⟩
abbrev main_v85 : Ref sig .tc := ⟨.hbm, 106, rfl⟩
abbrev main_cst_14 : Ref sig .tc := ⟨.hbm, 107, rfl⟩
abbrev main_v86 : Ref sig .tc := ⟨.hbm, 108, rfl⟩
abbrev main_v87 : Ref sig .tc := ⟨.hbm, 109, rfl⟩
abbrev main_cst_15 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩

abbrev nD : Nat := 1
abbrev τ : Topo := Topo.v7x

variable {F : FTy → Type} [FloatOps F]
-- ==== PostS.lean ====
abbrev S16x32x1024 : Shape := ⟨3, ![16, 32, 1024]⟩
abbrev S16x32x512 : Shape := ⟨3, ![16, 32, 512]⟩
abbrev S16x1024 : Shape := ⟨2, ![16, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S3x5632 : Shape := ⟨2, ![3, 5632]⟩
abbrev S5632 : Shape := ⟨1, ![5632]⟩
abbrev S16x2x5632 : Shape := ⟨3, ![16, 2, 5632]⟩
abbrev S512x1024 : Shape := ⟨2, ![512, 1024]⟩
abbrev S512x512 : Shape := ⟨2, ![512, 512]⟩
abbrev S1x1024 : Shape := ⟨2, ![1, 1024]⟩
abbrev S1x5632 : Shape := ⟨2, ![1, 5632]⟩
abbrev S512 : Shape := ⟨1, ![512]⟩
abbrev S512x1 : Shape := ⟨2, ![512, 1]⟩
abbrev S8x1 : Shape := ⟨2, ![8, 1]⟩
abbrev S1024x2816 : Shape := ⟨2, ![1024, 2816]⟩
abbrev S512x2816 : Shape := ⟨2, ![512, 2816]⟩
abbrev S1x2816 : Shape := ⟨2, ![1, 2816]⟩
abbrev S32x2816 : Shape := ⟨2, ![32, 2816]⟩
abbrev S1x1x2816 : Shape := ⟨3, ![1, 1, 2816]⟩
abbrev S8x2816 : Shape := ⟨2, ![8, 2816]⟩
abbrev S24x2816 : Shape := ⟨2, ![24, 2816]⟩
abbrev S2x2816 : Shape := ⟨2, ![2, 2816]⟩
abbrev S1x2x2816 : Shape := ⟨3, ![1, 2, 2816]⟩

abbrev nBuf : Space → Nat
  | .hbm => 34
  | .vmem => 17
  | .smem => 0
  | _ => 0

abbrev bufTy : (tb : Table) → Fin (tcTables nBuf tb) → BufTy
  | .hbm, ⟨0, _⟩ => ⟨S16x32x1024, .f32⟩
  | .hbm, ⟨1, _⟩ => ⟨S16x32x512, .bf16⟩
  | .hbm, ⟨2, _⟩ => ⟨S16x32x512, .bf16⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S3x5632, .f32⟩
  | .hbm, ⟨13, _⟩ => ⟨S5632, .f32⟩
  | .hbm, ⟨14, _⟩ => ⟨S16x2x5632, .f32⟩
  | .hbm, ⟨15, _⟩ => ⟨S16x32x1024, .f32⟩
  | .hbm, ⟨16, _⟩ => ⟨S512x1024, .f32⟩
  | .hbm, ⟨17, _⟩ => ⟨S16x32x1024, .f32⟩
  | .hbm, ⟨18, _⟩ => ⟨S512x1024, .f32⟩
  | .hbm, ⟨19, _⟩ => ⟨S16x32x1024, .f32⟩
  | .hbm, ⟨20, _⟩ => ⟨S512x1024, .f32⟩
  | .hbm, ⟨21, _⟩ => ⟨S16x32x1024, .f32⟩
  | .hbm, ⟨22, _⟩ => ⟨S512x1024, .f32⟩
  | .hbm, ⟨23, _⟩ => ⟨S512x1024, .f32⟩
  | .hbm, ⟨24, _⟩ => ⟨S512x512, .bf16⟩
  | .hbm, ⟨25, _⟩ => ⟨S512x512, .bf16⟩
  | .hbm, ⟨26, _⟩ => ⟨S1x1024, .f32⟩
  | .hbm, ⟨27, _⟩ => ⟨S1x1024, .f32⟩
  | .hbm, ⟨28, _⟩ => ⟨S1024x1024, .bf16⟩
  | .hbm, ⟨29, _⟩ => ⟨S1024x5632, .bf16⟩
  | .hbm, ⟨30, _⟩ => ⟨S2816x1024, .bf16⟩
  | .hbm, ⟨31, _⟩ => ⟨S1x5632, .f32⟩
  | .hbm, ⟨32, _⟩ => ⟨S512x1024, .f32⟩
  | .hbm, ⟨33, _⟩ => ⟨S16x2x5632, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x5632, .bf16⟩
  | .local _ .vmem, ⟨11, _⟩ => ⟨S2816x1024, .bf16⟩
  | .local _ .vmem, ⟨12, _⟩ => ⟨S3x5632, .f32⟩
  | .local _ .vmem, ⟨13, _⟩ => ⟨S1x5632, .f32⟩
  | .local _ .vmem, ⟨14, _⟩ => ⟨S16x2x5632, .f32⟩
  | .local _ .vmem, ⟨15, _⟩ => ⟨S512x1024, .f32⟩
  | .local _ .vmem, ⟨16, _⟩ => ⟨S16x2x5632, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x2x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S16x2x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== PostSRefIdeal.lean ====
abbrev S16x32x1024 : Shape := ⟨3, ![16, 32, 1024]⟩
abbrev S16x32x512 : Shape := ⟨3, ![16, 32, 512]⟩
abbrev S16x1024 : Shape := ⟨2, ![16, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S3x5632 : Shape := ⟨2, ![3, 5632]⟩
abbrev S5632 : Shape := ⟨1, ![5632]⟩
abbrev S16x2x5632 : Shape := ⟨3, ![16, 2, 5632]⟩
abbrev S16x1x1024 : Shape := ⟨3, ![16, 1, 1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x32x5632 : Shape := ⟨3, ![16, 32, 5632]⟩
abbrev S16x34x5632 : Shape := ⟨3, ![16, 34, 5632]⟩
abbrev S1x5632 : Shape := ⟨2, ![1, 5632]⟩
abbrev S1x1x5632 : Shape := ⟨3, ![1, 1, 5632]⟩
abbrev S16x32x2816 : Shape := ⟨3, ![16, 32, 2816]⟩
abbrev S512x1024 : Shape := ⟨2, ![512, 1024]⟩

abbrev nBuf : Space → Nat
  | .hbm => 108
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S16x32x512, .bf16⟩
  | .hbm, ⟨2, _⟩ => ⟨S16x32x512, .bf16⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S3x5632, .f32⟩
  | .hbm, ⟨13, _⟩ => ⟨S5632, .f32⟩
  | .hbm, ⟨14, _⟩ => ⟨S16x2x5632, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x32x512, .f32⟩
  | .hbm, ⟨20, _⟩ => ⟨S16x32x512, .f32⟩
  | .hbm, ⟨21, _⟩ => ⟨S16x32x1024, .f32⟩
  | .hbm, ⟨22, _⟩ => ⟨S16x32x1024, .f32⟩
  | .hbm, ⟨23, _⟩ => ⟨S16x32x1024, .f32⟩
  | .hbm, ⟨24, _⟩ => ⟨S16x32x1024, .f32⟩
  | .hbm, ⟨25, _⟩ => ⟨S16x32x1024, .f32⟩
  | .hbm, ⟨26, _⟩ => ⟨S16x32x1024, .f32⟩
  | .hbm, ⟨27, _⟩ => ⟨S_, .f32⟩
  | .hbm, ⟨28, _⟩ => ⟨S16x32, .f32⟩
  | .hbm, ⟨29, _⟩ => ⟨S16x32x1, .f32⟩
  | .hbm, ⟨30, _⟩ => ⟨S_, .f32⟩
  | .hbm, ⟨31, _⟩ => ⟨S16x32x1, .f32⟩
  | .hbm, ⟨32, _⟩ => ⟨S16x32x1, .f32⟩
  | .hbm, ⟨33, _⟩ => ⟨S_, .f32⟩
  | .hbm, ⟨34, _⟩ => ⟨S16x32x1, .f32⟩
  | .hbm, ⟨35, _⟩ => ⟨S16x32x1, .f32⟩
  | .hbm, ⟨36, _⟩ => ⟨S16x32x1, .f32⟩
  | .hbm, ⟨37, _⟩ => ⟨S16x32x1024, .f32⟩
  | .hbm, ⟨38, _⟩ => ⟨S16x32x1024, .f32⟩
  | .hbm, ⟨39, _⟩ => ⟨S1x1x1024, .f32⟩
  | .hbm, ⟨40, _⟩ => ⟨S16x32x1024, .f32⟩
  | .hbm, ⟨41, _⟩ => ⟨S16x32x1024, .f32⟩
  | .hbm, ⟨42, _⟩ => ⟨S_, .f32⟩
  | .hbm, ⟨43, _⟩ => ⟨S16x1x1024, .f32⟩
  | .hbm, ⟨44, _⟩ => ⟨S16x1x1024, .f32⟩
  | .hbm, ⟨45, _⟩ => ⟨S16x32x1024, .f32⟩
  | .hbm, ⟨46, _⟩ => ⟨S16x32x1024, .f32⟩
  | .hbm, ⟨47, _⟩ => ⟨S16x32x1024, .f32⟩
  | .hbm, ⟨48, _⟩ => ⟨S16x32x1024, .f32⟩
  | .hbm, ⟨49, _⟩ => ⟨S16x32x5632, .f32⟩
  | .hbm, ⟨50, _⟩ => ⟨S16x34x5632, .f32⟩
  | .hbm, ⟨51, _⟩ => ⟨S16x32x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S16x32x5632, .f32⟩
  | .hbm, ⟨56, _⟩ => ⟨S16x32x5632, .f32⟩
  | .hbm, ⟨57, _⟩ => ⟨S16x32x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S16x32x5632, .f32⟩
  | .hbm, ⟨62, _⟩ => ⟨S16x32x5632, .f32⟩
  | .hbm, ⟨63, _⟩ => ⟨S16x32x5632, .f32⟩
  | .hbm, ⟨64, _⟩ => ⟨S16x32x5632, .f32⟩
  | .hbm, ⟨65, _⟩ => ⟨S1x5632, .f32⟩
  | .hbm, ⟨66, _⟩ => ⟨S5632, .f32⟩
  | .hbm, ⟨67, _⟩ => ⟨S1x1x5632, .f32⟩
  | .hbm, ⟨68, _⟩ => ⟨S16x32x5632, .f32⟩
  | .hbm, ⟨69, _⟩ => ⟨S16x32x5632, .f32⟩
  | .hbm, ⟨70, _⟩ => ⟨S16x32x5632, .f32⟩
  | .hbm, ⟨71, _⟩ => ⟨S1x1x5632, .f32⟩
  | .hbm, ⟨72, _⟩ => ⟨S16x32x5632, .f32⟩
  | .hbm, ⟨73, _⟩ => ⟨S16x32x5632, .f32⟩
  | .hbm, ⟨74, _⟩ => ⟨S16x32x2816, .f32⟩
  | .hbm, ⟨75, _⟩ => ⟨S16x32x2816, .f32⟩
  | .hbm, ⟨76, _⟩ => ⟨S16x32x2816, .f32⟩
  | .hbm, ⟨77, _⟩ => ⟨S16x32x2816, .f32⟩
  | .hbm, ⟨78, _⟩ => ⟨S_, .f32⟩
  | .hbm, ⟨79, _⟩ => ⟨S16x32x2816, .f32⟩
  | .hbm, ⟨80, _⟩ => ⟨S16x32x2816, .f32⟩
  | .hbm, ⟨81, _⟩ => ⟨S_, .f32⟩
  | .hbm, ⟨82, _⟩ => ⟨S16x32x2816, .f32⟩
  | .hbm, ⟨83, _⟩ => ⟨S16x32x2816, .f32⟩
  | .hbm, ⟨84, _⟩ => ⟨S16x32x2816, .f32⟩
  | .hbm, ⟨85, _⟩ => ⟨S16x32x2816, .f32⟩
  | .hbm, ⟨86, _⟩ => ⟨S16x32x1024, .f32⟩
  | .hbm, ⟨87, _⟩ => ⟨S16x32x1024, .f32⟩
  | .hbm, ⟨88, _⟩ => ⟨S16x32x1024, .f32⟩
  | .hbm, ⟨89, _⟩ => ⟨S16x32x1024, .f32⟩
  | .hbm, ⟨90, _⟩ => ⟨S16x32x1024, .f32⟩
  | .hbm, ⟨91, _⟩ => ⟨S_, .f32⟩
  | .hbm, ⟨92, _⟩ => ⟨S16x32, .f32⟩
  | .hbm, ⟨93, _⟩ => ⟨S16x32x1, .f32⟩
  | .hbm, ⟨94, _⟩ => ⟨S_, .f32⟩
  | .hbm, ⟨95, _⟩ => ⟨S16x32x1, .f32⟩
  | .hbm, ⟨96, _⟩ => ⟨S16x32x1, .f32⟩
  | .hbm, ⟨97, _⟩ => ⟨S_, .f32⟩
  | .hbm, ⟨98, _⟩ => ⟨S16x32x1, .f32⟩
  | .hbm, ⟨99, _⟩ => ⟨S16x32x1, .f32⟩
  | .hbm, ⟨100, _⟩ => ⟨S16x32x1, .f32⟩
  | .hbm, ⟨101, _⟩ => ⟨S16x32x1024, .f32⟩
  | .hbm, ⟨102, _⟩ => ⟨S16x32x1024, .f32⟩
  | .hbm, ⟨103, _⟩ => ⟨S1x1x1024, .f32⟩
  | .hbm, ⟨104, _⟩ => ⟨S16x32x1024, .f32⟩
  | .hbm, ⟨105, _⟩ => ⟨S16x32x1024, .f32⟩
  | .hbm, ⟨106, _⟩ => ⟨S512x1024, .f32⟩
  | .hbm, ⟨107, _⟩ => ⟨S16x2x5632, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_3 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_cst_5 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]
-- ==== Mod.lean ====
abbrev S8x1024 : Shape := ⟨2, ![8, 1024]⟩
abbrev S16x1024 : Shape := ⟨2, ![16, 1024]⟩
abbrev S1024x6144 : Shape := ⟨2, ![1024, 6144]⟩
abbrev S6144 : Shape := ⟨1, ![6144]⟩
abbrev S24x1024 : Shape := ⟨2, ![24, 1024]⟩
abbrev S1x6144 : Shape := ⟨2, ![1, 6144]⟩
abbrev S24x6144 : Shape := ⟨2, ![24, 6144]⟩
abbrev S1024x512 : Shape := ⟨2, ![1024, 512]⟩
abbrev S1x512 : Shape := ⟨2, ![1, 512]⟩
abbrev S24x512 : Shape := ⟨2, ![24, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S16x1024, .f32⟩
  | .hbm, ⟨2, _⟩ => ⟨S1024x6144, .f32⟩
  | .hbm, ⟨3, _⟩ => ⟨S6144, .f32⟩
  | .hbm, ⟨4, _⟩ => ⟨S24x1024, .f32⟩
  | .hbm, ⟨5, _⟩ => ⟨S1x6144, .f32⟩
  | .hbm, ⟨6, _⟩ => ⟨S24x6144, .f32⟩
  | .local _ .vmem, ⟨0, _⟩ => ⟨S24x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S24x512, .f32⟩
  | .local _ .vmem, ⟨6, _⟩ => ⟨S24x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S16x1024 : Shape := ⟨2, ![16, 1024]⟩
abbrev S1024x6144 : Shape := ⟨2, ![1024, 6144]⟩
abbrev S6144 : Shape := ⟨1, ![6144]⟩
abbrev S24x1024 : Shape := ⟨2, ![24, 1024]⟩
abbrev S_ : Shape := ⟨0, ![]⟩
abbrev S24x6144 : Shape := ⟨2, ![24, 6144]⟩
abbrev S1x6144 : Shape := ⟨2, ![1, 6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S16x1024, .f32⟩
  | .hbm, ⟨2, _⟩ => ⟨S1024x6144, .f32⟩
  | .hbm, ⟨3, _⟩ => ⟨S6144, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S24x1024, .f32⟩
  | .hbm, ⟨14, _⟩ => ⟨S24x6144, .f32⟩
  | .hbm, ⟨15, _⟩ => ⟨S1x6144, .f32⟩
  | .hbm, ⟨16, _⟩ => ⟨S24x6144, .f32⟩
  | .hbm, ⟨17, _⟩ => ⟨S24x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Proof.PostSpec.lean ====
/-
The mathematics of one layer's second half, as plain functions of coordinates.

No program is named here.  `Args` holds the arrays as functions; the definitions below follow the data: the output
projection of the concatenated branches, the gated residual, the modulated norm, the up projection, the three-tap
causal filter over time (whose history rows come before the sequence), the gated activation, the down projection with
its gated residual, and the final norm.  Both programs are read against these definitions.
-/
module

public import Idealize.ShloMosaic.Lib.Pipeline.Value
public import Idealize.ShloMosaic.Lib.Pointwise
public import Idealize.ShloMosaic.PureOps.Ideal.Laws

@[expose] public section

noncomputable section

namespace Cert.PostSpec

open Idealize.ShloMosaic

/-- The number of channels, as the rounded constant the programs divide by. -/
abbrev width : EReal := Ideal.ofBits .f32 0x44800000#32
/-- The rounded epsilon the norms add. -/
abbrev eps : EReal := Ideal.ofBits .f32 0x358637BD#32
/-- The rounded one. -/
abbrev one : EReal := Ideal.ofBits .f32 0x3F800000#32

/-- The reciprocal root of a row's mean square. -/
def rms (v : Fin 1024 → EReal) : EReal := Ideal.rsqrt (Ideal.div (∑ k : Fin 1024, v k * v k) width + eps)

/-- `z` times its logistic. -/
def silu (z : EReal) : EReal := z * Ideal.logistic z

/-- The arrays of the call, by coordinates: batch, time, channel. -/
structure Args where
  x : Fin 8 → Fin 2048 → Fin 1024 → EReal
  conv : Fin 8 → Fin 2048 → Fin 512 → EReal
  attn : Fin 8 → Fin 512 → Fin 2048 → EReal
  gt1 : Fin 8 → Fin 1024 → EReal
  sc2 : Fin 8 → Fin 1024 → EReal
  sh2 : Fin 8 → Fin 1024 → EReal
  gt2 : Fin 8 → Fin 1024 → EReal
  g2 : Fin 1024 → EReal
  gf : Fin 1024 → EReal
  wout : Fin 1024 → Fin 1024 → EReal
  wup : Fin 1024 → Fin 5632 → EReal
  wdn : Fin 2816 → Fin 1024 → EReal
  fw : Fin 3 → Fin 5632 → EReal
  fb : Fin 5632 → EReal
  hist : Fin 8 → Fin 2 → Fin 5632 → EReal

/-- The arrays as functions of coordinates, from the arrays as functions of an index. -/
abbrev argsOf (x0 : (⟨3, ![8, 2048, 1024]⟩ : Shape).Idx → EReal) (x1 : (⟨3, ![8, 2048, 512]⟩ : Shape).Idx → EReal)
    (x2 : (⟨3, ![8, 512, 2048]⟩ : Shape).Idx → EReal) (x3 x4 x5 x6 : (⟨2, ![8, 1024]⟩ : Shape).Idx → EReal)
    (x7 x8 : (⟨1, ![1024]⟩ : Shape).Idx → EReal) (x9 : (⟨2, ![1024, 1024]⟩ : Shape).Idx → EReal)
    (x10 : (⟨2, ![1024, 5632]⟩ : Shape).Idx → EReal) (x11 : (⟨2, ![2816, 1024]⟩ : Shape).Idx → EReal)
    (x12 : (⟨2, ![3, 5632]⟩ : Shape).Idx → EReal) (x13 : (⟨1, ![5632]⟩ : Shape).Idx → EReal)
    (x14 : (⟨3, ![8, 2, 5632]⟩ : Shape).Idx → EReal) : Args where
  x b t d := x0 (ix3 b t d)
  conv b t d := x1 (ix3 b t d)
  attn b d t := x2 (ix3 b d t)
  gt1 b d := x3 (ix2 b d)
  sc2 b d := x4 (ix2 b d)
  sh2 b d := x5 (ix2 b d)
  gt2 b d := x6 (ix2 b d)
  g2 d := x7 (ix1 d)
  gf d := x8 (ix1 d)
  wout k d := x9 (ix2 k d)
  wup k d := x10 (ix2 k d)
  wdn k d := x11 (ix2 k d)
  fw k d := x12 (ix2 k d)
  fb d := x13 (ix1 d)
  hist b k d := x14 (ix3 b k d)

namespace Args

variable (A : Args)

/-- The two branches side by side: the convolution's channels, then the attention's. -/
def cat (b : Fin 8) (t : Fin 2048) (k : Fin 1024) : EReal :=
  if h : k.val < 512 then A.conv b t ⟨k.val, h⟩ else A.attn b ⟨k.val - 512, by omega⟩ t

/-- The gated residual after the output projection. -/
def x1 (b : Fin 8) (t : Fin 2048) (d : Fin 1024) : EReal :=
  A.x b t d + A.gt1 b d * ∑ k : Fin 1024, A.cat b t k * A.wout k d

/-- The normalised and modulated row that enters the feed-forward part. -/
def h2 (b : Fin 8) (t : Fin 2048) (d : Fin 1024) : EReal :=
  A.x1 b t d * rms (A.x1 b t) * A.g2 d * (one + A.sc2 b d) + A.sh2 b d

/-- The up projection. -/
def up (b : Fin 8) (t : Fin 2048) (f : Fin 5632) : EReal := ∑ k : Fin 1024, A.h2 b t k * A.wup k f

/-- The up projection with the two history rows before it. -/
def ext (b : Fin 8) (s : Fin 2050) (f : Fin 5632) : EReal :=
  if h : s.val < 2 then A.hist b ⟨s.val, h⟩ f else A.up b ⟨s.val - 2, by omega⟩ f

/-- The three-tap causal filter with its bias. -/
def dw (b : Fin 8) (t : Fin 2048) (f : Fin 5632) : EReal :=
  A.ext b ⟨t.val, by omega⟩ f * A.fw 0 f + A.ext b ⟨t.val + 1, by omega⟩ f * A.fw 1 f
    + A.ext b ⟨t.val + 2, by omega⟩ f * A.fw 2 f + A.fb f

/-- The gated activation: the first half of the channels times the `silu` of the second. -/
def act (b : Fin 8) (t : Fin 2048) (f : Fin 2816) : EReal :=
  A.dw b t ⟨f.val, by omega⟩ * silu (A.dw b t ⟨2816 + f.val, by omega⟩)

/-- The gated residual after the down projection. -/
def x2 (b : Fin 8) (t : Fin 2048) (d : Fin 1024) : EReal :=
  A.x1 b t d + A.gt2 b d * ∑ f : Fin 2816, A.act b t f * A.wdn f d

/-- The final norm: the layer's output. -/
def y (b : Fin 8) (t : Fin 2048) (d : Fin 1024) : EReal := A.x2 b t d * rms (A.x2 b t) * A.gf d

end Args

end Cert.PostSpec
-- ==== Proof.PostPay.lean ====
/-
What the block computations of the layer's second half leave at an index, over any blocks.
-/
module

public import proofs.«01_k».proof.Proof.Gen.PostIdeal.Skeleton
public import proofs.«01_k».proof.Proof.PostSpec
public import Idealize.ShloMosaic.Lib.Pointwise

@[expose] public section

set_option maxRecDepth 16384

noncomputable section

namespace Cert.PostIdeal.Block

open Cert.PostIdeal Cert.PostIdeal.Gen
open Idealize.ShloMosaic Idealize.ShloMosaic.TcCoe Idealize.SL.Sem
open Cert.PostSpec

/-- The row before row `r` of a block, the carried row standing before row 0. -/
def prev1 (U : Fin 512 → EReal) (c1 : EReal) (r : Fin 512) : EReal :=
  if h : r.val = 0 then c1 else U ⟨r.val - 1, by omega⟩

/-- The row two before row `r` of a block, the two carried rows standing before row 0. -/
def prev2 (U : Fin 512 → EReal) (c0 c1 : EReal) (r : Fin 512) : EReal :=
  if h : r.val = 0 then c0 else if h' : r.val = 1 then c1 else U ⟨r.val - 2, by omega⟩

/-- The row counter of the block's first eight rows. -/
abbrev rowIota : IVec S8x1 32 := iota .tc S8x1 32 [0] iota_S8x1_d0_w32

/-- The kernel's spelling of `prev1`: a rotation by one row, the first eight rows patched at row 0. -/
theorem prev1_eq (U : Fin 512 → EReal) (c1 : EReal) (r : Fin 512) :
    (if h : r.val < 8 then Scalar.select (IntOp.cmpi .eq (BitVec.ofNat 32 r.val) 0#32) c1
        (U ⟨(r.val + 512 - 1) % 512, Nat.mod_lt _ (by decide)⟩)
      else U ⟨(8 + (r.val - 8) + 512 - 1) % 512, Nat.mod_lt _ (by decide)⟩) = prev1 U c1 r := by
  unfold prev1
  split
  · rename_i h
    obtain ⟨r, hr⟩ := r
    dsimp only at h ⊢
    interval_cases r <;> rfl
  · rename_i h
    rw [dif_neg (by omega)]
    exact congrArg U (Fin.ext (by show (8 + (r.val - 8) + 512 - 1) % 512 = r.val - 1; omega))

/-- The kernel's spelling of `prev2`: a rotation by two rows, the first eight rows patched at rows 0 and 1. -/
theorem prev2_eq (U : Fin 512 → EReal) (c0 c1 : EReal) (r : Fin 512) :
    (if h : r.val < 8 then Scalar.select (IntOp.cmpi .eq (BitVec.ofNat 32 r.val) 0#32) c0
        (Scalar.select (IntOp.cmpi .eq (BitVec.ofNat 32 r.val) 1#32) c1
          (U ⟨(r.val + 512 - 2) % 512, Nat.mod_lt _ (by decide)⟩))
      else U ⟨(8 + (r.val - 8) + 512 - 2) % 512, Nat.mod_lt _ (by decide)⟩) = prev2 U c0 c1 r := by
  unfold prev2
  split
  · rename_i h
    obtain ⟨r, hr⟩ := r
    dsimp only at h ⊢
    interval_cases r <;> rfl
  · rename_i h
    rw [dif_neg (by omega), dif_neg (by omega)]
    exact congrArg U (Fin.ext (by show (8 + (r.val - 8) + 512 - 2) % 512 = r.val - 2; omega))

/-- The gated residual of a block: the product over 1024 channels is taken in two halves. -/
theorem pay3_apply (v13 : Vec Ideal S512x1024 .bf16) (v15 : Vec Ideal S1x512x512 .bf16) (v18 : Vec Ideal S512x512 .bf16)
    (v20 : Vec Ideal S512x1024 .bf16) (v24 : Vec Ideal S512x1024 .f32) (v26 : Vec Ideal S1x1x1024 .f32)
    (r : Fin 512) (d : Fin 1024) :
    k0_pay3 (F := Ideal) v13 v15 v18 v20 v24 v26 (ix2 r d) = v24 (ix2 r d) + v26 (ix3 0 0 d)
      * (∑ k : Fin 512, v18 (ix2 r k) * v20 (ix2 k d) + ∑ k : Fin 512, v15 (ix3 0 k r) * v13 (ix2 k d)) := by
  pointwise [k0_pay3]

/-- The normalised and modulated block. -/
theorem pay4_apply (v30 : Vec Ideal S512x1024 .f32) (v31 : Vec Ideal S1x1024 .f32) (v33 v35 : Vec Ideal S1x1x1024 .f32)
    (r : Fin 512) (d : Fin 1024) :
    k0_pay4 (F := Ideal) v30 v31 v33 v35 (ix2 r d)
      = v30 (ix2 r d) * rms (fun k => v30 (ix2 r k)) * v31 (ix2 0 d) * (one + v33 (ix3 0 0 d)) + v35 (ix3 0 0 d) := by
  unfold rms
  pointwise [k0_pay4]

/-- The first half of the up projection of a block. -/
theorem pay6_apply (v30 : Vec Ideal S512x1024 .f32) (v31 : Vec Ideal S1x1024 .f32) (v33 v35 : Vec Ideal S1x1x1024 .f32)
    (w : Vec Ideal S1024x2816 .bf16) (r : Fin 512) (f : Fin 2816) :
    k0_pay6 (F := Ideal) v30 v31 v33 v35 w (ix2 r f)
      = ∑ k : Fin 1024, k0_pay4 (F := Ideal) v30 v31 v33 v35 (ix2 r k) * w (ix2 k f) := by
  unfold k0_pay6
  generalize k0_pay4 (F := Ideal) v30 v31 v33 v35 = y
  pointwise

/-- The second half of the up projection of a block. -/
theorem pay7_apply (v30 : Vec Ideal S512x1024 .f32) (v31 : Vec Ideal S1x1024 .f32) (v33 v35 : Vec Ideal S1x1x1024 .f32)
    (w : Vec Ideal S1024x2816 .bf16) (r : Fin 512) (f : Fin 2816) :
    k0_pay7 (F := Ideal) v30 v31 v33 v35 w (ix2 r f)
      = ∑ k : Fin 1024, k0_pay4 (F := Ideal) v30 v31 v33 v35 (ix2 r k) * w (ix2 k f) := by
  unfold k0_pay7
  generalize k0_pay4 (F := Ideal) v30 v31 v33 v35 = y
  pointwise

/-- The causal filter of the first half: the block's own row, the row before and the row two before. -/
theorem pay8_apply (u : Vec Ideal S512x2816 .f32) (w0 w1 w2 c0 c1 bi : Vec Ideal S1x2816 .f32)
    (r : Fin 512) (f : Fin 2816) :
    k0_pay8 (F := Ideal) rowIota u w0 w1 w2 c0 c1 bi (ix2 r f)
      = u (ix2 r f) * w2 (ix2 0 f) + prev1 (fun r => u (ix2 r f)) (c1 (ix2 0 f)) r * w1 (ix2 0 f)
        + prev2 (fun r => u (ix2 r f)) (c0 (ix2 0 f)) (c1 (ix2 0 f)) r * w0 (ix2 0 f) + bi (ix2 0 f) := by
  pointwise [k0_pay8]
  rw [← prev1_eq, ← prev2_eq]

/-- The causal filter of the second half, whose bias is added later. -/
theorem pay10_apply (u : Vec Ideal S512x2816 .f32) (w0 w1 w2 c0 c1 : Vec Ideal S1x2816 .f32)
    (r : Fin 512) (f : Fin 2816) :
    k0_pay10 (F := Ideal) rowIota u w0 w1 w2 c0 c1 (ix2 r f)
      = u (ix2 r f) * w2 (ix2 0 f) + prev1 (fun r => u (ix2 r f)) (c1 (ix2 0 f)) r * w1 (ix2 0 f)
        + prev2 (fun r => u (ix2 r f)) (c0 (ix2 0 f)) (c1 (ix2 0 f)) r * w0 (ix2 0 f) := by
  pointwise [k0_pay10]
  rw [← prev1_eq, ← prev2_eq]

/-- The carried rows the first half leaves: its block's last two. -/
theorem pay9_apply (u : Vec Ideal S512x2816 .f32) (j : Fin 2) (f : Fin 2816) :
    k0_pay9 (F := Ideal) u (ix2 j f) = u (ix2 ⟨510 + j.val, by omega⟩ f) := by
  pointwise [k0_pay9]

/-- The carried rows the second half leaves: its block's last two. -/
theorem pay12_apply (u : Vec Ideal S512x2816 .f32) (j : Fin 2) (f : Fin 2816) :
    k0_pay12 (F := Ideal) u (ix2 j f) = u (ix2 ⟨510 + j.val, by omega⟩ f) := by
  pointwise [k0_pay12]

/-- The history block as two rows. -/
theorem pay2_apply (h : Vec Ideal S1x2x5632 .f32) (j : Fin 2) (f : Fin 5632) :
    k0_pay2 (F := Ideal) h (ix2 j f) = h (ix3 0 j f) := by
  pointwise [k0_pay2]

/-- The carried rows as a block of the second result. -/
theorem pay13_apply (h : Vec Ideal S2x5632 .f32) (b : Fin 1) (j : Fin 2) (f : Fin 5632) :
    k0_pay13 (F := Ideal) h (ix3 b j f) = h (ix2 j f) := by
  pointwise [k0_pay13]

theorem pay14_apply (v30 v57 : Vec Ideal S512x1024 .f32) (a g : Vec Ideal S512x2816 .f32) (bi : Vec Ideal S1x2816 .f32)
    (w : Vec Ideal S2816x1024 .bf16) (gt : Vec Ideal S1x1x1024 .f32) (r : Fin 512) (d : Fin 1024) :
    k0_pay14 (F := Ideal) v30 v57 a g bi w gt (ix2 r d) = v30 (ix2 r d) + gt (ix3 0 0 d) * (v57 (ix2 r d)
      + ∑ f : Fin 2816, a (ix2 r f) * silu (g (ix2 r f) + bi (ix2 0 f)) * w (ix2 f d)) := by
  unfold silu
  pointwise [k0_pay14]

theorem pay15_apply (v30 v57 : Vec Ideal S512x1024 .f32) (a g : Vec Ideal S512x2816 .f32) (bi : Vec Ideal S1x2816 .f32)
    (w : Vec Ideal S2816x1024 .bf16) (gt : Vec Ideal S1x1x1024 .f32) (r : Fin 512) :
    Ideal.rsqrt (k0_pay15 (F := Ideal) v30 v57 a g bi w gt (ix2 r 0))
      = rms (fun d => k0_pay14 (F := Ideal) v30 v57 a g bi w gt (ix2 r d)) := by
  unfold k0_pay15 rms
  generalize k0_pay14 (F := Ideal) v30 v57 a g bi w gt = y
  pointwise

theorem pay1_apply (v : Vec Ideal S512x1024 .f32) (s : Vec Ideal S512x1 .f32) (g : Vec Ideal S1x1024 .f32)
    (r : Fin 512) (d : Fin 1024) :
    k0_pay1 (F := Ideal) v s g (ix2 r d) = v (ix2 r d) * Ideal.rsqrt (s (ix2 r 0)) * g (ix2 0 d) := by
  pointwise [k0_pay1]

end Cert.PostIdeal.Block
-- ==== Proof.PostStep.lean ====
/-
One grid point of the layer's second half, as whole-vector terms: what the body leaves in the output's block, in the
carried rows and (at a batch's last point) in the second result's block, from the fifteen argument blocks and the rows
carried in.  The first point of a batch takes the history block as its carried rows.
-/
module

public import proofs.«01_k».proof.Proof.Gen.PostIdeal.Value
public import proofs.«01_k».proof.Proof.PostPay
public import Idealize.ShloMosaic.Lib.Pipeline.ReadBack
public import Idealize.ShloMosaic.Lib.Tactic

@[expose] public section

set_option maxRecDepth 16384

noncomputable section

namespace Cert.PostIdeal.Block

open Cert.PostIdeal Cert.PostIdeal.Gen Cert.PostIdeal.Value
open Idealize.ShloMosaic Idealize.ShloMosaic.TcCoe Idealize.SL.Sem

variable {F : FTy → Type} [FloatOps F]

theorem hz : (![0, 0] : Fin 2 → Nat) = fun _ => 0 := funext fun a => by fin_cases a <;> rfl

theorem hz3 : (![0, 0, 0] : Fin 3 → Nat) = fun _ => 0 := funext fun a => by fin_cases a <;> rfl

theorem hz2 (a : Fin 2) : (![0, 0] : Fin 2 → Nat) a = 0 := congrFun hz a

/-- A load of the second half's carried row 0 does not see the first half's store. -/
theorem carry_skip0 {sp : Space} (v : View sig .tc sp S2x5632 .f32) (w : FVec F S2x2816 .f32)
    (L : List (View.Piece (Elt F) S2x5632 .f32)) :
    v.readCov (⟨Rect.unit ![0, 0] ![2, 2816] inb_S2x5632_S2x2816_0_0, w⟩ :: L)
        (Rect.unit ![0, 2816] ![1, 2816] inb_S2x5632_S1x2816_0_2816).toLoadRect
      = v.readCov L (Rect.unit ![0, 2816] ![1, 2816] inb_S2x5632_S1x2816_0_2816).toLoadRect :=
  View.readCov_skip _ _ _ _ _ rfl

/-- Nor does a load of its carried row 1. -/
theorem carry_skip1 {sp : Space} (v : View sig .tc sp S2x5632 .f32) (w : FVec F S2x2816 .f32)
    (L : List (View.Piece (Elt F) S2x5632 .f32)) :
    v.readCov (⟨Rect.unit ![0, 0] ![2, 2816] inb_S2x5632_S2x2816_0_0, w⟩ :: L)
        (Rect.unit ![1, 2816] ![1, 2816] inb_S2x5632_S1x2816_1_2816).toLoadRect
      = v.readCov L (Rect.unit ![1, 2816] ![1, 2816] inb_S2x5632_S1x2816_1_2816).toLoadRect :=
  View.readCov_skip _ _ _ _ _ rfl

/-- The gated residual's block. -/
abbrev x1B (x0 : Vec F S512x1024 .f32) (x1 : Vec F S512x512 .bf16) (x2 : Vec F S1x512x512 .bf16)
    (x3 : Vec F S1x1x1024 .f32) (x9 : Vec F S1024x1024 .bf16) : FVec F S512x1024 .f32 :=
  k0_pay3 (View.ld x9 (Rect.unit ![512, 0] ![512, 1024] inb_S1024x1024_S512x1024_512_0)) x2 x1
    (View.ld x9 (Rect.unit ![0, 0] ![512, 1024] inb_S1024x1024_S512x1024_0_0)) x0 x3

/-- The up projection's first half. -/
abbrev uaB (X : FVec F S512x1024 .f32) (x4 x5 : Vec F S1x1x1024 .f32) (x7 : Vec F S1x1024 .f32)
    (x10 : Vec F S1024x5632 .bf16) : FVec F S512x2816 .f32 :=
  k0_pay6 X x7 x4 x5 (View.ld x10 (Rect.unit ![0, 0] ![1024, 2816] inb_S1024x5632_S1024x2816_0_0))

/-- The up projection's second half. -/
abbrev ugB (X : FVec F S512x1024 .f32) (x4 x5 : Vec F S1x1x1024 .f32) (x7 : Vec F S1x1024 .f32)
    (x10 : Vec F S1024x5632 .bf16) : FVec F S512x2816 .f32 :=
  k0_pay7 X x7 x4 x5 (View.ld x10 (Rect.unit ![0, 2816] ![1024, 2816] inb_S1024x5632_S1024x2816_0_2816))

/-- The filtered first half, over the carried rows `C`. -/
abbrev faB (U : FVec F S512x2816 .f32) (x12 : Vec F S3x5632 .f32) (x13 : Vec F S1x5632 .f32) (C : Vec F S2x5632 .f32) :
    FVec F S512x2816 .f32 :=
  k0_pay8 rowIota U
    (View.ld x12 (Rect.unit ![0, 0] ![1, 2816] inb_S3x5632_S1x2816_0_0))
    (View.ld x12 (Rect.unit ![1, 0] ![1, 2816] inb_S3x5632_S1x2816_1_0))
    (View.ld x12 (Rect.unit ![2, 0] ![1, 2816] inb_S3x5632_S1x2816_2_0))
    (View.ld C (Rect.unit ![0, 0] ![1, 2816] inb_S2x5632_S1x2816_0_0))
    (View.ld C (Rect.unit ![1, 0] ![1, 2816] inb_S2x5632_S1x2816_1_0))
    (View.ld x13 (Rect.unit ![0, 0] ![1, 2816] inb_S1x5632_S1x2816_0_0))

/-- The filtered second half before its bias, over the carried rows `C`. -/
abbrev fgB (U : FVec F S512x2816 .f32) (x12 : Vec F S3x5632 .f32) (C : Vec F S2x5632 .f32) : FVec F S512x2816 .f32 :=
  k0_pay10 rowIota U
    (View.ld x12 (Rect.unit ![0, 2816] ![1, 2816] inb_S3x5632_S1x2816_0_2816))
    (View.ld x12 (Rect.unit ![1, 2816] ![1, 2816] inb_S3x5632_S1x2816_1_2816))
    (View.ld x12 (Rect.unit ![2, 2816] ![1, 2816] inb_S3x5632_S1x2816_2_2816))
    (View.ld C (Rect.unit ![0, 2816] ![1, 2816] inb_S2x5632_S1x2816_0_2816))
    (View.ld C (Rect.unit ![1, 2816] ![1, 2816] inb_S2x5632_S1x2816_1_2816))

/-- The second half's bias. -/
abbrev bgB (x13 : Vec F S1x5632 .f32) : FVec F S1x2816 .f32 :=
  k0_pay11 (View.ld x13 (Rect.unit ![0, 2816] ![1, 2816] inb_S1x5632_S1x2816_0_2816))

/-- The second gated residual's block. -/
abbrev x2B (X : FVec F S512x1024 .f32) (fa fg : FVec F S512x2816 .f32) (bg : FVec F S1x2816 .f32)
    (x6 : Vec F S1x1x1024 .f32) (x11 : Vec F S2816x1024 .bf16) : FVec F S512x1024 .f32 :=
  k0_pay14 X k0_pay5 fa fg bg x11 x6

/-- The output's block. -/
abbrev yB (X : FVec F S512x1024 .f32) (fa fg : FVec F S512x2816 .f32) (bg : FVec F S1x2816 .f32)
    (x6 : Vec F S1x1x1024 .f32) (x8 : Vec F S1x1024 .f32) (x11 : Vec F S2816x1024 .bf16) : FVec F S512x1024 .f32 :=
  k0_pay1 (x2B X fa fg bg x6 x11) (k0_pay15 X k0_pay5 fa fg bg x11 x6) x8

/-- The rows carried out: the last two of both halves, side by side, over any earlier stores `L`. -/
abbrev carryB (ua ug : FVec F S512x2816 .f32) (L : List (View.Piece (Elt F) S2x5632 .f32)) : Vec F S2x5632 .f32 :=
  View.canon ((⟨Rect.unit ![0, 2816] ![2, 2816] inb_S2x5632_S2x2816_0_2816, k0_pay12 ug⟩ : View.Piece (Elt F) S2x5632 .f32)
    :: ⟨Rect.unit ![0, 0] ![2, 2816] inb_S2x5632_S2x2816_0_0, k0_pay9 ua⟩ :: L)

/-- A load of the whole buffer reads what the stores left. -/
theorem readCov_whole {S : Shape} {e : EltTy} {sp : Space} (v : View sig .tc sp S e) (L : List (View.Piece (Elt F) S e))
    {off : Fin S.rank → Nat} (h : off = fun _ => 0) (inb : ∀ a, off a + S.size a ≤ S.size a) :
    v.readCov L (Rect.unit off S.size inb).toLoadRect = View.canon L := by
  rw [View.readCov_eq_canon']
  exact View.ld_unit_zero h inb (View.canon L)

variable (m : (ℓ : Loc nD τ sig) → Buf (Elt F) ℓ)

/-- The gated residual at a grid point. -/
abbrev x1At (c : Dev nD) (t : Fin cfg0.N) : FVec F S512x1024 .f32 :=
  x1B (iblk m c 0 t) (iblk m c 1 t) (iblk m c 2 t) (iblk m c 3 t) (iblk m c 9 t)

/-- The up projection's first half at a grid point. -/
abbrev uaAt (c : Dev nD) (t : Fin cfg0.N) : FVec F S512x2816 .f32 :=
  uaB (x1At m c t) (iblk m c 4 t) (iblk m c 5 t) (iblk m c 7 t) (iblk m c 10 t)

/-- The up projection's second half at a grid point. -/
abbrev ugAt (c : Dev nD) (t : Fin cfg0.N) : FVec F S512x2816 .f32 :=
  ugB (x1At m c t) (iblk m c 4 t) (iblk m c 5 t) (iblk m c 7 t) (iblk m c 10 t)

/-- The output's block at a grid point, over the carried rows `C`. -/
abbrev yAt (c : Dev nD) (t : Fin cfg0.N) (C : Vec F S2x5632 .f32) : FVec F S512x1024 .f32 :=
  yB (x1At m c t) (faB (uaAt m c t) (iblk m c 12 t) (iblk m c 13 t) C) (fgB (ugAt m c t) (iblk m c 12 t) C)
    (bgB (iblk m c 13 t)) (iblk m c 6 t) (iblk m c 8 t) (iblk m c 11 t)

/-- The history block as carried rows. -/
abbrev histAt (c : Dev nD) (t : Fin cfg0.N) : Vec F S2x5632 .f32 := k0_pay2 (iblk m c 14 t)

/-- A middle point leaves the output block over the rows carried in. -/
theorem y_B (c : Dev nD) (t : Fin cfg0.N) (acc : Vec F S512x1024 .f32 × Vec F S1x2x5632 .f32 × Vec F S2x5632 .f32)
    (h0 : ¬t.val % 4 = 0) (h1 : ¬t.val % 4 = 3) :
    (stAt0 m c t.val t.isLt acc).1 = yAt m c t acc.2.2 := by
  rw [stAt0_B m c t acc h0 h1]
  dsimp only [yAt, uaAt, ugAt, x1At, histAt]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  unfold out0_B_15
  refine (View.read_writes_eq_canon _ _ _ (fun y => cover0_B_15 (y := y) ..)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    (Memref.isWhole_whole cc0_scratch0).read_unread, View.ld_unit_zero (S := S512x1024) hz,
    View.ld_unit_zero (S := S1x512x512) hz3, View.ld_unit_zero (S := S512x512) hz, View.ld_unit_zero (S := S1x1x1024) hz3,
    View.ld_unit_zero (S := S1x1024) hz, View.ld_unit_zero (S := S2816x1024) hz, View.ld_unit_zero (S := S1x2x5632) hz3,
    carry_skip0, carry_skip1, View.readCov_fill (s := S2x5632) _ _ _ _ _ hz2]

/-- So does a last point. -/
theorem y_C (c : Dev nD) (t : Fin cfg0.N) (acc : Vec F S512x1024 .f32 × Vec F S1x2x5632 .f32 × Vec F S2x5632 .f32)
    (h0 : ¬t.val % 4 = 0) (h1 : t.val % 4 = 3) :
    (stAt0 m c t.val t.isLt acc).1 = yAt m c t acc.2.2 := by
  rw [stAt0_C m c t acc h0 h1]
  dsimp only [yAt, uaAt, ugAt, x1At, histAt]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  unfold out0_C_15
  refine (View.read_writes_eq_canon _ _ _ (fun y => cover0_C_15 (y := y) ..)).trans ?_
  unfold kernelRun0_C
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    (Memref.isWhole_whole cc0_scratch0).read_unread, View.ld_unit_zero (S := S512x1024) hz,
    View.ld_unit_zero (S := S1x512x512) hz3, View.ld_unit_zero (S := S512x512) hz, View.ld_unit_zero (S := S1x1x1024) hz3,
    View.ld_unit_zero (S := S1x1024) hz, View.ld_unit_zero (S := S2816x1024) hz, View.ld_unit_zero (S := S1x2x5632) hz3,
    carry_skip0, carry_skip1, View.readCov_fill (s := S2x5632) _ _ _ _ _ hz2]

/-- A first point leaves it over the history rows. -/
theorem y_A (c : Dev nD) (t : Fin cfg0.N) (acc : Vec F S512x1024 .f32 × Vec F S1x2x5632 .f32 × Vec F S2x5632 .f32)
    (h0 : t.val % 4 = 0) (h1 : ¬t.val % 4 = 3) :
    (stAt0 m c t.val t.isLt acc).1 = yAt m c t (histAt m c t) := by
  rw [stAt0_A m c t acc h0 h1]
  dsimp only [yAt, uaAt, ugAt, x1At, histAt]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  unfold out0_A_15
  refine (View.read_writes_eq_canon _ _ _ (fun y => cover0_A_15 (y := y) ..)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    (Memref.isWhole_whole cc0_scratch0).read_unread, View.ld_unit_zero (S := S512x1024) hz,
    View.ld_unit_zero (S := S1x512x512) hz3, View.ld_unit_zero (S := S512x512) hz, View.ld_unit_zero (S := S1x1x1024) hz3,
    View.ld_unit_zero (S := S1x1024) hz, View.ld_unit_zero (S := S2816x1024) hz, View.ld_unit_zero (S := S1x2x5632) hz3,
    carry_skip0, carry_skip1, View.readCov_fill (s := S2x5632) _ _ _ _ _ hz2]

/-- The rows a middle point carries out. -/
theorem carry_B (c : Dev nD) (t : Fin cfg0.N) (acc : Vec F S512x1024 .f32 × Vec F S1x2x5632 .f32 × Vec F S2x5632 .f32)
    (h0 : ¬t.val % 4 = 0) (h1 : ¬t.val % 4 = 3) :
    (stAt0 m c t.val t.isLt acc).2.2 = carryB (uaAt m c t) (ugAt m c t) [] := by
  rw [stAt0_B m c t acc h0 h1]
  dsimp only [yAt, uaAt, ugAt, x1At, histAt]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  unfold sout0_B_0
  refine (View.read_writes_eq_canon _ _ _ (fun y => scover0_B_0 (y := y) ..)).trans ?_
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    (Memref.isWhole_whole cc0_scratch0).read_unread, View.ld_unit_zero (S := S512x1024) hz,
    View.ld_unit_zero (S := S1x512x512) hz3, View.ld_unit_zero (S := S512x512) hz, View.ld_unit_zero (S := S1x1x1024) hz3,
    View.ld_unit_zero (S := S1x1024) hz, View.ld_unit_zero (S := S2816x1024) hz, View.ld_unit_zero (S := S1x2x5632) hz3,
    carry_skip0, carry_skip1, View.readCov_fill (s := S2x5632) _ _ _ _ _ hz2]

/-- The rows a first point carries out. -/
theorem carry_A (c : Dev nD) (t : Fin cfg0.N) (acc : Vec F S512x1024 .f32 × Vec F S1x2x5632 .f32 × Vec F S2x5632 .f32)
    (h0 : t.val % 4 = 0) (h1 : ¬t.val % 4 = 3) :
    (stAt0 m c t.val t.isLt acc).2.2 = carryB (uaAt m c t) (ugAt m c t)
      [⟨Rect.unit ![0, 0] S2x5632.size inb_S2x5632_S2x5632_0_0, histAt m c t⟩] := by
  rw [stAt0_A m c t acc h0 h1]
  dsimp only [yAt, uaAt, ugAt, x1At, histAt]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  unfold sout0_A_0
  refine (View.read_writes_eq_canon _ _ _ (fun y => scover0_A_0 (y := y) ..)).trans ?_
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    (Memref.isWhole_whole cc0_scratch0).read_unread, View.ld_unit_zero (S := S512x1024) hz,
    View.ld_unit_zero (S := S1x512x512) hz3, View.ld_unit_zero (S := S512x512) hz, View.ld_unit_zero (S := S1x1x1024) hz3,
    View.ld_unit_zero (S := S1x1024) hz, View.ld_unit_zero (S := S2816x1024) hz, View.ld_unit_zero (S := S1x2x5632) hz3,
    carry_skip0, carry_skip1, View.readCov_fill (s := S2x5632) _ _ _ _ _ hz2]

/-- A last point also leaves those rows in the second result's block. -/
theorem hist_C (c : Dev nD) (t : Fin cfg0.N) (acc : Vec F S512x1024 .f32 × Vec F S1x2x5632 .f32 × Vec F S2x5632 .f32)
    (h0 : ¬t.val % 4 = 0) (h1 : t.val % 4 = 3) :
    (stAt0 m c t.val t.isLt acc).2.1 = k0_pay13 (carryB (uaAt m c t) (ugAt m c t) []) := by
  rw [stAt0_C m c t acc h0 h1]
  dsimp only [yAt, uaAt, ugAt, x1At, histAt]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  unfold out0_C_16
  refine (View.read_writes_eq_canon _ _ _ (fun y => cover0_C_16 (y := y) ..)).trans ?_
  unfold kernelRun0_C
  dsimp only
  sl_unfold_words
  rw [View.canon_unit_zero hz3, readCov_whole _ _ hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread,
    (Memref.isWhole_whole cc0_scratch0).read_unread, View.ld_unit_zero (S := S512x1024) hz,
    View.ld_unit_zero (S := S1x512x512) hz3, View.ld_unit_zero (S := S512x512) hz, View.ld_unit_zero (S := S1x1x1024) hz3,
    View.ld_unit_zero (S := S1x1024) hz, View.ld_unit_zero (S := S2816x1024) hz, View.ld_unit_zero (S := S1x2x5632) hz3,
    carry_skip0, carry_skip1, View.readCov_fill (s := S2x5632) _ _ _ _ _ hz2]

end Cert.PostIdeal.Block
-- ==== Proof.PostBlock.lean ====
/-
What one grid point of the layer's second half computes, once its argument blocks and carried rows hold the layer's
arrays: the output's block holds the layer's output, and the rows carried out hold the up projection's last two rows.
-/
module

public import proofs.«01_k».proof.Proof.PostStep

@[expose] public section

set_option maxRecDepth 16384

noncomputable section

namespace Cert.PostIdeal.Block

open Cert.PostIdeal Cert.PostIdeal.Gen Cert.PostIdeal.Value
open Idealize.ShloMosaic Idealize.ShloMosaic.TcCoe Idealize.SL.Sem
open Cert.PostSpec

/-- The time of row `r` in the `q`-th tile of a batch. -/
abbrev time (q : Fin 4) (r : Fin 512) : Fin 2048 := ⟨512 * q.val + r.val, by omega⟩

/-- The argument blocks hold the arrays `A` at batch `b`, tile `q`. -/
structure Holds (A : Args) (b : Fin 8) (q : Fin 4) (x0 : Vec Ideal S512x1024 .f32) (x1 : Vec Ideal S512x512 .bf16)
    (x2 : Vec Ideal S1x512x512 .bf16) (x3 x4 x5 x6 : Vec Ideal S1x1x1024 .f32) (x7 x8 : Vec Ideal S1x1024 .f32)
    (x9 : Vec Ideal S1024x1024 .bf16) (x10 : Vec Ideal S1024x5632 .bf16) (x11 : Vec Ideal S2816x1024 .bf16)
    (x12 : Vec Ideal S3x5632 .f32) (x13 : Vec Ideal S1x5632 .f32) : Prop where
  e0 : ∀ (r : Fin 512) (d : Fin 1024), x0 (ix2 r d) = A.x b (time q r) d
  e1 : ∀ (r : Fin 512) (d : Fin 512), x1 (ix2 r d) = A.conv b (time q r) d
  e2 : ∀ (d : Fin 512) (r : Fin 512), x2 (ix3 0 d r) = A.attn b d (time q r)
  e3 : ∀ d : Fin 1024, x3 (ix3 0 0 d) = A.gt1 b d
  e4 : ∀ d : Fin 1024, x4 (ix3 0 0 d) = A.sc2 b d
  e5 : ∀ d : Fin 1024, x5 (ix3 0 0 d) = A.sh2 b d
  e6 : ∀ d : Fin 1024, x6 (ix3 0 0 d) = A.gt2 b d
  e7 : ∀ d : Fin 1024, x7 (ix2 0 d) = A.g2 d
  e8 : ∀ d : Fin 1024, x8 (ix2 0 d) = A.gf d
  e9 : ∀ (k : Fin 1024) (d : Fin 1024), x9 (ix2 k d) = A.wout k d
  e10 : ∀ (k : Fin 1024) (f : Fin 5632), x10 (ix2 k f) = A.wup k f
  e11 : ∀ (f : Fin 2816) (d : Fin 1024), x11 (ix2 f d) = A.wdn f d
  e12 : ∀ (j : Fin 3) (f : Fin 5632), x12 (ix2 j f) = A.fw j f
  e13 : ∀ f : Fin 5632, x13 (ix2 0 f) = A.fb f

/-- The carried rows hold the two rows of the extended up projection that stand before tile `q`. -/
def Carried (A : Args) (b : Fin 8) (q : Fin 4) (C : Vec Ideal S2x5632 .f32) : Prop :=
  ∀ (j : Fin 2) (f : Fin 5632), C (ix2 j f) = A.ext b ⟨512 * q.val + j.val, by omega⟩ f

/-- A channel of the first half among all of the up projection's. -/
abbrev lo (f : Fin 2816) : Fin 5632 := ⟨f.val, by omega⟩
/-- A channel of the second half among all of the up projection's. -/
abbrev hi (f : Fin 2816) : Fin 5632 := ⟨2816 + f.val, by omega⟩

section
variable {A : Args} {b : Fin 8} {q : Fin 4} {x0 : Vec Ideal S512x1024 .f32} {x1 : Vec Ideal S512x512 .bf16}
  {x2 : Vec Ideal S1x512x512 .bf16} {x3 x4 x5 x6 : Vec Ideal S1x1x1024 .f32} {x7 x8 : Vec Ideal S1x1024 .f32}
  {x9 : Vec Ideal S1024x1024 .bf16} {x10 : Vec Ideal S1024x5632 .bf16} {x11 : Vec Ideal S2816x1024 .bf16}
  {x12 : Vec Ideal S3x5632 .f32} {x13 : Vec Ideal S1x5632 .f32}
  (H : Holds A b q x0 x1 x2 x3 x4 x5 x6 x7 x8 x9 x10 x11 x12 x13)
include H

/-- The gated residual's block. -/
theorem x1B_eq (r : Fin 512) (d : Fin 1024) : x1B x0 x1 x2 x3 x9 (ix2 r d) = A.x1 b (time q r) d := by
  have lo9 : ∀ k : Fin 512, View.ld x9 (Rect.unit ![0, 0] ![512, 1024] inb_S1024x1024_S512x1024_0_0) (ix2 k d)
      = A.wout ⟨k.val, by omega⟩ d := fun k => by
    rw [← H.e9]; pointwise
  have hi9 : ∀ k : Fin 512, View.ld x9 (Rect.unit ![512, 0] ![512, 1024] inb_S1024x1024_S512x1024_512_0) (ix2 k d)
      = A.wout ⟨512 + k.val, by omega⟩ d := fun k => by
    rw [← H.e9]; pointwise
  unfold x1B Args.x1
  rw [pay3_apply, H.e0, H.e3, Fin.sum_univ_two_halves 512 512 rfl]
  refine congrArg₂ (· + ·) rfl (congrArg₂ (· * ·) rfl (congrArg₂ (· + ·) ?_ ?_))
  · refine Finset.sum_congr rfl fun k _ => ?_
    rw [lo9, H.e1]
    unfold Args.cat
    rw [dif_pos k.isLt]
  · refine Finset.sum_congr rfl fun k _ => ?_
    rw [hi9, H.e2]
    unfold Args.cat
    rw [dif_neg (by show ¬512 + k.val < 512; omega)]
    exact congrArg₂ (· * ·) (congrArg (fun z => A.attn b z _) (Fin.ext (by show k.val = 512 + k.val - 512; omega))) rfl

/-- The modulated norm's block. -/
theorem h2B_eq (r : Fin 512) (d : Fin 1024) :
    k0_pay4 (F := Ideal) (x1B x0 x1 x2 x3 x9) x7 x4 x5 (ix2 r d) = A.h2 b (time q r) d := by
  unfold Args.h2
  rw [pay4_apply, H.e7, H.e4, H.e5, x1B_eq H, show (fun k => x1B x0 x1 x2 x3 x9 (ix2 r k)) = A.x1 b (time q r) from
    funext fun k => x1B_eq H r k]

/-- The up projection's first half. -/
theorem uaB_eq (r : Fin 512) (f : Fin 2816) :
    uaB (x1B x0 x1 x2 x3 x9) x4 x5 x7 x10 (ix2 r f) = A.up b (time q r) (lo f) := by
  unfold uaB Args.up
  rw [pay6_apply]
  refine Finset.sum_congr rfl fun k _ => ?_
  rw [h2B_eq H, ← H.e10]
  refine congrArg₂ (· * ·) rfl ?_
  pointwise

/-- The up projection's second half. -/
theorem ugB_eq (r : Fin 512) (f : Fin 2816) :
    ugB (x1B x0 x1 x2 x3 x9) x4 x5 x7 x10 (ix2 r f) = A.up b (time q r) (hi f) := by
  unfold ugB Args.up
  rw [pay7_apply]
  refine Finset.sum_congr rfl fun k _ => ?_
  rw [h2B_eq H, ← H.e10]
  refine congrArg₂ (· * ·) rfl ?_
  pointwise

omit H in
/-- A row of the extended up projection past the history. -/
theorem ext_two (t : Fin 2048) (f : Fin 5632) : A.ext b ⟨t.val + 2, by omega⟩ f = A.up b t f := by
  unfold Args.ext
  rw [dif_neg (by show ¬t.val + 2 < 2; omega)]
  exact congrArg (fun z => A.up b z f) (Fin.ext (by show t.val + 2 - 2 = t.val; omega))

omit H in
/-- The row before, over rows of the up projection and the carried row. -/
theorem prev1_ext (f : Fin 5632) (U : Fin 512 → EReal) (hU : ∀ r, U r = A.up b (time q r) f) (c1 : EReal)
    (h1 : c1 = A.ext b ⟨512 * q.val + 1, by omega⟩ f) (r : Fin 512) :
    prev1 U c1 r = A.ext b ⟨512 * q.val + r.val + 1, by omega⟩ f := by
  unfold prev1
  split
  · rename_i h
    rw [h1]
    exact congrArg (fun z => A.ext b z f) (Fin.ext (by show 512 * q.val + 1 = 512 * q.val + r.val + 1; omega))
  · rename_i h
    rw [hU, ← ext_two]
    exact congrArg (fun z => A.ext b z f)
      (Fin.ext (by show 512 * q.val + (r.val - 1) + 2 = 512 * q.val + r.val + 1; omega))

omit H in
/-- The row two before, over rows of the up projection and the carried rows. -/
theorem prev2_ext (f : Fin 5632) (U : Fin 512 → EReal) (hU : ∀ r, U r = A.up b (time q r) f) (c0 c1 : EReal)
    (h0 : c0 = A.ext b ⟨512 * q.val, by omega⟩ f) (h1 : c1 = A.ext b ⟨512 * q.val + 1, by omega⟩ f) (r : Fin 512) :
    prev2 U c0 c1 r = A.ext b ⟨512 * q.val + r.val, by omega⟩ f := by
  unfold prev2
  split
  · rename_i h
    rw [h0]
    exact congrArg (fun z => A.ext b z f) (Fin.ext (by show 512 * q.val = 512 * q.val + r.val; omega))
  · split
    · rename_i h h'
      rw [h1]
      exact congrArg (fun z => A.ext b z f) (Fin.ext (by show 512 * q.val + 1 = 512 * q.val + r.val; omega))
    · rename_i h h'
      rw [hU, ← ext_two]
      exact congrArg (fun z => A.ext b z f)
        (Fin.ext (by show 512 * q.val + (r.val - 2) + 2 = 512 * q.val + r.val; omega))

variable {C : Vec Ideal S2x5632 .f32} (HC : Carried A b q C)
include HC

/-- The filtered first half. -/
theorem faB_eq (r : Fin 512) (f : Fin 2816) :
    faB (uaB (x1B x0 x1 x2 x3 x9) x4 x5 x7 x10) x12 x13 C (ix2 r f) = A.dw b (time q r) (lo f) := by
  have w0 : View.ld x12 (Rect.unit ![0, 0] ![1, 2816] inb_S3x5632_S1x2816_0_0) (ix2 0 f) = A.fw 0 (lo f) := by
    rw [← H.e12]; pointwise
  have w1 : View.ld x12 (Rect.unit ![1, 0] ![1, 2816] inb_S3x5632_S1x2816_1_0) (ix2 0 f) = A.fw 1 (lo f) := by
    rw [← H.e12]; pointwise
  have w2 : View.ld x12 (Rect.unit ![2, 0] ![1, 2816] inb_S3x5632_S1x2816_2_0) (ix2 0 f) = A.fw 2 (lo f) := by
    rw [← H.e12]; pointwise
  have c0 : View.ld C (Rect.unit ![0, 0] ![1, 2816] inb_S2x5632_S1x2816_0_0) (ix2 0 f) = C (ix2 0 (lo f)) := by
    pointwise
  have c1 : View.ld C (Rect.unit ![1, 0] ![1, 2816] inb_S2x5632_S1x2816_1_0) (ix2 0 f) = C (ix2 1 (lo f)) := by
    pointwise
  have bi : View.ld x13 (Rect.unit ![0, 0] ![1, 2816] inb_S1x5632_S1x2816_0_0) (ix2 0 f) = A.fb (lo f) := by
    rw [← H.e13]; pointwise
  unfold faB Args.dw
  rw [pay8_apply, w0, w1, w2, bi, prev1_ext (A := A) (b := b) (q := q) (lo f) _ (fun r => uaB_eq H r f) _ (c1.trans (HC 1 (lo f))),
    prev2_ext (A := A) (b := b) (q := q) (lo f) _ (fun r => uaB_eq H r f) _ _ (c0.trans (HC 0 (lo f))) (c1.trans (HC 1 (lo f))),
    uaB_eq H, ← ext_two]
  refine congrArg₂ (· + ·) ?_ rfl
  rw [add_comm, add_comm (A.ext b _ _ * A.fw 2 _)]
  exact (add_assoc _ _ _).symm

/-- The filtered second half, its bias added. -/
theorem fgB_eq (r : Fin 512) (f : Fin 2816) :
    fgB (ugB (x1B x0 x1 x2 x3 x9) x4 x5 x7 x10) x12 C (ix2 r f) + bgB x13 (ix2 0 f) = A.dw b (time q r) (hi f) := by
  have w0 : View.ld x12 (Rect.unit ![0, 2816] ![1, 2816] inb_S3x5632_S1x2816_0_2816) (ix2 0 f) = A.fw 0 (hi f) := by
    rw [← H.e12]; pointwise
  have w1 : View.ld x12 (Rect.unit ![1, 2816] ![1, 2816] inb_S3x5632_S1x2816_1_2816) (ix2 0 f) = A.fw 1 (hi f) := by
    rw [← H.e12]; pointwise
  have w2 : View.ld x12 (Rect.unit ![2, 2816] ![1, 2816] inb_S3x5632_S1x2816_2_2816) (ix2 0 f) = A.fw 2 (hi f) := by
    rw [← H.e12]; pointwise
  have c0 : View.ld C (Rect.unit ![0, 2816] ![1, 2816] inb_S2x5632_S1x2816_0_2816) (ix2 0 f) = C (ix2 0 (hi f)) := by
    pointwise
  have c1 : View.ld C (Rect.unit ![1, 2816] ![1, 2816] inb_S2x5632_S1x2816_1_2816) (ix2 0 f) = C (ix2 1 (hi f)) := by
    pointwise
  have bi : bgB x13 (ix2 0 f) = A.fb (hi f) := by
    rw [← H.e13]; unfold bgB; pointwise [k0_pay11]
  unfold fgB Args.dw
  rw [pay10_apply, w0, w1, w2, bi, prev1_ext (A := A) (b := b) (q := q) (hi f) _ (fun r => ugB_eq H r f) _ (c1.trans (HC 1 (hi f))),
    prev2_ext (A := A) (b := b) (q := q) (hi f) _ (fun r => ugB_eq H r f) _ _ (c0.trans (HC 0 (hi f))) (c1.trans (HC 1 (hi f))),
    ugB_eq H, ← ext_two]
  refine congrArg₂ (· + ·) ?_ rfl
  rw [add_comm, add_comm (A.ext b _ _ * A.fw 2 _)]
  exact (add_assoc _ _ _).symm

/-- The second gated residual. -/
theorem x2B_eq (r : Fin 512) (d : Fin 1024) :
    x2B (x1B x0 x1 x2 x3 x9) (faB (uaB (x1B x0 x1 x2 x3 x9) x4 x5 x7 x10) x12 x13 C)
      (fgB (ugB (x1B x0 x1 x2 x3 x9) x4 x5 x7 x10) x12 C) (bgB x13) x6 x11 (ix2 r d) = A.x2 b (time q r) d := by
  have z : k0_pay5 (F := Ideal) (ix2 r d) = 0 := by
    pointwise [k0_pay5]
  unfold x2B Args.x2
  rw [pay14_apply, z, zero_add, x1B_eq H, H.e6]
  refine congrArg₂ (· + ·) rfl (congrArg₂ (· * ·) rfl (Finset.sum_congr rfl fun f _ => ?_))
  rw [fgB_eq H HC, faB_eq H HC, H.e11]
  rfl

/-- The output's block. -/
theorem yB_eq (r : Fin 512) (d : Fin 1024) :
    yB (x1B x0 x1 x2 x3 x9) (faB (uaB (x1B x0 x1 x2 x3 x9) x4 x5 x7 x10) x12 x13 C)
      (fgB (ugB (x1B x0 x1 x2 x3 x9) x4 x5 x7 x10) x12 C) (bgB x13) x6 x8 x11 (ix2 r d) = A.y b (time q r) d := by
  unfold yB Args.y
  rw [pay1_apply, pay15_apply, x2B_eq H HC, H.e8,
    show (fun d => k0_pay14 (F := Ideal) (x1B x0 x1 x2 x3 x9) k0_pay5
        (faB (uaB (x1B x0 x1 x2 x3 x9) x4 x5 x7 x10) x12 x13 C)
        (fgB (ugB (x1B x0 x1 x2 x3 x9) x4 x5 x7 x10) x12 C) (bgB x13) x11 x6 (ix2 r d)) = A.x2 b (time q r) from
      funext fun k => x2B_eq H HC r k]

omit HC in
/-- The rows carried out: the up projection's last two rows of the tile. -/
theorem carryB_eq (L : List (View.Piece (Elt Ideal) S2x5632 .f32)) (j : Fin 2) (f : Fin 5632) :
    carryB (uaB (x1B x0 x1 x2 x3 x9) x4 x5 x7 x10) (ugB (x1B x0 x1 x2 x3 x9) x4 x5 x7 x10) L (ix2 j f)
      = A.ext b ⟨512 * q.val + 512 + j.val, by omega⟩ f := by
  have hrow : A.ext b ⟨512 * q.val + 512 + j.val, by omega⟩ f = A.up b (time q ⟨510 + j.val, by omega⟩) f := by
    rw [← ext_two]
    exact congrArg (fun z => A.ext b z f)
      (Fin.ext (by show 512 * q.val + 512 + j.val = 512 * q.val + (510 + j.val) + 2; omega))
  rw [hrow]
  unfold carryB
  by_cases hf : f.val < 2816
  · rw [View.canon_cons_of_not_mem _ _ (fun h => by
      have h1 : 2816 ≤ f.val := ((Rect.mem_set_unit (inb := inb_S2x5632_S2x2816_0_2816)).mp h (1 : Fin 2)).1
      omega)]
    refine (congrArg _ (funext fun a => Fin.ext ?_)).trans
      ((View.canon_cons_emb _ _ _ (ix2 j (⟨f.val, hf⟩ : Fin 2816))).trans ?_)
    · match a with
      | ⟨0, _⟩ => show j.val = 0 + 1 * j.val; omega
      | ⟨1, _⟩ => show f.val = 0 + 1 * f.val; omega
    · rw [pay9_apply, uaB_eq H]
  · refine (congrArg _ (funext fun a => Fin.ext ?_)).trans
      ((View.canon_cons_emb _ _ _ (ix2 j (⟨f.val - 2816, by omega⟩ : Fin 2816))).trans ?_)
    · match a with
      | ⟨0, _⟩ => show j.val = 0 + 1 * j.val; omega
      | ⟨1, _⟩ => show f.val = 2816 + 1 * (f.val - 2816); omega
    · rw [pay12_apply, ugB_eq H]
      exact congrArg (A.up b _) (Fin.ext (by show 2816 + (f.val - 2816) = f.val; omega))

end

end Cert.PostIdeal.Block
-- ==== Proof.PostHost.lean ====
/-
What the argument blocks of a grid point hold: the layer's arrays at the point's batch and tile.  The host's reshapes
and casts before the launch are read through.
-/
module

public import proofs.«01_k».proof.Proof.PostBlock
public import Idealize.ShloMosaic.Lib.StableHlo.ReadAt
public import Idealize.ShloMosaic.Lib.Claim

@[expose] public section

set_option maxRecDepth 16384

noncomputable section

namespace Cert.PostIdeal.Block

open Cert.PostIdeal Cert.PostIdeal.Gen Cert.PostIdeal.Value
open Idealize.ShloMosaic Idealize.ShloMosaic.TcCoe Idealize.SL.Sem
open Cert.PostSpec

variable (m : (ℓ : Loc nD τ sig) → Buf (Elt Ideal) ℓ)

/-- The layer's arrays, read off the launch's memory. -/
abbrev argsAt (c : Dev nD) : Args :=
  argsOf (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14))

/-- The batch of a grid point. -/
abbrev batch (t : Fin cfg0.N) : Fin 8 := ⟨t.val / 4, by have := t.isLt; have hN : cfg0.N = 32 := N_0; omega⟩
/-- The tile of a grid point within its batch. -/
abbrev tile (t : Fin cfg0.N) : Fin 4 := ⟨t.val % 4, by omega⟩

/-- A modulation vector with its unit axis. -/
theorem V_v0 (c : Dev nD) (b : Fin 8) (d : Fin 1024) :
    V m c main_v0 (ix3 b 0 d) = m (c, main_arg3) (ix2 b d) := by
  unfold V
  after_reads_at

/-- A modulation vector with its unit axis. -/
theorem V_v1 (c : Dev nD) (b : Fin 8) (d : Fin 1024) :
    V m c main_v1 (ix3 b 0 d) = m (c, main_arg4) (ix2 b d) := by
  unfold V
  after_reads_at

/-- A modulation vector with its unit axis. -/
theorem V_v2 (c : Dev nD) (b : Fin 8) (d : Fin 1024) :
    V m c main_v2 (ix3 b 0 d) = m (c, main_arg5) (ix2 b d) := by
  unfold V
  after_reads_at

/-- A modulation vector with its unit axis. -/
theorem V_v3 (c : Dev nD) (b : Fin 8) (d : Fin 1024) :
    V m c main_v3 (ix3 b 0 d) = m (c, main_arg6) (ix2 b d) := by
  unfold V
  after_reads_at

/-- The rows of all batches, one after the other. -/
theorem V_v4 (c : Dev nD) (r : Fin 16384) (d : Fin 1024) :
    V m c main_v4 (ix2 r d) = m (c, main_arg0) (ix3 (⟨r.val / 2048, by omega⟩ : Fin 8) (⟨r.val % 2048, by omega⟩ : Fin 2048) d) := by
  unfold V
  after_reads_at

/-- The rows of all batches, one after the other. -/
theorem V_v5 (c : Dev nD) (r : Fin 16384) (d : Fin 512) :
    V m c main_v5 (ix2 r d) = m (c, main_arg1) (ix3 (⟨r.val / 2048, by omega⟩ : Fin 8) (⟨r.val % 2048, by omega⟩ : Fin 2048) d) := by
  unfold V
  after_reads_at

/-- A vector as one row. -/
theorem V_v6 (c : Dev nD) (d : Fin 1024) :
    V m c main_v6 (ix2 0 d) = m (c, main_arg7) (ix1 d) := by
  unfold V
  after_reads_at

/-- A vector as one row. -/
theorem V_v7 (c : Dev nD) (d : Fin 1024) :
    V m c main_v7 (ix2 0 d) = m (c, main_arg8) (ix1 d) := by
  unfold V
  after_reads_at

/-- A weight matrix in the narrower format: the same values. -/
theorem V_v8 (c : Dev nD) (k : Fin 1024) (d : Fin 1024) :
    V m c main_v8 (ix2 k d) = m (c, main_arg9) (ix2 k d) := by
  unfold V
  after_reads_at

/-- A weight matrix in the narrower format: the same values. -/
theorem V_v9 (c : Dev nD) (k : Fin 1024) (d : Fin 5632) :
    V m c main_v9 (ix2 k d) = m (c, main_arg10) (ix2 k d) := by
  unfold V
  after_reads_at

/-- A weight matrix in the narrower format: the same values. -/
theorem V_v10 (c : Dev nD) (k : Fin 2816) (d : Fin 1024) :
    V m c main_v10 (ix2 k d) = m (c, main_arg11) (ix2 k d) := by
  unfold V
  after_reads_at

/-- A vector as one row. -/
theorem V_v11 (c : Dev nD) (d : Fin 5632) :
    V m c main_v11 (ix2 0 d) = m (c, main_arg13) (ix1 d) := by
  unfold V
  after_reads_at

/-- An argument the host leaves as it is. -/
theorem V_arg2 (c : Dev nD) (b : Fin 8) (d : Fin 512) (t : Fin 2048) :
    V m c main_arg2 (ix3 b d t) = m (c, main_arg2) (ix3 b d t) := by
  unfold V
  after_reads_at

/-- An argument the host leaves as it is. -/
theorem V_arg12 (c : Dev nD) (k : Fin 3) (d : Fin 5632) :
    V m c main_arg12 (ix2 k d) = m (c, main_arg12) (ix2 k d) := by
  unfold V
  after_reads_at

/-- An argument the host leaves as it is. -/
theorem V_arg14 (c : Dev nD) (b : Fin 8) (k : Fin 2) (d : Fin 5632) :
    V m c main_arg14 (ix3 b k d) = m (c, main_arg14) (ix3 b k d) := by
  unfold V
  after_reads_at

end Cert.PostIdeal.Block
-- ==== Proof.PostArray.lean ====
/-
What the result arrays of the layer's second half hold: the layer's output and the up projection's last two rows of
each batch.  The rows carried from point to point are followed by induction.
-/
module

public import proofs.«01_k».proof.Proof.PostHost

@[expose] public section

set_option maxRecDepth 16384

noncomputable section

namespace Cert.PostIdeal.Block

open Cert.PostIdeal Cert.PostIdeal.Gen Cert.PostIdeal.Value
open Idealize.ShloMosaic Idealize.ShloMosaic.TcCoe Idealize.SL.Sem
open Cert.PostSpec

variable (m : (ℓ : Loc nD τ sig) → Buf (Elt Ideal) ℓ)

/-- Where the blocks of argument 0 lie. -/
theorem at0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Argument 0's block at an index. -/
theorem blk0 (c : Dev nD) (t : Fin cfg0.N) (i : Fin 512) (j : Fin 1024) :
    iblk m c 0 t (ix2 i j) = V m c main_v4 (ix2 (⟨512 * t.val + i.val, by have := t.isLt; have hN : cfg0.N = 32 := N_0; omega⟩ : Fin 16384) j) := by
  obtain ⟨h0, h1⟩ := at0 t
  have hN : t.val < 32 := t.isLt
  show ((cfg0.win 0).blk t).view.read (Elt Ideal) (V m c (Pipeline.arrRef spec0 0)) _ = _
  rw [View.read_apply]
  refine congrArg (V m c main_v4) (funext fun a => Fin.ext ?_)
  exact (match a with
    | ⟨0, _⟩ => (by show win0_0.index t 0 * 512 + 1 * i.val = 512 * t.val + i.val; rw [h0]; omega)
    | ⟨1, _⟩ => (by show win0_0.index t 1 * 1024 + 1 * j.val = j.val; rw [h1]; omega)
    )

/-- Where the blocks of argument 1 lie. -/
theorem at1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Argument 1's block at an index. -/
theorem blk1 (c : Dev nD) (t : Fin cfg0.N) (i : Fin 512) (j : Fin 512) :
    iblk m c 1 t (ix2 i j) = V m c main_v5 (ix2 (⟨512 * t.val + i.val, by have := t.isLt; have hN : cfg0.N = 32 := N_0; omega⟩ : Fin 16384) j) := by
  obtain ⟨h0, h1⟩ := at1 t
  have hN : t.val < 32 := t.isLt
  show ((cfg0.win 1).blk t).view.read (Elt Ideal) (V m c (Pipeline.arrRef spec0 1)) _ = _
  rw [View.read_apply]
  refine congrArg (V m c main_v5) (funext fun a => Fin.ext ?_)
  exact (match a with
    | ⟨0, _⟩ => (by show win0_1.index t 0 * 512 + 1 * i.val = 512 * t.val + i.val; rw [h0]; omega)
    | ⟨1, _⟩ => (by show win0_1.index t 1 * 512 + 1 * j.val = j.val; rw [h1]; omega)
    )

/-- Where the blocks of argument 2 lie. -/
theorem at2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, win0_2.index t (0 : Fin 3) = t.val / 4 ∧ win0_2.index t (1 : Fin 3) = 0 ∧ win0_2.index t (2 : Fin 3) = t.val % 4)

/-- Argument 2's block at an index. -/
theorem blk2 (c : Dev nD) (t : Fin cfg0.N) (i : Fin 1) (j : Fin 512) (k : Fin 512) :
    iblk m c 2 t (ix3 i j k) = V m c main_arg2 (ix3 (⟨t.val / 4, by have := t.isLt; have hN : cfg0.N = 32 := N_0; omega⟩ : Fin 8) j (⟨512 * (t.val % 4) + k.val, by have := t.isLt; have hN : cfg0.N = 32 := N_0; omega⟩ : Fin 2048)) := by
  obtain ⟨h0, h1, h2⟩ := at2 t
  have hN : t.val < 32 := t.isLt
  show ((cfg0.win 2).blk t).view.read (Elt Ideal) (V m c (Pipeline.arrRef spec0 2)) _ = _
  rw [View.read_apply]
  refine congrArg (V m c main_arg2) (funext fun a => Fin.ext ?_)
  exact (match a with
    | ⟨0, _⟩ => (by show win0_2.index t 0 * 1 + 1 * i.val = t.val / 4; rw [h0]; omega)
    | ⟨1, _⟩ => (by show win0_2.index t 1 * 512 + 1 * j.val = j.val; rw [h1]; omega)
    | ⟨2, _⟩ => (by show win0_2.index t 2 * 512 + 1 * k.val = 512 * (t.val % 4) + k.val; rw [h2]; omega)
    )

/-- Where the blocks of argument 3 lie. -/
theorem at3 : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

/-- Argument 3's block at an index. -/
theorem blk3 (c : Dev nD) (t : Fin cfg0.N) (i : Fin 1) (j : Fin 1) (k : Fin 1024) :
    iblk m c 3 t (ix3 i j k) = V m c main_v0 (ix3 (⟨t.val / 4, by have := t.isLt; have hN : cfg0.N = 32 := N_0; omega⟩ : Fin 8) j k) := by
  obtain ⟨h0, h1, h2⟩ := at3 t
  have hN : t.val < 32 := t.isLt
  show ((cfg0.win 3).blk t).view.read (Elt Ideal) (V m c (Pipeline.arrRef spec0 3)) _ = _
  rw [View.read_apply]
  refine congrArg (V m c main_v0) (funext fun a => Fin.ext ?_)
  exact (match a with
    | ⟨0, _⟩ => (by show win0_3.index t 0 * 1 + 1 * i.val = t.val / 4; rw [h0]; omega)
    | ⟨1, _⟩ => (by show win0_3.index t 1 * 1 + 1 * j.val = j.val; rw [h1]; omega)
    | ⟨2, _⟩ => (by show win0_3.index t 2 * 1024 + 1 * k.val = k.val; rw [h2]; omega)
    )

/-- Where the blocks of argument 4 lie. -/
theorem at4 : ∀ t : Fin cfg0.N, win0_4.index t (0 : Fin 3) = t.val / 4 ∧ win0_4.index t (1 : Fin 3) = 0 ∧ win0_4.index t (2 : Fin 3) = 0 :=
  (by decide +kernel : ∀ t : Fin grid0.N, win0_4.index t (0 : Fin 3) = t.val / 4 ∧ win0_4.index t (1 : Fin 3) = 0 ∧ win0_4.index t (2 : Fin 3) = 0)

/-- Argument 4's block at an index. -/
theorem blk4 (c : Dev nD) (t : Fin cfg0.N) (i : Fin 1) (j : Fin 1) (k : Fin 1024) :
    iblk m c 4 t (ix3 i j k) = V m c main_v1 (ix3 (⟨t.val / 4, by have := t.isLt; have hN : cfg0.N = 32 := N_0; omega⟩ : Fin 8) j k) := by
  obtain ⟨h0, h1, h2⟩ := at4 t
  have hN : t.val < 32 := t.isLt
  show ((cfg0.win 4).blk t).view.read (Elt Ideal) (V m c (Pipeline.arrRef spec0 4)) _ = _
  rw [View.read_apply]
  refine congrArg (V m c main_v1) (funext fun a => Fin.ext ?_)
  exact (match a with
    | ⟨0, _⟩ => (by show win0_4.index t 0 * 1 + 1 * i.val = t.val / 4; rw [h0]; omega)
    | ⟨1, _⟩ => (by show win0_4.index t 1 * 1 + 1 * j.val = j.val; rw [h1]; omega)
    | ⟨2, _⟩ => (by show win0_4.index t 2 * 1024 + 1 * k.val = k.val; rw [h2]; omega)
    )

/-- Where the blocks of argument 5 lie. -/
theorem at5 : ∀ t : Fin cfg0.N, win0_5.index t (0 : Fin 3) = t.val / 4 ∧ win0_5.index t (1 : Fin 3) = 0 ∧ win0_5.index t (2 : Fin 3) = 0 :=
  (by decide +kernel : ∀ t : Fin grid0.N, win0_5.index t (0 : Fin 3) = t.val / 4 ∧ win0_5.index t (1 : Fin 3) = 0 ∧ win0_5.index t (2 : Fin 3) = 0)

/-- Argument 5's block at an index. -/
theorem blk5 (c : Dev nD) (t : Fin cfg0.N) (i : Fin 1) (j : Fin 1) (k : Fin 1024) :
    iblk m c 5 t (ix3 i j k) = V m c main_v2 (ix3 (⟨t.val / 4, by have := t.isLt; have hN : cfg0.N = 32 := N_0; omega⟩ : Fin 8) j k) := by
  obtain ⟨h0, h1, h2⟩ := at5 t
  have hN : t.val < 32 := t.isLt
  show ((cfg0.win 5).blk t).view.read (Elt Ideal) (V m c (Pipeline.arrRef spec0 5)) _ = _
  rw [View.read_apply]
  refine congrArg (V m c main_v2) (funext fun a => Fin.ext ?_)
  exact (match a with
    | ⟨0, _⟩ => (by show win0_5.index t 0 * 1 + 1 * i.val = t.val / 4; rw [h0]; omega)
    | ⟨1, _⟩ => (by show win0_5.index t 1 * 1 + 1 * j.val = j.val; rw [h1]; omega)
    | ⟨2, _⟩ => (by show win0_5.index t 2 * 1024 + 1 * k.val = k.val; rw [h2]; omega)
    )

/-- Where the blocks of argument 6 lie. -/
theorem at6 : ∀ t : Fin cfg0.N, win0_6.index t (0 : Fin 3) = t.val / 4 ∧ win0_6.index t (1 : Fin 3) = 0 ∧ win0_6.index t (2 : Fin 3) = 0 :=
  (by decide +kernel : ∀ t : Fin grid0.N, win0_6.index t (0 : Fin 3) = t.val / 4 ∧ win0_6.index t (1 : Fin 3) = 0 ∧ win0_6.index t (2 : Fin 3) = 0)

/-- Argument 6's block at an index. -/
theorem blk6 (c : Dev nD) (t : Fin cfg0.N) (i : Fin 1) (j : Fin 1) (k : Fin 1024) :
    iblk m c 6 t (ix3 i j k) = V m c main_v3 (ix3 (⟨t.val / 4, by have := t.isLt; have hN : cfg0.N = 32 := N_0; omega⟩ : Fin 8) j k) := by
  obtain ⟨h0, h1, h2⟩ := at6 t
  have hN : t.val < 32 := t.isLt
  show ((cfg0.win 6).blk t).view.read (Elt Ideal) (V m c (Pipeline.arrRef spec0 6)) _ = _
  rw [View.read_apply]
  refine congrArg (V m c main_v3) (funext fun a => Fin.ext ?_)
  exact (match a with
    | ⟨0, _⟩ => (by show win0_6.index t 0 * 1 + 1 * i.val = t.val / 4; rw [h0]; omega)
    | ⟨1, _⟩ => (by show win0_6.index t 1 * 1 + 1 * j.val = j.val; rw [h1]; omega)
    | ⟨2, _⟩ => (by show win0_6.index t 2 * 1024 + 1 * k.val = k.val; rw [h2]; omega)
    )

/-- Where the blocks of argument 7 lie. -/
theorem at7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Argument 7's block at an index. -/
theorem blk7 (c : Dev nD) (t : Fin cfg0.N) (i : Fin 1) (j : Fin 1024) :
    iblk m c 7 t (ix2 i j) = V m c main_v6 (ix2 i j) := by
  obtain ⟨h0, h1⟩ := at7 t
  have hN : t.val < 32 := t.isLt
  show ((cfg0.win 7).blk t).view.read (Elt Ideal) (V m c (Pipeline.arrRef spec0 7)) _ = _
  rw [View.read_apply]
  refine congrArg (V m c main_v6) (funext fun a => Fin.ext ?_)
  exact (match a with
    | ⟨0, _⟩ => (by show win0_7.index t 0 * 1 + 1 * i.val = i.val; rw [h0]; omega)
    | ⟨1, _⟩ => (by show win0_7.index t 1 * 1024 + 1 * j.val = j.val; rw [h1]; omega)
    )

/-- Where the blocks of argument 8 lie. -/
theorem at8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Argument 8's block at an index. -/
theorem blk8 (c : Dev nD) (t : Fin cfg0.N) (i : Fin 1) (j : Fin 1024) :
    iblk m c 8 t (ix2 i j) = V m c main_v7 (ix2 i j) := by
  obtain ⟨h0, h1⟩ := at8 t
  have hN : t.val < 32 := t.isLt
  show ((cfg0.win 8).blk t).view.read (Elt Ideal) (V m c (Pipeline.arrRef spec0 8)) _ = _
  rw [View.read_apply]
  refine congrArg (V m c main_v7) (funext fun a => Fin.ext ?_)
  exact (match a with
    | ⟨0, _⟩ => (by show win0_8.index t 0 * 1 + 1 * i.val = i.val; rw [h0]; omega)
    | ⟨1, _⟩ => (by show win0_8.index t 1 * 1024 + 1 * j.val = j.val; rw [h1]; omega)
    )

/-- Where the blocks of argument 9 lie. -/
theorem at9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Argument 9's block at an index. -/
theorem blk9 (c : Dev nD) (t : Fin cfg0.N) (i : Fin 1024) (j : Fin 1024) :
    iblk m c 9 t (ix2 i j) = V m c main_v8 (ix2 i j) := by
  obtain ⟨h0, h1⟩ := at9 t
  have hN : t.val < 32 := t.isLt
  show ((cfg0.win 9).blk t).view.read (Elt Ideal) (V m c (Pipeline.arrRef spec0 9)) _ = _
  rw [View.read_apply]
  refine congrArg (V m c main_v8) (funext fun a => Fin.ext ?_)
  exact (match a with
    | ⟨0, _⟩ => (by show win0_9.index t 0 * 1024 + 1 * i.val = i.val; rw [h0]; omega)
    | ⟨1, _⟩ => (by show win0_9.index t 1 * 1024 + 1 * j.val = j.val; rw [h1]; omega)
    )

/-- Where the blocks of argument 10 lie. -/
theorem at10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Argument 10's block at an index. -/
theorem blk10 (c : Dev nD) (t : Fin cfg0.N) (i : Fin 1024) (j : Fin 5632) :
    iblk m c 10 t (ix2 i j) = V m c main_v9 (ix2 i j) := by
  obtain ⟨h0, h1⟩ := at10 t
  have hN : t.val < 32 := t.isLt
  show ((cfg0.win 10).blk t).view.read (Elt Ideal) (V m c (Pipeline.arrRef spec0 10)) _ = _
  rw [View.read_apply]
  refine congrArg (V m c main_v9) (funext fun a => Fin.ext ?_)
  exact (match a with
    | ⟨0, _⟩ => (by show win0_10.index t 0 * 1024 + 1 * i.val = i.val; rw [h0]; omega)
    | ⟨1, _⟩ => (by show win0_10.index t 1 * 5632 + 1 * j.val = j.val; rw [h1]; omega)
    )

/-- Where the blocks of argument 11 lie. -/
theorem at11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Argument 11's block at an index. -/
theorem blk11 (c : Dev nD) (t : Fin cfg0.N) (i : Fin 2816) (j : Fin 1024) :
    iblk m c 11 t (ix2 i j) = V m c main_v10 (ix2 i j) := by
  obtain ⟨h0, h1⟩ := at11 t
  have hN : t.val < 32 := t.isLt
  show ((cfg0.win 11).blk t).view.read (Elt Ideal) (V m c (Pipeline.arrRef spec0 11)) _ = _
  rw [View.read_apply]
  refine congrArg (V m c main_v10) (funext fun a => Fin.ext ?_)
  exact (match a with
    | ⟨0, _⟩ => (by show win0_11.index t 0 * 2816 + 1 * i.val = i.val; rw [h0]; omega)
    | ⟨1, _⟩ => (by show win0_11.index t 1 * 1024 + 1 * j.val = j.val; rw [h1]; omega)
    )

/-- Where the blocks of argument 12 lie. -/
theorem at12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- Argument 12's block at an index. -/
theorem blk12 (c : Dev nD) (t : Fin cfg0.N) (i : Fin 3) (j : Fin 5632) :
    iblk m c 12 t (ix2 i j) = V m c main_arg12 (ix2 i j) := by
  obtain ⟨h0, h1⟩ := at12 t
  have hN : t.val < 32 := t.isLt
  show ((cfg0.win 12).blk t).view.read (Elt Ideal) (V m c (Pipeline.arrRef spec0 12)) _ = _
  rw [View.read_apply]
  refine congrArg (V m c main_arg12) (funext fun a => Fin.ext ?_)
  exact (match a with
    | ⟨0, _⟩ => (by show win0_12.index t 0 * 3 + 1 * i.val = i.val; rw [h0]; omega)
    | ⟨1, _⟩ => (by show win0_12.index t 1 * 5632 + 1 * j.val = j.val; rw [h1]; omega)
    )

/-- Where the blocks of argument 13 lie. -/
theorem at13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- Argument 13's block at an index. -/
theorem blk13 (c : Dev nD) (t : Fin cfg0.N) (i : Fin 1) (j : Fin 5632) :
    iblk m c 13 t (ix2 i j) = V m c main_v11 (ix2 i j) := by
  obtain ⟨h0, h1⟩ := at13 t
  have hN : t.val < 32 := t.isLt
  show ((cfg0.win 13).blk t).view.read (Elt Ideal) (V m c (Pipeline.arrRef spec0 13)) _ = _
  rw [View.read_apply]
  refine congrArg (V m c main_v11) (funext fun a => Fin.ext ?_)
  exact (match a with
    | ⟨0, _⟩ => (by show win0_13.index t 0 * 1 + 1 * i.val = i.val; rw [h0]; omega)
    | ⟨1, _⟩ => (by show win0_13.index t 1 * 5632 + 1 * j.val = j.val; rw [h1]; omega)
    )

/-- Where the blocks of argument 14 lie. -/
theorem at14 : ∀ t : Fin cfg0.N, win0_14.index t (0 : Fin 3) = t.val / 4 ∧ win0_14.index t (1 : Fin 3) = 0 ∧ win0_14.index t (2 : Fin 3) = 0 :=
  (by decide +kernel : ∀ t : Fin grid0.N, win0_14.index t (0 : Fin 3) = t.val / 4 ∧ win0_14.index t (1 : Fin 3) = 0 ∧ win0_14.index t (2 : Fin 3) = 0)

/-- Argument 14's block at an index. -/
theorem blk14 (c : Dev nD) (t : Fin cfg0.N) (i : Fin 1) (j : Fin 2) (k : Fin 5632) :
    iblk m c 14 t (ix3 i j k) = V m c main_arg14 (ix3 (⟨t.val / 4, by have := t.isLt; have hN : cfg0.N = 32 := N_0; omega⟩ : Fin 8) j k) := by
  obtain ⟨h0, h1, h2⟩ := at14 t
  have hN : t.val < 32 := t.isLt
  show ((cfg0.win 14).blk t).view.read (Elt Ideal) (V m c (Pipeline.arrRef spec0 14)) _ = _
  rw [View.read_apply]
  refine congrArg (V m c main_arg14) (funext fun a => Fin.ext ?_)
  exact (match a with
    | ⟨0, _⟩ => (by show win0_14.index t 0 * 1 + 1 * i.val = t.val / 4; rw [h0]; omega)
    | ⟨1, _⟩ => (by show win0_14.index t 1 * 2 + 1 * j.val = j.val; rw [h1]; omega)
    | ⟨2, _⟩ => (by show win0_14.index t 2 * 5632 + 1 * k.val = k.val; rw [h2]; omega)
    )

/-- The argument blocks of a point hold the layer's arrays at its batch and tile. -/
theorem holds (c : Dev nD) (t : Fin cfg0.N) :
    Holds (argsAt m c) (batch t) (tile t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (iblk m c 13 t) where
  e0 r d := (blk0 m c t r d).trans ((V_v4 m c _ d).trans (congrArg (m (c, main_arg0)) (congrArg₂ (fun a b => ix3 a b d)
    (Fin.ext (by show (512 * t.val + r.val) / 2048 = t.val / 4; omega))
    (Fin.ext (by show (512 * t.val + r.val) % 2048 = 512 * (t.val % 4) + r.val; omega)))))
  e1 r d := (blk1 m c t r d).trans ((V_v5 m c _ d).trans (congrArg (m (c, main_arg1)) (congrArg₂ (fun a b => ix3 a b d)
    (Fin.ext (by show (512 * t.val + r.val) / 2048 = t.val / 4; omega))
    (Fin.ext (by show (512 * t.val + r.val) % 2048 = 512 * (t.val % 4) + r.val; omega)))))
  e2 d r := (blk2 m c t 0 d r).trans (V_arg2 m c _ d _)
  e3 d := (blk3 m c t 0 0 d).trans (V_v0 m c _ d)
  e4 d := (blk4 m c t 0 0 d).trans (V_v1 m c _ d)
  e5 d := (blk5 m c t 0 0 d).trans (V_v2 m c _ d)
  e6 d := (blk6 m c t 0 0 d).trans (V_v3 m c _ d)
  e7 d := (blk7 m c t 0 d).trans (V_v6 m c d)
  e8 d := (blk8 m c t 0 d).trans (V_v7 m c d)
  e9 k d := (blk9 m c t k d).trans (V_v8 m c k d)
  e10 k d := (blk10 m c t k d).trans (V_v9 m c k d)
  e11 k d := (blk11 m c t k d).trans (V_v10 m c k d)
  e12 k d := (blk12 m c t k d).trans (V_arg12 m c k d)
  e13 d := (blk13 m c t 0 d).trans (V_v11 m c d)

/-- At a batch's first point the history block holds the carried rows. -/
theorem hist_carried (c : Dev nD) (t : Fin cfg0.N) (h0 : t.val % 4 = 0) :
    Carried (argsAt m c) (batch t) (tile t) (histAt m c t) := fun j f => by
  unfold histAt
  rw [pay2_apply, blk14, V_arg14]
  unfold Args.ext
  rw [dif_pos (by show 512 * (t.val % 4) + j.val < 2; omega)]
  exact congrArg (fun z => m (c, main_arg14) (ix3 (batch t) z f))
    (Fin.ext (by show j.val = 512 * (t.val % 4) + j.val; omega))

/-- The carried state up to a point, as a fold. -/
abbrev accTo (c : Dev nD) (n : ℕ) (hn : 0 + n < cfg0.N) :=
  Pipeline.accAt (fun n h => stAt0 m c n h junk0) (stAt0 m c) 0 n hn

/-- After a point that is not a batch's last, the carried rows are those that stand before the next tile. -/
theorem carried (c : Dev nD) (t : Fin cfg0.N) (acc : Vec Ideal S512x1024 .f32 × Vec Ideal S1x2x5632 .f32 × Vec Ideal S2x5632 .f32)
    (h3 : ¬t.val % 4 = 3) :
    Carried (argsAt m c) (batch t) ⟨t.val % 4 + 1, by omega⟩ (stAt0 m c t.val t.isLt acc).2.2 := fun j f => by
  by_cases h0 : t.val % 4 = 0
  · exact (congrFun (carry_A m c t acc h0 h3) _).trans (carryB_eq (holds m c t) _ j f)
  · exact (congrFun (carry_B m c t acc h0 h3) _).trans (carryB_eq (holds m c t) _ j f)

/-- A point leaves the output's block, once the rows carried in are right. -/
theorem y_step (c : Dev nD) (t : Fin cfg0.N) (acc : Vec Ideal S512x1024 .f32 × Vec Ideal S1x2x5632 .f32 × Vec Ideal S2x5632 .f32)
    (HC : ¬t.val % 4 = 0 → Carried (argsAt m c) (batch t) (tile t) acc.2.2) (r : Fin 512) (d : Fin 1024) :
    (stAt0 m c t.val t.isLt acc).1 (ix2 r d) = (argsAt m c).y (batch t) (time (tile t) r) d := by
  by_cases h0 : t.val % 4 = 0
  · exact (congrFun (y_A m c t acc h0 (by omega)) _).trans (yB_eq (holds m c t) (hist_carried m c t h0) r d)
  · by_cases h1 : t.val % 4 = 3
    · exact (congrFun (y_C m c t acc h0 h1) _).trans (yB_eq (holds m c t) (HC h0) r d)
    · exact (congrFun (y_B m c t acc h0 h1) _).trans (yB_eq (holds m c t) (HC h0) r d)

/-- A batch's last point leaves the up projection's last two rows. -/
theorem hist_step (c : Dev nD) (t : Fin cfg0.N) (acc : Vec Ideal S512x1024 .f32 × Vec Ideal S1x2x5632 .f32 × Vec Ideal S2x5632 .f32)
    (h3 : t.val % 4 = 3) (b : Fin 1) (j : Fin 2) (f : Fin 5632) :
    (stAt0 m c t.val t.isLt acc).2.1 (ix3 b j f) = (argsAt m c).ext (batch t) ⟨2048 + j.val, by omega⟩ f := by
  refine (congrFun (hist_C m c t acc (by omega) h3) _).trans ?_
  rw [pay13_apply]
  refine (carryB_eq (holds m c t) _ j f).trans ?_
  exact congrArg (fun s => (argsAt m c).ext (batch t) s f)
    (Fin.ext (by show 512 * (t.val % 4) + 512 + j.val = 2048 + j.val; omega))

/-- The fold up to a point is the point's step over some earlier state. -/
theorem accTo_step (c : Dev nD) (n : ℕ) (hn : 0 + n < cfg0.N) (hn' : n < cfg0.N) :
    ∃ acc, accTo m c n hn = stAt0 m c n hn' acc := by
  rcases n with _ | n
  · exact ⟨junk0, rfl⟩
  · refine ⟨accTo m c n (by omega), ?_⟩
    show stAt0 m c (0 + (n + 1)) _ _ = _
    congr 1
    omega

/-- The fold up to a later point is the point's step over the fold up to the point before. -/
theorem accTo_succ (c : Dev nD) (n : ℕ) (hn : 0 + (n + 1) < cfg0.N) (hn' : n + 1 < cfg0.N) :
    accTo m c (n + 1) hn = stAt0 m c (n + 1) hn' (accTo m c n (by omega)) := by
  show stAt0 m c (0 + (n + 1)) _ _ = _
  congr 1
  omega

/-- The output's block at every point. -/
theorem y_at (c : Dev nD) (n : ℕ) (hn : 0 + n < cfg0.N) (hn' : n < cfg0.N) (r : Fin 512) (d : Fin 1024) :
    (accTo m c n hn).1 (ix2 r d) = (argsAt m c).y (batch ⟨n, hn'⟩) (time (tile ⟨n, hn'⟩) r) d := by
  rcases n with _ | n
  · exact y_step m c ⟨0, hn'⟩ junk0 (fun h => absurd rfl h) r d
  · rw [accTo_succ m c n hn hn']
    refine y_step m c ⟨n + 1, hn'⟩ _ (fun h0 j f => ?_) r d
    replace h0 : ¬(n + 1) % 4 = 0 := h0
    have hn0 : n < cfg0.N := by omega
    obtain ⟨acc, e⟩ := accTo_step m c n (by omega) hn0
    rw [e]
    refine (carried m c ⟨n, hn0⟩ acc (by show ¬n % 4 = 3; omega) j f).trans ?_
    exact congrArg₂ (fun b s => (argsAt m c).ext b s f) (Fin.ext (by show n / 4 = (n + 1) / 4; omega))
      (Fin.ext (by show 512 * (n % 4 + 1) + j.val = 512 * ((n + 1) % 4) + j.val; omega))

/-- The second result's block at a batch's last point. -/
theorem hist_at (c : Dev nD) (n : ℕ) (hn : 0 + n < cfg0.N) (hn' : n < cfg0.N) (h3 : n % 4 = 3) (b : Fin 1) (j : Fin 2)
    (f : Fin 5632) :
    (accTo m c n hn).2.1 (ix3 b j f) = (argsAt m c).ext (batch ⟨n, hn'⟩) ⟨2048 + j.val, by omega⟩ f := by
  obtain ⟨acc, e⟩ := accTo_step m c n hn hn'
  rw [e]
  exact hist_step m c ⟨n, hn'⟩ acc h3 b j f

/-- The first result array holds the layer's output, batch after batch. -/
theorem G15_eq (c : Dev nD) (r : Fin 16384) (d : Fin 1024) :
    G15 m c (ix2 r d) = (argsAt m c).y ⟨r.val / 2048, by omega⟩ ⟨r.val % 2048, by omega⟩ d := by
  have hN : cfg0.N = 32 := N_0
  have hp : pt15Of (ix2 r d) = r.val / 512 := by
    show 1 * (r.val / 512 - 0) + 1 * (d.val / 1024 - 0) = r.val / 512
    omega
  have hloc : loc15Of (ix2 r d) = ix2 (⟨r.val % 512, by omega⟩ : Fin 512) d := funext fun a => Fin.ext (by
    match a with
    | ⟨0, _⟩ => rfl
    | ⟨1, _⟩ => show d.val % 1024 = d.val; omega)
  unfold G15
  rw [dif_pos (by rw [hp]; omega), hloc]
  refine (y_at m c _ (by rw [hp]; omega) (by rw [hp]; omega) _ d).trans ?_
  refine congrArg₂ (fun b t => (argsAt m c).y b t d) (Fin.ext ?_) (Fin.ext ?_)
  · show pt15Of (ix2 r d) / 4 = r.val / 2048
    rw [hp]; omega
  · show 512 * (pt15Of (ix2 r d) % 4) + r.val % 512 = r.val % 2048
    rw [hp]; omega

/-- The second result array holds each batch's last two rows of the up projection. -/
theorem G16_eq (c : Dev nD) (b : Fin 8) (j : Fin 2) (f : Fin 5632) :
    G16 m c (ix3 b j f) = (argsAt m c).ext b ⟨2048 + j.val, by omega⟩ f := by
  have hN : cfg0.N = 32 := N_0
  have hp : pt16Of (ix3 b j f) = 4 * b.val + 3 := by
    show 4 * (1 * (b.val / 1 - 0) + 1 * (j.val / 2 - 0) + 1 * (f.val / 5632 - 0)) + 3 = 4 * b.val + 3
    omega
  have hloc : loc16Of (ix3 b j f) = ix3 (0 : Fin 1) j f := funext fun a => Fin.ext (by
    match a with
    | ⟨0, _⟩ => show b.val % 1 = 0; omega
    | ⟨1, _⟩ => show j.val % 2 = j.val; omega
    | ⟨2, _⟩ => show f.val % 5632 = f.val; omega)
  unfold G16
  rw [dif_pos (by rw [hp]; omega), hloc]
  refine (hist_at m c _ (by rw [hp]; omega) (by rw [hp]; omega) (by rw [hp]; omega) 0 j f).trans ?_
  refine congrArg (fun b => (argsAt m c).ext b _ f) (Fin.ext ?_)
  show pt16Of (ix3 b j f) / 4 = b.val
  rw [hp]; omega

end Cert.PostIdeal.Block
-- ==== Proof.PostRefValue.lean ====
/-
What the reference of the layer's second half computes, read at an index: its two results are the output and the last
two rows of the extended up projection, as PostSpec names them.
-/
module

public import proofs.«01_k».proof.Proof.Gen.PostRefIdeal.Read
public import Idealize.ShloMosaic.Lib.Pointwise
public import Idealize.ShloMosaic.Lib.IdealHost
public import proofs.«01_k».proof.Proof.PostSpec

@[expose] public section

set_option maxRecDepth 16384

noncomputable section

namespace Cert.PostRefIdeal.RefValue

open Cert.PostRefIdeal Cert.PostRefIdeal.Gen Cert.PostRefIdeal.Read
open Idealize.ShloMosaic Idealize.ShloMosaic.TcCoe Idealize.SL.Sem
open Cert.PostSpec

variable (x0 : (⟨S8x2048x1024, .f32⟩ : BufTy).Contents (Elt Ideal)) (x1 : (⟨S8x2048x512, .bf16⟩ : BufTy).Contents (Elt Ideal))
  (x2 : (⟨S8x512x2048, .bf16⟩ : BufTy).Contents (Elt Ideal)) (x3 x4 x5 x6 : (⟨S8x1024, .f32⟩ : BufTy).Contents (Elt Ideal))
  (x7 x8 : (⟨S1024, .f32⟩ : BufTy).Contents (Elt Ideal)) (x9 : (⟨S1024x1024, .f32⟩ : BufTy).Contents (Elt Ideal))
  (x10 : (⟨S1024x5632, .f32⟩ : BufTy).Contents (Elt Ideal)) (x11 : (⟨S2816x1024, .f32⟩ : BufTy).Contents (Elt Ideal))
  (x12 : (⟨S3x5632, .f32⟩ : BufTy).Contents (Elt Ideal)) (x13 : (⟨S5632, .f32⟩ : BufTy).Contents (Elt Ideal))
  (x14 : (⟨S8x2x5632, .f32⟩ : BufTy).Contents (Elt Ideal))

/-- The concatenated branches. -/
theorem cat_eq (b : Fin 8) (t : Fin 2048) (k : Fin 1024) :
    val_main_v7 (F := Ideal) x1 x2 (ix3 b t k) = Args.cat (argsOf x0 x1 x2 x3 x4 x5 x6 x7 x8 x9 x10 x11 x12 x13 x14) b t k := by
  unfold val_main_v7 Args.cat
  split
  · rename_i h
    rw [concatenate_pair_apply_left (t := S8x2048x1024) (s₁ := S8x2048x512) (s₂ := S8x2048x512) 2 _ _ _ (ix3 b t k) rfl (ix3 b t ⟨k.val, h⟩)
      (fun a => by match a with | ⟨0, _⟩ => rfl | ⟨1, _⟩ => rfl | ⟨2, _⟩ => rfl)]
    rfl
  · rename_i h
    rw [concatenate_pair_apply_right (t := S8x2048x1024) (s₁ := S8x2048x512) (s₂ := S8x2048x512) 2 _ _ _ (ix3 b t k) rfl rfl (ix3 b t ⟨k.val - 512, by omega⟩)
      (fun a ha => by
        match a, ha with
        | ⟨0, _⟩, _ => rfl
        | ⟨1, _⟩, _ => rfl
        | ⟨2, _⟩, ha => exact absurd rfl ha)
      (by show k.val - 512 + 512 = k.val; omega)]
    rw [val_main_v5_apply, val_main_v4_apply]
    exact congrArg x2 (funext fun a => by match a with | ⟨0, _⟩ => rfl | ⟨1, _⟩ => rfl | ⟨2, _⟩ => rfl)

/-- The gated residual. -/
theorem x1_eq (b : Fin 8) (t : Fin 2048) (d : Fin 1024) :
    val_main_v11 (F := Ideal) x0 x1 x2 x3 x9 (ix3 b t d) = Args.x1 (argsOf x0 x1 x2 x3 x4 x5 x6 x7 x8 x9 x10 x11 x12 x13 x14) b t d := by
  rw [val_main_v11_apply, val_main_v10_apply, val_main_v9_apply, val_main_v0_apply, val_main_v8_apply]
  unfold Args.x1
  refine congrArg₂ (· + ·) rfl (congrArg₂ (· * ·) ?_ (Finset.sum_congr rfl fun k _ => ?_))
  · exact congrArg x3 (eq_ix2 _)
  · rw [← cat_eq x0 x1 x2 x3 x4 x5 x6 x7 x8 x9 x10 x11 x12 x13 x14]
    exact congrArg₂ (· * ·) (congrArg _ (eq_ix3 _)) (congrArg x9 (eq_ix2 _))

/-- The reciprocal root of the mean square of the gated residual's row. -/
theorem rms1_eq (b : Fin 8) (t : Fin 2048) (i : S8x2048x1.Idx) (h0 : i 0 = b) (h1 : i 1 = t) :
    val_main_v19 (F := Ideal) x0 x1 x2 x3 x9 i = rms (Args.x1 (argsOf x0 x1 x2 x3 x4 x5 x6 x7 x8 x9 x10 x11 x12 x13 x14) b t) := by
  rw [val_main_v19_apply, val_main_v18_apply, val_main_v17_apply, val_main_v16_apply, val_main_v15_apply,
    val_main_v14_apply, val_main_v13_apply, val_main_cst_apply, val_main_cst_0_apply, val_main_cst_1_apply]
  show Ideal.rsqrt (Ideal.div (Ideal.ofBits .f32 0x00000000#32 + _) width + eps) = _
  rw [Ideal.ofBits_zero_f32, zero_add]
  unfold rms
  refine congrArg Ideal.rsqrt (congrArg (· + eps) (congrArg (Ideal.div · width) (Finset.sum_congr rfl fun k _ => ?_)))
  have e : idx_main_v13 (idx_main_v14 i) k = ix3 b t k := by
    subst h0 h1
    funext a; match a with | ⟨0, _⟩ => rfl | ⟨1, _⟩ => rfl | ⟨2, _⟩ => rfl
  rw [e, val_main_v12_apply]
  exact congrArg₂ (· * ·) (x1_eq x0 x1 x2 x3 x4 x5 x6 x7 x8 x9 x10 x11 x12 x13 x14 b t k) (x1_eq x0 x1 x2 x3 x4 x5 x6 x7 x8 x9 x10 x11 x12 x13 x14 b t k)

/-- The modulated row. -/
theorem h2_eq (b : Fin 8) (t : Fin 2048) (d : Fin 1024) :
    val_main_v30 (F := Ideal) x0 x1 x2 x3 x4 x5 x7 x9 (ix3 b t d) = Args.h2 (argsOf x0 x1 x2 x3 x4 x5 x6 x7 x8 x9 x10 x11 x12 x13 x14) b t d := by
  rw [val_main_v30_apply, val_main_v29_apply, val_main_v28_apply, val_main_v27_apply, val_main_v26_apply,
    val_main_v25_apply, val_main_v24_apply, val_main_v23_apply, val_main_v22_apply, val_main_v21_apply,
    val_main_v20_apply, val_main_v2_apply, val_main_v1_apply, val_main_cst_2_apply, x1_eq x0 x1 x2 x3 x4 x5 x6 x7 x8 x9 x10 x11 x12 x13 x14,
    rms1_eq x0 x1 x2 x3 x4 x5 x6 x7 x8 x9 x10 x11 x12 x13 x14 b t _ rfl rfl]
  unfold Args.h2
  refine congrArg₂ (· + ·) (congrArg₂ (· * ·) (congrArg₂ (· * ·) rfl ?_) (congrArg₂ (· + ·) rfl ?_)) ?_
  · exact congrArg x7 (eq_ix1 _)
  · exact congrArg x4 (eq_ix2 _)
  · exact congrArg x5 (eq_ix2 _)

/-- The up projection. -/
theorem up_eq (b : Fin 8) (t : Fin 2048) (f : Fin 5632) :
    val_main_v31 (F := Ideal) x0 x1 x2 x3 x4 x5 x7 x9 x10 (ix3 b t f) = Args.up (argsOf x0 x1 x2 x3 x4 x5 x6 x7 x8 x9 x10 x11 x12 x13 x14) b t f := by
  rw [val_main_v31_apply]
  unfold Args.up
  refine Finset.sum_congr rfl fun k _ => ?_
  rw [← h2_eq x0 x1 x2 x3 x4 x5 x6 x7 x8 x9 x10 x11 x12 x13 x14]
  exact congrArg₂ (· * ·) (congrArg _ (eq_ix3 _)) (congrArg x10 (eq_ix2 _))

/-- The up projection after its history rows. -/
theorem ext_eq (b : Fin 8) (s : Fin 2050) (f : Fin 5632) :
    val_main_v32 (F := Ideal) x0 x1 x2 x3 x4 x5 x7 x9 x10 x14 (ix3 b s f) = Args.ext (argsOf x0 x1 x2 x3 x4 x5 x6 x7 x8 x9 x10 x11 x12 x13 x14) b s f := by
  unfold val_main_v32 Args.ext
  split
  · rename_i h
    rw [concatenate_pair_apply_left (t := S8x2050x5632) (s₁ := S8x2x5632) (s₂ := S8x2048x5632) 1 _ _ _ (ix3 b s f) rfl (ix3 b ⟨s.val, h⟩ f)
      (fun a => by match a with | ⟨0, _⟩ => rfl | ⟨1, _⟩ => rfl | ⟨2, _⟩ => rfl)]
  · rename_i h
    rw [concatenate_pair_apply_right (t := S8x2050x5632) (s₁ := S8x2x5632) (s₂ := S8x2048x5632) 1 _ _ _ (ix3 b s f) rfl rfl (ix3 b ⟨s.val - 2, by omega⟩ f)
      (fun a ha => by
        match a, ha with
        | ⟨0, _⟩, _ => rfl
        | ⟨1, _⟩, ha => exact absurd rfl ha
        | ⟨2, _⟩, _ => rfl)
      (by show s.val - 2 + 2 = s.val; omega), up_eq x0 x1 x2 x3 x4 x5 x6 x7 x8 x9 x10 x11 x12 x13 x14]

/-- The causal filter with its bias. -/
theorem dw_eq (b : Fin 8) (t : Fin 2048) (f : Fin 5632) :
    val_main_v55 (F := Ideal) x0 x1 x2 x3 x4 x5 x7 x9 x10 x12 x13 x14 (ix3 b t f) = Args.dw (argsOf x0 x1 x2 x3 x4 x5 x6 x7 x8 x9 x10 x11 x12 x13 x14) b t f := by
  rw [val_main_v55_apply, val_main_v54_apply, val_main_v53_apply, val_main_v52_apply, val_main_v51_apply,
    val_main_v50_apply, val_main_v49_apply, val_main_v48_apply, val_main_v47_apply, val_main_v46_apply,
    val_main_v45_apply, val_main_v44_apply, val_main_v43_apply, val_main_v42_apply, val_main_v41_apply,
    val_main_v40_apply, val_main_v39_apply, val_main_v38_apply, val_main_v37_apply, val_main_v36_apply,
    val_main_v35_apply, val_main_v34_apply, val_main_v33_apply]
  unfold Args.dw
  rw [← ext_eq x0 x1 x2 x3 x4 x5 x6 x7 x8 x9 x10 x11 x12 x13 x14, ← ext_eq x0 x1 x2 x3 x4 x5 x6 x7 x8 x9 x10 x11 x12 x13 x14, ← ext_eq x0 x1 x2 x3 x4 x5 x6 x7 x8 x9 x10 x11 x12 x13 x14]
  refine congrArg₂ (· + ·) (congrArg₂ (· + ·) (congrArg₂ (· + ·) (congrArg₂ (· * ·) ?_ ?_) (congrArg₂ (· * ·) ?_ ?_))
    (congrArg₂ (· * ·) ?_ ?_)) ?_
  · exact congrArg _ (funext fun a => Fin.ext (by match a with | ⟨0, _⟩ => rfl | ⟨1, _⟩ => rfl | ⟨2, _⟩ => rfl))
  · exact congrArg x12 (funext fun a => Fin.ext (by match a with | ⟨0, _⟩ => rfl | ⟨1, _⟩ => exact Nat.mod_eq_of_lt f.isLt))
  · exact congrArg _ (funext fun a => Fin.ext (by match a with | ⟨0, _⟩ => rfl | ⟨1, _⟩ => exact Nat.add_comm 1 t.val | ⟨2, _⟩ => rfl))
  · exact congrArg x12 (funext fun a => Fin.ext (by match a with | ⟨0, _⟩ => rfl | ⟨1, _⟩ => exact Nat.mod_eq_of_lt f.isLt))
  · exact congrArg _ (funext fun a => Fin.ext (by match a with | ⟨0, _⟩ => rfl | ⟨1, _⟩ => exact Nat.add_comm 2 t.val | ⟨2, _⟩ => rfl))
  · exact congrArg x12 (funext fun a => Fin.ext (by match a with | ⟨0, _⟩ => rfl | ⟨1, _⟩ => exact Nat.mod_eq_of_lt f.isLt))
  · exact congrArg x13 (eq_ix1 _)

/-- The gated activation. -/
theorem act_eq (b : Fin 8) (t : Fin 2048) (f : Fin 2816) :
    val_main_v59 (F := Ideal) x0 x1 x2 x3 x4 x5 x7 x9 x10 x12 x13 x14 (ix3 b t f) = Args.act (argsOf x0 x1 x2 x3 x4 x5 x6 x7 x8 x9 x10 x11 x12 x13 x14) b t f := by
  rw [val_main_v59_apply, val_main_v58_apply, val_main_call0_v5_apply, val_main_call0_v4_apply,
    val_main_call0_v3_apply, val_main_call0_v2_apply, val_main_call0_v1_apply, val_main_call0_v0_apply,
    val_main_call0_cst_apply, val_main_call0_cst_0_apply, val_main_v57_apply, val_main_v56_apply]
  unfold Args.act silu
  have e0 : idx_main_v56 (ix3 b t f) = ix3 b t ⟨f.val, by omega⟩ := funext fun a => Fin.ext (by
    match a with | ⟨0, _⟩ => rfl | ⟨1, _⟩ => rfl | ⟨2, _⟩ => rfl)
  have e1 : idx_main_v57 (ix3 b t f) = ix3 b t ⟨2816 + f.val, by omega⟩ := funext fun a => Fin.ext (by
    match a with | ⟨0, _⟩ => rfl | ⟨1, _⟩ => rfl | ⟨2, _⟩ => rfl)
  rw [e0, e1, dw_eq x0 x1 x2 x3 x4 x5 x6 x7 x8 x9 x10 x11 x12 x13 x14, dw_eq x0 x1 x2 x3 x4 x5 x6 x7 x8 x9 x10 x11 x12 x13 x14]
  refine congrArg₂ (· * ·) rfl (congrArg₂ (· * ·) rfl ?_)
  show Ideal.div one (one + Ideal.exp (- _)) = Ideal.logistic _
  unfold Ideal.logistic one
  rw [Ideal.ofBits_one_f32]

/-- The gated residual after the down projection. -/
theorem x2_eq (b : Fin 8) (t : Fin 2048) (d : Fin 1024) :
    val_main_v63 (F := Ideal) x0 x1 x2 x3 x4 x5 x6 x7 x9 x10 x11 x12 x13 x14 (ix3 b t d) = Args.x2 (argsOf x0 x1 x2 x3 x4 x5 x6 x7 x8 x9 x10 x11 x12 x13 x14) b t d := by
  rw [val_main_v63_apply, val_main_v62_apply, val_main_v61_apply, val_main_v60_apply, val_main_v3_apply, x1_eq x0 x1 x2 x3 x4 x5 x6 x7 x8 x9 x10 x11 x12 x13 x14]
  unfold Args.x2
  refine congrArg₂ (· + ·) rfl (congrArg₂ (· * ·) ?_ (Finset.sum_congr rfl fun k _ => ?_))
  · exact congrArg x6 (eq_ix2 _)
  · rw [← act_eq x0 x1 x2 x3 x4 x5 x6 x7 x8 x9 x10 x11 x12 x13 x14]
    exact congrArg₂ (· * ·) (congrArg _ (eq_ix3 _)) (congrArg x11 (eq_ix2 _))

/-- The reciprocal root of the mean square of that residual's row. -/
theorem rms2_eq (b : Fin 8) (t : Fin 2048) (i : S8x2048x1.Idx) (h0 : i 0 = b) (h1 : i 1 = t) :
    val_main_v71 (F := Ideal) x0 x1 x2 x3 x4 x5 x6 x7 x9 x10 x11 x12 x13 x14 i = rms (Args.x2 (argsOf x0 x1 x2 x3 x4 x5 x6 x7 x8 x9 x10 x11 x12 x13 x14) b t) := by
  rw [val_main_v71_apply, val_main_v70_apply, val_main_v69_apply, val_main_v68_apply, val_main_v67_apply,
    val_main_v66_apply, val_main_v65_apply, val_main_cst_3_apply, val_main_cst_4_apply, val_main_cst_5_apply]
  show Ideal.rsqrt (Ideal.div (Ideal.ofBits .f32 0x00000000#32 + _) width + eps) = _
  rw [Ideal.ofBits_zero_f32, zero_add]
  unfold rms
  refine congrArg Ideal.rsqrt (congrArg (· + eps) (congrArg (Ideal.div · width) (Finset.sum_congr rfl fun k _ => ?_)))
  have e : idx_main_v65 (idx_main_v66 i) k = ix3 b t k := by
    subst h0 h1
    funext a; match a with | ⟨0, _⟩ => rfl | ⟨1, _⟩ => rfl | ⟨2, _⟩ => rfl
  rw [e, val_main_v64_apply]
  exact congrArg₂ (· * ·) (x2_eq x0 x1 x2 x3 x4 x5 x6 x7 x8 x9 x10 x11 x12 x13 x14 b t k) (x2_eq x0 x1 x2 x3 x4 x5 x6 x7 x8 x9 x10 x11 x12 x13 x14 b t k)

/-- The output. -/
theorem y_eq (b : Fin 8) (t : Fin 2048) (d : Fin 1024) :
    val_main_v76 (F := Ideal) x0 x1 x2 x3 x4 x5 x6 x7 x8 x9 x10 x11 x12 x13 x14 (ix3 b t d) = Args.y (argsOf x0 x1 x2 x3 x4 x5 x6 x7 x8 x9 x10 x11 x12 x13 x14) b t d := by
  rw [val_main_v76_apply, val_main_v75_apply, val_main_v74_apply, val_main_v73_apply, val_main_v72_apply, x2_eq x0 x1 x2 x3 x4 x5 x6 x7 x8 x9 x10 x11 x12 x13 x14,
    rms2_eq x0 x1 x2 x3 x4 x5 x6 x7 x8 x9 x10 x11 x12 x13 x14 b t _ rfl rfl]
  unfold Args.y
  exact congrArg₂ (· * ·) rfl (congrArg x8 (eq_ix1 _))

/-- The first result, in the flat row order. -/
theorem result_y (r : Fin 16384) (d : Fin 1024) :
    val_main_v77 (F := Ideal) x0 x1 x2 x3 x4 x5 x6 x7 x8 x9 x10 x11 x12 x13 x14 (ix2 r d)
      = Args.y (argsOf x0 x1 x2 x3 x4 x5 x6 x7 x8 x9 x10 x11 x12 x13 x14) ⟨r.val / 2048, by omega⟩ ⟨r.val % 2048, by omega⟩ d := by
  rw [val_main_v77_apply, ← y_eq x0 x1 x2 x3 x4 x5 x6 x7 x8 x9 x10 x11 x12 x13 x14]
  refine congrArg _ (funext fun a => Fin.ext ?_)
  match a with
  | ⟨0, _⟩ => show (r.val * 1024 + d.val) / 2097152 = r.val / 2048; omega
  | ⟨1, _⟩ => show (r.val * 1024 + d.val) / 1024 % 2048 = r.val % 2048; omega
  | ⟨2, _⟩ => show (r.val * 1024 + d.val) % 1024 = d.val; omega

/-- The second result: the last two rows of the extended up projection. -/
theorem result_hist (b : Fin 8) (j : Fin 2) (f : Fin 5632) :
    val_main_v78 (F := Ideal) x0 x1 x2 x3 x4 x5 x7 x9 x10 x14 (ix3 b j f)
      = Args.ext (argsOf x0 x1 x2 x3 x4 x5 x6 x7 x8 x9 x10 x11 x12 x13 x14) b ⟨2048 + j.val, by omega⟩ f := by
  rw [val_main_v78_apply, ← ext_eq x0 x1 x2 x3 x4 x5 x6 x7 x8 x9 x10 x11 x12 x13 x14]
  refine congrArg _ (funext fun a => Fin.ext ?_)
  match a with
  | ⟨0, _⟩ => rfl
  | ⟨1, _⟩ => rfl
  | ⟨2, _⟩ => rfl

end Cert.PostRefIdeal.RefValue
-- ==== Proof.PostClaim.lean ====
/-
The claim about the layer's second half: from equal arguments, the tiled program and the plain one end with equal
results over the extended reals.
-/
module

public import proofs.«01_k».proof.Defs
public import proofs.«01_k».proof.Proof.PostArray
public import proofs.«01_k».proof.Proof.PostRefValue

@[expose] public section

set_option maxRecDepth 16384

noncomputable section

namespace Cert.PostClaim

open Idealize.ShloMosaic Idealize.ShloMosaic.TcCoe Idealize.SL.Sem Idealize.ShloMosaic.StableHlo
open Cert.PostSpec Cert.PostRefIdeal.Read

variable (m : (ℓ : Loc Cert.PostIdeal.nD Cert.PostIdeal.τ Cert.PostIdeal.sig) → Buf (Elt Ideal) ℓ)

/-- The plain program's first result, on the tiled program's arguments, is the tiled program's. -/
theorem y_agree (c : Dev Cert.PostIdeal.nD) :
    val_main_v77 (F := Ideal) (m (c, Cert.PostIdeal.main_arg0)) (m (c, Cert.PostIdeal.main_arg1)) (m (c,
      Cert.PostIdeal.main_arg2)) (m (c, Cert.PostIdeal.main_arg3)) (m (c, Cert.PostIdeal.main_arg4)) (m (c,
      Cert.PostIdeal.main_arg5)) (m (c, Cert.PostIdeal.main_arg6)) (m (c, Cert.PostIdeal.main_arg7)) (m (c,
      Cert.PostIdeal.main_arg8)) (m (c, Cert.PostIdeal.main_arg9)) (m (c, Cert.PostIdeal.main_arg10)) (m (c,
      Cert.PostIdeal.main_arg11)) (m (c, Cert.PostIdeal.main_arg12)) (m (c, Cert.PostIdeal.main_arg13)) (m (c,
      Cert.PostIdeal.main_arg14))
      = Cert.PostIdeal.Value.G15 m c := by
  funext i
  obtain ⟨r, d, rfl⟩ : ∃ (r : Fin 16384) (d : Fin 1024), i = ix2 r d := ⟨i 0, i 1, eq_ix2 i⟩
  exact (Cert.PostRefIdeal.RefValue.result_y _ _ _ _ _ _ _ _ _ _ _ _ _ _ _ r d).trans
    (Cert.PostIdeal.Block.G15_eq m c r d).symm

/-- The plain program's second result, on the tiled program's arguments, is the tiled program's. -/
theorem hist_agree (c : Dev Cert.PostIdeal.nD) :
    val_main_v78 (F := Ideal) (m (c, Cert.PostIdeal.main_arg0)) (m (c, Cert.PostIdeal.main_arg1)) (m (c,
      Cert.PostIdeal.main_arg2)) (m (c, Cert.PostIdeal.main_arg3)) (m (c, Cert.PostIdeal.main_arg4)) (m (c,
      Cert.PostIdeal.main_arg5)) (m (c, Cert.PostIdeal.main_arg7)) (m (c, Cert.PostIdeal.main_arg9)) (m (c,
      Cert.PostIdeal.main_arg10)) (m (c, Cert.PostIdeal.main_arg14))
      = Cert.PostIdeal.Value.G16 m c := by
  funext i
  obtain ⟨b, j, f, rfl⟩ : ∃ (b : Fin 8) (j : Fin 2) (f : Fin 5632), i = ix3 b j f := ⟨i 0, i 1, i 2, eq_ix3 i⟩
  exact (Cert.PostRefIdeal.RefValue.result_hist (m (c, Cert.PostIdeal.main_arg0)) (m (c, Cert.PostIdeal.main_arg1)) (m (c, Cert.PostIdeal.main_arg2)) (m (c,
      Cert.PostIdeal.main_arg3)) (m (c, Cert.PostIdeal.main_arg4)) (m (c, Cert.PostIdeal.main_arg5)) (m (c,
      Cert.PostIdeal.main_arg6)) (m (c, Cert.PostIdeal.main_arg7)) (m (c, Cert.PostIdeal.main_arg8)) (m (c,
      Cert.PostIdeal.main_arg9)) (m (c, Cert.PostIdeal.main_arg10)) (m (c, Cert.PostIdeal.main_arg11)) (m (c,
      Cert.PostIdeal.main_arg12)) (m (c, Cert.PostIdeal.main_arg13)) (m (c, Cert.PostIdeal.main_arg14)) b j f).trans
    (Cert.PostIdeal.Block.G16_eq m c b j f).symm

/-- Both programs end with the layer's output and the up projection's last rows. -/
theorem algebraic : Cert.algebraic_PostIdeal_PostRefIdeal (hPostIdeal := Cert.PostIdeal.Gen.facts)
    (hPostRefIdeal := Cert.PostRefIdeal.Gen.facts) := fun m ρ m' ρ' _ hag =>
  ⟨fun c => Cert.PostIdeal.Value.G15 m c, fun c => Cert.PostIdeal.Value.G16 m c, Cert.PostIdeal.Value.run m ρ,
    (θ_run _ _ _).mono (fun r h c => by
      obtain ⟨e0, e1, e2, e3, e4, e5, e6, e7, e8, e9, e10, e11, e12, e13, e14⟩ := hag c
      have f0 : launchContents m' c (Proc.devRef .tc Cert.PostRefIdeal.main_arg0) = m (c, Cert.PostIdeal.main_arg0) := e0
      have f1 : launchContents m' c (Proc.devRef .tc Cert.PostRefIdeal.main_arg1) = m (c, Cert.PostIdeal.main_arg1) := e1
      have f2 : launchContents m' c (Proc.devRef .tc Cert.PostRefIdeal.main_arg2) = m (c, Cert.PostIdeal.main_arg2) := e2
      have f3 : launchContents m' c (Proc.devRef .tc Cert.PostRefIdeal.main_arg3) = m (c, Cert.PostIdeal.main_arg3) := e3
      have f4 : launchContents m' c (Proc.devRef .tc Cert.PostRefIdeal.main_arg4) = m (c, Cert.PostIdeal.main_arg4) := e4
      have f5 : launchContents m' c (Proc.devRef .tc Cert.PostRefIdeal.main_arg5) = m (c, Cert.PostIdeal.main_arg5) := e5
      have f6 : launchContents m' c (Proc.devRef .tc Cert.PostRefIdeal.main_arg6) = m (c, Cert.PostIdeal.main_arg6) := e6
      have f7 : launchContents m' c (Proc.devRef .tc Cert.PostRefIdeal.main_arg7) = m (c, Cert.PostIdeal.main_arg7) := e7
      have f8 : launchContents m' c (Proc.devRef .tc Cert.PostRefIdeal.main_arg8) = m (c, Cert.PostIdeal.main_arg8) := e8
      have f9 : launchContents m' c (Proc.devRef .tc Cert.PostRefIdeal.main_arg9) = m (c, Cert.PostIdeal.main_arg9) := e9
      have f10 : launchContents m' c (Proc.devRef .tc Cert.PostRefIdeal.main_arg10) = m (c, Cert.PostIdeal.main_arg10) := e10
      have f11 : launchContents m' c (Proc.devRef .tc Cert.PostRefIdeal.main_arg11) = m (c, Cert.PostIdeal.main_arg11) := e11
      have f12 : launchContents m' c (Proc.devRef .tc Cert.PostRefIdeal.main_arg12) = m (c, Cert.PostIdeal.main_arg12) := e12
      have f13 : launchContents m' c (Proc.devRef .tc Cert.PostRefIdeal.main_arg13) = m (c, Cert.PostIdeal.main_arg13) := e13
      have f14 : launchContents m' c (Proc.devRef .tc Cert.PostRefIdeal.main_arg14) = m (c, Cert.PostIdeal.main_arg14) := e14
      refine ⟨(h c).1.trans ((val_main_v77_eq (launchContents m' c)).trans ?_),
        (h c).2.1.trans ((val_main_v78_eq (launchContents m' c)).trans ?_), (h c).2.2⟩
      · rw [f0, f1, f2, f3, f4, f5, f6, f7, f8, f9, f10, f11, f12, f13, f14]
        exact y_agree m c
      · rw [f0, f1, f2, f3, f4, f5, f7, f9, f10, f14]
        exact hist_agree m c)
      (Cert.PostRefIdeal.Value.run m' ρ')⟩

end Cert.PostClaim
-- ==== Proof.InprojSpec.lean ====
/-
The mathematics of one layer's input projection, as plain functions of coordinates.

No program is named here.  `Args` holds the arrays as functions; the definitions below follow the data: the modulated
norm, the one product with the whole input matrix, the gated pair of its first columns, and the rotation of the first
sixteen dims of each head by the angles of the position.  Both programs are read against these definitions.
-/
module

public import proofs.«01_k».proof.Proof.PostSpec

@[expose] public section

noncomputable section

namespace Cert.InprojSpec

open Idealize.ShloMosaic
open Cert.PostSpec (rms one)

/-- The rounded zero. -/
abbrev zero : EReal := Ideal.ofBits .f32 0x00000000#32
/-- The rounded factor of the queries: the score scale with the base-two exponent folded in. -/
abbrev qscale : EReal := Ideal.ofBits .f32 0x3E38AA3B#32

/-- The rate of rotated pair `i`: one over the base raised to `2 i / 16`, in the programs' own order. -/
def rate (i : Fin 8) : EReal :=
  Ideal.div one (Ideal.pow (Ideal.ofBits .f32 0x48F42400#32)
    (Ideal.div (zero + Ideal.ofBits .f32 0x40000000#32 * (((BitVec.ofNat 32 i.val).toInt : ℝ) : EReal))
      (Ideal.ofBits .f32 0x41800000#32)))

/-- The angle of pair `i` at position `t`. -/
def angle (t : Fin 2048) (i : Fin 8) : EReal := (((BitVec.ofNat 32 t.val).toInt : ℝ) : EReal) * rate i

/-- The cosine of that angle. -/
def cosT (t : Fin 2048) (i : Fin 8) : EReal := Ideal.cos (angle t i)

/-- The sine of that angle. -/
def sinT (t : Fin 2048) (i : Fin 8) : EReal := Ideal.sin (angle t i)

/-- A head of 64 dims with its first sixteen rotated: dim `l` is paired with dim `l + 8`. -/
def rot (v : Fin 64 → EReal) (c s : Fin 8 → EReal) (l : Fin 64) : EReal :=
  if h : l.val < 8 then v l * c ⟨l.val, h⟩ - v ⟨l.val + 8, by omega⟩ * s ⟨l.val, h⟩
  else if h' : l.val < 16 then v l * c ⟨l.val - 8, by omega⟩ + v ⟨l.val - 8, by omega⟩ * s ⟨l.val - 8, by omega⟩
  else v l

/-- Row `v` normed, scaled by the gain and modulated. -/
def modRow (v g sc sh : Fin 1024 → EReal) (k : Fin 1024) : EReal := v k * rms v * g k * (one + sc k) + sh k

/-- The arrays of the call, by coordinates: batch, time, channel. -/
structure Args where
  x : Fin 8 → Fin 2048 → Fin 1024 → EReal
  sc : Fin 8 → Fin 1024 → EReal
  sh : Fin 8 → Fin 1024 → EReal
  g : Fin 1024 → EReal
  w : Fin 1024 → Fin 2088 → EReal

/-- The arrays as functions of coordinates, from the arrays as functions of an index. -/
abbrev argsOf (x0 : (⟨3, ![8, 2048, 1024]⟩ : Shape).Idx → EReal) (x1 x2 : (⟨2, ![8, 1024]⟩ : Shape).Idx → EReal)
    (x3 : (⟨1, ![1024]⟩ : Shape).Idx → EReal) (x4 : (⟨2, ![1024, 2088]⟩ : Shape).Idx → EReal) : Args where
  x := fun b t k => x0 (ix3 b t k)
  sc := fun b k => x1 (ix2 b k)
  sh := fun b k => x2 (ix2 b k)
  g := fun k => x3 (ix1 k)
  w := fun k e => x4 (ix2 k e)

namespace Args

variable (A : Args)

/-- The modulated norm of a row. -/
def h (b : Fin 8) (t : Fin 2048) (k : Fin 1024) : EReal := modRow (A.x b t) A.g (A.sc b) (A.sh b) k

/-- The product with the whole input matrix. -/
def z (b : Fin 8) (t : Fin 2048) (e : Fin 2088) : EReal := ∑ k : Fin 1024, A.h b t k * A.w k e

/-- The gated pair. -/
def glu (b : Fin 8) (t : Fin 2048) (f : Fin 512) : EReal :=
  A.z b t ⟨f.val, by omega⟩ * Ideal.logistic (A.z b t ⟨512 + f.val, by omega⟩)

/-- The rotated and scaled queries: 8 heads of 64 dims. -/
def q (b : Fin 8) (t : Fin 2048) (f : Fin 512) : EReal :=
  rot (fun l => A.z b t ⟨1024 + (64 * (f.val / 64) + l.val), by omega⟩) (cosT t) (sinT t) ⟨f.val % 64, by omega⟩ * qscale

/-- The rotated keys: 2 heads of 64 dims. -/
def k (b : Fin 8) (t : Fin 2048) (f : Fin 128) : EReal :=
  rot (fun l => A.z b t ⟨1536 + (64 * (f.val / 64) + l.val), by omega⟩) (cosT t) (sinT t) ⟨f.val % 64, by omega⟩

/-- The values. -/
def v (b : Fin 8) (t : Fin 2048) (f : Fin 128) : EReal := A.z b t ⟨1664 + f.val, by omega⟩

/-- The index queries. -/
def qi (b : Fin 8) (t : Fin 2048) (f : Fin 256) : EReal := A.z b t ⟨1792 + f.val, by omega⟩

/-- The index keys. -/
def ki (b : Fin 8) (t : Fin 2048) (f : Fin 32) : EReal := A.z b t ⟨2048 + f.val, by omega⟩

/-- The index weights. -/
def wi (b : Fin 8) (t : Fin 2048) (f : Fin 8) : EReal := A.z b t ⟨2080 + f.val, by omega⟩

end Args

end Cert.InprojSpec

end
-- ==== Proof.InprojPay.lean ====
/-
What the block computations of the input projection leave at an index, over any blocks.
-/
module

public import proofs.«01_k».proof.Proof.Gen.InprojIdeal.Skeleton
public import proofs.«01_k».proof.Proof.InprojSpec
public import Idealize.ShloMosaic.Lib.Pointwise

@[expose] public section

set_option maxRecDepth 16384

noncomputable section

namespace Cert.InprojIdeal.Block

open Cert.InprojIdeal Cert.InprojIdeal.Gen
open Idealize.ShloMosaic Idealize.ShloMosaic.TcCoe Idealize.SL.Sem
open Cert.InprojSpec
open Cert.PostSpec (one rms)

/-- A lane group of 128 (two heads) rotated the kernel's way: the group times the cosine table, plus the group turned by
8 lanes times the sine table, plus the group turned by 120 lanes times the negated sine table. -/
def turn (v c a b : Fin 128 → EReal) (d : Fin 128) : EReal :=
  v d * c d + v ⟨(d.val + 128 - 8) % 128, Nat.mod_lt _ (by decide)⟩ * a d
    + v ⟨(d.val + 128 - 120) % 128, Nat.mod_lt _ (by decide)⟩ * b d

/-- The cosine table's lane: the pair's cosine in the sixteen rotated dims of a head, one in the others. -/
def tabC (c : Fin 8 → EReal) (d : Fin 128) : EReal :=
  if h : d.val % 64 < 8 then c ⟨d.val % 64, h⟩ else if h' : d.val % 64 < 16 then c ⟨d.val % 64 - 8, by omega⟩ else one

/-- The sine table's lane: the pair's sine in the second eight dims of a head, zero in the others. -/
def tabA (s : Fin 8 → EReal) (d : Fin 128) : EReal :=
  if h : d.val % 64 < 8 then zero else if h' : d.val % 64 < 16 then s ⟨d.val % 64 - 8, by omega⟩ else zero

/-- The negated sine table's lane: in the first eight dims of a head, zero in the others. -/
def tabB (s : Fin 8 → EReal) (d : Fin 128) : EReal :=
  if h : d.val % 64 < 8 then - s ⟨d.val % 64, h⟩ else zero

/-- With those tables the kernel's turn is the rotation of each head. -/
theorem turn_eq (v : Fin 128 → EReal) (c s : Fin 8 → EReal) (d : Fin 128) :
    turn v (tabC c) (tabA s) (tabB s) d
      = rot (fun l => v ⟨64 * (d.val / 64) + l.val, by omega⟩) c s ⟨d.val % 64, by omega⟩ := by
  have z0 : zero = (0 : EReal) := Ideal.ofBits_zero_f32
  have o1 : Cert.PostSpec.one = (1 : EReal) := Ideal.ofBits_one_f32
  have e : v d = v ⟨64 * (d.val / 64) + d.val % 64, by omega⟩ := congrArg v (Fin.ext (by show d.val = 64 * (d.val / 64) + d.val % 64; omega))
  unfold turn tabC tabA tabB rot
  by_cases h : d.val % 64 < 8
  · simp only [dif_pos h]
    rw [z0, mul_zero, add_zero, mul_neg, sub_eq_add_neg, e]
    refine congrArg₂ (· + ·) rfl (congrArg Neg.neg (congrArg (· * _) (congrArg v (Fin.ext ?_))))
    show (d.val + 128 - 120) % 128 = 64 * (d.val / 64) + (d.val % 64 + 8)
    omega
  · by_cases h' : d.val % 64 < 16
    · simp only [dif_neg h, dif_pos h']
      rw [z0, mul_zero, add_zero, e]
      refine congrArg₂ (· + ·) rfl (congrArg (· * _) (congrArg v (Fin.ext ?_)))
      show (d.val + 128 - 8) % 128 = 64 * (d.val / 64) + (d.val % 64 - 8)
      omega
    · simp only [dif_neg h, dif_neg h']
      rw [z0, o1, mul_zero, mul_zero, add_zero, add_zero, mul_one, e]

/-- The product of the modulated rows with the padded matrix. -/
theorem pay5_apply (v0 : Vec Ideal S1024x1024 .f32) (v2 : Vec Ideal S1x1024 .f32) (v4 v6 : Vec Ideal S1x1x1024 .f32)
    (v27 : Vec Ideal S2304x1024 .bf16) (r : Fin 1024) (e : Fin 2304) :
    k0_pay5 (F := Ideal) v0 v2 v4 v6 v27 (ix2 r e)
      = ∑ k : Fin 1024, modRow (fun k => v0 (ix2 r k)) (fun k => v2 (ix2 0 k)) (fun k => v4 (ix3 0 0 k))
          (fun k => v6 (ix3 0 0 k)) k * v27 (ix2 e k) := by
  pointwise [k0_pay5]
  refine Finset.sum_congr rfl fun k _ => ?_
  unfold modRow rms one
  rw [Ideal.ofBits_one_f32]

/-- The gated pair of a block. -/
theorem pay6_apply (v0 : Vec Ideal S1024x1024 .f32) (v2 : Vec Ideal S1x1024 .f32) (v4 v6 : Vec Ideal S1x1x1024 .f32)
    (v27 : Vec Ideal S2304x1024 .bf16) (r : Fin 1024) (f : Fin 512) :
    k0_pay6 (F := Ideal) v0 v2 v4 v6 v27 (ix2 r f)
      = k0_pay5 (F := Ideal) v0 v2 v4 v6 v27 (ix2 r ⟨f.val, by omega⟩)
        * Ideal.logistic (k0_pay5 (F := Ideal) v0 v2 v4 v6 v27 (ix2 r ⟨512 + f.val, by omega⟩)) := by
  pointwise [k0_pay6]

/-- The first lane group of the queries. -/
theorem pay10_apply (v29 : FVec Ideal S1024x2304 .f32) (v36 v37 v39 : Vec Ideal S1024x128 .f32) (r : Fin 1024) (d : Fin 128) :
    k0_pay10 (F := Ideal) v29 v36 v37 v39 (ix2 r d)
      = turn (fun d => v29 (ix2 r ⟨1024 + d.val, by omega⟩)) (fun d => v36 (ix2 r d)) (fun d => v37 (ix2 r d))
          (fun d => v39 (ix2 r d)) d * qscale := by
  unfold turn
  pointwise [k0_pay10, k0_pay8, k0_pay9]

/-- The second lane group of the queries. -/
theorem pay11_apply (v29 : FVec Ideal S1024x2304 .f32) (v36 v37 v39 : Vec Ideal S1024x128 .f32) (r : Fin 1024) (d : Fin 128) :
    k0_pay11 (F := Ideal) v29 v36 v37 v39 (ix2 r d)
      = turn (fun d => v29 (ix2 r ⟨1152 + d.val, by omega⟩)) (fun d => v36 (ix2 r d)) (fun d => v37 (ix2 r d))
          (fun d => v39 (ix2 r d)) d * qscale := by
  unfold turn
  pointwise [k0_pay11, k0_pay8, k0_pay9]

/-- The third lane group of the queries. -/
theorem pay12_apply (v29 : FVec Ideal S1024x2304 .f32) (v36 v37 v39 : Vec Ideal S1024x128 .f32) (r : Fin 1024) (d : Fin 128) :
    k0_pay12 (F := Ideal) v29 v36 v37 v39 (ix2 r d)
      = turn (fun d => v29 (ix2 r ⟨1280 + d.val, by omega⟩)) (fun d => v36 (ix2 r d)) (fun d => v37 (ix2 r d))
          (fun d => v39 (ix2 r d)) d * qscale := by
  unfold turn
  pointwise [k0_pay12, k0_pay8, k0_pay9]

/-- The fourth lane group of the queries. -/
theorem pay13_apply (v29 : FVec Ideal S1024x2304 .f32) (v36 v38 v40 : FVec Ideal S1024x128 .f32) (r : Fin 1024) (d : Fin 128) :
    k0_pay13 (F := Ideal) v29 v36 v38 v40 (ix2 r d)
      = turn (fun d => v29 (ix2 r ⟨1408 + d.val, by omega⟩)) (fun d => v36 (ix2 r d)) (fun d => v38 (ix2 r d))
          (fun d => v40 (ix2 r d)) d * qscale := by
  unfold turn
  pointwise [k0_pay13]

/-- The keys. -/
theorem pay15_apply (v29 : FVec Ideal S1024x2304 .f32) (v36 v38 v40 : FVec Ideal S1024x128 .f32) (r : Fin 1024) (d : Fin 128) :
    k0_pay15 (F := Ideal) v29 v36 v38 v40 (ix2 r d)
      = turn (fun d => v29 (ix2 r ⟨1536 + d.val, by omega⟩)) (fun d => v36 (ix2 r d)) (fun d => v38 (ix2 r d))
          (fun d => v40 (ix2 r d)) d := by
  unfold turn
  pointwise [k0_pay15]

/-- The index queries. -/
theorem pay14_apply (v29 : FVec Ideal S1024x2304 .f32) (r : Fin 1024) (f : Fin 256) :
    k0_pay14 (F := Ideal) v29 (ix2 r f) = v29 (ix2 r ⟨1792 + f.val, by omega⟩) := by
  pointwise [k0_pay14]

/-- The index keys. -/
theorem pay19_apply (v29 : FVec Ideal S1024x2304 .f32) (r : Fin 1024) (f : Fin 32) :
    k0_pay19 (F := Ideal) v29 (ix2 r f) = v29 (ix2 r ⟨2048 + f.val, by omega⟩) := by
  pointwise [k0_pay19, k0_pay16]

/-- The keys, stored by row. -/
theorem pay18_apply (v29 : FVec Ideal S1024x2304 .f32) (v36 v38 v40 : FVec Ideal S1024x128 .f32) (r : Fin 1024) (d : Fin 128) :
    k0_pay18 (F := Ideal) v29 v36 v38 v40 (ix2 r d) = k0_pay15 (F := Ideal) v29 v36 v38 v40 (ix2 r d) := by
  pointwise [k0_pay18]

/-- The keys, transposed. -/
theorem pay20_apply (v29 : FVec Ideal S1024x2304 .f32) (v36 v38 v40 : FVec Ideal S1024x128 .f32) (d : Fin 128) (r : Fin 1024) :
    k0_pay20 (F := Ideal) v29 v36 v38 v40 (ix3 0 d r) = k0_pay15 (F := Ideal) v29 v36 v38 v40 (ix2 r d) := by
  pointwise [k0_pay20]

/-- The values, transposed. -/
theorem pay1_apply (v29 : FVec Ideal S1024x2304 .f32) (d : Fin 128) (r : Fin 1024) :
    k0_pay1 (F := Ideal) (k0_pay21 (F := Ideal) v29) (ix3 0 d r) = v29 (ix2 r ⟨1664 + d.val, by omega⟩) := by
  pointwise [k0_pay1, k0_pay21]

/-- The values, transposed, in the narrow type. -/
theorem pay2_apply (v29 : FVec Ideal S1024x2304 .f32) (d : Fin 128) (r : Fin 1024) :
    k0_pay2 (F := Ideal) (k0_pay21 (F := Ideal) v29) (ix3 0 d r) = v29 (ix2 r ⟨1664 + d.val, by omega⟩) := by
  pointwise [k0_pay2, k0_pay21]

/-- The index keys, transposed. -/
theorem pay3_apply (v29 : FVec Ideal S1024x2304 .f32) (d : Fin 32) (r : Fin 1024) :
    k0_pay3 (F := Ideal) (k0_pay16 (F := Ideal) v29) (ix3 0 d r) = v29 (ix2 r ⟨2048 + d.val, by omega⟩) := by
  pointwise [k0_pay3, k0_pay16]

/-- The index weights, transposed. -/
theorem pay4_apply (v29 : FVec Ideal S1024x2304 .f32) (d : Fin 8) (r : Fin 1024) :
    k0_pay4 (F := Ideal) (k0_pay17 (F := Ideal) v29) (ix3 0 d r) = v29 (ix2 r ⟨2176 + d.val, by omega⟩) := by
  pointwise [k0_pay4, k0_pay17]

end Cert.InprojIdeal.Block

end
-- ==== Proof.InprojBlock.lean ====
/-
What one grid point of the input projection leaves in each output buffer, over argument blocks that hold the layer's
arrays.
-/
module

public import proofs.«01_k».proof.Proof.Gen.InprojIdeal.Frame
public import proofs.«01_k».proof.Proof.InprojPay

@[expose] public section

set_option maxRecDepth 16384

noncomputable section

namespace Cert.InprojIdeal.Block

open Cert.InprojIdeal Cert.InprojIdeal.Gen
open Idealize.ShloMosaic Idealize.ShloMosaic.TcCoe Idealize.SL.Sem
open Cert.InprojSpec

/-- Argument blocks that hold rows `T r` of batch `b`: the rows, the batch's modulation vectors, the gain, the padded
matrix and the rotation tables at those rows' positions. -/
structure Holds (A : Args) (b : Fin 8) (T : Fin 1024 → Fin 2048) (X0 : Vec Ideal S1024x1024 .f32) (X1 X2 : Vec Ideal S1x1x1024 .f32)
    (X3 : Vec Ideal S1x1024 .f32) (X4 : Vec Ideal S2304x1024 .bf16) (X5 X6 X7 : Vec Ideal S1024x128 .f32) : Prop where
  x : ∀ (r : Fin 1024) (k : Fin 1024), X0 (ix2 r k) = A.x b (T r) k
  sc : ∀ k : Fin 1024, X1 (ix3 0 0 k) = A.sc b k
  sh : ∀ k : Fin 1024, X2 (ix3 0 0 k) = A.sh b k
  g : ∀ k : Fin 1024, X3 (ix2 0 k) = A.g k
  w : ∀ (n : ℕ) (hn : n < 2080) (k : Fin 1024), X4 (ix2 ⟨n, by omega⟩ k) = A.w k ⟨n, by omega⟩
  wi : ∀ (f : Fin 8) (k : Fin 1024), X4 (ix2 ⟨2176 + f.val, by omega⟩ k) = A.w k ⟨2080 + f.val, by omega⟩
  tc : ∀ (r : Fin 1024) (d : Fin 128), X5 (ix2 r d) = tabC (cosT (T r)) d
  ta : ∀ (r : Fin 1024) (d : Fin 128), X6 (ix2 r d) = tabA (sinT (T r)) d
  tb : ∀ (r : Fin 1024) (d : Fin 128), X7 (ix2 r d) = tabB (sinT (T r)) d

/-- The zero offsets of a rank 2 buffer. -/
theorem off2 : (![0, 0] : Fin 2 → ℕ) = fun _ => 0 := funext fun a => by match a with | ⟨0, _⟩ => rfl | ⟨1, _⟩ => rfl
/-- The zero offsets of a rank 3 buffer. -/
theorem off3 : (![0, 0, 0] : Fin 3 → ℕ) = fun _ => 0 := funext fun a => by match a with | ⟨0, _⟩ => rfl | ⟨1, _⟩ => rfl | ⟨2, _⟩ => rfl

variable {A : Args} {b : Fin 8} {T : Fin 1024 → Fin 2048} {X0 : Vec Ideal S1024x1024 .f32} {X1 X2 : Vec Ideal S1x1x1024 .f32}
    {X3 : Vec Ideal S1x1024 .f32} {X4 : Vec Ideal S2304x1024 .bf16} {X5 X6 X7 : Vec Ideal S1024x128 .f32}

/-- The product read over the blocks whole. -/
theorem pay22_eq : k0_pay22 (F := Ideal) X0 X1 X2 X3 X4 X5 X6 X7 = k0_pay5 (F := Ideal) X0 X3 X1 X2 X4 := by
  unfold k0_pay22
  have e0 : View.ld X0 r0_0 = X0 := View.ld_unit_zero off2 _ X0
  have e1 : View.ld X1 r0_2 = X1 := View.ld_unit_zero off3 _ X1
  have e2 : View.ld X2 r0_2 = X2 := View.ld_unit_zero off3 _ X2
  have e3 : View.ld X3 r0_1 = X3 := View.ld_unit_zero off2 _ X3
  have e4 : View.ld X4 r0_3 = X4 := View.ld_unit_zero off2 _ X4
  rw [e0, e1, e2, e3, e4]

/-- The first table read whole. -/
theorem pay23_apply (r : Fin 1024) (d : Fin 128) : k0_pay23 (F := Ideal) X0 X1 X2 X3 X4 X5 X6 X7 (ix2 r d) = X5 (ix2 r d) := by
  have e : View.ld X5 r0_5 = X5 := View.ld_unit_zero off2 _ X5
  unfold k0_pay23
  rw [e]
  pointwise [k0_pay7]

/-- The second table read whole. -/
theorem pay24_apply (r : Fin 1024) (d : Fin 128) : k0_pay24 (F := Ideal) X0 X1 X2 X3 X4 X5 X6 X7 (ix2 r d) = X6 (ix2 r d) := by
  have e : View.ld X6 r0_5 = X6 := View.ld_unit_zero off2 _ X6
  unfold k0_pay24
  rw [e]
  pointwise [k0_pay8]

/-- The third table read whole. -/
theorem pay25_apply (r : Fin 1024) (d : Fin 128) : k0_pay25 (F := Ideal) X0 X1 X2 X3 X4 X5 X6 X7 (ix2 r d) = X7 (ix2 r d) := by
  have e : View.ld X7 r0_5 = X7 := View.ld_unit_zero off2 _ X7
  unfold k0_pay25
  rw [e]
  pointwise [k0_pay9]

variable (H : Holds A b T X0 X1 X2 X3 X4 X5 X6 X7)
include H

/-- A row of the blocks, modulated. -/
theorem row_eq (r : Fin 1024) (k : Fin 1024) :
    modRow (fun k => X0 (ix2 r k)) (fun k => X3 (ix2 0 k)) (fun k => X1 (ix3 0 0 k)) (fun k => X2 (ix3 0 0 k)) k
      = A.h b (T r) k := by
  unfold Args.h
  rw [funext (H.x r), funext H.g, funext H.sc, funext H.sh]

/-- The product's columns before the padding. -/
theorem z_eq (r : Fin 1024) (n : ℕ) (hn : n < 2080) :
    k0_pay22 (F := Ideal) X0 X1 X2 X3 X4 X5 X6 X7 (ix2 r ⟨n, by omega⟩) = A.z b (T r) ⟨n, by omega⟩ := by
  rw [pay22_eq, pay5_apply]
  unfold Args.z
  exact Finset.sum_congr rfl fun k _ => congrArg₂ (· * ·) (row_eq H r k) (H.w n hn k)

/-- The product's columns of the index weights, after the padding. -/
theorem zwi_eq (r : Fin 1024) (f : Fin 8) :
    k0_pay22 (F := Ideal) X0 X1 X2 X3 X4 X5 X6 X7 (ix2 r ⟨2176 + f.val, by omega⟩) = A.wi b (T r) f := by
  rw [pay22_eq, pay5_apply]
  unfold Args.wi Args.z
  exact Finset.sum_congr rfl fun k _ => congrArg₂ (· * ·) (row_eq H r k) (H.wi f k)

/-- A lane group of the product turned by the tables is the rotation of its heads. -/
theorem turned (r : Fin 1024) (o : ℕ) (ho : o + 128 ≤ 2080) (d : Fin 128) :
    turn (fun d => k0_pay22 (F := Ideal) X0 X1 X2 X3 X4 X5 X6 X7 (ix2 r ⟨o + d.val, by omega⟩)) (fun d => X5 (ix2 r d))
        (fun d => X6 (ix2 r d)) (fun d => X7 (ix2 r d)) d
      = rot (fun l => A.z b (T r) ⟨o + (64 * (d.val / 64) + l.val), by omega⟩) (cosT (T r)) (sinT (T r)) ⟨d.val % 64, by omega⟩ := by
  rw [funext (H.tc r), funext (H.ta r), funext (H.tb r), turn_eq]
  congr 1
  funext l
  exact z_eq H r (o + (64 * (d.val / 64) + l.val)) (by omega)

/-- The gated pair. -/
theorem out8_at (r : Fin 1024) (f : Fin 512) : out0_8 (F := Ideal) X0 X1 X2 X3 X4 X5 X6 X7 (ix2 r f) = A.glu b (T r) f := by
  have e : out0_8 (F := Ideal) X0 X1 X2 X3 X4 X5 X6 X7 = k0_pay6 (F := Ideal) X0 X3 X1 X2 X4 := by
    unfold out0_8
    have e0 : View.ld X0 r0_0 = X0 := View.ld_unit_zero off2 _ X0
    have e1 : View.ld X1 r0_2 = X1 := View.ld_unit_zero off3 _ X1
    have e2 : View.ld X2 r0_2 = X2 := View.ld_unit_zero off3 _ X2
    have e3 : View.ld X3 r0_1 = X3 := View.ld_unit_zero off2 _ X3
    have e4 : View.ld X4 r0_3 = X4 := View.ld_unit_zero off2 _ X4
    rw [e0, e1, e2, e3, e4]
    exact View.canon_unit_zero off2 _ _
  rw [e, pay6_apply, ← pay22_eq (X5 := X5) (X6 := X6) (X7 := X7), z_eq H r f.val (by omega), z_eq H r (512 + f.val) (by omega)]
  rfl

/-- The keys of a block before they are stored. -/
theorem keys_eq (r : Fin 1024) (d : Fin 128) :
    k0_pay15 (F := Ideal) (k0_pay22 (F := Ideal) X0 X1 X2 X3 X4 X5 X6 X7) (k0_pay23 (F := Ideal) X0 X1 X2 X3 X4 X5 X6 X7) (k0_pay24 (F := Ideal) X0 X1 X2 X3 X4 X5 X6 X7) (k0_pay25 (F := Ideal) X0 X1 X2 X3 X4 X5 X6 X7) (ix2 r d)
      = A.k b (T r) d := by
  rw [pay15_apply, funext (pay23_apply r), funext (pay24_apply r), funext (pay25_apply r), turned H r 1536 (by omega) d]
  rfl

/-- The queries: four lane groups, each turned by the tables and scaled. -/
theorem out9_at (r : Fin 1024) (f : Fin 512) : out0_9 (F := Ideal) X0 X1 X2 X3 X4 X5 X6 X7 (ix2 r f) = A.q b (T r) f := by
  have e6 : View.ld X6 r0_5 = X6 := View.ld_unit_zero off2 _ X6
  have e7 : View.ld X7 r0_5 = X7 := View.ld_unit_zero off2 _ X7
  have group : ∀ (o : ℕ) (ho : o + 128 ≤ 512) (r : Fin 1024) (d : Fin 128),
      rot (fun l => A.z b (T r) ⟨1024 + o + (64 * (d.val / 64) + l.val), by omega⟩) (cosT (T r)) (sinT (T r)) ⟨d.val % 64, by omega⟩ * qscale
        = rot (fun l => A.z b (T r) ⟨1024 + (64 * ((o + d.val) / 64) + l.val), by omega⟩) (cosT (T r)) (sinT (T r)) ⟨(o + d.val) % 64, by omega⟩ * qscale
        ∨ o % 64 ≠ 0 := by
    intro o ho r d
    by_cases h : o % 64 = 0
    · refine Or.inl (congrArg (· * qscale) (congrArg₂ (fun v l => rot v (cosT (T r)) (sinT (T r)) l) (funext fun l => ?_) (Fin.ext ?_)))
      · refine congrArg (A.z b (T r)) (Fin.ext ?_)
        show 1024 + o + (64 * (d.val / 64) + l.val) = 1024 + (64 * ((o + d.val) / 64) + l.val)
        omega
      · show d.val % 64 = (o + d.val) % 64
        omega
    · exact Or.inr h
  unfold out0_9
  rw [e6, e7]
  refine View.canon_apply_of_pieces (Val := Elt Ideal) (S := S1024x512) (e := .bf16) (fun y => A.q b (T (y 0)) (y 1)) _ ?_ (ix2 r f) (cover0_9 _ _ _ _ _)
  intro p hp
  simp only [List.mem_cons, List.not_mem_nil, or_false] at hp
  rcases hp with rfl | rfl | rfl | rfl
  · intro x
    obtain ⟨r, d, rfl⟩ : ∃ (r : Fin 1024) (d : Fin 128), x = ix2 r d := ⟨x 0, x 1, eq_ix2 x⟩
    show k0_pay13 (F := Ideal) (k0_pay22 (F := Ideal) X0 X1 X2 X3 X4 X5 X6 X7) (k0_pay23 (F := Ideal) X0 X1 X2 X3 X4 X5 X6 X7) (k0_pay24 (F := Ideal) X0 X1 X2 X3 X4 X5 X6 X7) (k0_pay25 (F := Ideal) X0 X1 X2 X3 X4 X5 X6 X7) (ix2 r d) = _
    rw [pay13_apply, funext (pay23_apply r), funext (pay24_apply r), funext (pay25_apply r), turned H r 1408 (by omega) d]
    refine ((group 384 (by omega) r d).resolve_right (by decide)).trans ?_
    have e0 : (Rect.unit (s := S1024x512) ![0, 384] S1024x128.size inb_S1024x512_S1024x128_0_384).emb (ix2 r d) 0 = r := Fin.ext (by show 0 + 1 * r.val = r.val; omega)
    have e1 : (Rect.unit (s := S1024x512) ![0, 384] S1024x128.size inb_S1024x512_S1024x128_0_384).emb (ix2 r d) 1 = (⟨384 + d.val, by omega⟩ : Fin 512) := Fin.ext (by show 384 + 1 * d.val = 384 + d.val; omega)
    show _ = A.q b (T _) _
    rw [e0, e1]
    rfl
  · intro x
    obtain ⟨r, d, rfl⟩ : ∃ (r : Fin 1024) (d : Fin 128), x = ix2 r d := ⟨x 0, x 1, eq_ix2 x⟩
    show k0_pay12 (F := Ideal) (k0_pay22 (F := Ideal) X0 X1 X2 X3 X4 X5 X6 X7) (k0_pay23 (F := Ideal) X0 X1 X2 X3 X4 X5 X6 X7) X6 X7 (ix2 r d) = _
    rw [pay12_apply, funext (pay23_apply r), turned H r 1280 (by omega) d]
    refine ((group 256 (by omega) r d).resolve_right (by decide)).trans ?_
    have e0 : (Rect.unit (s := S1024x512) ![0, 256] S1024x128.size inb_S1024x512_S1024x128_0_256).emb (ix2 r d) 0 = r := Fin.ext (by show 0 + 1 * r.val = r.val; omega)
    have e1 : (Rect.unit (s := S1024x512) ![0, 256] S1024x128.size inb_S1024x512_S1024x128_0_256).emb (ix2 r d) 1 = (⟨256 + d.val, by omega⟩ : Fin 512) := Fin.ext (by show 256 + 1 * d.val = 256 + d.val; omega)
    show _ = A.q b (T _) _
    rw [e0, e1]
    rfl
  · intro x
    obtain ⟨r, d, rfl⟩ : ∃ (r : Fin 1024) (d : Fin 128), x = ix2 r d := ⟨x 0, x 1, eq_ix2 x⟩
    show k0_pay11 (F := Ideal) (k0_pay22 (F := Ideal) X0 X1 X2 X3 X4 X5 X6 X7) (k0_pay23 (F := Ideal) X0 X1 X2 X3 X4 X5 X6 X7) X6 X7 (ix2 r d) = _
    rw [pay11_apply, funext (pay23_apply r), turned H r 1152 (by omega) d]
    refine ((group 128 (by omega) r d).resolve_right (by decide)).trans ?_
    have e0 : (Rect.unit (s := S1024x512) ![0, 128] S1024x128.size inb_S1024x512_S1024x128_0_128).emb (ix2 r d) 0 = r := Fin.ext (by show 0 + 1 * r.val = r.val; omega)
    have e1 : (Rect.unit (s := S1024x512) ![0, 128] S1024x128.size inb_S1024x512_S1024x128_0_128).emb (ix2 r d) 1 = (⟨128 + d.val, by omega⟩ : Fin 512) := Fin.ext (by show 128 + 1 * d.val = 128 + d.val; omega)
    show _ = A.q b (T _) _
    rw [e0, e1]
    rfl
  · intro x
    obtain ⟨r, d, rfl⟩ : ∃ (r : Fin 1024) (d : Fin 128), x = ix2 r d := ⟨x 0, x 1, eq_ix2 x⟩
    show k0_pay10 (F := Ideal) (k0_pay22 (F := Ideal) X0 X1 X2 X3 X4 X5 X6 X7) (k0_pay23 (F := Ideal) X0 X1 X2 X3 X4 X5 X6 X7) X6 X7 (ix2 r d) = _
    rw [pay10_apply, funext (pay23_apply r), turned H r 1024 (by omega) d]
    refine ((group 0 (by omega) r d).resolve_right (by decide)).trans ?_
    have e0 : (Rect.unit (s := S1024x512) ![0, 0] S1024x128.size inb_S1024x512_S1024x128_0_0).emb (ix2 r d) 0 = r := Fin.ext (by show 0 + 1 * r.val = r.val; omega)
    have e1 : (Rect.unit (s := S1024x512) ![0, 0] S1024x128.size inb_S1024x512_S1024x128_0_0).emb (ix2 r d) 1 = (⟨0 + d.val, by omega⟩ : Fin 512) := Fin.ext (by show 0 + 1 * d.val = 0 + d.val; omega)
    show _ = A.q b (T _) _
    rw [e0, e1]
    rfl

/-- The index queries. -/
theorem out10_at (r : Fin 1024) (f : Fin 256) : out0_10 (F := Ideal) X0 X1 X2 X3 X4 X5 X6 X7 (ix2 r f) = A.qi b (T r) f := by
  have e : out0_10 (F := Ideal) X0 X1 X2 X3 X4 X5 X6 X7 = k0_pay14 (F := Ideal) (k0_pay22 (F := Ideal) X0 X1 X2 X3 X4 X5 X6 X7) := by
    unfold out0_10
    exact View.canon_unit_zero off2 _ _
  rw [e, pay14_apply, z_eq H r (1792 + f.val) (by omega)]
  rfl

/-- The keys, by row. -/
theorem out11_at (r : Fin 1024) (f : Fin 128) : out0_11 (F := Ideal) X0 X1 X2 X3 X4 X5 X6 X7 (ix2 r f) = A.k b (T r) f := by
  have e : out0_11 (F := Ideal) X0 X1 X2 X3 X4 X5 X6 X7 = k0_pay18 (F := Ideal) (k0_pay22 (F := Ideal) X0 X1 X2 X3 X4 X5 X6 X7) (k0_pay23 (F := Ideal) X0 X1 X2 X3 X4 X5 X6 X7) (k0_pay24 (F := Ideal) X0 X1 X2 X3 X4 X5 X6 X7) (k0_pay25 (F := Ideal) X0 X1 X2 X3 X4 X5 X6 X7) := by
    unfold out0_11
    exact View.canon_unit_zero off2 _ _
  rw [e, pay18_apply, keys_eq H]

/-- The index keys, by row. -/
theorem out12_at (r : Fin 1024) (f : Fin 32) : out0_12 (F := Ideal) X0 X1 X2 X3 X4 X5 X6 X7 (ix2 r f) = A.ki b (T r) f := by
  have e : out0_12 (F := Ideal) X0 X1 X2 X3 X4 X5 X6 X7 = k0_pay19 (F := Ideal) (k0_pay22 (F := Ideal) X0 X1 X2 X3 X4 X5 X6 X7) := by
    unfold out0_12
    exact View.canon_unit_zero off2 _ _
  rw [e, pay19_apply, z_eq H r (2048 + f.val) (by omega)]
  rfl

/-- The keys, transposed. -/
theorem out13_at (d : Fin 128) (r : Fin 1024) : out0_13 (F := Ideal) X0 X1 X2 X3 X4 X5 X6 X7 (ix3 0 d r) = A.k b (T r) d := by
  have e : out0_13 (F := Ideal) X0 X1 X2 X3 X4 X5 X6 X7 = k0_pay20 (F := Ideal) (k0_pay22 (F := Ideal) X0 X1 X2 X3 X4 X5 X6 X7) (k0_pay23 (F := Ideal) X0 X1 X2 X3 X4 X5 X6 X7) (k0_pay24 (F := Ideal) X0 X1 X2 X3 X4 X5 X6 X7) (k0_pay25 (F := Ideal) X0 X1 X2 X3 X4 X5 X6 X7) := by
    unfold out0_13
    exact View.canon_unit_zero off3 _ _
  rw [e, pay20_apply, keys_eq H]

/-- The values, transposed. -/
theorem out14_at (d : Fin 128) (r : Fin 1024) : out0_14 (F := Ideal) X0 X1 X2 X3 X4 X5 X6 X7 (ix3 0 d r) = A.v b (T r) d := by
  have e : out0_14 (F := Ideal) X0 X1 X2 X3 X4 X5 X6 X7 = k0_pay1 (F := Ideal) (k0_pay21 (F := Ideal) (k0_pay22 (F := Ideal) X0 X1 X2 X3 X4 X5 X6 X7)) := by
    unfold out0_14
    exact View.canon_unit_zero off3 _ _
  rw [e, pay1_apply, z_eq H r (1664 + d.val) (by omega)]
  rfl

/-- The values, transposed, in the narrow type. -/
theorem out15_at (d : Fin 128) (r : Fin 1024) : out0_15 (F := Ideal) X0 X1 X2 X3 X4 X5 X6 X7 (ix3 0 d r) = A.v b (T r) d := by
  have e : out0_15 (F := Ideal) X0 X1 X2 X3 X4 X5 X6 X7 = k0_pay2 (F := Ideal) (k0_pay21 (F := Ideal) (k0_pay22 (F := Ideal) X0 X1 X2 X3 X4 X5 X6 X7)) := by
    unfold out0_15
    exact View.canon_unit_zero off3 _ _
  rw [e, pay2_apply, z_eq H r (1664 + d.val) (by omega)]
  rfl

/-- The index keys, transposed. -/
theorem out16_at (d : Fin 32) (r : Fin 1024) : out0_16 (F := Ideal) X0 X1 X2 X3 X4 X5 X6 X7 (ix3 0 d r) = A.ki b (T r) d := by
  have e : out0_16 (F := Ideal) X0 X1 X2 X3 X4 X5 X6 X7 = k0_pay3 (F := Ideal) (k0_pay16 (F := Ideal) (k0_pay22 (F := Ideal) X0 X1 X2 X3 X4 X5 X6 X7)) := by
    unfold out0_16
    exact View.canon_unit_zero off3 _ _
  rw [e, pay3_apply, z_eq H r (2048 + d.val) (by omega)]
  rfl

/-- The index weights, transposed. -/
theorem out17_at (d : Fin 8) (r : Fin 1024) : out0_17 (F := Ideal) X0 X1 X2 X3 X4 X5 X6 X7 (ix3 0 d r) = A.wi b (T r) d := by
  have e : out0_17 (F := Ideal) X0 X1 X2 X3 X4 X5 X6 X7 = k0_pay4 (F := Ideal) (k0_pay17 (F := Ideal) (k0_pay22 (F := Ideal) X0 X1 X2 X3 X4 X5 X6 X7)) := by
    unfold out0_17
    exact View.canon_unit_zero off3 _ _
  rw [e, pay4_apply, zwi_eq H]

end Cert.InprojIdeal.Block

end
-- ==== Proof.InprojHost.lean ====
/-
What the argument blocks of a grid point of the input projection hold: rows of the layer's arrays.  The host's reshapes,
the padded transposed matrix and the rotation tables built before the launch are read through.
-/
module

public import proofs.«01_k».proof.Proof.InprojBlock
public import Idealize.ShloMosaic.Lib.StableHlo.ReadAt
public import Idealize.ShloMosaic.Lib.Claim

@[expose] public section

set_option maxRecDepth 16384

noncomputable section

namespace Cert.InprojIdeal.Block

open Cert.InprojIdeal Cert.InprojIdeal.Gen
open Idealize.ShloMosaic Idealize.ShloMosaic.TcCoe Idealize.SL.Sem
open Cert.InprojSpec
open Cert.PostSpec (one)

variable (m : (ℓ : Loc nD τ sig) → Buf (Elt Ideal) ℓ)

/-- The layer's arrays, read off the launch's memory. -/
abbrev argsAt (c : Dev nD) : Args :=
  argsOf (m (c, main_arg0)) (m (c, main_arg1)) (m (c, main_arg2)) (m (c, main_arg3)) (m (c, main_arg4))

/-- The scale vectors with their unit axis. -/
theorem V_v0 (c : Dev nD) (b : Fin 8) (d : Fin 1024) :
    V m c main_v0 (ix3 b 0 d) = m (c, main_arg1) (ix2 b d) := by
  unfold V
  after_reads_at

/-- The shift vectors with their unit axis. -/
theorem V_v1 (c : Dev nD) (b : Fin 8) (d : Fin 1024) :
    V m c main_v1 (ix3 b 0 d) = m (c, main_arg2) (ix2 b d) := by
  unfold V
  after_reads_at

/-- The rows of all batches, one after the other. -/
theorem V_v2 (c : Dev nD) (r : Fin 16384) (d : Fin 1024) :
    V m c main_v2 (ix2 r d) = m (c, main_arg0) (ix3 (⟨r.val / 2048, by omega⟩ : Fin 8) (⟨r.val % 2048, by omega⟩ : Fin 2048) d) := by
  unfold V
  after_reads_at

/-- The gain as one row. -/
theorem V_v3 (c : Dev nD) (d : Fin 1024) :
    V m c main_v3 (ix2 0 d) = m (c, main_arg3) (ix1 d) := by
  unfold V
  after_reads_at

/-- The padded matrix before its padding. -/
theorem V_v10 (c : Dev nD) (n : ℕ) (hn : n < 2080) (k : Fin 1024) :
    V m c main_v10 (ix2 (⟨n, by omega⟩ : Fin 2304) k) = m (c, main_arg4) (ix2 k (⟨n, by omega⟩ : Fin 2088)) := by
  unfold V
  after_reads_at
  rw [dif_pos hn]
  after_reads_at

/-- The padded matrix in the rows of the index weights. -/
theorem V_v10_wi (c : Dev nD) (f : Fin 8) (k : Fin 1024) :
    V m c main_v10 (ix2 (⟨2176 + f.val, by omega⟩ : Fin 2304) k) = m (c, main_arg4) (ix2 k (⟨2080 + f.val, by omega⟩ : Fin 2088)) := by
  unfold V
  after_reads_at
  rw [dif_neg (by omega), dif_neg (by omega), dif_pos (by omega)]
  after_reads_at
  exact congrArg (fun e => m (c, main_arg4) (ix2 k e)) (Fin.ext (by show 2080 + (2176 + f.val - 2080 - 96) = 2080 + f.val; omega))

/-- The cosine of an angle, in the order the host takes it. -/
theorem cos_form (t : Fin 2048) (n : ℕ) (i : Fin 8) (h : i.val = n) :
    Ideal.cos (FloatOps.sitofp (F := Ideal) FTy.f32 (BitVec.ofNat 32 t.val) * Ideal.div 1
      (Ideal.pow (Ideal.ofBits FTy.f32 0x48F42400#32) (Ideal.div (Ideal.ofBits FTy.f32 0x40000000#32
        * FloatOps.sitofp (F := Ideal) FTy.f32 (BitVec.ofNat 32 n)) (Ideal.ofBits FTy.f32 0x41800000#32)))) = cosT t i := by
  subst h
  unfold cosT angle rate zero one
  rw [Ideal.ofBits_zero_f32, Ideal.ofBits_one_f32, zero_add]
  rfl

/-- The sine of an angle, in the order the host takes it. -/
theorem sin_form (t : Fin 2048) (n : ℕ) (i : Fin 8) (h : i.val = n) :
    Ideal.sin (FloatOps.sitofp (F := Ideal) FTy.f32 (BitVec.ofNat 32 t.val) * Ideal.div 1
      (Ideal.pow (Ideal.ofBits FTy.f32 0x48F42400#32) (Ideal.div (Ideal.ofBits FTy.f32 0x40000000#32
        * FloatOps.sitofp (F := Ideal) FTy.f32 (BitVec.ofNat 32 n)) (Ideal.ofBits FTy.f32 0x41800000#32)))) = sinT t i := by
  subst h
  unfold sinT angle rate zero one
  rw [Ideal.ofBits_zero_f32, Ideal.ofBits_one_f32, zero_add]
  rfl

/-- The cosine table. -/
theorem V_v38 (c : Dev nD) (t : Fin 2048) (d : Fin 128) :
    V m c main_v38 (ix2 t d) = tabC (cosT t) d := by
  unfold V
  after_reads_at
  unfold tabC
  split
  · split
    · after_reads_at
      rw [dif_pos (by omega)]
      exact cos_form t _ _ (by dsimp only; omega)
    · split
      · after_reads_at
        rw [dif_neg (by omega), dif_pos (by omega)]
        exact cos_form t _ _ (by dsimp only; omega)
      · after_reads_at
        rw [dif_neg (by omega), dif_neg (by omega)]
  · split
    · after_reads_at
      rw [dif_pos (by omega)]
      exact cos_form t _ _ (by dsimp only; omega)
    · split
      · after_reads_at
        rw [dif_neg (by omega), dif_pos (by omega)]
        exact cos_form t _ _ (by dsimp only; omega)
      · after_reads_at
        rw [dif_neg (by omega), dif_neg (by omega)]

/-- The sine table. -/
theorem V_v39 (c : Dev nD) (t : Fin 2048) (d : Fin 128) :
    V m c main_v39 (ix2 t d) = tabA (sinT t) d := by
  unfold V
  after_reads_at
  unfold tabA
  split
  · split
    · after_reads_at
      rw [dif_pos (by omega)]
    · split
      · after_reads_at
        rw [dif_neg (by omega), dif_pos (by omega)]
        exact sin_form t _ _ (by dsimp only; omega)
      · after_reads_at
        rw [dif_neg (by omega), dif_neg (by omega)]
  · split
    · after_reads_at
      rw [dif_pos (by omega)]
    · split
      · after_reads_at
        rw [dif_neg (by omega), dif_pos (by omega)]
        exact sin_form t _ _ (by dsimp only; omega)
      · after_reads_at
        rw [dif_neg (by omega), dif_neg (by omega)]

/-- The negated sine table. -/
theorem V_v40 (c : Dev nD) (t : Fin 2048) (d : Fin 128) :
    V m c main_v40 (ix2 t d) = tabB (sinT t) d := by
  unfold V
  after_reads_at
  unfold tabB
  split
  · split
    · after_reads_at
      rw [dif_pos (by omega)]
      exact congrArg Neg.neg (sin_form t _ _ (by dsimp only; omega))
    · split
      · after_reads_at
        rw [dif_neg (by omega)]
      · after_reads_at
        rw [dif_neg (by omega)]
  · split
    · after_reads_at
      rw [dif_pos (by omega)]
      exact congrArg Neg.neg (sin_form t _ _ (by dsimp only; omega))
    · split
      · after_reads_at
        rw [dif_neg (by omega)]
      · after_reads_at
        rw [dif_neg (by omega)]

end Cert.InprojIdeal.Block

end
-- ==== Proof.InprojArray.lean ====
/-
What the result arrays of the input projection hold: the layer's projections of every row, each array read back through
the blocks the grid points leave.
-/
module

public import proofs.«01_k».proof.Proof.Gen.InprojIdeal.Value
public import proofs.«01_k».proof.Proof.InprojHost

@[expose] public section

set_option maxRecDepth 16384

noncomputable section

namespace Cert.InprojIdeal.Block

open Cert.InprojIdeal Cert.InprojIdeal.Gen Cert.InprojIdeal.Value
open Idealize.ShloMosaic Idealize.ShloMosaic.TcCoe Idealize.SL.Sem
open Cert.InprojSpec

variable (m : (ℓ : Loc nD τ sig) → Buf (Elt Ideal) ℓ)

/-- The batch of a grid point. -/
abbrev batch (t : Fin cfg0.N) : Fin 8 := ⟨t.val / 2, by have := t.isLt; have hN : cfg0.N = 16 := N_0; omega⟩
/-- The position of row `r` of a grid point's tile. -/
abbrev pos (t : Fin cfg0.N) (r : Fin 1024) : Fin 2048 := ⟨1024 * (t.val % 2) + r.val, by omega⟩

/-- Where the blocks of window 0 lie. -/
theorem at0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 0's block at an index. -/
theorem blk0 (c : Dev nD) (t : Fin cfg0.N) (i : Fin 1024) (j : Fin 1024) :
    iblk m c 0 t (ix2 i j) = V m c main_v2 (ix2 (⟨1024 * (t.val) + i.val, by have := t.isLt; have hN : cfg0.N = 16 := N_0; omega⟩ : Fin 16384) j) := by
  obtain ⟨h0, h1⟩ := at0 t
  have hN : t.val < 16 := t.isLt
  show ((cfg0.win 0).blk t).view.read (Elt Ideal) (V m c (Pipeline.arrRef spec0 0)) _ = _
  rw [View.read_apply]
  refine congrArg (V m c main_v2) (funext fun a => Fin.ext ?_)
  exact (match a with
    | ⟨0, _⟩ => (by show win0_0.index t 0 * 1024 + 1 * i.val = 1024 * (t.val) + i.val; rw [h0]; omega)
    | ⟨1, _⟩ => (by show win0_0.index t 1 * 1024 + 1 * j.val = j.val; rw [h1]; omega)
    )

/-- Where the blocks of window 1 lie. -/
theorem at1 : ∀ t : Fin cfg0.N, win0_1.index t (0 : Fin 3) = t.val / 2 ∧ win0_1.index t (1 : Fin 3) = 0 ∧ win0_1.index t (2 : Fin 3) = 0 :=
  (by decide +kernel : ∀ t : Fin grid0.N, win0_1.index t (0 : Fin 3) = t.val / 2 ∧ win0_1.index t (1 : Fin 3) = 0 ∧ win0_1.index t (2 : Fin 3) = 0)

/-- Window 1's block at an index. -/
theorem blk1 (c : Dev nD) (t : Fin cfg0.N) (i : Fin 1) (j : Fin 1) (k : Fin 1024) :
    iblk m c 1 t (ix3 i j k) = V m c main_v0 (ix3 (⟨1 * (t.val / 2) + i.val, by have := t.isLt; have hN : cfg0.N = 16 := N_0; omega⟩ : Fin 8) j k) := by
  obtain ⟨h0, h1, h2⟩ := at1 t
  have hN : t.val < 16 := t.isLt
  show ((cfg0.win 1).blk t).view.read (Elt Ideal) (V m c (Pipeline.arrRef spec0 1)) _ = _
  rw [View.read_apply]
  refine congrArg (V m c main_v0) (funext fun a => Fin.ext ?_)
  exact (match a with
    | ⟨0, _⟩ => (by show win0_1.index t 0 * 1 + 1 * i.val = 1 * (t.val / 2) + i.val; rw [h0]; omega)
    | ⟨1, _⟩ => (by show win0_1.index t 1 * 1 + 1 * j.val = j.val; rw [h1]; omega)
    | ⟨2, _⟩ => (by show win0_1.index t 2 * 1024 + 1 * k.val = k.val; rw [h2]; omega)
    )

/-- Where the blocks of window 2 lie. -/
theorem at2 : ∀ t : Fin cfg0.N, win0_2.index t (0 : Fin 3) = t.val / 2 ∧ win0_2.index t (1 : Fin 3) = 0 ∧ win0_2.index t (2 : Fin 3) = 0 :=
  (by decide +kernel : ∀ t : Fin grid0.N, win0_2.index t (0 : Fin 3) = t.val / 2 ∧ win0_2.index t (1 : Fin 3) = 0 ∧ win0_2.index t (2 : Fin 3) = 0)

/-- Window 2's block at an index. -/
theorem blk2 (c : Dev nD) (t : Fin cfg0.N) (i : Fin 1) (j : Fin 1) (k : Fin 1024) :
    iblk m c 2 t (ix3 i j k) = V m c main_v1 (ix3 (⟨1 * (t.val / 2) + i.val, by have := t.isLt; have hN : cfg0.N = 16 := N_0; omega⟩ : Fin 8) j k) := by
  obtain ⟨h0, h1, h2⟩ := at2 t
  have hN : t.val < 16 := t.isLt
  show ((cfg0.win 2).blk t).view.read (Elt Ideal) (V m c (Pipeline.arrRef spec0 2)) _ = _
  rw [View.read_apply]
  refine congrArg (V m c main_v1) (funext fun a => Fin.ext ?_)
  exact (match a with
    | ⟨0, _⟩ => (by show win0_2.index t 0 * 1 + 1 * i.val = 1 * (t.val / 2) + i.val; rw [h0]; omega)
    | ⟨1, _⟩ => (by show win0_2.index t 1 * 1 + 1 * j.val = j.val; rw [h1]; omega)
    | ⟨2, _⟩ => (by show win0_2.index t 2 * 1024 + 1 * k.val = k.val; rw [h2]; omega)
    )

/-- Where the blocks of window 3 lie. -/
theorem at3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's block at an index. -/
theorem blk3 (c : Dev nD) (t : Fin cfg0.N) (i : Fin 1) (j : Fin 1024) :
    iblk m c 3 t (ix2 i j) = V m c main_v3 (ix2 i j) := by
  obtain ⟨h0, h1⟩ := at3 t
  have hN : t.val < 16 := t.isLt
  show ((cfg0.win 3).blk t).view.read (Elt Ideal) (V m c (Pipeline.arrRef spec0 3)) _ = _
  rw [View.read_apply]
  refine congrArg (V m c main_v3) (funext fun a => Fin.ext ?_)
  exact (match a with
    | ⟨0, _⟩ => (by show win0_3.index t 0 * 1 + 1 * i.val = i.val; rw [h0]; omega)
    | ⟨1, _⟩ => (by show win0_3.index t 1 * 1024 + 1 * j.val = j.val; rw [h1]; omega)
    )

/-- Where the blocks of window 4 lie. -/
theorem at4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's block at an index. -/
theorem blk4 (c : Dev nD) (t : Fin cfg0.N) (i : Fin 2304) (j : Fin 1024) :
    iblk m c 4 t (ix2 i j) = V m c main_v10 (ix2 i j) := by
  obtain ⟨h0, h1⟩ := at4 t
  have hN : t.val < 16 := t.isLt
  show ((cfg0.win 4).blk t).view.read (Elt Ideal) (V m c (Pipeline.arrRef spec0 4)) _ = _
  rw [View.read_apply]
  refine congrArg (V m c main_v10) (funext fun a => Fin.ext ?_)
  exact (match a with
    | ⟨0, _⟩ => (by show win0_4.index t 0 * 2304 + 1 * i.val = i.val; rw [h0]; omega)
    | ⟨1, _⟩ => (by show win0_4.index t 1 * 1024 + 1 * j.val = j.val; rw [h1]; omega)
    )

/-- Where the blocks of window 5 lie. -/
theorem at5 : ∀ t : Fin cfg0.N, win0_5.index t (0 : Fin 2) = t.val % 2 ∧ win0_5.index t (1 : Fin 2) = 0 :=
  (by decide +kernel : ∀ t : Fin grid0.N, win0_5.index t (0 : Fin 2) = t.val % 2 ∧ win0_5.index t (1 : Fin 2) = 0)

/-- Window 5's block at an index. -/
theorem blk5 (c : Dev nD) (t : Fin cfg0.N) (i : Fin 1024) (j : Fin 128) :
    iblk m c 5 t (ix2 i j) = V m c main_v38 (ix2 (⟨1024 * (t.val % 2) + i.val, by have := t.isLt; have hN : cfg0.N = 16 := N_0; omega⟩ : Fin 2048) j) := by
  obtain ⟨h0, h1⟩ := at5 t
  have hN : t.val < 16 := t.isLt
  show ((cfg0.win 5).blk t).view.read (Elt Ideal) (V m c (Pipeline.arrRef spec0 5)) _ = _
  rw [View.read_apply]
  refine congrArg (V m c main_v38) (funext fun a => Fin.ext ?_)
  exact (match a with
    | ⟨0, _⟩ => (by show win0_5.index t 0 * 1024 + 1 * i.val = 1024 * (t.val % 2) + i.val; rw [h0]; omega)
    | ⟨1, _⟩ => (by show win0_5.index t 1 * 128 + 1 * j.val = j.val; rw [h1]; omega)
    )

/-- Where the blocks of window 6 lie. -/
theorem at6 : ∀ t : Fin cfg0.N, win0_6.index t (0 : Fin 2) = t.val % 2 ∧ win0_6.index t (1 : Fin 2) = 0 :=
  (by decide +kernel : ∀ t : Fin grid0.N, win0_6.index t (0 : Fin 2) = t.val % 2 ∧ win0_6.index t (1 : Fin 2) = 0)

/-- Window 6's block at an index. -/
theorem blk6 (c : Dev nD) (t : Fin cfg0.N) (i : Fin 1024) (j : Fin 128) :
    iblk m c 6 t (ix2 i j) = V m c main_v39 (ix2 (⟨1024 * (t.val % 2) + i.val, by have := t.isLt; have hN : cfg0.N = 16 := N_0; omega⟩ : Fin 2048) j) := by
  obtain ⟨h0, h1⟩ := at6 t
  have hN : t.val < 16 := t.isLt
  show ((cfg0.win 6).blk t).view.read (Elt Ideal) (V m c (Pipeline.arrRef spec0 6)) _ = _
  rw [View.read_apply]
  refine congrArg (V m c main_v39) (funext fun a => Fin.ext ?_)
  exact (match a with
    | ⟨0, _⟩ => (by show win0_6.index t 0 * 1024 + 1 * i.val = 1024 * (t.val % 2) + i.val; rw [h0]; omega)
    | ⟨1, _⟩ => (by show win0_6.index t 1 * 128 + 1 * j.val = j.val; rw [h1]; omega)
    )

/-- Where the blocks of window 7 lie. -/
theorem at7 : ∀ t : Fin cfg0.N, win0_7.index t (0 : Fin 2) = t.val % 2 ∧ win0_7.index t (1 : Fin 2) = 0 :=
  (by decide +kernel : ∀ t : Fin grid0.N, win0_7.index t (0 : Fin 2) = t.val % 2 ∧ win0_7.index t (1 : Fin 2) = 0)

/-- Window 7's block at an index. -/
theorem blk7 (c : Dev nD) (t : Fin cfg0.N) (i : Fin 1024) (j : Fin 128) :
    iblk m c 7 t (ix2 i j) = V m c main_v40 (ix2 (⟨1024 * (t.val % 2) + i.val, by have := t.isLt; have hN : cfg0.N = 16 := N_0; omega⟩ : Fin 2048) j) := by
  obtain ⟨h0, h1⟩ := at7 t
  have hN : t.val < 16 := t.isLt
  show ((cfg0.win 7).blk t).view.read (Elt Ideal) (V m c (Pipeline.arrRef spec0 7)) _ = _
  rw [View.read_apply]
  refine congrArg (V m c main_v40) (funext fun a => Fin.ext ?_)
  exact (match a with
    | ⟨0, _⟩ => (by show win0_7.index t 0 * 1024 + 1 * i.val = 1024 * (t.val % 2) + i.val; rw [h0]; omega)
    | ⟨1, _⟩ => (by show win0_7.index t 1 * 128 + 1 * j.val = j.val; rw [h1]; omega)
    )

/-- The blocks of a grid point hold the rows of its tile. -/
theorem holds (c : Dev nD) (t : Fin cfg0.N) :
    Holds (argsAt m c) (batch t) (pos t) (iblk m c 0 t) (iblk m c 1 t) (iblk m c 2 t) (iblk m c 3 t) (iblk m c 4 t)
      (iblk m c 5 t) (iblk m c 6 t) (iblk m c 7 t) where
  x := fun r k => by
    rw [blk0, V_v2]
    refine congrArg (m (c, main_arg0)) (funext fun a => Fin.ext ?_)
    exact (match a with
      | ⟨0, _⟩ => (by show (1024 * t.val + r.val) / 2048 = t.val / 2; omega)
      | ⟨1, _⟩ => (by show (1024 * t.val + r.val) % 2048 = 1024 * (t.val % 2) + r.val; omega)
      | ⟨2, _⟩ => rfl)
  sc := fun k => by
    rw [blk1]
    refine (congrArg (fun b : Fin 8 => V m c main_v0 (ix3 b 0 k)) (Fin.ext ?_)).trans (V_v0 m c (batch t) k)
    show 1 * (t.val / 2) + 0 = t.val / 2
    omega
  sh := fun k => by
    rw [blk2]
    refine (congrArg (fun b : Fin 8 => V m c main_v1 (ix3 b 0 k)) (Fin.ext ?_)).trans (V_v1 m c (batch t) k)
    show 1 * (t.val / 2) + 0 = t.val / 2
    omega
  g := fun k => (blk3 m c t 0 k).trans (V_v3 m c k)
  w := fun n hn k => (blk4 m c t _ k).trans (V_v10 m c n hn k)
  wi := fun f k => (blk4 m c t _ k).trans (V_v10_wi m c f k)
  tc := fun r d => (blk5 m c t r d).trans (V_v38 m c (pos t r) d)
  ta := fun r d => (blk6 m c t r d).trans (V_v39 m c (pos t r) d)
  tb := fun r d => (blk7 m c t r d).trans (V_v40 m c (pos t r) d)

/-- Where the blocks of window 8 lie. -/
theorem at8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Every grid point writes window 8 back. -/
theorem flush8 : ∀ t : Fin cfg0.N, (cfg0.win 8).flush t = true :=
  (by decide +kernel : ∀ t : Fin grid0.N, win0_8.flush t = true)

/-- The array of the gated pair, by row. -/
theorem arr8 (c : Dev nD) (r : Fin 16384) (f : Fin 512) :
    (dats m 0 c).arrAt 8 cfg0.N (ix2 r f)
      = Args.glu (argsAt m c) ⟨r.val / 2048, by omega⟩ ⟨r.val % 2048, by omega⟩ f := by
  have hN : cfg0.N = 16 := N_0
  obtain ⟨t, ht⟩ : ∃ t : Fin cfg0.N, t.val = r.val / 1024 := ⟨⟨r.val / 1024, by omega⟩, rfl⟩
  obtain ⟨h0, h1⟩ := at8 t
  have e := congrFun ((blocks8 m c t (flush8 t)).trans (flushed8 m c t)) (ix2 (⟨r.val % 1024, by omega⟩ : Fin 1024) f)
  rw [View.read_apply] at e
  have hi : ((cfg0.win 8).blk t).view.emb (ix2 (⟨r.val % 1024, by omega⟩ : Fin 1024) f) = ix2 r f := funext fun a => Fin.ext (by
    exact (match a with
    | ⟨0, _⟩ => (by show win0_8.index t 0 * 1024 + 1 * (r.val % 1024) = r.val; rw [h0]; omega)
    | ⟨1, _⟩ => (by show win0_8.index t 1 * 512 + 1 * f.val = f.val; rw [h1]; omega)))
  rw [hi] at e
  refine e.trans ((out8_at (holds m c t) (⟨r.val % 1024, by omega⟩ : Fin 1024) f).trans ?_)
  refine congrArg₂ (fun b s => Args.glu (argsAt m c) b s f) (Fin.ext ?_) (Fin.ext ?_)
  · show t.val / 2 = r.val / 2048
    omega
  · show 1024 * (t.val % 2) + r.val % 1024 = r.val % 2048
    omega

/-- Where the blocks of window 9 lie. -/
theorem at9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Every grid point writes window 9 back. -/
theorem flush9 : ∀ t : Fin cfg0.N, (cfg0.win 9).flush t = true :=
  (by decide +kernel : ∀ t : Fin grid0.N, win0_9.flush t = true)

/-- The array of the queries, by row. -/
theorem arr9 (c : Dev nD) (r : Fin 16384) (f : Fin 512) :
    (dats m 0 c).arrAt 9 cfg0.N (ix2 r f)
      = Args.q (argsAt m c) ⟨r.val / 2048, by omega⟩ ⟨r.val % 2048, by omega⟩ f := by
  have hN : cfg0.N = 16 := N_0
  obtain ⟨t, ht⟩ : ∃ t : Fin cfg0.N, t.val = r.val / 1024 := ⟨⟨r.val / 1024, by omega⟩, rfl⟩
  obtain ⟨h0, h1⟩ := at9 t
  have e := congrFun ((blocks9 m c t (flush9 t)).trans (flushed9 m c t)) (ix2 (⟨r.val % 1024, by omega⟩ : Fin 1024) f)
  rw [View.read_apply] at e
  have hi : ((cfg0.win 9).blk t).view.emb (ix2 (⟨r.val % 1024, by omega⟩ : Fin 1024) f) = ix2 r f := funext fun a => Fin.ext (by
    exact (match a with
    | ⟨0, _⟩ => (by show win0_9.index t 0 * 1024 + 1 * (r.val % 1024) = r.val; rw [h0]; omega)
    | ⟨1, _⟩ => (by show win0_9.index t 1 * 512 + 1 * f.val = f.val; rw [h1]; omega)))
  rw [hi] at e
  refine e.trans ((out9_at (holds m c t) (⟨r.val % 1024, by omega⟩ : Fin 1024) f).trans ?_)
  refine congrArg₂ (fun b s => Args.q (argsAt m c) b s f) (Fin.ext ?_) (Fin.ext ?_)
  · show t.val / 2 = r.val / 2048
    omega
  · show 1024 * (t.val % 2) + r.val % 1024 = r.val % 2048
    omega

/-- Where the blocks of window 10 lie. -/
theorem at10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

/-- Every grid point writes window 10 back. -/
theorem flush10 : ∀ t : Fin cfg0.N, (cfg0.win 10).flush t = true :=
  (by decide +kernel : ∀ t : Fin grid0.N, win0_10.flush t = true)

/-- The array of the index queries, by row. -/
theorem arr10 (c : Dev nD) (r : Fin 16384) (f : Fin 256) :
    (dats m 0 c).arrAt 10 cfg0.N (ix2 r f)
      = Args.qi (argsAt m c) ⟨r.val / 2048, by omega⟩ ⟨r.val % 2048, by omega⟩ f := by
  have hN : cfg0.N = 16 := N_0
  obtain ⟨t, ht⟩ : ∃ t : Fin cfg0.N, t.val = r.val / 1024 := ⟨⟨r.val / 1024, by omega⟩, rfl⟩
  obtain ⟨h0, h1⟩ := at10 t
  have e := congrFun ((blocks10 m c t (flush10 t)).trans (flushed10 m c t)) (ix2 (⟨r.val % 1024, by omega⟩ : Fin 1024) f)
  rw [View.read_apply] at e
  have hi : ((cfg0.win 10).blk t).view.emb (ix2 (⟨r.val % 1024, by omega⟩ : Fin 1024) f) = ix2 r f := funext fun a => Fin.ext (by
    exact (match a with
    | ⟨0, _⟩ => (by show win0_10.index t 0 * 1024 + 1 * (r.val % 1024) = r.val; rw [h0]; omega)
    | ⟨1, _⟩ => (by show win0_10.index t 1 * 256 + 1 * f.val = f.val; rw [h1]; omega)))
  rw [hi] at e
  refine e.trans ((out10_at (holds m c t) (⟨r.val % 1024, by omega⟩ : Fin 1024) f).trans ?_)
  refine congrArg₂ (fun b s => Args.qi (argsAt m c) b s f) (Fin.ext ?_) (Fin.ext ?_)
  · show t.val / 2 = r.val / 2048
    omega
  · show 1024 * (t.val % 2) + r.val % 1024 = r.val % 2048
    omega

/-- Where the blocks of window 11 lie. -/
theorem at11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-- Every grid point writes window 11 back. -/
theorem flush11 : ∀ t : Fin cfg0.N, (cfg0.win 11).flush t = true :=
  (by decide +kernel : ∀ t : Fin grid0.N, win0_11.flush t = true)

/-- The array of the keys, by row. -/
theorem arr11 (c : Dev nD) (r : Fin 16384) (f : Fin 128) :
    (dats m 0 c).arrAt 11 cfg0.N (ix2 r f)
      = Args.k (argsAt m c) ⟨r.val / 2048, by omega⟩ ⟨r.val % 2048, by omega⟩ f := by
  have hN : cfg0.N = 16 := N_0
  obtain ⟨t, ht⟩ : ∃ t : Fin cfg0.N, t.val = r.val / 1024 := ⟨⟨r.val / 1024, by omega⟩, rfl⟩
  obtain ⟨h0, h1⟩ := at11 t
  have e := congrFun ((blocks11 m c t (flush11 t)).trans (flushed11 m c t)) (ix2 (⟨r.val % 1024, by omega⟩ : Fin 1024) f)
  rw [View.read_apply] at e
  have hi : ((cfg0.win 11).blk t).view.emb (ix2 (⟨r.val % 1024, by omega⟩ : Fin 1024) f) = ix2 r f := funext fun a => Fin.ext (by
    exact (match a with
    | ⟨0, _⟩ => (by show win0_11.index t 0 * 1024 + 1 * (r.val % 1024) = r.val; rw [h0]; omega)
    | ⟨1, _⟩ => (by show win0_11.index t 1 * 128 + 1 * f.val = f.val; rw [h1]; omega)))
  rw [hi] at e
  refine e.trans ((out11_at (holds m c t) (⟨r.val % 1024, by omega⟩ : Fin 1024) f).trans ?_)
  refine congrArg₂ (fun b s => Args.k (argsAt m c) b s f) (Fin.ext ?_) (Fin.ext ?_)
  · show t.val / 2 = r.val / 2048
    omega
  · show 1024 * (t.val % 2) + r.val % 1024 = r.val % 2048
    omega

/-- Where the blocks of window 12 lie. -/
theorem at12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Every grid point writes window 12 back. -/
theorem flush12 : ∀ t : Fin cfg0.N, (cfg0.win 12).flush t = true :=
  (by decide +kernel : ∀ t : Fin grid0.N, win0_12.flush t = true)

/-- The array of the index keys, by row. -/
theorem arr12 (c : Dev nD) (r : Fin 16384) (f : Fin 32) :
    (dats m 0 c).arrAt 12 cfg0.N (ix2 r f)
      = Args.ki (argsAt m c) ⟨r.val / 2048, by omega⟩ ⟨r.val % 2048, by omega⟩ f := by
  have hN : cfg0.N = 16 := N_0
  obtain ⟨t, ht⟩ : ∃ t : Fin cfg0.N, t.val = r.val / 1024 := ⟨⟨r.val / 1024, by omega⟩, rfl⟩
  obtain ⟨h0, h1⟩ := at12 t
  have e := congrFun ((blocks12 m c t (flush12 t)).trans (flushed12 m c t)) (ix2 (⟨r.val % 1024, by omega⟩ : Fin 1024) f)
  rw [View.read_apply] at e
  have hi : ((cfg0.win 12).blk t).view.emb (ix2 (⟨r.val % 1024, by omega⟩ : Fin 1024) f) = ix2 r f := funext fun a => Fin.ext (by
    exact (match a with
    | ⟨0, _⟩ => (by show win0_12.index t 0 * 1024 + 1 * (r.val % 1024) = r.val; rw [h0]; omega)
    | ⟨1, _⟩ => (by show win0_12.index t 1 * 32 + 1 * f.val = f.val; rw [h1]; omega)))
  rw [hi] at e
  refine e.trans ((out12_at (holds m c t) (⟨r.val % 1024, by omega⟩ : Fin 1024) f).trans ?_)
  refine congrArg₂ (fun b s => Args.ki (argsAt m c) b s f) (Fin.ext ?_) (Fin.ext ?_)
  · show t.val / 2 = r.val / 2048
    omega
  · show 1024 * (t.val % 2) + r.val % 1024 = r.val % 2048
    omega

/-- Where the blocks of window 13 lie. -/
theorem at13 : ∀ t : Fin cfg0.N, win0_13.index t (0 : Fin 3) = t.val / 2 ∧ win0_13.index t (1 : Fin 3) = 0 ∧ win0_13.index t (2 : Fin 3) = t.val % 2 :=
  (by decide +kernel : ∀ t : Fin grid0.N, win0_13.index t (0 : Fin 3) = t.val / 2 ∧ win0_13.index t (1 : Fin 3) = 0 ∧ win0_13.index t (2 : Fin 3) = t.val % 2)

/-- Every grid point writes window 13 back. -/
theorem flush13 : ∀ t : Fin cfg0.N, (cfg0.win 13).flush t = true :=
  (by decide +kernel : ∀ t : Fin grid0.N, win0_13.flush t = true)

/-- The array of the keys, transposed. -/
theorem arr13 (c : Dev nD) (b : Fin 8) (f : Fin 128) (s : Fin 2048) :
    (dats m 0 c).arrAt 13 cfg0.N (ix3 b f s) = Args.k (argsAt m c) b s f := by
  have hN : cfg0.N = 16 := N_0
  obtain ⟨t, ht⟩ : ∃ t : Fin cfg0.N, t.val = 2 * b.val + s.val / 1024 := ⟨⟨2 * b.val + s.val / 1024, by omega⟩, rfl⟩
  obtain ⟨h0, h1, h2⟩ := at13 t
  have e := congrFun ((blocks13 m c t (flush13 t)).trans (flushed13 m c t)) (ix3 0 f (⟨s.val % 1024, by omega⟩ : Fin 1024))
  rw [View.read_apply] at e
  have hi : ((cfg0.win 13).blk t).view.emb (ix3 0 f (⟨s.val % 1024, by omega⟩ : Fin 1024)) = ix3 b f s := funext fun a => Fin.ext (by
    exact (match a with
    | ⟨0, _⟩ => (by show win0_13.index t 0 * 1 + 1 * 0 = b.val; rw [h0]; omega)
    | ⟨1, _⟩ => (by show win0_13.index t 1 * 128 + 1 * f.val = f.val; rw [h1]; omega)
    | ⟨2, _⟩ => (by show win0_13.index t 2 * 1024 + 1 * (s.val % 1024) = s.val; rw [h2]; omega)))
  rw [hi] at e
  refine e.trans ((out13_at (holds m c t) f (⟨s.val % 1024, by omega⟩ : Fin 1024)).trans ?_)
  refine congrArg₂ (fun b s => Args.k (argsAt m c) b s f) (Fin.ext ?_) (Fin.ext ?_)
  · show t.val / 2 = b.val
    omega
  · show 1024 * (t.val % 2) + s.val % 1024 = s.val
    omega

/-- Where the blocks of window 14 lie. -/
theorem at14 : ∀ t : Fin cfg0.N, win0_14.index t (0 : Fin 3) = t.val / 2 ∧ win0_14.index t (1 : Fin 3) = 0 ∧ win0_14.index t (2 : Fin 3) = t.val % 2 :=
  (by decide +kernel : ∀ t : Fin grid0.N, win0_14.index t (0 : Fin 3) = t.val / 2 ∧ win0_14.index t (1 : Fin 3) = 0 ∧ win0_14.index t (2 : Fin 3) = t.val % 2)

/-- Every grid point writes window 14 back. -/
theorem flush14 : ∀ t : Fin cfg0.N, (cfg0.win 14).flush t = true :=
  (by decide +kernel : ∀ t : Fin grid0.N, win0_14.flush t = true)

/-- The array of the values, transposed. -/
theorem arr14 (c : Dev nD) (b : Fin 8) (f : Fin 128) (s : Fin 2048) :
    (dats m 0 c).arrAt 14 cfg0.N (ix3 b f s) = Args.v (argsAt m c) b s f := by
  have hN : cfg0.N = 16 := N_0
  obtain ⟨t, ht⟩ : ∃ t : Fin cfg0.N, t.val = 2 * b.val + s.val / 1024 := ⟨⟨2 * b.val + s.val / 1024, by omega⟩, rfl⟩
  obtain ⟨h0, h1, h2⟩ := at14 t
  have e := congrFun ((blocks14 m c t (flush14 t)).trans (flushed14 m c t)) (ix3 0 f (⟨s.val % 1024, by omega⟩ : Fin 1024))
  rw [View.read_apply] at e
  have hi : ((cfg0.win 14).blk t).view.emb (ix3 0 f (⟨s.val % 1024, by omega⟩ : Fin 1024)) = ix3 b f s := funext fun a => Fin.ext (by
    exact (match a with
    | ⟨0, _⟩ => (by show win0_14.index t 0 * 1 + 1 * 0 = b.val; rw [h0]; omega)
    | ⟨1, _⟩ => (by show win0_14.index t 1 * 128 + 1 * f.val = f.val; rw [h1]; omega)
    | ⟨2, _⟩ => (by show win0_14.index t 2 * 1024 + 1 * (s.val % 1024) = s.val; rw [h2]; omega)))
  rw [hi] at e
  refine e.trans ((out14_at (holds m c t) f (⟨s.val % 1024, by omega⟩ : Fin 1024)).trans ?_)
  refine congrArg₂ (fun b s => Args.v (argsAt m c) b s f) (Fin.ext ?_) (Fin.ext ?_)
  · show t.val / 2 = b.val
    omega
  · show 1024 * (t.val % 2) + s.val % 1024 = s.val
    omega

/-- Where the blocks of window 15 lie. -/
theorem at15 : ∀ t : Fin cfg0.N, win0_15.index t (0 : Fin 3) = t.val / 2 ∧ win0_15.index t (1 : Fin 3) = 0 ∧ win0_15.index t (2 : Fin 3) = t.val % 2 :=
  (by decide +kernel : ∀ t : Fin grid0.N, win0_15.index t (0 : Fin 3) = t.val / 2 ∧ win0_15.index t (1 : Fin 3) = 0 ∧ win0_15.index t (2 : Fin 3) = t.val % 2)

/-- Every grid point writes window 15 back. -/
theorem flush15 : ∀ t : Fin cfg0.N, (cfg0.win 15).flush t = true :=
  (by decide +kernel : ∀ t : Fin grid0.N, win0_15.flush t = true)

/-- The array of the values in the narrow type, transposed. -/
theorem arr15 (c : Dev nD) (b : Fin 8) (f : Fin 128) (s : Fin 2048) :
    (dats m 0 c).arrAt 15 cfg0.N (ix3 b f s) = Args.v (argsAt m c) b s f := by
  have hN : cfg0.N = 16 := N_0
  obtain ⟨t, ht⟩ : ∃ t : Fin cfg0.N, t.val = 2 * b.val + s.val / 1024 := ⟨⟨2 * b.val + s.val / 1024, by omega⟩, rfl⟩
  obtain ⟨h0, h1, h2⟩ := at15 t
  have e := congrFun ((blocks15 m c t (flush15 t)).trans (flushed15 m c t)) (ix3 0 f (⟨s.val % 1024, by omega⟩ : Fin 1024))
  rw [View.read_apply] at e
  have hi : ((cfg0.win 15).blk t).view.emb (ix3 0 f (⟨s.val % 1024, by omega⟩ : Fin 1024)) = ix3 b f s := funext fun a => Fin.ext (by
    exact (match a with
    | ⟨0, _⟩ => (by show win0_15.index t 0 * 1 + 1 * 0 = b.val; rw [h0]; omega)
    | ⟨1, _⟩ => (by show win0_15.index t 1 * 128 + 1 * f.val = f.val; rw [h1]; omega)
    | ⟨2, _⟩ => (by show win0_15.index t 2 * 1024 + 1 * (s.val % 1024) = s.val; rw [h2]; omega)))
  rw [hi] at e
  refine e.trans ((out15_at (holds m c t) f (⟨s.val % 1024, by omega⟩ : Fin 1024)).trans ?_)
  refine congrArg₂ (fun b s => Args.v (argsAt m c) b s f) (Fin.ext ?_) (Fin.ext ?_)
  · show t.val / 2 = b.val
    omega
  · show 1024 * (t.val % 2) + s.val % 1024 = s.val
    omega

/-- Where the blocks of window 16 lie. -/
theorem at16 : ∀ t : Fin cfg0.N, win0_16.index t (0 : Fin 3) = t.val / 2 ∧ win0_16.index t (1 : Fin 3) = 0 ∧ win0_16.index t (2 : Fin 3) = t.val % 2 :=
  (by decide +kernel : ∀ t : Fin grid0.N, win0_16.index t (0 : Fin 3) = t.val / 2 ∧ win0_16.index t (1 : Fin 3) = 0 ∧ win0_16.index t (2 : Fin 3) = t.val % 2)

/-- Every grid point writes window 16 back. -/
theorem flush16 : ∀ t : Fin cfg0.N, (cfg0.win 16).flush t = true :=
  (by decide +kernel : ∀ t : Fin grid0.N, win0_16.flush t = true)

/-- The array of the index keys, transposed. -/
theorem arr16 (c : Dev nD) (b : Fin 8) (f : Fin 32) (s : Fin 2048) :
    (dats m 0 c).arrAt 16 cfg0.N (ix3 b f s) = Args.ki (argsAt m c) b s f := by
  have hN : cfg0.N = 16 := N_0
  obtain ⟨t, ht⟩ : ∃ t : Fin cfg0.N, t.val = 2 * b.val + s.val / 1024 := ⟨⟨2 * b.val + s.val / 1024, by omega⟩, rfl⟩
  obtain ⟨h0, h1, h2⟩ := at16 t
  have e := congrFun ((blocks16 m c t (flush16 t)).trans (flushed16 m c t)) (ix3 0 f (⟨s.val % 1024, by omega⟩ : Fin 1024))
  rw [View.read_apply] at e
  have hi : ((cfg0.win 16).blk t).view.emb (ix3 0 f (⟨s.val % 1024, by omega⟩ : Fin 1024)) = ix3 b f s := funext fun a => Fin.ext (by
    exact (match a with
    | ⟨0, _⟩ => (by show win0_16.index t 0 * 1 + 1 * 0 = b.val; rw [h0]; omega)
    | ⟨1, _⟩ => (by show win0_16.index t 1 * 32 + 1 * f.val = f.val; rw [h1]; omega)
    | ⟨2, _⟩ => (by show win0_16.index t 2 * 1024 + 1 * (s.val % 1024) = s.val; rw [h2]; omega)))
  rw [hi] at e
  refine e.trans ((out16_at (holds m c t) f (⟨s.val % 1024, by omega⟩ : Fin 1024)).trans ?_)
  refine congrArg₂ (fun b s => Args.ki (argsAt m c) b s f) (Fin.ext ?_) (Fin.ext ?_)
  · show t.val / 2 = b.val
    omega
  · show 1024 * (t.val % 2) + s.val % 1024 = s.val
    omega

/-- Where the blocks of window 17 lie. -/
theorem at17 : ∀ t : Fin cfg0.N, win0_17.index t (0 : Fin 3) = t.val / 2 ∧ win0_17.index t (1 : Fin 3) = 0 ∧ win0_17.index t (2 : Fin 3) = t.val % 2 :=
  (by decide +kernel : ∀ t : Fin grid0.N, win0_17.index t (0 : Fin 3) = t.val / 2 ∧ win0_17.index t (1 : Fin 3) = 0 ∧ win0_17.index t (2 : Fin 3) = t.val % 2)

/-- Every grid point writes window 17 back. -/
theorem flush17 : ∀ t : Fin cfg0.N, (cfg0.win 17).flush t = true :=
  (by decide +kernel : ∀ t : Fin grid0.N, win0_17.flush t = true)

/-- The array of the index weights, transposed. -/
theorem arr17 (c : Dev nD) (b : Fin 8) (f : Fin 8) (s : Fin 2048) :
    (dats m 0 c).arrAt 17 cfg0.N (ix3 b f s) = Args.wi (argsAt m c) b s f := by
  have hN : cfg0.N = 16 := N_0
  obtain ⟨t, ht⟩ : ∃ t : Fin cfg0.N, t.val = 2 * b.val + s.val / 1024 := ⟨⟨2 * b.val + s.val / 1024, by omega⟩, rfl⟩
  obtain ⟨h0, h1, h2⟩ := at17 t
  have e := congrFun ((blocks17 m c t (flush17 t)).trans (flushed17 m c t)) (ix3 0 f (⟨s.val % 1024, by omega⟩ : Fin 1024))
  rw [View.read_apply] at e
  have hi : ((cfg0.win 17).blk t).view.emb (ix3 0 f (⟨s.val % 1024, by omega⟩ : Fin 1024)) = ix3 b f s := funext fun a => Fin.ext (by
    exact (match a with
    | ⟨0, _⟩ => (by show win0_17.index t 0 * 1 + 1 * 0 = b.val; rw [h0]; omega)
    | ⟨1, _⟩ => (by show win0_17.index t 1 * 8 + 1 * f.val = f.val; rw [h1]; omega)
    | ⟨2, _⟩ => (by show win0_17.index t 2 * 1024 + 1 * (s.val % 1024) = s.val; rw [h2]; omega)))
  rw [hi] at e
  refine e.trans ((out17_at (holds m c t) f (⟨s.val % 1024, by omega⟩ : Fin 1024)).trans ?_)
  refine congrArg₂ (fun b s => Args.wi (argsAt m c) b s f) (Fin.ext ?_) (Fin.ext ?_)
  · show t.val / 2 = b.val
    omega
  · show 1024 * (t.val % 2) + s.val % 1024 = s.val
    omega

end Cert.InprojIdeal.Block

end
-- ==== Proof.InprojRefValue.lean ====
/-
What the reference of the input projection computes, read at an index: its ten results are the projections InprojSpec
names.
-/
module

public import proofs.«01_k».proof.Proof.Gen.InprojRefIdeal.Read
public import Idealize.ShloMosaic.Lib.Pointwise
public import Idealize.ShloMosaic.Lib.IdealHost
public import proofs.«01_k».proof.Proof.InprojSpec

@[expose] public section

set_option maxRecDepth 16384

noncomputable section

namespace Cert.InprojRefIdeal.RefValue

open Cert.InprojRefIdeal Cert.InprojRefIdeal.Gen Cert.InprojRefIdeal.Read
open Idealize.ShloMosaic Idealize.ShloMosaic.TcCoe Idealize.SL.Sem
open Cert.InprojSpec
open Cert.PostSpec (rms one width eps)

variable (x0 : (⟨S8x2048x1024, .f32⟩ : BufTy).Contents (Elt Ideal)) (x1 x2 : (⟨S8x1024, .f32⟩ : BufTy).Contents (Elt Ideal))
  (x3 : (⟨S1024, .f32⟩ : BufTy).Contents (Elt Ideal)) (x4 : (⟨S1024x2088, .f32⟩ : BufTy).Contents (Elt Ideal))

/-- The reciprocal root of the mean square of a row. -/
theorem rms_eq (b : Fin 8) (t : Fin 2048) (i : S8x2048x1.Idx) (h0 : i 0 = b) (h1 : i 1 = t) :
    val_main_v7 (F := Ideal) x0 i = rms ((argsOf x0 x1 x2 x3 x4).x b t) := by
  rw [val_main_v7_apply, val_main_v6_apply, val_main_v5_apply, val_main_v4_apply, val_main_v3_apply,
    val_main_v2_apply, val_main_v1_apply, val_main_cst_apply, val_main_cst_0_apply, val_main_cst_1_apply]
  show Ideal.rsqrt (Ideal.div (Ideal.ofBits .f32 0x00000000#32 + _) width + eps) = _
  rw [Ideal.ofBits_zero_f32, zero_add]
  unfold rms
  refine congrArg Ideal.rsqrt (congrArg (· + eps) (congrArg (Ideal.div · width) (Finset.sum_congr rfl fun k _ => ?_)))
  have e : idx_main_v1 (idx_main_v2 i) k = ix3 b t k := by
    subst h0 h1
    funext a; match a with | ⟨0, _⟩ => rfl | ⟨1, _⟩ => rfl | ⟨2, _⟩ => rfl
  rw [e, val_main_v0_apply]
  rfl

/-- The modulated norm of a row. -/
theorem h_eq (b : Fin 8) (t : Fin 2048) (k : Fin 1024) :
    val_main_v20 (F := Ideal) x0 x1 x2 x3 (ix3 b t k) = Args.h (argsOf x0 x1 x2 x3 x4) b t k := by
  rw [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_cst_2_apply, rms_eq x0 x1 x2 x3 x4 b t _ rfl rfl]
  unfold Args.h modRow
  refine congrArg₂ (· + ·) (congrArg₂ (· * ·) (congrArg₂ (· * ·) rfl ?_) (congrArg₂ (· + ·) rfl ?_)) ?_
  · exact congrArg x3 (eq_ix1 _)
  · exact congrArg x1 (eq_ix2 _)
  · exact congrArg x2 (eq_ix2 _)

/-- The product with the whole input matrix. -/
theorem z_eq (b : Fin 8) (t : Fin 2048) (f : Fin 2088) :
    val_main_v21 (F := Ideal) x0 x1 x2 x3 x4 (ix3 b t f) = Args.z (argsOf x0 x1 x2 x3 x4) b t f := by
  rw [val_main_v21_apply]
  unfold Args.z
  refine Finset.sum_congr rfl fun k _ => ?_
  rw [← h_eq x0 x1 x2 x3 x4]
  exact congrArg₂ (· * ·) (congrArg _ (eq_ix3 _)) (congrArg x4 (eq_ix2 _))

/-- The values of the gated pair are columns of the product. -/
theorem u_eq (b : Fin 8) (t : Fin 2048) (f : Fin 512) :
    val_main_v22 (F := Ideal) x0 x1 x2 x3 x4 (ix3 b t f) = Args.z (argsOf x0 x1 x2 x3 x4) b t ⟨f.val, by omega⟩ := by
  rw [val_main_v22_apply, ← z_eq]
  exact congrArg _ (funext fun a => Fin.ext (by match a with | ⟨0, _⟩ => rfl | ⟨1, _⟩ => rfl | ⟨2, _⟩ => rfl))

/-- The gates of the gated pair are columns of the product. -/
theorem ug_eq (b : Fin 8) (t : Fin 2048) (f : Fin 512) :
    val_main_v23 (F := Ideal) x0 x1 x2 x3 x4 (ix3 b t f) = Args.z (argsOf x0 x1 x2 x3 x4) b t ⟨512 + f.val, by omega⟩ := by
  rw [val_main_v23_apply, ← z_eq]
  exact congrArg _ (funext fun a => Fin.ext (by match a with | ⟨0, _⟩ => rfl | ⟨1, _⟩ => rfl | ⟨2, _⟩ => rfl))

/-- The queries before the rotation are columns of the product. -/
theorem qraw_eq (b : Fin 8) (t : Fin 2048) (f : Fin 512) :
    val_main_v24 (F := Ideal) x0 x1 x2 x3 x4 (ix3 b t f) = Args.z (argsOf x0 x1 x2 x3 x4) b t ⟨1024 + f.val, by omega⟩ := by
  rw [val_main_v24_apply, ← z_eq]
  exact congrArg _ (funext fun a => Fin.ext (by match a with | ⟨0, _⟩ => rfl | ⟨1, _⟩ => rfl | ⟨2, _⟩ => rfl))

/-- The keys before the rotation are columns of the product. -/
theorem kraw_eq (b : Fin 8) (t : Fin 2048) (f : Fin 128) :
    val_main_v25 (F := Ideal) x0 x1 x2 x3 x4 (ix3 b t f) = Args.z (argsOf x0 x1 x2 x3 x4) b t ⟨1536 + f.val, by omega⟩ := by
  rw [val_main_v25_apply, ← z_eq]
  exact congrArg _ (funext fun a => Fin.ext (by match a with | ⟨0, _⟩ => rfl | ⟨1, _⟩ => rfl | ⟨2, _⟩ => rfl))

/-- The values are columns of the product. -/
theorem v_eq (b : Fin 8) (t : Fin 2048) (f : Fin 128) :
    val_main_v26 (F := Ideal) x0 x1 x2 x3 x4 (ix3 b t f) = Args.z (argsOf x0 x1 x2 x3 x4) b t ⟨1664 + f.val, by omega⟩ := by
  rw [val_main_v26_apply, ← z_eq]
  exact congrArg _ (funext fun a => Fin.ext (by match a with | ⟨0, _⟩ => rfl | ⟨1, _⟩ => rfl | ⟨2, _⟩ => rfl))

/-- The index queries are columns of the product. -/
theorem qi_eq (b : Fin 8) (t : Fin 2048) (f : Fin 256) :
    val_main_v27 (F := Ideal) x0 x1 x2 x3 x4 (ix3 b t f) = Args.z (argsOf x0 x1 x2 x3 x4) b t ⟨1792 + f.val, by omega⟩ := by
  rw [val_main_v27_apply, ← z_eq]
  exact congrArg _ (funext fun a => Fin.ext (by match a with | ⟨0, _⟩ => rfl | ⟨1, _⟩ => rfl | ⟨2, _⟩ => rfl))

/-- The index keys are columns of the product. -/
theorem ki_eq (b : Fin 8) (t : Fin 2048) (f : Fin 32) :
    val_main_v28 (F := Ideal) x0 x1 x2 x3 x4 (ix3 b t f) = Args.z (argsOf x0 x1 x2 x3 x4) b t ⟨2048 + f.val, by omega⟩ := by
  rw [val_main_v28_apply, ← z_eq]
  exact congrArg _ (funext fun a => Fin.ext (by match a with | ⟨0, _⟩ => rfl | ⟨1, _⟩ => rfl | ⟨2, _⟩ => rfl))

/-- The index weights are columns of the product. -/
theorem wi_eq (b : Fin 8) (t : Fin 2048) (f : Fin 8) :
    val_main_v29 (F := Ideal) x0 x1 x2 x3 x4 (ix3 b t f) = Args.z (argsOf x0 x1 x2 x3 x4) b t ⟨2080 + f.val, by omega⟩ := by
  rw [val_main_v29_apply, ← z_eq]
  exact congrArg _ (funext fun a => Fin.ext (by match a with | ⟨0, _⟩ => rfl | ⟨1, _⟩ => rfl | ⟨2, _⟩ => rfl))

/-- The gated pair. -/
theorem glu_eq (b : Fin 8) (t : Fin 2048) (f : Fin 512) :
    val_main_v36 (F := Ideal) x0 x1 x2 x3 x4 (ix3 b t f) = Args.glu (argsOf x0 x1 x2 x3 x4) b t f := by
  rw [val_main_v36_apply, val_main_v35_apply, val_main_v34_apply, val_main_v33_apply, val_main_v32_apply,
    val_main_v31_apply, val_main_v30_apply, val_main_cst_3_apply, val_main_cst_4_apply, u_eq, ug_eq]
  unfold Args.glu
  refine congrArg₂ (· * ·) rfl ?_
  show Ideal.div one (one + Ideal.exp (- _)) = Ideal.logistic _
  unfold Ideal.logistic one
  rw [Ideal.ofBits_one_f32]

/-- The rates of the queries' pairs. -/
theorem qrate_eq (i : S8.Idx) : val_main_v49 (F := Ideal) i = rate (i 0) := by
  rw [val_main_v49_apply, val_main_v48_apply, val_main_v47_apply, val_main_v46_apply, val_main_v45_apply, val_main_v44_apply, val_main_v43_apply, val_main_v42_apply, val_main_v41_apply, val_main_v40_apply,
    val_main_cst_5_apply, val_main_cst_6_apply, val_main_cst_7_apply, val_main_cst_8_apply, val_main_cst_9_apply]
  rfl

/-- The cosines of the queries' angles. -/
theorem qcos_eq (i : S1x2048x1x8.Idx) : val_main_v57 (F := Ideal) i = cosT (i 1) (i 3) := by
  rw [val_main_v57_apply, val_main_v56_apply, val_main_v55_apply, val_main_v53_apply, val_main_v51_apply, val_main_v50_apply, val_main_v54_apply, val_main_v52_apply, val_main_v37_apply, qrate_eq]
  rfl

/-- The sines of the queries' angles. -/
theorem qsin_eq (i : S1x2048x1x8.Idx) : val_main_v59 (F := Ideal) i = sinT (i 1) (i 3) := by
  rw [val_main_v59_apply, val_main_v58_apply, val_main_v55_apply, val_main_v53_apply, val_main_v51_apply, val_main_v50_apply, val_main_v54_apply, val_main_v52_apply, val_main_v37_apply, qrate_eq]
  rfl

/-- The queries by head, before the rotation. -/
theorem qhead_eq (b : Fin 8) (t : Fin 2048) (h : Fin 8) (l : Fin 64) :
    val_main_v38 (F := Ideal) x0 x1 x2 x3 x4 (ix4 b t h l)
      = Args.z (argsOf x0 x1 x2 x3 x4) b t ⟨1024 + (64 * h.val + l.val), by omega⟩ := by
  rw [val_main_v38_apply]
  refine Eq.trans (congrArg _ (?_ : _ = ix3 b t ⟨64 * h.val + l.val, by omega⟩)) (qraw_eq x0 x1 x2 x3 x4 b t ⟨64 * h.val + l.val, by omega⟩)
  refine funext fun a => Fin.ext ?_
  match a with
  | ⟨0, _⟩ => show (((b.val * 2048 + t.val) * 8 + h.val) * 64 + l.val) / 1048576 = b.val; omega
  | ⟨1, _⟩ => show (((b.val * 2048 + t.val) * 8 + h.val) * 64 + l.val) / 512 % 2048 = t.val; omega
  | ⟨2, _⟩ => show (((b.val * 2048 + t.val) * 8 + h.val) * 64 + l.val) % 512 = 64 * h.val + l.val; omega

/-- The rotated queries by head. -/
theorem qrot_eq (b : Fin 8) (t : Fin 2048) (h : Fin 8) (l : Fin 64) :
    val_main_v73 (F := Ideal) x0 x1 x2 x3 x4 (ix4 b t h l)
      = rot (fun l => Args.z (argsOf x0 x1 x2 x3 x4) b t ⟨1024 + (64 * h.val + l.val), by omega⟩) (cosT t) (sinT t) l := by
  unfold val_main_v73 rot
  split
  · rename_i hl
    refine (concatenate_apply_piece (t := S8x2048x8x64) 3 _ _ (ix4 b t h l) 0 (by show 0 < 3; decide) S8x2048x8x8 (val_main_v66 (F := Ideal) x0 x1 x2 x3 x4) rfl rfl 0 rfl
      (ix4 b t h ⟨l.val, hl⟩) (fun a ha => by
        match a, ha with
        | ⟨0, _⟩, _ => rfl
        | ⟨1, _⟩, _ => rfl
        | ⟨2, _⟩, _ => rfl
        | ⟨3, _⟩, ha => exact absurd rfl ha) (by show 0 + l.val = l.val; omega)).trans ?_
    rw [val_main_v66_apply, val_main_v63_apply, val_main_v60_apply, val_main_v62_apply, val_main_v65_apply, val_main_v61_apply, val_main_v64_apply, qcos_eq, qsin_eq]
    refine congrArg₂ (· - ·) (congrArg₂ (· * ·) (Eq.trans (congrArg _ (eq_ix4 _)) (qhead_eq x0 x1 x2 x3 x4 b t h l)) rfl)
      (congrArg₂ (· * ·) (Eq.trans (congrArg _ (?_ : _ = ix4 b t h ⟨l.val + 8, by omega⟩)) (qhead_eq x0 x1 x2 x3 x4 b t h ⟨l.val + 8, by omega⟩)) rfl)
    exact funext fun a => Fin.ext (by match a with | ⟨0, _⟩ => rfl | ⟨1, _⟩ => rfl | ⟨2, _⟩ => rfl | ⟨3, _⟩ => exact Nat.add_comm 8 l.val)
  · rename_i hl
    split
    · rename_i hl'
      refine (concatenate_apply_piece (t := S8x2048x8x64) 3 _ _ (ix4 b t h l) 1 (by show 1 < 3; decide) S8x2048x8x8 (val_main_v71 (F := Ideal) x0 x1 x2 x3 x4) rfl rfl 8 rfl
        (ix4 b t h ⟨l.val - 8, by omega⟩) (fun a ha => by
          match a, ha with
          | ⟨0, _⟩, _ => rfl
          | ⟨1, _⟩, _ => rfl
          | ⟨2, _⟩, _ => rfl
          | ⟨3, _⟩, ha => exact absurd rfl ha) (by show 8 + (l.val - 8) = l.val; omega)).trans ?_
      rw [val_main_v71_apply, val_main_v68_apply, val_main_v61_apply, val_main_v67_apply, val_main_v70_apply, val_main_v60_apply, val_main_v69_apply, qcos_eq, qsin_eq]
      refine congrArg₂ (· + ·) (congrArg₂ (· * ·) (Eq.trans (congrArg _ (?_ : _ = ix4 b t h l)) (qhead_eq x0 x1 x2 x3 x4 b t h l)) rfl)
        (congrArg₂ (· * ·) (Eq.trans (congrArg _ (eq_ix4 _)) (qhead_eq x0 x1 x2 x3 x4 b t h ⟨l.val - 8, by omega⟩)) rfl)
      exact funext fun a => Fin.ext (by
        match a with
        | ⟨0, _⟩ => rfl
        | ⟨1, _⟩ => rfl
        | ⟨2, _⟩ => rfl
        | ⟨3, _⟩ => show 8 + (l.val - 8) = l.val; omega)
    · rename_i hl'
      refine (concatenate_apply_piece (t := S8x2048x8x64) 3 _ _ (ix4 b t h l) 2 (by show 2 < 3; decide) S8x2048x8x48 (val_main_v72 (F := Ideal) x0 x1 x2 x3 x4) rfl rfl 16 rfl
        (ix4 b t h ⟨l.val - 16, by omega⟩) (fun a ha => by
          match a, ha with
          | ⟨0, _⟩, _ => rfl
          | ⟨1, _⟩, _ => rfl
          | ⟨2, _⟩, _ => rfl
          | ⟨3, _⟩, ha => exact absurd rfl ha) (by show 16 + (l.val - 16) = l.val; omega)).trans ?_
      rw [val_main_v72_apply]
      refine Eq.trans (congrArg _ (?_ : _ = ix4 b t h l)) (qhead_eq x0 x1 x2 x3 x4 b t h l)
      exact funext fun a => Fin.ext (by
        match a with
        | ⟨0, _⟩ => rfl
        | ⟨1, _⟩ => rfl
        | ⟨2, _⟩ => rfl
        | ⟨3, _⟩ => show 16 + (l.val - 16) = l.val; omega)

/-- The rates of the keys' pairs. -/
theorem krate_eq (i : S8.Idx) : val_main_v87 (F := Ideal) i = rate (i 0) := by
  rw [val_main_v87_apply, val_main_v86_apply, val_main_v85_apply, val_main_v84_apply, val_main_v83_apply, val_main_v82_apply, val_main_v81_apply, val_main_v80_apply, val_main_v79_apply, val_main_v78_apply,
    val_main_cst_11_apply, val_main_cst_12_apply, val_main_cst_13_apply, val_main_cst_14_apply, val_main_cst_15_apply]
  rfl

/-- The cosines of the keys' angles. -/
theorem kcos_eq (i : S1x2048x1x8.Idx) : val_main_v95 (F := Ideal) i = cosT (i 1) (i 3) := by
  rw [val_main_v95_apply, val_main_v94_apply, val_main_v93_apply, val_main_v91_apply, val_main_v89_apply, val_main_v88_apply, val_main_v92_apply, val_main_v90_apply, val_main_v37_apply, krate_eq]
  rfl

/-- The sines of the keys' angles. -/
theorem ksin_eq (i : S1x2048x1x8.Idx) : val_main_v97 (F := Ideal) i = sinT (i 1) (i 3) := by
  rw [val_main_v97_apply, val_main_v96_apply, val_main_v93_apply, val_main_v91_apply, val_main_v89_apply, val_main_v88_apply, val_main_v92_apply, val_main_v90_apply, val_main_v37_apply, krate_eq]
  rfl

/-- The keys by head, before the rotation. -/
theorem khead_eq (b : Fin 8) (t : Fin 2048) (h : Fin 2) (l : Fin 64) :
    val_main_v76 (F := Ideal) x0 x1 x2 x3 x4 (ix4 b t h l)
      = Args.z (argsOf x0 x1 x2 x3 x4) b t ⟨1536 + (64 * h.val + l.val), by omega⟩ := by
  rw [val_main_v76_apply]
  refine Eq.trans (congrArg _ (?_ : _ = ix3 b t ⟨64 * h.val + l.val, by omega⟩)) (kraw_eq x0 x1 x2 x3 x4 b t ⟨64 * h.val + l.val, by omega⟩)
  refine funext fun a => Fin.ext ?_
  match a with
  | ⟨0, _⟩ => show (((b.val * 2048 + t.val) * 2 + h.val) * 64 + l.val) / 262144 = b.val; omega
  | ⟨1, _⟩ => show (((b.val * 2048 + t.val) * 2 + h.val) * 64 + l.val) / 128 % 2048 = t.val; omega
  | ⟨2, _⟩ => show (((b.val * 2048 + t.val) * 2 + h.val) * 64 + l.val) % 128 = 64 * h.val + l.val; omega

/-- The rotated keys by head. -/
theorem krot_eq (b : Fin 8) (t : Fin 2048) (h : Fin 2) (l : Fin 64) :
    val_main_v111 (F := Ideal) x0 x1 x2 x3 x4 (ix4 b t h l)
      = rot (fun l => Args.z (argsOf x0 x1 x2 x3 x4) b t ⟨1536 + (64 * h.val + l.val), by omega⟩) (cosT t) (sinT t) l := by
  unfold val_main_v111 rot
  split
  · rename_i hl
    refine (concatenate_apply_piece (t := S8x2048x2x64) 3 _ _ (ix4 b t h l) 0 (by show 0 < 3; decide) S8x2048x2x8 (val_main_v104 (F := Ideal) x0 x1 x2 x3 x4) rfl rfl 0 rfl
      (ix4 b t h ⟨l.val, hl⟩) (fun a ha => by
        match a, ha with
        | ⟨0, _⟩, _ => rfl
        | ⟨1, _⟩, _ => rfl
        | ⟨2, _⟩, _ => rfl
        | ⟨3, _⟩, ha => exact absurd rfl ha) (by show 0 + l.val = l.val; omega)).trans ?_
    rw [val_main_v104_apply, val_main_v101_apply, val_main_v98_apply, val_main_v100_apply, val_main_v103_apply, val_main_v99_apply, val_main_v102_apply, kcos_eq, ksin_eq]
    refine congrArg₂ (· - ·) (congrArg₂ (· * ·) (Eq.trans (congrArg _ (eq_ix4 _)) (khead_eq x0 x1 x2 x3 x4 b t h l)) rfl)
      (congrArg₂ (· * ·) (Eq.trans (congrArg _ (?_ : _ = ix4 b t h ⟨l.val + 8, by omega⟩)) (khead_eq x0 x1 x2 x3 x4 b t h ⟨l.val + 8, by omega⟩)) rfl)
    exact funext fun a => Fin.ext (by match a with | ⟨0, _⟩ => rfl | ⟨1, _⟩ => rfl | ⟨2, _⟩ => rfl | ⟨3, _⟩ => exact Nat.add_comm 8 l.val)
  · rename_i hl
    split
    · rename_i hl'
      refine (concatenate_apply_piece (t := S8x2048x2x64) 3 _ _ (ix4 b t h l) 1 (by show 1 < 3; decide) S8x2048x2x8 (val_main_v109 (F := Ideal) x0 x1 x2 x3 x4) rfl rfl 8 rfl
        (ix4 b t h ⟨l.val - 8, by omega⟩) (fun a ha => by
          match a, ha with
          | ⟨0, _⟩, _ => rfl
          | ⟨1, _⟩, _ => rfl
          | ⟨2, _⟩, _ => rfl
          | ⟨3, _⟩, ha => exact absurd rfl ha) (by show 8 + (l.val - 8) = l.val; omega)).trans ?_
      rw [val_main_v109_apply, val_main_v106_apply, val_main_v99_apply, val_main_v105_apply, val_main_v108_apply, val_main_v98_apply, val_main_v107_apply, kcos_eq, ksin_eq]
      refine congrArg₂ (· + ·) (congrArg₂ (· * ·) (Eq.trans (congrArg _ (?_ : _ = ix4 b t h l)) (khead_eq x0 x1 x2 x3 x4 b t h l)) rfl)
        (congrArg₂ (· * ·) (Eq.trans (congrArg _ (eq_ix4 _)) (khead_eq x0 x1 x2 x3 x4 b t h ⟨l.val - 8, by omega⟩)) rfl)
      exact funext fun a => Fin.ext (by
        match a with
        | ⟨0, _⟩ => rfl
        | ⟨1, _⟩ => rfl
        | ⟨2, _⟩ => rfl
        | ⟨3, _⟩ => show 8 + (l.val - 8) = l.val; omega)
    · rename_i hl'
      refine (concatenate_apply_piece (t := S8x2048x2x64) 3 _ _ (ix4 b t h l) 2 (by show 2 < 3; decide) S8x2048x2x48 (val_main_v110 (F := Ideal) x0 x1 x2 x3 x4) rfl rfl 16 rfl
        (ix4 b t h ⟨l.val - 16, by omega⟩) (fun a ha => by
          match a, ha with
          | ⟨0, _⟩, _ => rfl
          | ⟨1, _⟩, _ => rfl
          | ⟨2, _⟩, _ => rfl
          | ⟨3, _⟩, ha => exact absurd rfl ha) (by show 16 + (l.val - 16) = l.val; omega)).trans ?_
      rw [val_main_v110_apply]
      refine Eq.trans (congrArg _ (?_ : _ = ix4 b t h l)) (khead_eq x0 x1 x2 x3 x4 b t h l)
      exact funext fun a => Fin.ext (by
        match a with
        | ⟨0, _⟩ => rfl
        | ⟨1, _⟩ => rfl
        | ⟨2, _⟩ => rfl
        | ⟨3, _⟩ => show 16 + (l.val - 16) = l.val; omega)

/-- The rotated keys. -/
theorem k_eq (b : Fin 8) (t : Fin 2048) (f : Fin 128) :
    val_main_v112 (F := Ideal) x0 x1 x2 x3 x4 (ix3 b t f) = Args.k (argsOf x0 x1 x2 x3 x4) b t f := by
  rw [val_main_v112_apply]
  unfold Args.k
  refine Eq.trans (congrArg _ (?_ : _ = ix4 b t ⟨f.val / 64, by omega⟩ ⟨f.val % 64, by omega⟩)) (krot_eq x0 x1 x2 x3 x4 b t ⟨f.val / 64, by omega⟩ ⟨f.val % 64, by omega⟩)
  refine funext fun a => Fin.ext ?_
  match a with
  | ⟨0, _⟩ => show ((b.val * 2048 + t.val) * 128 + f.val) / 262144 = b.val; omega
  | ⟨1, _⟩ => show ((b.val * 2048 + t.val) * 128 + f.val) / 128 % 2048 = t.val; omega
  | ⟨2, _⟩ => show ((b.val * 2048 + t.val) * 128 + f.val) / 64 % 2 = f.val / 64; omega
  | ⟨3, _⟩ => show ((b.val * 2048 + t.val) * 128 + f.val) % 64 = f.val % 64; omega

/-- The queries' result, by row. -/
theorem result_q (r : Fin 16384) (f : Fin 512) :
    val_main_v115 (F := Ideal) x0 x1 x2 x3 x4 (ix2 r f)
      = Args.q (argsOf x0 x1 x2 x3 x4) ⟨r.val / 2048, by omega⟩ ⟨r.val % 2048, by omega⟩ f := by
  rw [val_main_v115_apply, val_main_v114_apply, val_main_v75_apply, val_main_v74_apply, val_main_cst_10_apply]
  unfold Args.q
  refine congrArg (· * qscale) ?_
  refine Eq.trans (congrArg _ (?_ : _ = ix4 ⟨r.val / 2048, by omega⟩ ⟨r.val % 2048, by omega⟩ ⟨f.val / 64, by omega⟩ ⟨f.val % 64, by omega⟩))
    (qrot_eq x0 x1 x2 x3 x4 ⟨r.val / 2048, by omega⟩ ⟨r.val % 2048, by omega⟩ ⟨f.val / 64, by omega⟩ ⟨f.val % 64, by omega⟩)
  refine funext fun a => Fin.ext ?_
  match a with
  | ⟨0, _⟩ => show (r.val * 512 + f.val) / 1048576 = r.val / 2048; omega
  | ⟨1, _⟩ => show (r.val * 512 + f.val) / 512 % 2048 = r.val % 2048; omega
  | ⟨2, _⟩ => show (r.val * 512 + f.val) / 64 % 8 = f.val / 64; omega
  | ⟨3, _⟩ => show (r.val * 512 + f.val) % 64 = f.val % 64; omega

/-- The result of the gated pair, by row. -/
theorem result_glu (r : Fin 16384) (f : Fin 512) :
    val_main_v113 (F := Ideal) x0 x1 x2 x3 x4 (ix2 r f)
      = Args.glu (argsOf x0 x1 x2 x3 x4) ⟨r.val / 2048, by omega⟩ ⟨r.val % 2048, by omega⟩ f := by
  rw [val_main_v113_apply]
  refine Eq.trans (congrArg (val_main_v36 (F := Ideal) x0 x1 x2 x3 x4) (?_ : _ = ix3 ⟨r.val / 2048, by omega⟩ ⟨r.val % 2048, by omega⟩ f)) (glu_eq x0 x1 x2 x3 x4 ⟨r.val / 2048, by omega⟩ ⟨r.val % 2048, by omega⟩ f)
  refine funext fun a => Fin.ext ?_
  match a with
  | ⟨0, _⟩ => show (r.val * 512 + f.val) / 1048576 = r.val / 2048; omega
  | ⟨1, _⟩ => show (r.val * 512 + f.val) / 512 % 2048 = r.val % 2048; omega
  | ⟨2, _⟩ => show (r.val * 512 + f.val) % 512 = f.val; omega

/-- The result of the index queries, by row. -/
theorem result_qi (r : Fin 16384) (f : Fin 256) :
    val_main_v117 (F := Ideal) x0 x1 x2 x3 x4 (ix2 r f)
      = Args.qi (argsOf x0 x1 x2 x3 x4) ⟨r.val / 2048, by omega⟩ ⟨r.val % 2048, by omega⟩ f := by
  rw [val_main_v117_apply, val_main_v116_apply]
  refine Eq.trans (congrArg (val_main_v27 (F := Ideal) x0 x1 x2 x3 x4) (?_ : _ = ix3 ⟨r.val / 2048, by omega⟩ ⟨r.val % 2048, by omega⟩ f)) (qi_eq x0 x1 x2 x3 x4 ⟨r.val / 2048, by omega⟩ ⟨r.val % 2048, by omega⟩ f)
  refine funext fun a => Fin.ext ?_
  match a with
  | ⟨0, _⟩ => show (r.val * 256 + f.val) / 524288 = r.val / 2048; omega
  | ⟨1, _⟩ => show (r.val * 256 + f.val) / 256 % 2048 = r.val % 2048; omega
  | ⟨2, _⟩ => show (r.val * 256 + f.val) % 256 = f.val; omega

/-- The result of the keys, by row. -/
theorem result_k (r : Fin 16384) (f : Fin 128) :
    val_main_v119 (F := Ideal) x0 x1 x2 x3 x4 (ix2 r f)
      = Args.k (argsOf x0 x1 x2 x3 x4) ⟨r.val / 2048, by omega⟩ ⟨r.val % 2048, by omega⟩ f := by
  rw [val_main_v119_apply, val_main_v118_apply]
  refine Eq.trans (congrArg (val_main_v112 (F := Ideal) x0 x1 x2 x3 x4) (?_ : _ = ix3 ⟨r.val / 2048, by omega⟩ ⟨r.val % 2048, by omega⟩ f)) (k_eq x0 x1 x2 x3 x4 ⟨r.val / 2048, by omega⟩ ⟨r.val % 2048, by omega⟩ f)
  refine funext fun a => Fin.ext ?_
  match a with
  | ⟨0, _⟩ => show (r.val * 128 + f.val) / 262144 = r.val / 2048; omega
  | ⟨1, _⟩ => show (r.val * 128 + f.val) / 128 % 2048 = r.val % 2048; omega
  | ⟨2, _⟩ => show (r.val * 128 + f.val) % 128 = f.val; omega

/-- The result of the index keys, by row. -/
theorem result_ki (r : Fin 16384) (f : Fin 32) :
    val_main_v121 (F := Ideal) x0 x1 x2 x3 x4 (ix2 r f)
      = Args.ki (argsOf x0 x1 x2 x3 x4) ⟨r.val / 2048, by omega⟩ ⟨r.val % 2048, by omega⟩ f := by
  rw [val_main_v121_apply, val_main_v120_apply]
  refine Eq.trans (congrArg (val_main_v28 (F := Ideal) x0 x1 x2 x3 x4) (?_ : _ = ix3 ⟨r.val / 2048, by omega⟩ ⟨r.val % 2048, by omega⟩ f)) (ki_eq x0 x1 x2 x3 x4 ⟨r.val / 2048, by omega⟩ ⟨r.val % 2048, by omega⟩ f)
  refine funext fun a => Fin.ext ?_
  match a with
  | ⟨0, _⟩ => show (r.val * 32 + f.val) / 65536 = r.val / 2048; omega
  | ⟨1, _⟩ => show (r.val * 32 + f.val) / 32 % 2048 = r.val % 2048; omega
  | ⟨2, _⟩ => show (r.val * 32 + f.val) % 32 = f.val; omega

/-- The result of the keys, transposed. -/
theorem result_kT (b : Fin 8) (f : Fin 128) (s : Fin 2048) :
    val_main_v122 (F := Ideal) x0 x1 x2 x3 x4 (ix3 b f s) = Args.k (argsOf x0 x1 x2 x3 x4) b s f := by
  rw [val_main_v122_apply]
  exact Eq.trans (congrArg (val_main_v112 (F := Ideal) x0 x1 x2 x3 x4) (eq_ix3 _)) (k_eq x0 x1 x2 x3 x4 b s f)

/-- The result of the values, transposed. -/
theorem result_vT (b : Fin 8) (f : Fin 128) (s : Fin 2048) :
    val_main_v123 (F := Ideal) x0 x1 x2 x3 x4 (ix3 b f s) = Args.v (argsOf x0 x1 x2 x3 x4) b s f := by
  rw [val_main_v123_apply]
  exact Eq.trans (congrArg (val_main_v26 (F := Ideal) x0 x1 x2 x3 x4) (eq_ix3 _)) (v_eq x0 x1 x2 x3 x4 b s f)

/-- The result of the values in the narrow type, transposed. -/
theorem result_vTb (b : Fin 8) (f : Fin 128) (s : Fin 2048) :
    val_main_v125 (F := Ideal) x0 x1 x2 x3 x4 (ix3 b f s) = Args.v (argsOf x0 x1 x2 x3 x4) b s f := by
  rw [val_main_v125_apply, val_main_v124_apply]
  exact Eq.trans (congrArg (val_main_v26 (F := Ideal) x0 x1 x2 x3 x4) (eq_ix3 _)) (v_eq x0 x1 x2 x3 x4 b s f)

/-- The result of the index keys, transposed. -/
theorem result_kiT (b : Fin 8) (f : Fin 32) (s : Fin 2048) :
    val_main_v126 (F := Ideal) x0 x1 x2 x3 x4 (ix3 b f s) = Args.ki (argsOf x0 x1 x2 x3 x4) b s f := by
  rw [val_main_v126_apply]
  exact Eq.trans (congrArg (val_main_v28 (F := Ideal) x0 x1 x2 x3 x4) (eq_ix3 _)) (ki_eq x0 x1 x2 x3 x4 b s f)

/-- The result of the index weights, transposed. -/
theorem result_wiT (b : Fin 8) (f : Fin 8) (s : Fin 2048) :
    val_main_v127 (F := Ideal) x0 x1 x2 x3 x4 (ix3 b f s) = Args.wi (argsOf x0 x1 x2 x3 x4) b s f := by
  rw [val_main_v127_apply]
  exact Eq.trans (congrArg (val_main_v29 (F := Ideal) x0 x1 x2 x3 x4) (eq_ix3 _)) (wi_eq x0 x1 x2 x3 x4 b s f)

end Cert.InprojRefIdeal.RefValue

end
-- ==== Proof.InprojClaim.lean ====
/-
The claim about the input projection: from equal arguments, the tiled program and the plain one end with equal results
over the extended reals.
-/
module

public import proofs.«01_k».proof.Defs
public import proofs.«01_k».proof.Proof.InprojArray
public import proofs.«01_k».proof.Proof.InprojRefValue

@[expose] public section

set_option maxRecDepth 16384

noncomputable section

namespace Cert.InprojClaim

open Idealize.ShloMosaic Idealize.ShloMosaic.TcCoe Idealize.SL.Sem Idealize.ShloMosaic.StableHlo
open Cert.InprojSpec Cert.InprojRefIdeal.Read

variable (m : (ℓ : Loc Cert.InprojIdeal.nD Cert.InprojIdeal.τ Cert.InprojIdeal.sig) → Buf (Elt Ideal) ℓ)

/-- What the tiled program leaves in the array of window `w`. -/
abbrev out (w : Fin 18) (c : Dev Cert.InprojIdeal.nD) :=
  (Cert.InprojIdeal.Gen.dats m 0 c).arrAt w Cert.InprojIdeal.cfg0.N

/-- The plain program's gated pair, on the tiled program's arguments, are the tiled program's. -/
theorem glu_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v113 (F := Ideal) y0 y1 y2 y3 y4 = out m 8 c := by
  subst e0 e1 e2 e3 e4
  funext i
  obtain ⟨r, f, rfl⟩ : ∃ (r : Fin 16384) (f : Fin 512), i = ix2 r f := ⟨i 0, i 1, eq_ix2 i⟩
  exact (Cert.InprojRefIdeal.RefValue.result_glu _ _ _ _ _ r f).trans (Cert.InprojIdeal.Block.arr8 m c r f).symm

/-- The plain program's queries, on the tiled program's arguments, are the tiled program's. -/
theorem q_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v115 (F := Ideal) y0 y1 y2 y3 y4 = out m 9 c := by
  subst e0 e1 e2 e3 e4
  funext i
  obtain ⟨r, f, rfl⟩ : ∃ (r : Fin 16384) (f : Fin 512), i = ix2 r f := ⟨i 0, i 1, eq_ix2 i⟩
  exact (Cert.InprojRefIdeal.RefValue.result_q _ _ _ _ _ r f).trans (Cert.InprojIdeal.Block.arr9 m c r f).symm

/-- The plain program's index queries, on the tiled program's arguments, are the tiled program's. -/
theorem qi_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v117 (F := Ideal) y0 y1 y2 y3 y4 = out m 10 c := by
  subst e0 e1 e2 e3 e4
  funext i
  obtain ⟨r, f, rfl⟩ : ∃ (r : Fin 16384) (f : Fin 256), i = ix2 r f := ⟨i 0, i 1, eq_ix2 i⟩
  exact (Cert.InprojRefIdeal.RefValue.result_qi _ _ _ _ _ r f).trans (Cert.InprojIdeal.Block.arr10 m c r f).symm

/-- The plain program's keys, on the tiled program's arguments, are the tiled program's. -/
theorem k_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v119 (F := Ideal) y0 y1 y2 y3 y4 = out m 11 c := by
  subst e0 e1 e2 e3 e4
  funext i
  obtain ⟨r, f, rfl⟩ : ∃ (r : Fin 16384) (f : Fin 128), i = ix2 r f := ⟨i 0, i 1, eq_ix2 i⟩
  exact (Cert.InprojRefIdeal.RefValue.result_k _ _ _ _ _ r f).trans (Cert.InprojIdeal.Block.arr11 m c r f).symm

/-- The plain program's index keys, on the tiled program's arguments, are the tiled program's. -/
theorem ki_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v121 (F := Ideal) y0 y1 y2 y3 y4 = out m 12 c := by
  subst e0 e1 e2 e3 e4
  funext i
  obtain ⟨r, f, rfl⟩ : ∃ (r : Fin 16384) (f : Fin 32), i = ix2 r f := ⟨i 0, i 1, eq_ix2 i⟩
  exact (Cert.InprojRefIdeal.RefValue.result_ki _ _ _ _ _ r f).trans (Cert.InprojIdeal.Block.arr12 m c r f).symm

/-- The plain program's transposed keys, on the tiled program's arguments, are the tiled program's. -/
theorem kT_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v122 (F := Ideal) y0 y1 y2 y3 y4 = out m 13 c := by
  subst e0 e1 e2 e3 e4
  funext i
  obtain ⟨b, f, s, rfl⟩ : ∃ (b : Fin 8) (f : Fin 128) (s : Fin 2048), i = ix3 b f s := ⟨i 0, i 1, i 2, eq_ix3 i⟩
  exact (Cert.InprojRefIdeal.RefValue.result_kT _ _ _ _ _ b f s).trans (Cert.InprojIdeal.Block.arr13 m c b f s).symm

/-- The plain program's transposed values, on the tiled program's arguments, are the tiled program's. -/
theorem vT_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v123 (F := Ideal) y0 y1 y2 y3 y4 = out m 14 c := by
  subst e0 e1 e2 e3 e4
  funext i
  obtain ⟨b, f, s, rfl⟩ : ∃ (b : Fin 8) (f : Fin 128) (s : Fin 2048), i = ix3 b f s := ⟨i 0, i 1, i 2, eq_ix3 i⟩
  exact (Cert.InprojRefIdeal.RefValue.result_vT _ _ _ _ _ b f s).trans (Cert.InprojIdeal.Block.arr14 m c b f s).symm

/-- The plain program's transposed values in the narrow type, on the tiled program's arguments, are the tiled program's. -/
theorem vTb_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v125 (F := Ideal) y0 y1 y2 y3 y4 = out m 15 c := by
  subst e0 e1 e2 e3 e4
  funext i
  obtain ⟨b, f, s, rfl⟩ : ∃ (b : Fin 8) (f : Fin 128) (s : Fin 2048), i = ix3 b f s := ⟨i 0, i 1, i 2, eq_ix3 i⟩
  exact (Cert.InprojRefIdeal.RefValue.result_vTb _ _ _ _ _ b f s).trans (Cert.InprojIdeal.Block.arr15 m c b f s).symm

/-- The plain program's transposed index keys, on the tiled program's arguments, are the tiled program's. -/
theorem kiT_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v126 (F := Ideal) y0 y1 y2 y3 y4 = out m 16 c := by
  subst e0 e1 e2 e3 e4
  funext i
  obtain ⟨b, f, s, rfl⟩ : ∃ (b : Fin 8) (f : Fin 32) (s : Fin 2048), i = ix3 b f s := ⟨i 0, i 1, i 2, eq_ix3 i⟩
  exact (Cert.InprojRefIdeal.RefValue.result_kiT _ _ _ _ _ b f s).trans (Cert.InprojIdeal.Block.arr16 m c b f s).symm

/-- The plain program's transposed index weights, on the tiled program's arguments, are the tiled program's. -/
theorem wiT_agree (c : Dev Cert.InprojIdeal.nD) (y0 : (⟨Cert.InprojRefIdeal.S8x2048x1024, .f32⟩ : BufTy).Contents (Elt Ideal))
    (y1 y2 : (⟨Cert.InprojRefIdeal.S8x1024, .f32⟩ : BufTy).Contents (Elt Ideal))
    (y3 : (⟨Cert.InprojRefIdeal.S1024, .f32⟩ : BufTy).Contents (Elt Ideal))
    (y4 : (⟨Cert.InprojRefIdeal.S1024x2088, .f32⟩ : BufTy).Contents (Elt Ideal))
    (e0 : y0 = m (c, Cert.InprojIdeal.main_arg0)) (e1 : y1 = m (c, Cert.InprojIdeal.main_arg1))
    (e2 : y2 = m (c, Cert.InprojIdeal.main_arg2)) (e3 : y3 = m (c, Cert.InprojIdeal.main_arg3))
    (e4 : y4 = m (c, Cert.InprojIdeal.main_arg4)) :
    val_main_v127 (F := Ideal) y0 y1 y2 y3 y4 = out m 17 c := by
  subst e0 e1 e2 e3 e4
  funext i
  obtain ⟨b, f, s, rfl⟩ : ∃ (b : Fin 8) (f : Fin 8) (s : Fin 2048), i = ix3 b f s := ⟨i 0, i 1, i 2, eq_ix3 i⟩
  exact (Cert.InprojRefIdeal.RefValue.result_wiT _ _ _ _ _ b f s).trans (Cert.InprojIdeal.Block.arr17 m c b f s).symm

/-- Both programs end with the same projections, by row and transposed. -/
theorem algebraic : Cert.algebraic_InprojIdeal_InprojRefIdeal (hInprojIdeal := Cert.InprojIdeal.Gen.facts)
    (hInprojRefIdeal := Cert.InprojRefIdeal.Gen.facts) := fun m ρ m' ρ' _ hag =>
  ⟨out m 8, out m 9, out m 10, out m 11, out m 12, out m 13, out m 14, out m 15, out m 16, out m 17,
    Cert.InprojIdeal.Value.run_blocks m ρ,
    (θ_run _ _ _).mono (fun r h c => by
      obtain ⟨e0, e1, e2, e3, e4⟩ := hag c
      obtain ⟨h0, h1, h2, h3, h4, h5, h6, h7, h8, h9, kept⟩ := h c
      refine ⟨h0.trans ((val_main_v113_eq _ _ _ _ _).trans (glu_agree m c _ _ _ _ _ e0 e1 e2 e3 e4)),
        h1.trans ((val_main_v115_eq m' c).trans (q_agree m c _ _ _ _ _ e0 e1 e2 e3 e4)),
        h2.trans ((val_main_v117_eq _ _ _ _ _).trans (qi_agree m c _ _ _ _ _ e0 e1 e2 e3 e4)),
        h3.trans ((val_main_v119_eq m' c).trans (k_agree m c _ _ _ _ _ e0 e1 e2 e3 e4)),
        h4.trans ((val_main_v121_eq _ _ _ _ _).trans (ki_agree m c _ _ _ _ _ e0 e1 e2 e3 e4)),
        h5.trans ((val_main_v122_eq m' c).trans (kT_agree m c _ _ _ _ _ e0 e1 e2 e3 e4)),
        h6.trans ((val_main_v123_eq _ _ _ _ _).trans (vT_agree m c _ _ _ _ _ e0 e1 e2 e3 e4)),
        h7.trans ((val_main_v125_eq _ _ _ _ _).trans (vTb_agree m c _ _ _ _ _ e0 e1 e2 e3 e4)),
        h8.trans ((val_main_v126_eq _ _ _ _ _).trans (kiT_agree m c _ _ _ _ _ e0 e1 e2 e3 e4)),
        h9.trans ((val_main_v127_eq _ _ _ _ _).trans (wiT_agree m c _ _ _ _ _ e0 e1 e2 e3 e4)), kept⟩)
      (Cert.InprojRefIdeal.Value.run m' ρ')⟩

end Cert.InprojClaim

end
-- ==== Proof.InprojSSpec.lean ====
/-
The mathematics of the input projection for the sample batch: the same functions as for the prompt, at its own batch and
length, the positions counted on from the past ones.
-/
module

public import proofs.«01_k».proof.Proof.InprojSpec

@[expose] public section

noncomputable section

namespace Cert.InprojSSpec

open Idealize.ShloMosaic
open Cert.InprojSpec (rate rot modRow qscale)

/-- The angle of pair `i` at row `t`, which stands after 4096 past rows. -/
def angle (t : Fin 32) (i : Fin 8) : EReal := (((4096#32 + BitVec.ofNat 32 t.val).toInt : ℝ) : EReal) * rate i

/-- The cosine of that angle. -/
def cosT (t : Fin 32) (i : Fin 8) : EReal := Ideal.cos (angle t i)

/-- The sine of that angle. -/
def sinT (t : Fin 32) (i : Fin 8) : EReal := Ideal.sin (angle t i)

/-- The arrays of the call, by coordinates: batch, time, channel. -/
structure Args where
  x : Fin 16 → Fin 32 → Fin 1024 → EReal
  sc : Fin 16 → Fin 1024 → EReal
  sh : Fin 16 → Fin 1024 → EReal
  g : Fin 1024 → EReal
  w : Fin 1024 → Fin 2088 → EReal

/-- The arrays as functions of coordinates, from the arrays as functions of an index. -/
abbrev argsOf (x0 : (⟨3, ![16, 32, 1024]⟩ : Shape).Idx → EReal) (x1 x2 : (⟨2, ![16, 1024]⟩ : Shape).Idx → EReal)
    (x3 : (⟨1, ![1024]⟩ : Shape).Idx → EReal) (x4 : (⟨2, ![1024, 2088]⟩ : Shape).Idx → EReal) : Args where
  x := fun b t k => x0 (ix3 b t k)
  sc := fun b k => x1 (ix2 b k)
  sh := fun b k => x2 (ix2 b k)
  g := fun k => x3 (ix1 k)
  w := fun k e => x4 (ix2 k e)

namespace Args

variable (A : Args)

/-- The modulated norm of a row. -/
def h (b : Fin 16) (t : Fin 32) (k : Fin 1024) : EReal := modRow (A.x b t) A.g (A.sc b) (A.sh b) k

/-- The product with the whole input matrix. -/
def z (b : Fin 16) (t : Fin 32) (e : Fin 2088) : EReal := ∑ k : Fin 1024, A.h b t k * A.w k e

/-- The gated pair. -/
def glu (b : Fin 16) (t : Fin 32) (f : Fin 512) : EReal :=
  A.z b t ⟨f.val, by omega⟩ * Ideal.logistic (A.z b t ⟨512 + f.val, by omega⟩)

/-- The rotated and scaled queries: 8 heads of 64 dims. -/
def q (b : Fin 16) (t : Fin 32) (f : Fin 512) : EReal :=
  rot (fun l => A.z b t ⟨1024 + (64 * (f.val / 64) + l.val), by omega⟩) (cosT t) (sinT t) ⟨f.val % 64, by omega⟩ * qscale

/-- The rotated keys: 2 heads of 64 dims. -/
def k (b : Fin 16) (t : Fin 32) (f : Fin 128) : EReal :=
  rot (fun l => A.z b t ⟨1536 + (64 * (f.val / 64) + l.val), by omega⟩) (cosT t) (sinT t) ⟨f.val % 64, by omega⟩

/-- The values. -/
def v (b : Fin 16) (t : Fin 32) (f : Fin 128) : EReal := A.z b t ⟨1664 + f.val, by omega⟩

/-- The index queries. -/
def qi (b : Fin 16) (t : Fin 32) (f : Fin 256) : EReal := A.z b t ⟨1792 + f.val, by omega⟩

/-- The index keys. -/
def ki (b : Fin 16) (t : Fin 32) (f : Fin 32) : EReal := A.z b t ⟨2048 + f.val, by omega⟩

/-- The index weights. -/
def wi (b : Fin 16) (t : Fin 32) (f : Fin 8) : EReal := A.z b t ⟨2080 + f.val, by omega⟩

end Args

end Cert.InprojSSpec

end
-- ==== Proof.InprojSPay.lean ====
/-
What the block computations of the sample batch's input projection leave at an index, over any blocks.
-/
module

public import proofs.«01_k».proof.Proof.Gen.InprojSIdeal.Skeleton
public import proofs.«01_k».proof.Proof.InprojSSpec
public import proofs.«01_k».proof.Proof.InprojPay
public import Idealize.ShloMosaic.Lib.Pointwise

@[expose] public section

set_option maxRecDepth 16384

noncomputable section

namespace Cert.InprojSIdeal.Block

open Cert.InprojSIdeal Cert.InprojSIdeal.Gen
open Idealize.ShloMosaic Idealize.ShloMosaic.TcCoe Idealize.SL.Sem
open Cert.InprojSpec (modRow qscale)
open Cert.InprojIdeal.Block (turn)
open Cert.PostSpec (one rms)

/-- The offset of a whole block. -/
theorem off2 : (![0, 0] : Fin 2 → ℕ) = fun _ => 0 := funext fun a => by match a with | ⟨0, _⟩ => rfl | ⟨1, _⟩ => rfl

/-- The product of the modulated rows with the padded matrix. -/
theorem pay7_apply (v0 v4 v6 : Vec Ideal S512x1024 .f32) (v2 : Vec Ideal S1x1024 .f32)
    (v25 : Vec Ideal S2304x1024 .bf16) (r : Fin 512) (e : Fin 2304) :
    k0_pay7 (F := Ideal) v0 v2 v4 v6 v25 (ix2 r e)
      = ∑ k : Fin 1024, modRow (fun k => v0 (ix2 r k)) (fun k => v2 (ix2 0 k)) (fun k => v4 (ix2 r k))
          (fun k => v6 (ix2 r k)) k * v25 (ix2 e k) := by
  pointwise [k0_pay7]
  refine Finset.sum_congr rfl fun k _ => ?_
  unfold modRow rms one
  rw [Ideal.ofBits_one_f32]

/-- The gated pair of a block. -/
theorem pay8_apply (v0 v4 v6 : Vec Ideal S512x1024 .f32) (v2 : Vec Ideal S1x1024 .f32)
    (v25 : Vec Ideal S2304x1024 .bf16) (r : Fin 512) (f : Fin 512) :
    k0_pay8 (F := Ideal) v0 v2 v4 v6 v25 (ix2 r f)
      = k0_pay7 (F := Ideal) v0 v2 v4 v6 v25 (ix2 r ⟨f.val, by omega⟩)
        * Ideal.logistic (k0_pay7 (F := Ideal) v0 v2 v4 v6 v25 (ix2 r ⟨512 + f.val, by omega⟩)) := by
  pointwise [k0_pay8]

/-- The first lane group of the queries. -/
theorem pay12_apply (v27 : FVec Ideal S512x2304 .f32) (v34 v36 v37 : Vec Ideal S512x128 .f32) (r : Fin 512) (d : Fin 128) :
    k0_pay12 (F := Ideal) v27 v34 v36 v37 (ix2 r d)
      = turn (fun d => v27 (ix2 r ⟨1024 + d.val, by omega⟩)) (fun d => v34 (ix2 r d)) (fun d => v36 (ix2 r d))
          (fun d => v37 (ix2 r d)) d * qscale := by
  unfold turn
  pointwise [k0_pay12, k0_pay11]

/-- The second lane group of the queries. -/
theorem pay13_apply (v27 : FVec Ideal S512x2304 .f32) (v34 v36 v37 : Vec Ideal S512x128 .f32) (r : Fin 512) (d : Fin 128) :
    k0_pay13 (F := Ideal) v27 v34 v36 v37 (ix2 r d)
      = turn (fun d => v27 (ix2 r ⟨1152 + d.val, by omega⟩)) (fun d => v34 (ix2 r d)) (fun d => v36 (ix2 r d))
          (fun d => v37 (ix2 r d)) d * qscale := by
  unfold turn
  pointwise [k0_pay13, k0_pay11]

/-- The third lane group of the queries. -/
theorem pay14_apply (v27 : FVec Ideal S512x2304 .f32) (v34 v36 v37 : Vec Ideal S512x128 .f32) (r : Fin 512) (d : Fin 128) :
    k0_pay14 (F := Ideal) v27 v34 v36 v37 (ix2 r d)
      = turn (fun d => v27 (ix2 r ⟨1280 + d.val, by omega⟩)) (fun d => v34 (ix2 r d)) (fun d => v36 (ix2 r d))
          (fun d => v37 (ix2 r d)) d * qscale := by
  unfold turn
  pointwise [k0_pay14, k0_pay11]

/-- The fourth lane group of the queries. -/
theorem pay1_apply (v27 : FVec Ideal S512x2304 .f32) (v34 v36 v38 : FVec Ideal S512x128 .f32) (r : Fin 512) (d : Fin 128) :
    k0_pay1 (F := Ideal) v36 v38 (k0_pay15 (F := Ideal) v27) (k0_pay16 (F := Ideal) v27 v34) (ix2 r d)
      = turn (fun d => v27 (ix2 r ⟨1408 + d.val, by omega⟩)) (fun d => v34 (ix2 r d)) (fun d => v36 (ix2 r d))
          (fun d => v38 (ix2 r d)) d * qscale := by
  unfold turn
  pointwise [k0_pay1, k0_pay15, k0_pay16]

/-- The keys. -/
theorem pay3_apply (v27 : FVec Ideal S512x2304 .f32) (v34 v36 v38 : FVec Ideal S512x128 .f32) (r : Fin 512) (d : Fin 128) :
    k0_pay3 (F := Ideal) v27 v34 v36 v38 (ix2 r d)
      = turn (fun d => v27 (ix2 r ⟨1536 + d.val, by omega⟩)) (fun d => v34 (ix2 r d)) (fun d => v36 (ix2 r d))
          (fun d => v38 (ix2 r d)) d := by
  unfold turn
  pointwise [k0_pay3]

/-- The index queries. -/
theorem pay2_apply (v27 : FVec Ideal S512x2304 .f32) (r : Fin 512) (f : Fin 256) :
    k0_pay2 (F := Ideal) v27 (ix2 r f) = v27 (ix2 r ⟨1792 + f.val, by omega⟩) := by
  pointwise [k0_pay2]

/-- The values. -/
theorem pay4_apply (v27 : FVec Ideal S512x2304 .f32) (r : Fin 512) (f : Fin 128) :
    k0_pay4 (F := Ideal) v27 (ix2 r f) = v27 (ix2 r ⟨1664 + f.val, by omega⟩) := by
  pointwise [k0_pay4]

/-- The index keys. -/
theorem pay5_apply (v27 : FVec Ideal S512x2304 .f32) (r : Fin 512) (f : Fin 32) :
    k0_pay5 (F := Ideal) v27 (ix2 r f) = v27 (ix2 r ⟨2048 + f.val, by omega⟩) := by
  pointwise [k0_pay5]

/-- The index weights. -/
theorem pay6_apply (v27 : FVec Ideal S512x2304 .f32) (r : Fin 512) (f : Fin 8) :
    k0_pay6 (F := Ideal) v27 (ix2 r f) = v27 (ix2 r ⟨2176 + f.val, by omega⟩) := by
  pointwise [k0_pay6]

end Cert.InprojSIdeal.Block

end
-- ==== Proof.InprojSBlock.lean ====
/-
What the one grid point of the sample batch's input projection leaves in each output buffer, over argument blocks that
hold the layer's arrays.
-/
module

public import proofs.«01_k».proof.Proof.Gen.InprojSIdeal.Frame
public import proofs.«01_k».proof.Proof.InprojSPay

@[expose] public section

set_option maxRecDepth 16384

noncomputable section

namespace Cert.InprojSIdeal.Block

open Cert.InprojSIdeal Cert.InprojSIdeal.Gen
open Idealize.ShloMosaic Idealize.ShloMosaic.TcCoe Idealize.SL.Sem
open Cert.InprojSpec (modRow qscale rot)
open Cert.InprojIdeal.Block (turn turn_eq tabC tabA tabB)
open Cert.InprojSSpec

/-- Argument blocks whose row `r` is row `T r` of batch `B r`: the rows, their modulation vectors, the gain, the padded
matrix and the rotation tables at the rows' positions. -/
structure Holds (A : Args) (B : Fin 512 → Fin 16) (T : Fin 512 → Fin 32) (X0 X1 X2 : Vec Ideal S512x1024 .f32)
    (X3 : Vec Ideal S1x1024 .f32) (X4 : Vec Ideal S2304x1024 .bf16) (X5 X6 X7 : Vec Ideal S512x128 .f32) : Prop where
  x : ∀ (r : Fin 512) (k : Fin 1024), X0 (ix2 r k) = A.x (B r) (T r) k
  sc : ∀ (r : Fin 512) (k : Fin 1024), X1 (ix2 r k) = A.sc (B r) k
  sh : ∀ (r : Fin 512) (k : Fin 1024), X2 (ix2 r k) = A.sh (B r) k
  g : ∀ k : Fin 1024, X3 (ix2 0 k) = A.g k
  w : ∀ (n : ℕ) (hn : n < 2080) (k : Fin 1024), X4 (ix2 ⟨n, by omega⟩ k) = A.w k ⟨n, by omega⟩
  wi : ∀ (f : Fin 8) (k : Fin 1024), X4 (ix2 ⟨2176 + f.val, by omega⟩ k) = A.w k ⟨2080 + f.val, by omega⟩
  tc : ∀ (r : Fin 512) (d : Fin 128), X5 (ix2 r d) = tabC (cosT (T r)) d
  ta : ∀ (r : Fin 512) (d : Fin 128), X6 (ix2 r d) = tabA (sinT (T r)) d
  tb : ∀ (r : Fin 512) (d : Fin 128), X7 (ix2 r d) = tabB (sinT (T r)) d

variable {A : Args} {B : Fin 512 → Fin 16} {T : Fin 512 → Fin 32} {X0 X1 X2 : Vec Ideal S512x1024 .f32}
    {X3 : Vec Ideal S1x1024 .f32} {X4 : Vec Ideal S2304x1024 .bf16} {X5 X6 X7 : Vec Ideal S512x128 .f32}

/-- The product read over the blocks whole. -/
theorem pay17_eq : k0_pay17 (F := Ideal) X0 X1 X2 X3 X4 X5 X6 X7 = k0_pay7 (F := Ideal) X0 X3 X1 X2 X4 := by
  unfold k0_pay17
  have e0 : View.ld X0 r0_0 = X0 := View.ld_unit_zero off2 _ X0
  have e1 : View.ld X1 r0_0 = X1 := View.ld_unit_zero off2 _ X1
  have e2 : View.ld X2 r0_0 = X2 := View.ld_unit_zero off2 _ X2
  have e3 : View.ld X3 r0_1 = X3 := View.ld_unit_zero off2 _ X3
  have e4 : View.ld X4 r0_2 = X4 := View.ld_unit_zero off2 _ X4
  rw [e0, e1, e2, e3, e4]

/-- The first table read whole. -/
theorem pay18_apply (r : Fin 512) (d : Fin 128) : k0_pay18 (F := Ideal) X0 X1 X2 X3 X4 X5 X6 X7 (ix2 r d) = X5 (ix2 r d) := by
  have e : View.ld X5 r0_4 = X5 := View.ld_unit_zero off2 _ X5
  unfold k0_pay18
  rw [e]
  pointwise [k0_pay9]

/-- The second table read whole. -/
theorem pay19_apply (r : Fin 512) (d : Fin 128) : k0_pay19 (F := Ideal) X0 X1 X2 X3 X4 X5 X6 X7 (ix2 r d) = X6 (ix2 r d) := by
  have e : View.ld X6 r0_4 = X6 := View.ld_unit_zero off2 _ X6
  unfold k0_pay19
  rw [e]
  pointwise [k0_pay10]

/-- The third table read whole. -/
theorem pay20_apply (r : Fin 512) (d : Fin 128) : k0_pay20 (F := Ideal) X0 X1 X2 X3 X4 X5 X6 X7 (ix2 r d) = X7 (ix2 r d) := by
  have e : View.ld X7 r0_4 = X7 := View.ld_unit_zero off2 _ X7
  unfold k0_pay20
  rw [e]
  pointwise [k0_pay11]

variable (H : Holds A B T X0 X1 X2 X3 X4 X5 X6 X7)
include H

/-- A row of the blocks, modulated. -/
theorem row_eq (r : Fin 512) (k : Fin 1024) :
    modRow (fun k => X0 (ix2 r k)) (fun k => X3 (ix2 0 k)) (fun k => X1 (ix2 r k)) (fun k => X2 (ix2 r k)) k
      = A.h (B r) (T r) k := by
  unfold Args.h
  rw [funext (H.x r), funext H.g, funext (H.sc r), funext (H.sh r)]

/-- The product's columns before the padding. -/
theorem z_eq (r : Fin 512) (n : ℕ) (hn : n < 2080) :
    k0_pay17 (F := Ideal) X0 X1 X2 X3 X4 X5 X6 X7 (ix2 r ⟨n, by omega⟩) = A.z (B r) (T r) ⟨n, by omega⟩ := by
  rw [pay17_eq, pay7_apply]
  unfold Args.z
  exact Finset.sum_congr rfl fun k _ => congrArg₂ (· * ·) (row_eq H r k) (H.w n hn k)

/-- The product's columns of the index weights, after the padding. -/
theorem zwi_eq (r : Fin 512) (f : Fin 8) :
    k0_pay17 (F := Ideal) X0 X1 X2 X3 X4 X5 X6 X7 (ix2 r ⟨2176 + f.val, by omega⟩) = A.wi (B r) (T r) f := by
  rw [pay17_eq, pay7_apply]
  unfold Args.wi Args.z
  exact Finset.sum_congr rfl fun k _ => congrArg₂ (· * ·) (row_eq H r k) (H.wi f k)

/-- A lane group of the product turned by the tables is the rotation of its heads. -/
theorem turned (r : Fin 512) (o : ℕ) (ho : o + 128 ≤ 2080) (d : Fin 128) :
    turn (fun d => k0_pay17 (F := Ideal) X0 X1 X2 X3 X4 X5 X6 X7 (ix2 r ⟨o + d.val, by omega⟩)) (fun d => X5 (ix2 r d))
        (fun d => X6 (ix2 r d)) (fun d => X7 (ix2 r d)) d
      = rot (fun l => A.z (B r) (T r) ⟨o + (64 * (d.val / 64) + l.val), by omega⟩) (cosT (T r)) (sinT (T r)) ⟨d.val % 64, by omega⟩ := by
  rw [funext (H.tc r), funext (H.ta r), funext (H.tb r), turn_eq]
  congr 1
  funext l
  exact z_eq H r (o + (64 * (d.val / 64) + l.val)) (by omega)

/-- The gated pair. -/
theorem out8_at (r : Fin 512) (f : Fin 512) : out0_8 (F := Ideal) X0 X1 X2 X3 X4 X5 X6 X7 (ix2 r f) = A.glu (B r) (T r) f := by
  have e : out0_8 (F := Ideal) X0 X1 X2 X3 X4 X5 X6 X7 = k0_pay8 (F := Ideal) X0 X3 X1 X2 X4 := by
    unfold out0_8
    have e0 : View.ld X0 r0_0 = X0 := View.ld_unit_zero off2 _ X0
    have e1 : View.ld X1 r0_0 = X1 := View.ld_unit_zero off2 _ X1
    have e2 : View.ld X2 r0_0 = X2 := View.ld_unit_zero off2 _ X2
    have e3 : View.ld X3 r0_1 = X3 := View.ld_unit_zero off2 _ X3
    have e4 : View.ld X4 r0_2 = X4 := View.ld_unit_zero off2 _ X4
    rw [e0, e1, e2, e3, e4]
    exact View.canon_unit_zero off2 _ _
  rw [e, pay8_apply, ← pay17_eq (X5 := X5) (X6 := X6) (X7 := X7), z_eq H r f.val (by omega), z_eq H r (512 + f.val) (by omega)]
  rfl

/-- The keys. -/
theorem out11_at (r : Fin 512) (d : Fin 128) : out0_11 (F := Ideal) X0 X1 X2 X3 X4 X5 X6 X7 (ix2 r d) = A.k (B r) (T r) d := by
  have e : out0_11 (F := Ideal) X0 X1 X2 X3 X4 X5 X6 X7 = k0_pay3 (F := Ideal) (k0_pay17 (F := Ideal) X0 X1 X2 X3 X4 X5 X6 X7) (k0_pay18 (F := Ideal) X0 X1 X2 X3 X4 X5 X6 X7)
      (k0_pay19 (F := Ideal) X0 X1 X2 X3 X4 X5 X6 X7) (k0_pay20 (F := Ideal) X0 X1 X2 X3 X4 X5 X6 X7) := by
    unfold out0_11
    exact View.canon_unit_zero off2 _ _
  rw [e, pay3_apply, funext (pay18_apply r), funext (pay19_apply r), funext (pay20_apply r), turned H r 1536 (by omega) d]
  rfl

/-- The index queries. -/
theorem out10_at (r : Fin 512) (f : Fin 256) : out0_10 (F := Ideal) X0 X1 X2 X3 X4 X5 X6 X7 (ix2 r f) = A.qi (B r) (T r) f := by
  have e : out0_10 (F := Ideal) X0 X1 X2 X3 X4 X5 X6 X7 = k0_pay2 (F := Ideal) (k0_pay17 (F := Ideal) X0 X1 X2 X3 X4 X5 X6 X7) := by
    unfold out0_10
    exact View.canon_unit_zero off2 _ _
  rw [e, pay2_apply, z_eq H r (1792 + f.val) (by omega)]
  rfl

/-- The values. -/
theorem out12_at (r : Fin 512) (f : Fin 128) : out0_12 (F := Ideal) X0 X1 X2 X3 X4 X5 X6 X7 (ix2 r f) = A.v (B r) (T r) f := by
  have e : out0_12 (F := Ideal) X0 X1 X2 X3 X4 X5 X6 X7 = k0_pay4 (F := Ideal) (k0_pay17 (F := Ideal) X0 X1 X2 X3 X4 X5 X6 X7) := by
    unfold out0_12
    exact View.canon_unit_zero off2 _ _
  rw [e, pay4_apply, z_eq H r (1664 + f.val) (by omega)]
  rfl

/-- The index keys. -/
theorem out13_at (r : Fin 512) (f : Fin 32) : out0_13 (F := Ideal) X0 X1 X2 X3 X4 X5 X6 X7 (ix2 r f) = A.ki (B r) (T r) f := by
  have e : out0_13 (F := Ideal) X0 X1 X2 X3 X4 X5 X6 X7 = k0_pay5 (F := Ideal) (k0_pay17 (F := Ideal) X0 X1 X2 X3 X4 X5 X6 X7) := by
    unfold out0_13
    exact View.canon_unit_zero off2 _ _
  rw [e, pay5_apply, z_eq H r (2048 + f.val) (by omega)]
  rfl

/-- The index weights. -/
theorem out14_at (r : Fin 512) (f : Fin 8) : out0_14 (F := Ideal) X0 X1 X2 X3 X4 X5 X6 X7 (ix2 r f) = A.wi (B r) (T r) f := by
  have e : out0_14 (F := Ideal) X0 X1 X2 X3 X4 X5 X6 X7 = k0_pay6 (F := Ideal) (k0_pay17 (F := Ideal) X0 X1 X2 X3 X4 X5 X6 X7) := by
    unfold out0_14
    exact View.canon_unit_zero off2 _ _
  rw [e, pay6_apply, zwi_eq H]

/-- The queries: four lane groups, each turned by the tables and scaled. -/
theorem out9_at (r : Fin 512) (f : Fin 512) : out0_9 (F := Ideal) X0 X1 X2 X3 X4 X5 X6 X7 (ix2 r f) = A.q (B r) (T r) f := by
  have e7 : View.ld X7 r0_4 = X7 := View.ld_unit_zero off2 _ X7
  have group : ∀ (o : ℕ) (ho : o + 128 ≤ 512) (r : Fin 512) (d : Fin 128),
      rot (fun l => A.z (B r) (T r) ⟨1024 + o + (64 * (d.val / 64) + l.val), by omega⟩) (cosT (T r)) (sinT (T r)) ⟨d.val % 64, by omega⟩ * qscale
        = rot (fun l => A.z (B r) (T r) ⟨1024 + (64 * ((o + d.val) / 64) + l.val), by omega⟩) (cosT (T r)) (sinT (T r)) ⟨(o + d.val) % 64, by omega⟩ * qscale
        ∨ o % 64 ≠ 0 := by
    intro o ho r d
    by_cases h : o % 64 = 0
    · refine Or.inl (congrArg (· * qscale) (congrArg₂ (fun v l => rot v (cosT (T r)) (sinT (T r)) l) (funext fun l => ?_) (Fin.ext ?_)))
      · refine congrArg (A.z (B r) (T r)) (Fin.ext ?_)
        show 1024 + o + (64 * (d.val / 64) + l.val) = 1024 + (64 * ((o + d.val) / 64) + l.val)
        omega
      · show d.val % 64 = (o + d.val) % 64
        omega
    · exact Or.inr h
  unfold out0_9
  rw [e7]
  refine View.canon_apply_of_pieces (Val := Elt Ideal) (S := S512x512) (e := .bf16) (fun y => A.q (B (y 0)) (T (y 0)) (y 1)) _ ?_ (ix2 r f) (cover0_9 _ _ _ _ _)
  intro p hp
  simp only [List.mem_cons, List.not_mem_nil, or_false] at hp
  rcases hp with rfl | rfl | rfl | rfl
  · intro x
    obtain ⟨r, d, rfl⟩ : ∃ (r : Fin 512) (d : Fin 128), x = ix2 r d := ⟨x 0, x 1, eq_ix2 x⟩
    show k0_pay1 (F := Ideal) (k0_pay19 (F := Ideal) X0 X1 X2 X3 X4 X5 X6 X7) (k0_pay20 (F := Ideal) X0 X1 X2 X3 X4 X5 X6 X7) (k0_pay15 (F := Ideal) (k0_pay17 (F := Ideal) X0 X1 X2 X3 X4 X5 X6 X7)) (k0_pay16 (F := Ideal) (k0_pay17 (F := Ideal) X0 X1 X2 X3 X4 X5 X6 X7) (k0_pay18 (F := Ideal) X0 X1 X2 X3 X4 X5 X6 X7)) (ix2 r d) = _
    rw [pay1_apply, funext (pay18_apply r), funext (pay19_apply r), funext (pay20_apply r), turned H r 1408 (by omega) d]
    refine ((group 384 (by omega) r d).resolve_right (by decide)).trans ?_
    have e0 : (Rect.unit (s := S512x512) ![0, 384] S512x128.size inb_S512x512_S512x128_0_384).emb (ix2 r d) 0 = r := Fin.ext (by show 0 + 1 * r.val = r.val; omega)
    have e1 : (Rect.unit (s := S512x512) ![0, 384] S512x128.size inb_S512x512_S512x128_0_384).emb (ix2 r d) 1 = (⟨384 + d.val, by omega⟩ : Fin 512) := Fin.ext (by show 384 + 1 * d.val = 384 + d.val; omega)
    show _ = A.q (B _) (T _) _
    rw [e0, e1]
    rfl
  · intro x
    obtain ⟨r, d, rfl⟩ : ∃ (r : Fin 512) (d : Fin 128), x = ix2 r d := ⟨x 0, x 1, eq_ix2 x⟩
    show k0_pay14 (F := Ideal) (k0_pay17 (F := Ideal) X0 X1 X2 X3 X4 X5 X6 X7) (k0_pay18 (F := Ideal) X0 X1 X2 X3 X4 X5 X6 X7) (k0_pay19 (F := Ideal) X0 X1 X2 X3 X4 X5 X6 X7) X7 (ix2 r d) = _
    rw [pay14_apply, funext (pay18_apply r), funext (pay19_apply r), turned H r 1280 (by omega) d]
    refine ((group 256 (by omega) r d).resolve_right (by decide)).trans ?_
    have e0 : (Rect.unit (s := S512x512) ![0, 256] S512x128.size inb_S512x512_S512x128_0_256).emb (ix2 r d) 0 = r := Fin.ext (by show 0 + 1 * r.val = r.val; omega)
    have e1 : (Rect.unit (s := S512x512) ![0, 256] S512x128.size inb_S512x512_S512x128_0_256).emb (ix2 r d) 1 = (⟨256 + d.val, by omega⟩ : Fin 512) := Fin.ext (by show 256 + 1 * d.val = 256 + d.val; omega)
    show _ = A.q (B _) (T _) _
    rw [e0, e1]
    rfl
  · intro x
    obtain ⟨r, d, rfl⟩ : ∃ (r : Fin 512) (d : Fin 128), x = ix2 r d := ⟨x 0, x 1, eq_ix2 x⟩
    show k0_pay13 (F := Ideal) (k0_pay17 (F := Ideal) X0 X1 X2 X3 X4 X5 X6 X7) (k0_pay18 (F := Ideal) X0 X1 X2 X3 X4 X5 X6 X7) (k0_pay19 (F := Ideal) X0 X1 X2 X3 X4 X5 X6 X7) X7 (ix2 r d) = _
    rw [pay13_apply, funext (pay18_apply r), funext (pay19_apply r), turned H r 1152 (by omega) d]
    refine ((group 128 (by omega) r d).resolve_right (by decide)).trans ?_
    have e0 : (Rect.unit (s := S512x512) ![0, 128] S512x128.size inb_S512x512_S512x128_0_128).emb (ix2 r d) 0 = r := Fin.ext (by show 0 + 1 * r.val = r.val; omega)
    have e1 : (Rect.unit (s := S512x512) ![0, 128] S512x128.size inb_S512x512_S512x128_0_128).emb (ix2 r d) 1 = (⟨128 + d.val, by omega⟩ : Fin 512) := Fin.ext (by show 128 + 1 * d.val = 128 + d.val; omega)
    show _ = A.q (B _) (T _) _
    rw [e0, e1]
    rfl
  · intro x
    obtain ⟨r, d, rfl⟩ : ∃ (r : Fin 512) (d : Fin 128), x = ix2 r d := ⟨x 0, x 1, eq_ix2 x⟩
    show k0_pay12 (F := Ideal) (k0_pay17 (F := Ideal) X0 X1 X2 X3 X4 X5 X6 X7) (k0_pay18 (F := Ideal) X0 X1 X2 X3 X4 X5 X6 X7) (k0_pay19 (F := Ideal) X0 X1 X2 X3 X4 X5 X6 X7) X7 (ix2 r d) = _
    rw [pay12_apply, funext (pay18_apply r), funext (pay19_apply r), turned H r 1024 (by omega) d]
    refine ((group 0 (by omega) r d).resolve_right (by decide)).trans ?_
    have e0 : (Rect.unit (s := S512x512) ![0, 0] S512x128.size inb_S512x512_S512x128_0_0).emb (ix2 r d) 0 = r := Fin.ext (by show 0 + 1 * r.val = r.val; omega)
    have e1 : (Rect.unit (s := S512x512) ![0, 0] S512x128.size inb_S512x512_S512x128_0_0).emb (ix2 r d) 1 = (⟨0 + d.val, by omega⟩ : Fin 512) := Fin.ext (by show 0 + 1 * d.val = 0 + d.val; omega)
    show _ = A.q (B _) (T _) _
    rw [e0, e1]
    rfl

end Cert.InprojSIdeal.Block

end
-- ==== Proof.InprojSHost.lean ====
/-
What the argument blocks of the grid point of the sample batch's input projection hold: rows of the layer's arrays.  The host's reshapes,
the padded transposed matrix and the rotation tables built before the launch are read through.
-/
module

public import proofs.«01_k».proof.Proof.InprojSBlock
public import Idealize.ShloMosaic.Lib.StableHlo.ReadAt
public import Idealize.ShloMosaic.Lib.Claim

@[expose] public section

set_option maxRecDepth 16384

noncomputable section

namespace Cert.InprojSIdeal.Block

open Cert.InprojSIdeal Cert.InprojSIdeal.Gen
open Idealize.ShloMosaic Idealize.ShloMosaic.TcCoe Idealize.SL.Sem
open Cert.InprojSpec (rate zero)
open Cert.InprojIdeal.Block (tabC tabA tabB)
open Cert.InprojSSpec
open Cert.PostSpec (one)

variable (m : (ℓ : Loc nD τ sig) → Buf (Elt Ideal) ℓ)

/-- The layer's arrays, read off the launch's memory. -/
abbrev argsAt (c : Dev nD) : Args :=
  argsOf (m (c, main_arg0)) (m (c, main_arg1)) (m (c, main_arg2)) (m (c, main_arg3)) (m (c, main_arg4))

/-- The scale vectors, one copy per row of its batch. -/
theorem V_v1 (c : Dev nD) (r : Fin 512) (d : Fin 1024) :
    V m c main_v1 (ix2 r d) = m (c, main_arg1) (ix2 (⟨r.val / 32, by omega⟩ : Fin 16) d) := by
  unfold V
  after_reads_at

/-- The shift vectors, one copy per row of its batch. -/
theorem V_v3 (c : Dev nD) (r : Fin 512) (d : Fin 1024) :
    V m c main_v3 (ix2 r d) = m (c, main_arg2) (ix2 (⟨r.val / 32, by omega⟩ : Fin 16) d) := by
  unfold V
  after_reads_at

/-- The rows of all batches, one after the other. -/
theorem V_v45 (c : Dev nD) (r : Fin 512) (d : Fin 1024) :
    V m c main_v45 (ix2 r d) = m (c, main_arg0) (ix3 (⟨r.val / 32, by omega⟩ : Fin 16) (⟨r.val % 32, by omega⟩ : Fin 32) d) := by
  unfold V
  after_reads_at

/-- The gain as one row. -/
theorem V_v46 (c : Dev nD) (d : Fin 1024) :
    V m c main_v46 (ix2 0 d) = m (c, main_arg3) (ix1 d) := by
  unfold V
  after_reads_at

/-- The padded matrix before its padding. -/
theorem V_v53 (c : Dev nD) (n : ℕ) (hn : n < 2080) (k : Fin 1024) :
    V m c main_v53 (ix2 (⟨n, by omega⟩ : Fin 2304) k) = m (c, main_arg4) (ix2 k (⟨n, by omega⟩ : Fin 2088)) := by
  unfold V
  after_reads_at
  rw [dif_pos hn]
  after_reads_at

/-- The padded matrix in the rows of the index weights. -/
theorem V_v53_wi (c : Dev nD) (f : Fin 8) (k : Fin 1024) :
    V m c main_v53 (ix2 (⟨2176 + f.val, by omega⟩ : Fin 2304) k) = m (c, main_arg4) (ix2 k (⟨2080 + f.val, by omega⟩ : Fin 2088)) := by
  unfold V
  after_reads_at
  rw [dif_neg (by omega), dif_neg (by omega), dif_pos (by omega)]
  after_reads_at
  exact congrArg (fun e => m (c, main_arg4) (ix2 k e)) (Fin.ext (by show 2080 + (2176 + f.val - 2080 - 96) = 2080 + f.val; omega))

/-- The cosine of an angle, in the order the host takes it. -/
theorem cos_form (t : Fin 32) (n : ℕ) (i : Fin 8) (h : i.val = n) :
    Ideal.cos (FloatOps.sitofp (F := Ideal) FTy.f32 (4096#32 + BitVec.ofNat 32 t.val) * Ideal.div 1
      (Ideal.pow (Ideal.ofBits FTy.f32 0x48F42400#32) (Ideal.div (Ideal.ofBits FTy.f32 0x40000000#32
        * FloatOps.sitofp (F := Ideal) FTy.f32 (BitVec.ofNat 32 n)) (Ideal.ofBits FTy.f32 0x41800000#32)))) = cosT t i := by
  subst h
  unfold cosT angle rate zero one
  rw [Ideal.ofBits_zero_f32, Ideal.ofBits_one_f32, zero_add]
  rfl

/-- The sine of an angle, in the order the host takes it. -/
theorem sin_form (t : Fin 32) (n : ℕ) (i : Fin 8) (h : i.val = n) :
    Ideal.sin (FloatOps.sitofp (F := Ideal) FTy.f32 (4096#32 + BitVec.ofNat 32 t.val) * Ideal.div 1
      (Ideal.pow (Ideal.ofBits FTy.f32 0x48F42400#32) (Ideal.div (Ideal.ofBits FTy.f32 0x40000000#32
        * FloatOps.sitofp (F := Ideal) FTy.f32 (BitVec.ofNat 32 n)) (Ideal.ofBits FTy.f32 0x41800000#32)))) = sinT t i := by
  subst h
  unfold sinT angle rate zero one
  rw [Ideal.ofBits_zero_f32, Ideal.ofBits_one_f32, zero_add]
  rfl

/-- The cosine table, one row per position. -/
theorem up_v33 (c : Dev nD) (t : Fin 32) (d : Fin 128) :
    StableHlo.upto hostOps0 (fun b => m (c, b)) 45 (Proc.devRef .tc main_v33) (ix2 t d) = tabC (cosT t) d := by
  after_reads_at
  unfold tabC
  split
  · split
    · after_reads_at
      rw [dif_pos (by omega)]
      exact cos_form t _ _ (by dsimp only; omega)
    · split
      · after_reads_at
        rw [dif_neg (by omega), dif_pos (by omega)]
        exact cos_form t _ _ (by dsimp only; omega)
      · after_reads_at
        rw [dif_neg (by omega), dif_neg (by omega)]
  · split
    · after_reads_at
      rw [dif_pos (by omega)]
      exact cos_form t _ _ (by dsimp only; omega)
    · split
      · after_reads_at
        rw [dif_neg (by omega), dif_pos (by omega)]
        exact cos_form t _ _ (by dsimp only; omega)
      · after_reads_at
        rw [dif_neg (by omega), dif_neg (by omega)]

/-- The sine table, one row per position. -/
theorem up_v34 (c : Dev nD) (t : Fin 32) (d : Fin 128) :
    StableHlo.upto hostOps0 (fun b => m (c, b)) 48 (Proc.devRef .tc main_v34) (ix2 t d) = tabA (sinT t) d := by
  after_reads_at
  unfold tabA
  split
  · split
    · after_reads_at
      rw [dif_pos (by omega)]
    · split
      · after_reads_at
        rw [dif_neg (by omega), dif_pos (by omega)]
        exact sin_form t _ _ (by dsimp only; omega)
      · after_reads_at
        rw [dif_neg (by omega), dif_neg (by omega)]
  · split
    · after_reads_at
      rw [dif_pos (by omega)]
    · split
      · after_reads_at
        rw [dif_neg (by omega), dif_pos (by omega)]
        exact sin_form t _ _ (by dsimp only; omega)
      · after_reads_at
        rw [dif_neg (by omega), dif_neg (by omega)]

/-- The negated sine table, one row per position. -/
theorem up_v35 (c : Dev nD) (t : Fin 32) (d : Fin 128) :
    StableHlo.upto hostOps0 (fun b => m (c, b)) 51 (Proc.devRef .tc main_v35) (ix2 t d) = tabB (sinT t) d := by
  after_reads_at
  unfold tabB
  split
  · split
    · after_reads_at
      rw [dif_pos (by omega)]
      exact congrArg Neg.neg (sin_form t _ _ (by dsimp only; omega))
    · split
      · after_reads_at
        rw [dif_neg (by omega)]
      · after_reads_at
        rw [dif_neg (by omega)]
  · split
    · after_reads_at
      rw [dif_pos (by omega)]
      exact congrArg Neg.neg (sin_form t _ _ (by dsimp only; omega))
    · split
      · after_reads_at
        rw [dif_neg (by omega)]
      · after_reads_at
        rw [dif_neg (by omega)]

/-- The same, as a function of the index. -/
theorem fn_v33 (c : Dev nD) : StableHlo.upto hostOps0 (fun b => m (c, b)) 45 (no_index (Proc.devRef .tc main_v33))
    = (fun i : S32x128.Idx => tabC (cosT (i 0)) (i 1)) := by
  funext i
  obtain ⟨t, d, rfl⟩ : ∃ (t : Fin 32) (d : Fin 128), i = ix2 t d := ⟨i 0, i 1, eq_ix2 i⟩
  exact up_v33 m c t d

/-- The cosine table, repeated for every batch. -/
theorem V_v38 (c : Dev nD) (r : Fin 512) (d : Fin 128) :
    V m c main_v38 (ix2 r d) = tabC (cosT ⟨r.val % 32, by omega⟩) d := by
  unfold V
  after_reads_simp [fn_v33]
  clean_types
  pointwise

/-- The same, as a function of the index. -/
theorem fn_v34 (c : Dev nD) : StableHlo.upto hostOps0 (fun b => m (c, b)) 48 (no_index (Proc.devRef .tc main_v34))
    = (fun i : S32x128.Idx => tabA (sinT (i 0)) (i 1)) := by
  funext i
  obtain ⟨t, d, rfl⟩ : ∃ (t : Fin 32) (d : Fin 128), i = ix2 t d := ⟨i 0, i 1, eq_ix2 i⟩
  exact up_v34 m c t d

/-- The sine table, repeated for every batch. -/
theorem V_v41 (c : Dev nD) (r : Fin 512) (d : Fin 128) :
    V m c main_v41 (ix2 r d) = tabA (sinT ⟨r.val % 32, by omega⟩) d := by
  unfold V
  after_reads_simp [fn_v34]
  clean_types
  pointwise

/-- The same, as a function of the index. -/
theorem fn_v35 (c : Dev nD) : StableHlo.upto hostOps0 (fun b => m (c, b)) 51 (no_index (Proc.devRef .tc main_v35))
    = (fun i : S32x128.Idx => tabB (sinT (i 0)) (i 1)) := by
  funext i
  obtain ⟨t, d, rfl⟩ : ∃ (t : Fin 32) (d : Fin 128), i = ix2 t d := ⟨i 0, i 1, eq_ix2 i⟩
  exact up_v35 m c t d

/-- The negated sine table, repeated for every batch. -/
theorem V_v44 (c : Dev nD) (r : Fin 512) (d : Fin 128) :
    V m c main_v44 (ix2 r d) = tabB (sinT ⟨r.val % 32, by omega⟩) d := by
  unfold V
  after_reads_simp [fn_v35]
  clean_types
  pointwise

end Cert.InprojSIdeal.Block

end
-- ==== Proof.InprojSArray.lean ====
/-
What the result arrays of the sample batch's input projection hold: the layer's projections of every row, each array read back through
the blocks the grid point leaves.
-/
module

public import proofs.«01_k».proof.Proof.Gen.InprojSIdeal.Value
public import proofs.«01_k».proof.Proof.InprojSHost

@[expose] public section

set_option maxRecDepth 16384

noncomputable section

namespace Cert.InprojSIdeal.Block

open Cert.InprojSIdeal Cert.InprojSIdeal.Gen Cert.InprojSIdeal.Value
open Idealize.ShloMosaic Idealize.ShloMosaic.TcCoe Idealize.SL.Sem
open Cert.InprojSSpec

variable (m : (ℓ : Loc nD τ sig) → Buf (Elt Ideal) ℓ)

/-- The batch of a row. -/
abbrev batch (r : Fin 512) : Fin 16 := ⟨r.val / 32, by omega⟩
/-- The position of a row. -/
abbrev pos (r : Fin 512) : Fin 32 := ⟨r.val % 32, by omega⟩

/-- Where the blocks of window 0 lie. -/
theorem at0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 0's block at an index. -/
theorem blk0 (c : Dev nD) (t : Fin cfg0.N) (i : Fin 512) (j : Fin 1024) :
    iblk m c 0 t (ix2 i j) = V m c main_v45 (ix2 i j) := by
  obtain ⟨h0, h1⟩ := at0 t
  have hN : t.val < 1 := t.isLt
  show ((cfg0.win 0).blk t).view.read (Elt Ideal) (V m c (Pipeline.arrRef spec0 0)) _ = _
  rw [View.read_apply]
  refine congrArg (V m c main_v45) (funext fun a => Fin.ext ?_)
  exact (match a with
    | ⟨0, _⟩ => (by show win0_0.index t 0 * 512 + 1 * i.val = i.val; rw [h0]; omega)
    | ⟨1, _⟩ => (by show win0_0.index t 1 * 1024 + 1 * j.val = j.val; rw [h1]; omega)
    )

/-- Where the blocks of window 1 lie. -/
theorem at1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 1's block at an index. -/
theorem blk1 (c : Dev nD) (t : Fin cfg0.N) (i : Fin 512) (j : Fin 1024) :
    iblk m c 1 t (ix2 i j) = V m c main_v1 (ix2 i j) := by
  obtain ⟨h0, h1⟩ := at1 t
  have hN : t.val < 1 := t.isLt
  show ((cfg0.win 1).blk t).view.read (Elt Ideal) (V m c (Pipeline.arrRef spec0 1)) _ = _
  rw [View.read_apply]
  refine congrArg (V m c main_v1) (funext fun a => Fin.ext ?_)
  exact (match a with
    | ⟨0, _⟩ => (by show win0_1.index t 0 * 512 + 1 * i.val = i.val; rw [h0]; omega)
    | ⟨1, _⟩ => (by show win0_1.index t 1 * 1024 + 1 * j.val = j.val; rw [h1]; omega)
    )

/-- Where the blocks of window 2 lie. -/
theorem at2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 2's block at an index. -/
theorem blk2 (c : Dev nD) (t : Fin cfg0.N) (i : Fin 512) (j : Fin 1024) :
    iblk m c 2 t (ix2 i j) = V m c main_v3 (ix2 i j) := by
  obtain ⟨h0, h1⟩ := at2 t
  have hN : t.val < 1 := t.isLt
  show ((cfg0.win 2).blk t).view.read (Elt Ideal) (V m c (Pipeline.arrRef spec0 2)) _ = _
  rw [View.read_apply]
  refine congrArg (V m c main_v3) (funext fun a => Fin.ext ?_)
  exact (match a with
    | ⟨0, _⟩ => (by show win0_2.index t 0 * 512 + 1 * i.val = i.val; rw [h0]; omega)
    | ⟨1, _⟩ => (by show win0_2.index t 1 * 1024 + 1 * j.val = j.val; rw [h1]; omega)
    )

/-- Where the blocks of window 3 lie. -/
theorem at3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's block at an index. -/
theorem blk3 (c : Dev nD) (t : Fin cfg0.N) (i : Fin 1) (j : Fin 1024) :
    iblk m c 3 t (ix2 i j) = V m c main_v46 (ix2 i j) := by
  obtain ⟨h0, h1⟩ := at3 t
  have hN : t.val < 1 := t.isLt
  show ((cfg0.win 3).blk t).view.read (Elt Ideal) (V m c (Pipeline.arrRef spec0 3)) _ = _
  rw [View.read_apply]
  refine congrArg (V m c main_v46) (funext fun a => Fin.ext ?_)
  exact (match a with
    | ⟨0, _⟩ => (by show win0_3.index t 0 * 1 + 1 * i.val = i.val; rw [h0]; omega)
    | ⟨1, _⟩ => (by show win0_3.index t 1 * 1024 + 1 * j.val = j.val; rw [h1]; omega)
    )

/-- Where the blocks of window 4 lie. -/
theorem at4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's block at an index. -/
theorem blk4 (c : Dev nD) (t : Fin cfg0.N) (i : Fin 2304) (j : Fin 1024) :
    iblk m c 4 t (ix2 i j) = V m c main_v53 (ix2 i j) := by
  obtain ⟨h0, h1⟩ := at4 t
  have hN : t.val < 1 := t.isLt
  show ((cfg0.win 4).blk t).view.read (Elt Ideal) (V m c (Pipeline.arrRef spec0 4)) _ = _
  rw [View.read_apply]
  refine congrArg (V m c main_v53) (funext fun a => Fin.ext ?_)
  exact (match a with
    | ⟨0, _⟩ => (by show win0_4.index t 0 * 2304 + 1 * i.val = i.val; rw [h0]; omega)
    | ⟨1, _⟩ => (by show win0_4.index t 1 * 1024 + 1 * j.val = j.val; rw [h1]; omega)
    )

/-- Where the blocks of window 5 lie. -/
theorem at5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block at an index. -/
theorem blk5 (c : Dev nD) (t : Fin cfg0.N) (i : Fin 512) (j : Fin 128) :
    iblk m c 5 t (ix2 i j) = V m c main_v38 (ix2 i j) := by
  obtain ⟨h0, h1⟩ := at5 t
  have hN : t.val < 1 := t.isLt
  show ((cfg0.win 5).blk t).view.read (Elt Ideal) (V m c (Pipeline.arrRef spec0 5)) _ = _
  rw [View.read_apply]
  refine congrArg (V m c main_v38) (funext fun a => Fin.ext ?_)
  exact (match a with
    | ⟨0, _⟩ => (by show win0_5.index t 0 * 512 + 1 * i.val = i.val; rw [h0]; omega)
    | ⟨1, _⟩ => (by show win0_5.index t 1 * 128 + 1 * j.val = j.val; rw [h1]; omega)
    )

/-- Where the blocks of window 6 lie. -/
theorem at6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block at an index. -/
theorem blk6 (c : Dev nD) (t : Fin cfg0.N) (i : Fin 512) (j : Fin 128) :
    iblk m c 6 t (ix2 i j) = V m c main_v41 (ix2 i j) := by
  obtain ⟨h0, h1⟩ := at6 t
  have hN : t.val < 1 := t.isLt
  show ((cfg0.win 6).blk t).view.read (Elt Ideal) (V m c (Pipeline.arrRef spec0 6)) _ = _
  rw [View.read_apply]
  refine congrArg (V m c main_v41) (funext fun a => Fin.ext ?_)
  exact (match a with
    | ⟨0, _⟩ => (by show win0_6.index t 0 * 512 + 1 * i.val = i.val; rw [h0]; omega)
    | ⟨1, _⟩ => (by show win0_6.index t 1 * 128 + 1 * j.val = j.val; rw [h1]; omega)
    )

/-- Where the blocks of window 7 lie. -/
theorem at7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block at an index. -/
theorem blk7 (c : Dev nD) (t : Fin cfg0.N) (i : Fin 512) (j : Fin 128) :
    iblk m c 7 t (ix2 i j) = V m c main_v44 (ix2 i j) := by
  obtain ⟨h0, h1⟩ := at7 t
  have hN : t.val < 1 := t.isLt
  show ((cfg0.win 7).blk t).view.read (Elt Ideal) (V m c (Pipeline.arrRef spec0 7)) _ = _
  rw [View.read_apply]
  refine congrArg (V m c main_v44) (funext fun a => Fin.ext ?_)
  exact (match a with
    | ⟨0, _⟩ => (by show win0_7.index t 0 * 512 + 1 * i.val = i.val; rw [h0]; omega)
    | ⟨1, _⟩ => (by show win0_7.index t 1 * 128 + 1 * j.val = j.val; rw [h1]; omega)
    )

/-- The blocks of the grid point hold the rows of all batches. -/
theorem holds (c : Dev nD) (t : Fin cfg0.N) :
    Holds (argsAt m c) batch pos (iblk m c 0 t) (iblk m c 1 t) (iblk m c 2 t) (iblk m c 3 t) (iblk m c 4 t)
      (iblk m c 5 t) (iblk m c 6 t) (iblk m c 7 t) where
  x := fun r k => (blk0 m c t r k).trans (V_v45 m c r k)
  sc := fun r k => (blk1 m c t r k).trans (V_v1 m c r k)
  sh := fun r k => (blk2 m c t r k).trans (V_v3 m c r k)
  g := fun k => (blk3 m c t 0 k).trans (V_v46 m c k)
  w := fun n hn k => (blk4 m c t _ k).trans (V_v53 m c n hn k)
  wi := fun f k => (blk4 m c t _ k).trans (V_v53_wi m c f k)
  tc := fun r d => (blk5 m c t r d).trans (V_v38 m c r d)
  ta := fun r d => (blk6 m c t r d).trans (V_v41 m c r d)
  tb := fun r d => (blk7 m c t r d).trans (V_v44 m c r d)

/-- Where the blocks of window 8 lie. -/
theorem at8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- The grid point writes window 8 back. -/
theorem flush8 : ∀ t : Fin cfg0.N, (cfg0.win 8).flush t = true :=
  (by decide +kernel : ∀ t : Fin grid0.N, win0_8.flush t = true)

/-- The array of the gated pair, by row. -/
theorem arr8 (c : Dev nD) (r : Fin 512) (f : Fin 512) :
    (dats m 0 c).arrAt 8 cfg0.N (ix2 r f) = Args.glu (argsAt m c) (batch r) (pos r) f := by
  have hN : cfg0.N = 1 := N_0
  obtain ⟨t, ht⟩ : ∃ t : Fin cfg0.N, t.val = 0 := ⟨⟨0, by omega⟩, rfl⟩
  obtain ⟨h0, h1⟩ := at8 t
  have e := congrFun ((blocks8 m c t (flush8 t)).trans (flushed8 m c t)) (ix2 r f)
  rw [View.read_apply] at e
  have hi : ((cfg0.win 8).blk t).view.emb (ix2 r f) = ix2 r f := funext fun a => Fin.ext (by
    exact (match a with
    | ⟨0, _⟩ => (by show win0_8.index t 0 * 512 + 1 * r.val = r.val; rw [h0]; omega)
    | ⟨1, _⟩ => (by show win0_8.index t 1 * 512 + 1 * f.val = f.val; rw [h1]; omega)))
  rw [hi] at e
  exact e.trans (out8_at (holds m c t) r f)

/-- Where the blocks of window 9 lie. -/
theorem at9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- The grid point writes window 9 back. -/
theorem flush9 : ∀ t : Fin cfg0.N, (cfg0.win 9).flush t = true :=
  (by decide +kernel : ∀ t : Fin grid0.N, win0_9.flush t = true)

/-- The array of the queries, by row. -/
theorem arr9 (c : Dev nD) (r : Fin 512) (f : Fin 512) :
    (dats m 0 c).arrAt 9 cfg0.N (ix2 r f) = Args.q (argsAt m c) (batch r) (pos r) f := by
  have hN : cfg0.N = 1 := N_0
  obtain ⟨t, ht⟩ : ∃ t : Fin cfg0.N, t.val = 0 := ⟨⟨0, by omega⟩, rfl⟩
  obtain ⟨h0, h1⟩ := at9 t
  have e := congrFun ((blocks9 m c t (flush9 t)).trans (flushed9 m c t)) (ix2 r f)
  rw [View.read_apply] at e
  have hi : ((cfg0.win 9).blk t).view.emb (ix2 r f) = ix2 r f := funext fun a => Fin.ext (by
    exact (match a with
    | ⟨0, _⟩ => (by show win0_9.index t 0 * 512 + 1 * r.val = r.val; rw [h0]; omega)
    | ⟨1, _⟩ => (by show win0_9.index t 1 * 512 + 1 * f.val = f.val; rw [h1]; omega)))
  rw [hi] at e
  exact e.trans (out9_at (holds m c t) r f)

/-- Where the blocks of window 10 lie. -/
theorem at10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- The grid point writes window 10 back. -/
theorem flush10 : ∀ t : Fin cfg0.N, (cfg0.win 10).flush t = true :=
  (by decide +kernel : ∀ t : Fin grid0.N, win0_10.flush t = true)

/-- The array of the index queries, by row. -/
theorem arr10 (c : Dev nD) (r : Fin 512) (f : Fin 256) :
    (dats m 0 c).arrAt 10 cfg0.N (ix2 r f) = Args.qi (argsAt m c) (batch r) (pos r) f := by
  have hN : cfg0.N = 1 := N_0
  obtain ⟨t, ht⟩ : ∃ t : Fin cfg0.N, t.val = 0 := ⟨⟨0, by omega⟩, rfl⟩
  obtain ⟨h0, h1⟩ := at10 t
  have e := congrFun ((blocks10 m c t (flush10 t)).trans (flushed10 m c t)) (ix2 r f)
  rw [View.read_apply] at e
  have hi : ((cfg0.win 10).blk t).view.emb (ix2 r f) = ix2 r f := funext fun a => Fin.ext (by
    exact (match a with
    | ⟨0, _⟩ => (by show win0_10.index t 0 * 512 + 1 * r.val = r.val; rw [h0]; omega)
    | ⟨1, _⟩ => (by show win0_10.index t 1 * 256 + 1 * f.val = f.val; rw [h1]; omega)))
  rw [hi] at e
  exact e.trans (out10_at (holds m c t) r f)

/-- Where the blocks of window 11 lie. -/
theorem at11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- The grid point writes window 11 back. -/
theorem flush11 : ∀ t : Fin cfg0.N, (cfg0.win 11).flush t = true :=
  (by decide +kernel : ∀ t : Fin grid0.N, win0_11.flush t = true)

/-- The array of the keys, by row. -/
theorem arr11 (c : Dev nD) (r : Fin 512) (f : Fin 128) :
    (dats m 0 c).arrAt 11 cfg0.N (ix2 r f) = Args.k (argsAt m c) (batch r) (pos r) f := by
  have hN : cfg0.N = 1 := N_0
  obtain ⟨t, ht⟩ : ∃ t : Fin cfg0.N, t.val = 0 := ⟨⟨0, by omega⟩, rfl⟩
  obtain ⟨h0, h1⟩ := at11 t
  have e := congrFun ((blocks11 m c t (flush11 t)).trans (flushed11 m c t)) (ix2 r f)
  rw [View.read_apply] at e
  have hi : ((cfg0.win 11).blk t).view.emb (ix2 r f) = ix2 r f := funext fun a => Fin.ext (by
    exact (match a with
    | ⟨0, _⟩ => (by show win0_11.index t 0 * 512 + 1 * r.val = r.val; rw [h0]; omega)
    | ⟨1, _⟩ => (by show win0_11.index t 1 * 128 + 1 * f.val = f.val; rw [h1]; omega)))
  rw [hi] at e
  exact e.trans (out11_at (holds m c t) r f)

/-- Where the blocks of window 12 lie. -/
theorem at12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- The grid point writes window 12 back. -/
theorem flush12 : ∀ t : Fin cfg0.N, (cfg0.win 12).flush t = true :=
  (by decide +kernel : ∀ t : Fin grid0.N, win0_12.flush t = true)

/-- The array of the values, by row. -/
theorem arr12 (c : Dev nD) (r : Fin 512) (f : Fin 128) :
    (dats m 0 c).arrAt 12 cfg0.N (ix2 r f) = Args.v (argsAt m c) (batch r) (pos r) f := by
  have hN : cfg0.N = 1 := N_0
  obtain ⟨t, ht⟩ : ∃ t : Fin cfg0.N, t.val = 0 := ⟨⟨0, by omega⟩, rfl⟩
  obtain ⟨h0, h1⟩ := at12 t
  have e := congrFun ((blocks12 m c t (flush12 t)).trans (flushed12 m c t)) (ix2 r f)
  rw [View.read_apply] at e
  have hi : ((cfg0.win 12).blk t).view.emb (ix2 r f) = ix2 r f := funext fun a => Fin.ext (by
    exact (match a with
    | ⟨0, _⟩ => (by show win0_12.index t 0 * 512 + 1 * r.val = r.val; rw [h0]; omega)
    | ⟨1, _⟩ => (by show win0_12.index t 1 * 128 + 1 * f.val = f.val; rw [h1]; omega)))
  rw [hi] at e
  exact e.trans (out12_at (holds m c t) r f)

/-- Where the blocks of window 13 lie. -/
theorem at13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- The grid point writes window 13 back. -/
theorem flush13 : ∀ t : Fin cfg0.N, (cfg0.win 13).flush t = true :=
  (by decide +kernel : ∀ t : Fin grid0.N, win0_13.flush t = true)

/-- The array of the index keys, by row. -/
theorem arr13 (c : Dev nD) (r : Fin 512) (f : Fin 32) :
    (dats m 0 c).arrAt 13 cfg0.N (ix2 r f) = Args.ki (argsAt m c) (batch r) (pos r) f := by
  have hN : cfg0.N = 1 := N_0
  obtain ⟨t, ht⟩ : ∃ t : Fin cfg0.N, t.val = 0 := ⟨⟨0, by omega⟩, rfl⟩
  obtain ⟨h0, h1⟩ := at13 t
  have e := congrFun ((blocks13 m c t (flush13 t)).trans (flushed13 m c t)) (ix2 r f)
  rw [View.read_apply] at e
  have hi : ((cfg0.win 13).blk t).view.emb (ix2 r f) = ix2 r f := funext fun a => Fin.ext (by
    exact (match a with
    | ⟨0, _⟩ => (by show win0_13.index t 0 * 512 + 1 * r.val = r.val; rw [h0]; omega)
    | ⟨1, _⟩ => (by show win0_13.index t 1 * 32 + 1 * f.val = f.val; rw [h1]; omega)))
  rw [hi] at e
  exact e.trans (out13_at (holds m c t) r f)

/-- Where the blocks of window 14 lie. -/
theorem at14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-- The grid point writes window 14 back. -/
theorem flush14 : ∀ t : Fin cfg0.N, (cfg0.win 14).flush t = true :=
  (by decide +kernel : ∀ t : Fin grid0.N, win0_14.flush t = true)

/-- The array of the index weights, by row. -/
theorem arr14 (c : Dev nD) (r : Fin 512) (f : Fin 8) :
    (dats m 0 c).arrAt 14 cfg0.N (ix2 r f) = Args.wi (argsAt m c) (batch r) (pos r) f := by
  have hN : cfg0.N = 1 := N_0
  obtain ⟨t, ht⟩ : ∃ t : Fin cfg0.N, t.val = 0 := ⟨⟨0, by omega⟩, rfl⟩
  obtain ⟨h0, h1⟩ := at14 t
  have e := congrFun ((blocks14 m c t (flush14 t)).trans (flushed14 m c t)) (ix2 r f)
  rw [View.read_apply] at e
  have hi : ((cfg0.win 14).blk t).view.emb (ix2 r f) = ix2 r f := funext fun a => Fin.ext (by
    exact (match a with
    | ⟨0, _⟩ => (by show win0_14.index t 0 * 512 + 1 * r.val = r.val; rw [h0]; omega)
    | ⟨1, _⟩ => (by show win0_14.index t 1 * 8 + 1 * f.val = f.val; rw [h1]; omega)))
  rw [hi] at e
  exact e.trans (out14_at (holds m c t) r f)

end Cert.InprojSIdeal.Block

end
-- ==== Proof.InprojSRefValue.lean ====
/-
What the reference of the sample batch's input projection computes, read at an index: its seven results are the projections InprojSSpec
names.
-/
module

public import proofs.«01_k».proof.Proof.Gen.InprojSRefIdeal.Read
public import Idealize.ShloMosaic.Lib.Pointwise
public import Idealize.ShloMosaic.Lib.IdealHost
public import proofs.«01_k».proof.Proof.InprojSSpec

@[expose] public section

set_option maxRecDepth 16384

noncomputable section

namespace Cert.InprojSRefIdeal.RefValue

open Cert.InprojSRefIdeal Cert.InprojSRefIdeal.Gen Cert.InprojSRefIdeal.Read
open Idealize.ShloMosaic Idealize.ShloMosaic.TcCoe Idealize.SL.Sem
open Cert.InprojSpec (rate rot modRow qscale)
open Cert.InprojSSpec
open Cert.PostSpec (rms one width eps)

variable (x0 : (⟨S16x32x1024, .f32⟩ : BufTy).Contents (Elt Ideal)) (x1 x2 : (⟨S16x1024, .f32⟩ : BufTy).Contents (Elt Ideal))
  (x3 : (⟨S1024, .f32⟩ : BufTy).Contents (Elt Ideal)) (x4 : (⟨S1024x2088, .f32⟩ : BufTy).Contents (Elt Ideal))

/-- The reciprocal root of the mean square of a row. -/
theorem rms_eq (b : Fin 16) (t : Fin 32) (i : S16x32x1.Idx) (h0 : i 0 = b) (h1 : i 1 = t) :
    val_main_v7 (F := Ideal) x0 i = rms ((argsOf x0 x1 x2 x3 x4).x b t) := by
  rw [val_main_v7_apply, val_main_v6_apply, val_main_v5_apply, val_main_v4_apply, val_main_v3_apply,
    val_main_v2_apply, val_main_v1_apply, val_main_cst_apply, val_main_cst_0_apply, val_main_cst_1_apply]
  show Ideal.rsqrt (Ideal.div (Ideal.ofBits .f32 0x00000000#32 + _) width + eps) = _
  rw [Ideal.ofBits_zero_f32, zero_add]
  unfold rms
  refine congrArg Ideal.rsqrt (congrArg (· + eps) (congrArg (Ideal.div · width) (Finset.sum_congr rfl fun k _ => ?_)))
  have e : idx_main_v1 (idx_main_v2 i) k = ix3 b t k := by
    subst h0 h1
    funext a; match a with | ⟨0, _⟩ => rfl | ⟨1, _⟩ => rfl | ⟨2, _⟩ => rfl
  rw [e, val_main_v0_apply]
  rfl

/-- The modulated norm of a row. -/
theorem h_eq (b : Fin 16) (t : Fin 32) (k : Fin 1024) :
    val_main_v20 (F := Ideal) x0 x1 x2 x3 (ix3 b t k) = Args.h (argsOf x0 x1 x2 x3 x4) b t k := by
  rw [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_cst_2_apply, rms_eq x0 x1 x2 x3 x4 b t _ rfl rfl]
  unfold Args.h modRow
  refine congrArg₂ (· + ·) (congrArg₂ (· * ·) (congrArg₂ (· * ·) rfl ?_) (congrArg₂ (· + ·) rfl ?_)) ?_
  · exact congrArg x3 (eq_ix1 _)
  · exact congrArg x1 (eq_ix2 _)
  · exact congrArg x2 (eq_ix2 _)

/-- The product with the whole input matrix. -/
theorem z_eq (b : Fin 16) (t : Fin 32) (f : Fin 2088) :
    val_main_v21 (F := Ideal) x0 x1 x2 x3 x4 (ix3 b t f) = Args.z (argsOf x0 x1 x2 x3 x4) b t f := by
  rw [val_main_v21_apply]
  unfold Args.z
  refine Finset.sum_congr rfl fun k _ => ?_
  rw [← h_eq x0 x1 x2 x3 x4]
  exact congrArg₂ (· * ·) (congrArg _ (eq_ix3 _)) (congrArg x4 (eq_ix2 _))

/-- The values of the gated pair are columns of the product. -/
theorem u_eq (b : Fin 16) (t : Fin 32) (f : Fin 512) :
    val_main_v22 (F := Ideal) x0 x1 x2 x3 x4 (ix3 b t f) = Args.z (argsOf x0 x1 x2 x3 x4) b t ⟨f.val, by omega⟩ := by
  rw [val_main_v22_apply, ← z_eq]
  exact congrArg _ (funext fun a => Fin.ext (by match a with | ⟨0, _⟩ => rfl | ⟨1, _⟩ => rfl | ⟨2, _⟩ => rfl))

/-- The gates of the gated pair are columns of the product. -/
theorem ug_eq (b : Fin 16) (t : Fin 32) (f : Fin 512) :
    val_main_v23 (F := Ideal) x0 x1 x2 x3 x4 (ix3 b t f) = Args.z (argsOf x0 x1 x2 x3 x4) b t ⟨512 + f.val, by omega⟩ := by
  rw [val_main_v23_apply, ← z_eq]
  exact congrArg _ (funext fun a => Fin.ext (by match a with | ⟨0, _⟩ => rfl | ⟨1, _⟩ => rfl | ⟨2, _⟩ => rfl))

/-- The queries before the rotation are columns of the product. -/
theorem qraw_eq (b : Fin 16) (t : Fin 32) (f : Fin 512) :
    val_main_v24 (F := Ideal) x0 x1 x2 x3 x4 (ix3 b t f) = Args.z (argsOf x0 x1 x2 x3 x4) b t ⟨1024 + f.val, by omega⟩ := by
  rw [val_main_v24_apply, ← z_eq]
  exact congrArg _ (funext fun a => Fin.ext (by match a with | ⟨0, _⟩ => rfl | ⟨1, _⟩ => rfl | ⟨2, _⟩ => rfl))

/-- The keys before the rotation are columns of the product. -/
theorem kraw_eq (b : Fin 16) (t : Fin 32) (f : Fin 128) :
    val_main_v25 (F := Ideal) x0 x1 x2 x3 x4 (ix3 b t f) = Args.z (argsOf x0 x1 x2 x3 x4) b t ⟨1536 + f.val, by omega⟩ := by
  rw [val_main_v25_apply, ← z_eq]
  exact congrArg _ (funext fun a => Fin.ext (by match a with | ⟨0, _⟩ => rfl | ⟨1, _⟩ => rfl | ⟨2, _⟩ => rfl))

/-- The values are columns of the product. -/
theorem v_eq (b : Fin 16) (t : Fin 32) (f : Fin 128) :
    val_main_v26 (F := Ideal) x0 x1 x2 x3 x4 (ix3 b t f) = Args.z (argsOf x0 x1 x2 x3 x4) b t ⟨1664 + f.val, by omega⟩ := by
  rw [val_main_v26_apply, ← z_eq]
  exact congrArg _ (funext fun a => Fin.ext (by match a with | ⟨0, _⟩ => rfl | ⟨1, _⟩ => rfl | ⟨2, _⟩ => rfl))

/-- The index queries are columns of the product. -/
theorem qi_eq (b : Fin 16) (t : Fin 32) (f : Fin 256) :
    val_main_v27 (F := Ideal) x0 x1 x2 x3 x4 (ix3 b t f) = Args.z (argsOf x0 x1 x2 x3 x4) b t ⟨1792 + f.val, by omega⟩ := by
  rw [val_main_v27_apply, ← z_eq]
  exact congrArg _ (funext fun a => Fin.ext (by match a with | ⟨0, _⟩ => rfl | ⟨1, _⟩ => rfl | ⟨2, _⟩ => rfl))

/-- The index keys are columns of the product. -/
theorem ki_eq (b : Fin 16) (t : Fin 32) (f : Fin 32) :
    val_main_v28 (F := Ideal) x0 x1 x2 x3 x4 (ix3 b t f) = Args.z (argsOf x0 x1 x2 x3 x4) b t ⟨2048 + f.val, by omega⟩ := by
  rw [val_main_v28_apply, ← z_eq]
  exact congrArg _ (funext fun a => Fin.ext (by match a with | ⟨0, _⟩ => rfl | ⟨1, _⟩ => rfl | ⟨2, _⟩ => rfl))

/-- The index weights are columns of the product. -/
theorem wi_eq (b : Fin 16) (t : Fin 32) (f : Fin 8) :
    val_main_v29 (F := Ideal) x0 x1 x2 x3 x4 (ix3 b t f) = Args.z (argsOf x0 x1 x2 x3 x4) b t ⟨2080 + f.val, by omega⟩ := by
  rw [val_main_v29_apply, ← z_eq]
  exact congrArg _ (funext fun a => Fin.ext (by match a with | ⟨0, _⟩ => rfl | ⟨1, _⟩ => rfl | ⟨2, _⟩ => rfl))

/-- The gated pair. -/
theorem glu_eq (b : Fin 16) (t : Fin 32) (f : Fin 512) :
    val_main_v36 (F := Ideal) x0 x1 x2 x3 x4 (ix3 b t f) = Args.glu (argsOf x0 x1 x2 x3 x4) b t f := by
  rw [val_main_v36_apply, val_main_v35_apply, val_main_v34_apply, val_main_v33_apply, val_main_v32_apply,
    val_main_v31_apply, val_main_v30_apply, val_main_cst_3_apply, val_main_cst_4_apply, u_eq, ug_eq]
  unfold Args.glu
  refine congrArg₂ (· * ·) rfl ?_
  show Ideal.div one (one + Ideal.exp (- _)) = Ideal.logistic _
  unfold Ideal.logistic one
  rw [Ideal.ofBits_one_f32]

/-- The rates of the queries' pairs. -/
theorem qrate_eq (i : S8.Idx) : val_main_v51 (F := Ideal) i = rate (i 0) := by
  rw [val_main_v51_apply, val_main_v50_apply, val_main_v49_apply, val_main_v48_apply, val_main_v47_apply, val_main_v46_apply, val_main_v45_apply, val_main_v44_apply, val_main_v43_apply, val_main_v42_apply,
    val_main_cst_5_apply, val_main_cst_6_apply, val_main_cst_7_apply, val_main_cst_8_apply, val_main_cst_9_apply]
  rfl

/-- The cosines of the queries' angles. -/
theorem qcos_eq (i : S1x32x1x8.Idx) : val_main_v59 (F := Ideal) i = cosT (i 1) (i 3) := by
  rw [val_main_v59_apply, val_main_v58_apply, val_main_v57_apply, val_main_v55_apply, val_main_v53_apply, val_main_v52_apply, val_main_v56_apply, val_main_v54_apply, val_main_v39_apply, val_main_v38_apply, val_main_c_apply, val_main_v37_apply, qrate_eq]
  rfl

/-- The sines of the queries' angles. -/
theorem qsin_eq (i : S1x32x1x8.Idx) : val_main_v61 (F := Ideal) i = sinT (i 1) (i 3) := by
  rw [val_main_v61_apply, val_main_v60_apply, val_main_v57_apply, val_main_v55_apply, val_main_v53_apply, val_main_v52_apply, val_main_v56_apply, val_main_v54_apply, val_main_v39_apply, val_main_v38_apply, val_main_c_apply, val_main_v37_apply, qrate_eq]
  rfl

/-- The queries by head, before the rotation. -/
theorem qhead_eq (b : Fin 16) (t : Fin 32) (h : Fin 8) (l : Fin 64) :
    val_main_v40 (F := Ideal) x0 x1 x2 x3 x4 (ix4 b t h l)
      = Args.z (argsOf x0 x1 x2 x3 x4) b t ⟨1024 + (64 * h.val + l.val), by omega⟩ := by
  rw [val_main_v40_apply]
  refine Eq.trans (congrArg _ (?_ : _ = ix3 b t ⟨64 * h.val + l.val, by omega⟩)) (qraw_eq x0 x1 x2 x3 x4 b t ⟨64 * h.val + l.val, by omega⟩)
  refine funext fun a => Fin.ext ?_
  match a with
  | ⟨0, _⟩ => show (((b.val * 32 + t.val) * 8 + h.val) * 64 + l.val) / 16384 = b.val; omega
  | ⟨1, _⟩ => show (((b.val * 32 + t.val) * 8 + h.val) * 64 + l.val) / 512 % 32 = t.val; omega
  | ⟨2, _⟩ => show (((b.val * 32 + t.val) * 8 + h.val) * 64 + l.val) % 512 = 64 * h.val + l.val; omega

/-- The rotated queries by head. -/
theorem qrot_eq (b : Fin 16) (t : Fin 32) (h : Fin 8) (l : Fin 64) :
    val_main_v75 (F := Ideal) x0 x1 x2 x3 x4 (ix4 b t h l)
      = rot (fun l => Args.z (argsOf x0 x1 x2 x3 x4) b t ⟨1024 + (64 * h.val + l.val), by omega⟩) (cosT t) (sinT t) l := by
  unfold val_main_v75 rot
  split
  · rename_i hl
    refine (concatenate_apply_piece (t := S16x32x8x64) 3 _ _ (ix4 b t h l) 0 (by show 0 < 3; decide) S16x32x8x8 (val_main_v68 (F := Ideal) x0 x1 x2 x3 x4) rfl rfl 0 rfl
      (ix4 b t h ⟨l.val, hl⟩) (fun a ha => by
        match a, ha with
        | ⟨0, _⟩, _ => rfl
        | ⟨1, _⟩, _ => rfl
        | ⟨2, _⟩, _ => rfl
        | ⟨3, _⟩, ha => exact absurd rfl ha) (by show 0 + l.val = l.val; omega)).trans ?_
    rw [val_main_v68_apply, val_main_v65_apply, val_main_v62_apply, val_main_v64_apply, val_main_v67_apply, val_main_v63_apply, val_main_v66_apply, qcos_eq, qsin_eq]
    refine congrArg₂ (· - ·) (congrArg₂ (· * ·) (Eq.trans (congrArg _ (eq_ix4 _)) (qhead_eq x0 x1 x2 x3 x4 b t h l)) rfl)
      (congrArg₂ (· * ·) (Eq.trans (congrArg _ (?_ : _ = ix4 b t h ⟨l.val + 8, by omega⟩)) (qhead_eq x0 x1 x2 x3 x4 b t h ⟨l.val + 8, by omega⟩)) rfl)
    exact funext fun a => Fin.ext (by match a with | ⟨0, _⟩ => rfl | ⟨1, _⟩ => rfl | ⟨2, _⟩ => rfl | ⟨3, _⟩ => exact Nat.add_comm 8 l.val)
  · rename_i hl
    split
    · rename_i hl'
      refine (concatenate_apply_piece (t := S16x32x8x64) 3 _ _ (ix4 b t h l) 1 (by show 1 < 3; decide) S16x32x8x8 (val_main_v73 (F := Ideal) x0 x1 x2 x3 x4) rfl rfl 8 rfl
        (ix4 b t h ⟨l.val - 8, by omega⟩) (fun a ha => by
          match a, ha with
          | ⟨0, _⟩, _ => rfl
          | ⟨1, _⟩, _ => rfl
          | ⟨2, _⟩, _ => rfl
          | ⟨3, _⟩, ha => exact absurd rfl ha) (by show 8 + (l.val - 8) = l.val; omega)).trans ?_
      rw [val_main_v73_apply, val_main_v70_apply, val_main_v63_apply, val_main_v69_apply, val_main_v72_apply, val_main_v62_apply, val_main_v71_apply, qcos_eq, qsin_eq]
      refine congrArg₂ (· + ·) (congrArg₂ (· * ·) (Eq.trans (congrArg _ (?_ : _ = ix4 b t h l)) (qhead_eq x0 x1 x2 x3 x4 b t h l)) rfl)
        (congrArg₂ (· * ·) (Eq.trans (congrArg _ (eq_ix4 _)) (qhead_eq x0 x1 x2 x3 x4 b t h ⟨l.val - 8, by omega⟩)) rfl)
      exact funext fun a => Fin.ext (by
        match a with
        | ⟨0, _⟩ => rfl
        | ⟨1, _⟩ => rfl
        | ⟨2, _⟩ => rfl
        | ⟨3, _⟩ => show 8 + (l.val - 8) = l.val; omega)
    · rename_i hl'
      refine (concatenate_apply_piece (t := S16x32x8x64) 3 _ _ (ix4 b t h l) 2 (by show 2 < 3; decide) S16x32x8x48 (val_main_v74 (F := Ideal) x0 x1 x2 x3 x4) rfl rfl 16 rfl
        (ix4 b t h ⟨l.val - 16, by omega⟩) (fun a ha => by
          match a, ha with
          | ⟨0, _⟩, _ => rfl
          | ⟨1, _⟩, _ => rfl
          | ⟨2, _⟩, _ => rfl
          | ⟨3, _⟩, ha => exact absurd rfl ha) (by show 16 + (l.val - 16) = l.val; omega)).trans ?_
      rw [val_main_v74_apply]
      refine Eq.trans (congrArg _ (?_ : _ = ix4 b t h l)) (qhead_eq x0 x1 x2 x3 x4 b t h l)
      exact funext fun a => Fin.ext (by
        match a with
        | ⟨0, _⟩ => rfl
        | ⟨1, _⟩ => rfl
        | ⟨2, _⟩ => rfl
        | ⟨3, _⟩ => show 16 + (l.val - 16) = l.val; omega)

/-- The rates of the keys' pairs. -/
theorem krate_eq (i : S8.Idx) : val_main_v89 (F := Ideal) i = rate (i 0) := by
  rw [val_main_v89_apply, val_main_v88_apply, val_main_v87_apply, val_main_v86_apply, val_main_v85_apply, val_main_v84_apply, val_main_v83_apply, val_main_v82_apply, val_main_v81_apply, val_main_v80_apply,
    val_main_cst_11_apply, val_main_cst_12_apply, val_main_cst_13_apply, val_main_cst_14_apply, val_main_cst_15_apply]
  rfl

/-- The cosines of the keys' angles. -/
theorem kcos_eq (i : S1x32x1x8.Idx) : val_main_v97 (F := Ideal) i = cosT (i 1) (i 3) := by
  rw [val_main_v97_apply, val_main_v96_apply, val_main_v95_apply, val_main_v93_apply, val_main_v91_apply, val_main_v90_apply, val_main_v94_apply, val_main_v92_apply, val_main_v39_apply, val_main_v38_apply, val_main_c_apply, val_main_v37_apply, krate_eq]
  rfl

/-- The sines of the keys' angles. -/
theorem ksin_eq (i : S1x32x1x8.Idx) : val_main_v99 (F := Ideal) i = sinT (i 1) (i 3) := by
  rw [val_main_v99_apply, val_main_v98_apply, val_main_v95_apply, val_main_v93_apply, val_main_v91_apply, val_main_v90_apply, val_main_v94_apply, val_main_v92_apply, val_main_v39_apply, val_main_v38_apply, val_main_c_apply, val_main_v37_apply, krate_eq]
  rfl

/-- The keys by head, before the rotation. -/
theorem khead_eq (b : Fin 16) (t : Fin 32) (h : Fin 2) (l : Fin 64) :
    val_main_v78 (F := Ideal) x0 x1 x2 x3 x4 (ix4 b t h l)
      = Args.z (argsOf x0 x1 x2 x3 x4) b t ⟨1536 + (64 * h.val + l.val), by omega⟩ := by
  rw [val_main_v78_apply]
  refine Eq.trans (congrArg _ (?_ : _ = ix3 b t ⟨64 * h.val + l.val, by omega⟩)) (kraw_eq x0 x1 x2 x3 x4 b t ⟨64 * h.val + l.val, by omega⟩)
  refine funext fun a => Fin.ext ?_
  match a with
  | ⟨0, _⟩ => show (((b.val * 32 + t.val) * 2 + h.val) * 64 + l.val) / 4096 = b.val; omega
  | ⟨1, _⟩ => show (((b.val * 32 + t.val) * 2 + h.val) * 64 + l.val) / 128 % 32 = t.val; omega
  | ⟨2, _⟩ => show (((b.val * 32 + t.val) * 2 + h.val) * 64 + l.val) % 128 = 64 * h.val + l.val; omega

/-- The rotated keys by head. -/
theorem krot_eq (b : Fin 16) (t : Fin 32) (h : Fin 2) (l : Fin 64) :
    val_main_v113 (F := Ideal) x0 x1 x2 x3 x4 (ix4 b t h l)
      = rot (fun l => Args.z (argsOf x0 x1 x2 x3 x4) b t ⟨1536 + (64 * h.val + l.val), by omega⟩) (cosT t) (sinT t) l := by
  unfold val_main_v113 rot
  split
  · rename_i hl
    refine (concatenate_apply_piece (t := S16x32x2x64) 3 _ _ (ix4 b t h l) 0 (by show 0 < 3; decide) S16x32x2x8 (val_main_v106 (F := Ideal) x0 x1 x2 x3 x4) rfl rfl 0 rfl
      (ix4 b t h ⟨l.val, hl⟩) (fun a ha => by
        match a, ha with
        | ⟨0, _⟩, _ => rfl
        | ⟨1, _⟩, _ => rfl
        | ⟨2, _⟩, _ => rfl
        | ⟨3, _⟩, ha => exact absurd rfl ha) (by show 0 + l.val = l.val; omega)).trans ?_
    rw [val_main_v106_apply, val_main_v103_apply, val_main_v100_apply, val_main_v102_apply, val_main_v105_apply, val_main_v101_apply, val_main_v104_apply, kcos_eq, ksin_eq]
    refine congrArg₂ (· - ·) (congrArg₂ (· * ·) (Eq.trans (congrArg _ (eq_ix4 _)) (khead_eq x0 x1 x2 x3 x4 b t h l)) rfl)
      (congrArg₂ (· * ·) (Eq.trans (congrArg _ (?_ : _ = ix4 b t h ⟨l.val + 8, by omega⟩)) (khead_eq x0 x1 x2 x3 x4 b t h ⟨l.val + 8, by omega⟩)) rfl)
    exact funext fun a => Fin.ext (by match a with | ⟨0, _⟩ => rfl | ⟨1, _⟩ => rfl | ⟨2, _⟩ => rfl | ⟨3, _⟩ => exact Nat.add_comm 8 l.val)
  · rename_i hl
    split
    · rename_i hl'
      refine (concatenate_apply_piece (t := S16x32x2x64) 3 _ _ (ix4 b t h l) 1 (by show 1 < 3; decide) S16x32x2x8 (val_main_v111 (F := Ideal) x0 x1 x2 x3 x4) rfl rfl 8 rfl
        (ix4 b t h ⟨l.val - 8, by omega⟩) (fun a ha => by
          match a, ha with
          | ⟨0, _⟩, _ => rfl
          | ⟨1, _⟩, _ => rfl
          | ⟨2, _⟩, _ => rfl
          | ⟨3, _⟩, ha => exact absurd rfl ha) (by show 8 + (l.val - 8) = l.val; omega)).trans ?_
      rw [val_main_v111_apply, val_main_v108_apply, val_main_v101_apply, val_main_v107_apply, val_main_v110_apply, val_main_v100_apply, val_main_v109_apply, kcos_eq, ksin_eq]
      refine congrArg₂ (· + ·) (congrArg₂ (· * ·) (Eq.trans (congrArg _ (?_ : _ = ix4 b t h l)) (khead_eq x0 x1 x2 x3 x4 b t h l)) rfl)
        (congrArg₂ (· * ·) (Eq.trans (congrArg _ (eq_ix4 _)) (khead_eq x0 x1 x2 x3 x4 b t h ⟨l.val - 8, by omega⟩)) rfl)
      exact funext fun a => Fin.ext (by
        match a with
        | ⟨0, _⟩ => rfl
        | ⟨1, _⟩ => rfl
        | ⟨2, _⟩ => rfl
        | ⟨3, _⟩ => show 8 + (l.val - 8) = l.val; omega)
    · rename_i hl'
      refine (concatenate_apply_piece (t := S16x32x2x64) 3 _ _ (ix4 b t h l) 2 (by show 2 < 3; decide) S16x32x2x48 (val_main_v112 (F := Ideal) x0 x1 x2 x3 x4) rfl rfl 16 rfl
        (ix4 b t h ⟨l.val - 16, by omega⟩) (fun a ha => by
          match a, ha with
          | ⟨0, _⟩, _ => rfl
          | ⟨1, _⟩, _ => rfl
          | ⟨2, _⟩, _ => rfl
          | ⟨3, _⟩, ha => exact absurd rfl ha) (by show 16 + (l.val - 16) = l.val; omega)).trans ?_
      rw [val_main_v112_apply]
      refine Eq.trans (congrArg _ (?_ : _ = ix4 b t h l)) (khead_eq x0 x1 x2 x3 x4 b t h l)
      exact funext fun a => Fin.ext (by
        match a with
        | ⟨0, _⟩ => rfl
        | ⟨1, _⟩ => rfl
        | ⟨2, _⟩ => rfl
        | ⟨3, _⟩ => show 16 + (l.val - 16) = l.val; omega)

/-- The queries' result, by row. -/
theorem result_q (r : Fin 512) (f : Fin 512) :
    val_main_v116 (F := Ideal) x0 x1 x2 x3 x4 (ix2 r f) = Args.q (argsOf x0 x1 x2 x3 x4) ⟨r.val / 32, by omega⟩ ⟨r.val % 32, by omega⟩ f := by
  rw [val_main_v116_apply, val_main_v115_apply, val_main_v77_apply, val_main_v76_apply, val_main_cst_10_apply]
  unfold Args.q
  refine congrArg (· * qscale) ?_
  refine Eq.trans (congrArg _ (?_ : _ = ix4 ⟨r.val / 32, by omega⟩ ⟨r.val % 32, by omega⟩ ⟨f.val / 64, by omega⟩ ⟨f.val % 64, by omega⟩))
    (qrot_eq x0 x1 x2 x3 x4 ⟨r.val / 32, by omega⟩ ⟨r.val % 32, by omega⟩ ⟨f.val / 64, by omega⟩ ⟨f.val % 64, by omega⟩)
  refine funext fun a => Fin.ext ?_
  match a with
  | ⟨0, _⟩ => show (r.val * 512 + f.val) / 16384 = r.val / 32; omega
  | ⟨1, _⟩ => show (r.val * 512 + f.val) / 512 % 32 = r.val % 32; omega
  | ⟨2, _⟩ => show (r.val * 512 + f.val) / 64 % 8 = f.val / 64; omega
  | ⟨3, _⟩ => show (r.val * 512 + f.val) % 64 = f.val % 64; omega

/-- The keys' result, by row. -/
theorem result_k (r : Fin 512) (f : Fin 128) :
    val_main_v119 (F := Ideal) x0 x1 x2 x3 x4 (ix2 r f) = Args.k (argsOf x0 x1 x2 x3 x4) ⟨r.val / 32, by omega⟩ ⟨r.val % 32, by omega⟩ f := by
  rw [val_main_v119_apply]
  unfold Args.k
  refine Eq.trans (congrArg _ (?_ : _ = ix4 ⟨r.val / 32, by omega⟩ ⟨r.val % 32, by omega⟩ ⟨f.val / 64, by omega⟩ ⟨f.val % 64, by omega⟩))
    (krot_eq x0 x1 x2 x3 x4 ⟨r.val / 32, by omega⟩ ⟨r.val % 32, by omega⟩ ⟨f.val / 64, by omega⟩ ⟨f.val % 64, by omega⟩)
  refine funext fun a => Fin.ext ?_
  match a with
  | ⟨0, _⟩ => show (r.val * 128 + f.val) / 4096 = r.val / 32; omega
  | ⟨1, _⟩ => show (r.val * 128 + f.val) / 128 % 32 = r.val % 32; omega
  | ⟨2, _⟩ => show (r.val * 128 + f.val) / 64 % 2 = f.val / 64; omega
  | ⟨3, _⟩ => show (r.val * 128 + f.val) % 64 = f.val % 64; omega

/-- The result of the gated pair, by row. -/
theorem result_glu (r : Fin 512) (f : Fin 512) :
    val_main_v114 (F := Ideal) x0 x1 x2 x3 x4 (ix2 r f) = Args.glu (argsOf x0 x1 x2 x3 x4) ⟨r.val / 32, by omega⟩ ⟨r.val % 32, by omega⟩ f := by
  rw [val_main_v114_apply]
  refine Eq.trans (congrArg (val_main_v36 (F := Ideal) x0 x1 x2 x3 x4) (?_ : _ = ix3 ⟨r.val / 32, by omega⟩ ⟨r.val % 32, by omega⟩ f)) (glu_eq x0 x1 x2 x3 x4 ⟨r.val / 32, by omega⟩ ⟨r.val % 32, by omega⟩ f)
  refine funext fun a => Fin.ext ?_
  match a with
  | ⟨0, _⟩ => show (r.val * 512 + f.val) / 16384 = r.val / 32; omega
  | ⟨1, _⟩ => show (r.val * 512 + f.val) / 512 % 32 = r.val % 32; omega
  | ⟨2, _⟩ => show (r.val * 512 + f.val) % 512 = f.val; omega

/-- The result of the index queries, by row. -/
theorem result_qi (r : Fin 512) (f : Fin 256) :
    val_main_v118 (F := Ideal) x0 x1 x2 x3 x4 (ix2 r f) = Args.qi (argsOf x0 x1 x2 x3 x4) ⟨r.val / 32, by omega⟩ ⟨r.val % 32, by omega⟩ f := by
  rw [val_main_v118_apply, val_main_v117_apply]
  refine Eq.trans (congrArg (val_main_v27 (F := Ideal) x0 x1 x2 x3 x4) (?_ : _ = ix3 ⟨r.val / 32, by omega⟩ ⟨r.val % 32, by omega⟩ f)) (qi_eq x0 x1 x2 x3 x4 ⟨r.val / 32, by omega⟩ ⟨r.val % 32, by omega⟩ f)
  refine funext fun a => Fin.ext ?_
  match a with
  | ⟨0, _⟩ => show (r.val * 256 + f.val) / 8192 = r.val / 32; omega
  | ⟨1, _⟩ => show (r.val * 256 + f.val) / 256 % 32 = r.val % 32; omega
  | ⟨2, _⟩ => show (r.val * 256 + f.val) % 256 = f.val; omega

/-- The result of the values, by row. -/
theorem result_v (r : Fin 512) (f : Fin 128) :
    val_main_v120 (F := Ideal) x0 x1 x2 x3 x4 (ix2 r f) = Args.v (argsOf x0 x1 x2 x3 x4) ⟨r.val / 32, by omega⟩ ⟨r.val % 32, by omega⟩ f := by
  rw [val_main_v120_apply]
  refine Eq.trans (congrArg (val_main_v26 (F := Ideal) x0 x1 x2 x3 x4) (?_ : _ = ix3 ⟨r.val / 32, by omega⟩ ⟨r.val % 32, by omega⟩ f)) (v_eq x0 x1 x2 x3 x4 ⟨r.val / 32, by omega⟩ ⟨r.val % 32, by omega⟩ f)
  refine funext fun a => Fin.ext ?_
  match a with
  | ⟨0, _⟩ => show (r.val * 128 + f.val) / 4096 = r.val / 32; omega
  | ⟨1, _⟩ => show (r.val * 128 + f.val) / 128 % 32 = r.val % 32; omega
  | ⟨2, _⟩ => show (r.val * 128 + f.val) % 128 = f.val; omega

/-- The result of the index keys, by row. -/
theorem result_ki (r : Fin 512) (f : Fin 32) :
    val_main_v121 (F := Ideal) x0 x1 x2 x3 x4 (ix2 r f) = Args.ki (argsOf x0 x1 x2 x3 x4) ⟨r.val / 32, by omega⟩ ⟨r.val % 32, by omega⟩ f := by
  rw [val_main_v121_apply]
  refine Eq.trans (congrArg (val_main_v28 (F := Ideal) x0 x1 x2 x3 x4) (?_ : _ = ix3 ⟨r.val / 32, by omega⟩ ⟨r.val % 32, by omega⟩ f)) (ki_eq x0 x1 x2 x3 x4 ⟨r.val / 32, by omega⟩ ⟨r.val % 32, by omega⟩ f)
  refine funext fun a => Fin.ext ?_
  match a with
  | ⟨0, _⟩ => show (r.val * 32 + f.val) / 1024 = r.val / 32; omega
  | ⟨1, _⟩ => show (r.val * 32 + f.val) / 32 % 32 = r.val % 32; omega
  | ⟨2, _⟩ => show (r.val * 32 + f.val) % 32 = f.val; omega

/-- The result of the index weights, by row. -/
theorem result_wi (r : Fin 512) (f : Fin 8) :
    val_main_v122 (F := Ideal) x0 x1 x2 x3 x4 (ix2 r f) = Args.wi (argsOf x0 x1 x2 x3 x4) ⟨r.val / 32, by omega⟩ ⟨r.val % 32, by omega⟩ f := by
  rw [val_main_v122_apply]
  refine Eq.trans (congrArg (val_main_v29 (F := Ideal) x0 x1 x2 x3 x4) (?_ : _ = ix3 ⟨r.val / 32, by omega⟩ ⟨r.val % 32, by omega⟩ f)) (wi_eq x0 x1 x2 x3 x4 ⟨r.val / 32, by omega⟩ ⟨r.val % 32, by omega⟩ f)
  refine funext fun a => Fin.ext ?_
  match a with
  | ⟨0, _⟩ => show (r.val * 8 + f.val) / 256 = r.val / 32; omega
  | ⟨1, _⟩ => show (r.val * 8 + f.val) / 8 % 32 = r.val % 32; omega
  | ⟨2, _⟩ => show (r.val * 8 + f.val) % 8 = f.val; omega

end Cert.InprojSRefIdeal.RefValue

end
-- ==== Proof.InprojSClaim.lean ====
/-
The claim about the sample batch's input projection: from equal arguments, the tiled program and the plain one end with equal results
over the extended reals.
-/
module

public import proofs.«01_k».proof.Defs
public import proofs.«01_k».proof.Proof.InprojSArray
public import proofs.«01_k».proof.Proof.InprojSRefValue

@[expose] public section

set_option maxRecDepth 16384

noncomputable section

namespace Cert.InprojSClaim

open Idealize.ShloMosaic Idealize.ShloMosaic.TcCoe Idealize.SL.Sem Idealize.ShloMosaic.StableHlo
open Cert.InprojSSpec Cert.InprojSRefIdeal.Read

variable (m : (ℓ : Loc Cert.InprojSIdeal.nD Cert.InprojSIdeal.τ Cert.InprojSIdeal.sig) → Buf (Elt Ideal) ℓ)

/-- What the tiled program leaves in the array of window `w`. -/
abbrev out (w : Fin 15) (c : Dev Cert.InprojSIdeal.nD) :=
  (Cert.InprojSIdeal.Gen.dats m 0 c).arrAt w Cert.InprojSIdeal.cfg0.N

/-- The plain program's gated pair, on the tiled program's arguments, are the tiled program's. -/
theorem glu_agree (c : Dev Cert.InprojSIdeal.nD) (y0 : (⟨Cert.InprojSRefIdeal.S16x32x1024, .f32⟩ : BufTy).Contents (Elt Ideal))
    (y1 y2 : (⟨Cert.InprojSRefIdeal.S16x1024, .f32⟩ : BufTy).Contents (Elt Ideal))
    (y3 : (⟨Cert.InprojSRefIdeal.S1024, .f32⟩ : BufTy).Contents (Elt Ideal))
    (y4 : (⟨Cert.InprojSRefIdeal.S1024x2088, .f32⟩ : BufTy).Contents (Elt Ideal))
    (e0 : y0 = m (c, Cert.InprojSIdeal.main_arg0)) (e1 : y1 = m (c, Cert.InprojSIdeal.main_arg1))
    (e2 : y2 = m (c, Cert.InprojSIdeal.main_arg2)) (e3 : y3 = m (c, Cert.InprojSIdeal.main_arg3))
    (e4 : y4 = m (c, Cert.InprojSIdeal.main_arg4)) :
    val_main_v114 (F := Ideal) y0 y1 y2 y3 y4 = out m 8 c := by
  subst e0 e1 e2 e3 e4
  funext i
  obtain ⟨r, f, rfl⟩ : ∃ (r : Fin 512) (f : Fin 512), i = ix2 r f := ⟨i 0, i 1, eq_ix2 i⟩
  exact (Cert.InprojSRefIdeal.RefValue.result_glu _ _ _ _ _ r f).trans (Cert.InprojSIdeal.Block.arr8 m c r f).symm

/-- The plain program's queries, on the tiled program's arguments, are the tiled program's. -/
theorem q_agree (c : Dev Cert.InprojSIdeal.nD) (y0 : (⟨Cert.InprojSRefIdeal.S16x32x1024, .f32⟩ : BufTy).Contents (Elt Ideal))
    (y1 y2 : (⟨Cert.InprojSRefIdeal.S16x1024, .f32⟩ : BufTy).Contents (Elt Ideal))
    (y3 : (⟨Cert.InprojSRefIdeal.S1024, .f32⟩ : BufTy).Contents (Elt Ideal))
    (y4 : (⟨Cert.InprojSRefIdeal.S1024x2088, .f32⟩ : BufTy).Contents (Elt Ideal))
    (e0 : y0 = m (c, Cert.InprojSIdeal.main_arg0)) (e1 : y1 = m (c, Cert.InprojSIdeal.main_arg1))
    (e2 : y2 = m (c, Cert.InprojSIdeal.main_arg2)) (e3 : y3 = m (c, Cert.InprojSIdeal.main_arg3))
    (e4 : y4 = m (c, Cert.InprojSIdeal.main_arg4)) :
    val_main_v116 (F := Ideal) y0 y1 y2 y3 y4 = out m 9 c := by
  subst e0 e1 e2 e3 e4
  funext i
  obtain ⟨r, f, rfl⟩ : ∃ (r : Fin 512) (f : Fin 512), i = ix2 r f := ⟨i 0, i 1, eq_ix2 i⟩
  exact (Cert.InprojSRefIdeal.RefValue.result_q _ _ _ _ _ r f).trans (Cert.InprojSIdeal.Block.arr9 m c r f).symm

/-- The plain program's index queries, on the tiled program's arguments, are the tiled program's. -/
theorem qi_agree (c : Dev Cert.InprojSIdeal.nD) (y0 : (⟨Cert.InprojSRefIdeal.S16x32x1024, .f32⟩ : BufTy).Contents (Elt Ideal))
    (y1 y2 : (⟨Cert.InprojSRefIdeal.S16x1024, .f32⟩ : BufTy).Contents (Elt Ideal))
    (y3 : (⟨Cert.InprojSRefIdeal.S1024, .f32⟩ : BufTy).Contents (Elt Ideal))
    (y4 : (⟨Cert.InprojSRefIdeal.S1024x2088, .f32⟩ : BufTy).Contents (Elt Ideal))
    (e0 : y0 = m (c, Cert.InprojSIdeal.main_arg0)) (e1 : y1 = m (c, Cert.InprojSIdeal.main_arg1))
    (e2 : y2 = m (c, Cert.InprojSIdeal.main_arg2)) (e3 : y3 = m (c, Cert.InprojSIdeal.main_arg3))
    (e4 : y4 = m (c, Cert.InprojSIdeal.main_arg4)) :
    val_main_v118 (F := Ideal) y0 y1 y2 y3 y4 = out m 10 c := by
  subst e0 e1 e2 e3 e4
  funext i
  obtain ⟨r, f, rfl⟩ : ∃ (r : Fin 512) (f : Fin 256), i = ix2 r f := ⟨i 0, i 1, eq_ix2 i⟩
  exact (Cert.InprojSRefIdeal.RefValue.result_qi _ _ _ _ _ r f).trans (Cert.InprojSIdeal.Block.arr10 m c r f).symm

/-- The plain program's keys, on the tiled program's arguments, are the tiled program's. -/
theorem k_agree (c : Dev Cert.InprojSIdeal.nD) (y0 : (⟨Cert.InprojSRefIdeal.S16x32x1024, .f32⟩ : BufTy).Contents (Elt Ideal))
    (y1 y2 : (⟨Cert.InprojSRefIdeal.S16x1024, .f32⟩ : BufTy).Contents (Elt Ideal))
    (y3 : (⟨Cert.InprojSRefIdeal.S1024, .f32⟩ : BufTy).Contents (Elt Ideal))
    (y4 : (⟨Cert.InprojSRefIdeal.S1024x2088, .f32⟩ : BufTy).Contents (Elt Ideal))
    (e0 : y0 = m (c, Cert.InprojSIdeal.main_arg0)) (e1 : y1 = m (c, Cert.InprojSIdeal.main_arg1))
    (e2 : y2 = m (c, Cert.InprojSIdeal.main_arg2)) (e3 : y3 = m (c, Cert.InprojSIdeal.main_arg3))
    (e4 : y4 = m (c, Cert.InprojSIdeal.main_arg4)) :
    val_main_v119 (F := Ideal) y0 y1 y2 y3 y4 = out m 11 c := by
  subst e0 e1 e2 e3 e4
  funext i
  obtain ⟨r, f, rfl⟩ : ∃ (r : Fin 512) (f : Fin 128), i = ix2 r f := ⟨i 0, i 1, eq_ix2 i⟩
  exact (Cert.InprojSRefIdeal.RefValue.result_k _ _ _ _ _ r f).trans (Cert.InprojSIdeal.Block.arr11 m c r f).symm

/-- The plain program's values, on the tiled program's arguments, are the tiled program's. -/
theorem v_agree (c : Dev Cert.InprojSIdeal.nD) (y0 : (⟨Cert.InprojSRefIdeal.S16x32x1024, .f32⟩ : BufTy).Contents (Elt Ideal))
    (y1 y2 : (⟨Cert.InprojSRefIdeal.S16x1024, .f32⟩ : BufTy).Contents (Elt Ideal))
    (y3 : (⟨Cert.InprojSRefIdeal.S1024, .f32⟩ : BufTy).Contents (Elt Ideal))
    (y4 : (⟨Cert.InprojSRefIdeal.S1024x2088, .f32⟩ : BufTy).Contents (Elt Ideal))
    (e0 : y0 = m (c, Cert.InprojSIdeal.main_arg0)) (e1 : y1 = m (c, Cert.InprojSIdeal.main_arg1))
    (e2 : y2 = m (c, Cert.InprojSIdeal.main_arg2)) (e3 : y3 = m (c, Cert.InprojSIdeal.main_arg3))
    (e4 : y4 = m (c, Cert.InprojSIdeal.main_arg4)) :
    val_main_v120 (F := Ideal) y0 y1 y2 y3 y4 = out m 12 c := by
  subst e0 e1 e2 e3 e4
  funext i
  obtain ⟨r, f, rfl⟩ : ∃ (r : Fin 512) (f : Fin 128), i = ix2 r f := ⟨i 0, i 1, eq_ix2 i⟩
  exact (Cert.InprojSRefIdeal.RefValue.result_v _ _ _ _ _ r f).trans (Cert.InprojSIdeal.Block.arr12 m c r f).symm

/-- The plain program's index keys, on the tiled program's arguments, are the tiled program's. -/
theorem ki_agree (c : Dev Cert.InprojSIdeal.nD) (y0 : (⟨Cert.InprojSRefIdeal.S16x32x1024, .f32⟩ : BufTy).Contents (Elt Ideal))
    (y1 y2 : (⟨Cert.InprojSRefIdeal.S16x1024, .f32⟩ : BufTy).Contents (Elt Ideal))
    (y3 : (⟨Cert.InprojSRefIdeal.S1024, .f32⟩ : BufTy).Contents (Elt Ideal))
    (y4 : (⟨Cert.InprojSRefIdeal.S1024x2088, .f32⟩ : BufTy).Contents (Elt Ideal))
    (e0 : y0 = m (c, Cert.InprojSIdeal.main_arg0)) (e1 : y1 = m (c, Cert.InprojSIdeal.main_arg1))
    (e2 : y2 = m (c, Cert.InprojSIdeal.main_arg2)) (e3 : y3 = m (c, Cert.InprojSIdeal.main_arg3))
    (e4 : y4 = m (c, Cert.InprojSIdeal.main_arg4)) :
    val_main_v121 (F := Ideal) y0 y1 y2 y3 y4 = out m 13 c := by
  subst e0 e1 e2 e3 e4
  funext i
  obtain ⟨r, f, rfl⟩ : ∃ (r : Fin 512) (f : Fin 32), i = ix2 r f := ⟨i 0, i 1, eq_ix2 i⟩
  exact (Cert.InprojSRefIdeal.RefValue.result_ki _ _ _ _ _ r f).trans (Cert.InprojSIdeal.Block.arr13 m c r f).symm

/-- The plain program's index weights, on the tiled program's arguments, are the tiled program's. -/
theorem wi_agree (c : Dev Cert.InprojSIdeal.nD) (y0 : (⟨Cert.InprojSRefIdeal.S16x32x1024, .f32⟩ : BufTy).Contents (Elt Ideal))
    (y1 y2 : (⟨Cert.InprojSRefIdeal.S16x1024, .f32⟩ : BufTy).Contents (Elt Ideal))
    (y3 : (⟨Cert.InprojSRefIdeal.S1024, .f32⟩ : BufTy).Contents (Elt Ideal))
    (y4 : (⟨Cert.InprojSRefIdeal.S1024x2088, .f32⟩ : BufTy).Contents (Elt Ideal))
    (e0 : y0 = m (c, Cert.InprojSIdeal.main_arg0)) (e1 : y1 = m (c, Cert.InprojSIdeal.main_arg1))
    (e2 : y2 = m (c, Cert.InprojSIdeal.main_arg2)) (e3 : y3 = m (c, Cert.InprojSIdeal.main_arg3))
    (e4 : y4 = m (c, Cert.InprojSIdeal.main_arg4)) :
    val_main_v122 (F := Ideal) y0 y1 y2 y3 y4 = out m 14 c := by
  subst e0 e1 e2 e3 e4
  funext i
  obtain ⟨r, f, rfl⟩ : ∃ (r : Fin 512) (f : Fin 8), i = ix2 r f := ⟨i 0, i 1, eq_ix2 i⟩
  exact (Cert.InprojSRefIdeal.RefValue.result_wi _ _ _ _ _ r f).trans (Cert.InprojSIdeal.Block.arr14 m c r f).symm

/-- Both programs end with the same projections. -/
theorem algebraic : Cert.algebraic_InprojSIdeal_InprojSRefIdeal (hInprojSIdeal := Cert.InprojSIdeal.Gen.facts)
    (hInprojSRefIdeal := Cert.InprojSRefIdeal.Gen.facts) := fun m ρ m' ρ' _ hag =>
  ⟨out m 8, out m 9, out m 10, out m 11, out m 12, out m 13, out m 14,
    Cert.InprojSIdeal.Value.run_blocks m ρ,
    (θ_run _ _ _).mono (fun r h c => by
      obtain ⟨e0, e1, e2, e3, e4⟩ := hag c
      obtain ⟨h0, h1, h2, h3, h4, h5, h6, kept⟩ := h c
      refine ⟨h0.trans ((val_main_v114_eq _ _ _ _ _).trans (glu_agree m c _ _ _ _ _ e0 e1 e2 e3 e4)),
        h1.trans ((val_main_v116_eq m' c).trans (q_agree m c _ _ _ _ _ e0 e1 e2 e3 e4)),
        h2.trans ((val_main_v118_eq _ _ _ _ _).trans (qi_agree m c _ _ _ _ _ e0 e1 e2 e3 e4)),
        h3.trans ((val_main_v119_eq m' c).trans (k_agree m c _ _ _ _ _ e0 e1 e2 e3 e4)),
        h4.trans ((val_main_v120_eq _ _ _ _ _).trans (v_agree m c _ _ _ _ _ e0 e1 e2 e3 e4)),
        h5.trans ((val_main_v121_eq _ _ _ _ _).trans (ki_agree m c _ _ _ _ _ e0 e1 e2 e3 e4)),
        h6.trans ((val_main_v122_eq _ _ _ _ _).trans (wi_agree m c _ _ _ _ _ e0 e1 e2 e3 e4)), kept⟩)
      (Cert.InprojSRefIdeal.Value.run m' ρ')⟩

end Cert.InprojSClaim

end
-- ==== Proof.PostSSpec.lean ====
/-
The mathematics of the second half for the sample batch: the same functions as for the prompt, at its own batch and
length, the attention's output by row.
-/
module

public import proofs.«01_k».proof.Proof.PostSpec

@[expose] public section

noncomputable section

namespace Cert.PostSSpec

open Idealize.ShloMosaic
open Cert.PostSpec (one rms silu)

/-- The arrays of the call, by coordinates: batch, time, channel. -/
structure Args where
  x : Fin 16 → Fin 32 → Fin 1024 → EReal
  conv : Fin 16 → Fin 32 → Fin 512 → EReal
  attn : Fin 16 → Fin 32 → Fin 512 → EReal
  gt1 : Fin 16 → Fin 1024 → EReal
  sc2 : Fin 16 → Fin 1024 → EReal
  sh2 : Fin 16 → Fin 1024 → EReal
  gt2 : Fin 16 → Fin 1024 → EReal
  g2 : Fin 1024 → EReal
  gf : Fin 1024 → EReal
  wout : Fin 1024 → Fin 1024 → EReal
  wup : Fin 1024 → Fin 5632 → EReal
  wdn : Fin 2816 → Fin 1024 → EReal
  fw : Fin 3 → Fin 5632 → EReal
  fb : Fin 5632 → EReal
  hist : Fin 16 → Fin 2 → Fin 5632 → EReal

/-- The arrays as functions of coordinates, from the arrays as functions of an index. -/
abbrev argsOf (x0 : (⟨3, ![16, 32, 1024]⟩ : Shape).Idx → EReal) (x1 : (⟨3, ![16, 32, 512]⟩ : Shape).Idx → EReal)
    (x2 : (⟨3, ![16, 32, 512]⟩ : Shape).Idx → EReal) (x3 x4 x5 x6 : (⟨2, ![16, 1024]⟩ : Shape).Idx → EReal)
    (x7 x8 : (⟨1, ![1024]⟩ : Shape).Idx → EReal) (x9 : (⟨2, ![1024, 1024]⟩ : Shape).Idx → EReal)
    (x10 : (⟨2, ![1024, 5632]⟩ : Shape).Idx → EReal) (x11 : (⟨2, ![2816, 1024]⟩ : Shape).Idx → EReal)
    (x12 : (⟨2, ![3, 5632]⟩ : Shape).Idx → EReal) (x13 : (⟨1, ![5632]⟩ : Shape).Idx → EReal)
    (x14 : (⟨3, ![16, 2, 5632]⟩ : Shape).Idx → EReal) : Args where
  x b t d := x0 (ix3 b t d)
  conv b t d := x1 (ix3 b t d)
  attn b t d := x2 (ix3 b t d)
  gt1 b d := x3 (ix2 b d)
  sc2 b d := x4 (ix2 b d)
  sh2 b d := x5 (ix2 b d)
  gt2 b d := x6 (ix2 b d)
  g2 d := x7 (ix1 d)
  gf d := x8 (ix1 d)
  wout k d := x9 (ix2 k d)
  wup k d := x10 (ix2 k d)
  wdn k d := x11 (ix2 k d)
  fw k d := x12 (ix2 k d)
  fb d := x13 (ix1 d)
  hist b k d := x14 (ix3 b k d)

namespace Args

variable (A : Args)

/-- The two branches side by side: the convolution's channels, then the attention's. -/
def cat (b : Fin 16) (t : Fin 32) (k : Fin 1024) : EReal :=
  if h : k.val < 512 then A.conv b t ⟨k.val, h⟩ else A.attn b t ⟨k.val - 512, by omega⟩

/-- The gated residual after the output projection. -/
def x1 (b : Fin 16) (t : Fin 32) (d : Fin 1024) : EReal :=
  A.x b t d + A.gt1 b d * ∑ k : Fin 1024, A.cat b t k * A.wout k d

/-- The normalised and modulated row that enters the feed-forward part. -/
def h2 (b : Fin 16) (t : Fin 32) (d : Fin 1024) : EReal :=
  A.x1 b t d * rms (A.x1 b t) * A.g2 d * (one + A.sc2 b d) + A.sh2 b d

/-- The up projection. -/
def up (b : Fin 16) (t : Fin 32) (f : Fin 5632) : EReal := ∑ k : Fin 1024, A.h2 b t k * A.wup k f

/-- The up projection with the two history rows before it. -/
def ext (b : Fin 16) (s : Fin 34) (f : Fin 5632) : EReal :=
  if h : s.val < 2 then A.hist b ⟨s.val, h⟩ f else A.up b ⟨s.val - 2, by omega⟩ f

/-- The three-tap causal filter with its bias. -/
def dw (b : Fin 16) (t : Fin 32) (f : Fin 5632) : EReal :=
  A.ext b ⟨t.val, by omega⟩ f * A.fw 0 f + A.ext b ⟨t.val + 1, by omega⟩ f * A.fw 1 f
    + A.ext b ⟨t.val + 2, by omega⟩ f * A.fw 2 f + A.fb f

/-- The gated activation: the first half of the channels times the `silu` of the second. -/
def act (b : Fin 16) (t : Fin 32) (f : Fin 2816) : EReal :=
  A.dw b t ⟨f.val, by omega⟩ * silu (A.dw b t ⟨2816 + f.val, by omega⟩)

/-- The gated residual after the down projection. -/
def x2 (b : Fin 16) (t : Fin 32) (d : Fin 1024) : EReal :=
  A.x1 b t d + A.gt2 b d * ∑ f : Fin 2816, A.act b t f * A.wdn f d

/-- The final norm: the layer's output. -/
def y (b : Fin 16) (t : Fin 32) (d : Fin 1024) : EReal := A.x2 b t d * rms (A.x2 b t) * A.gf d

end Args

end Cert.PostSSpec
-- ==== Proof.PostSPay.lean ====
/-
What the block computations of the sample batch's second half leave at an index, over any blocks: the row part, the causal
filter of one batch's rows, the batches stacked again, and the two gated residuals.
-/
module

public import proofs.«01_k».proof.Proof.Gen.PostSIdeal.Skeleton
public import proofs.«01_k».proof.Proof.PostSSpec
public import Idealize.ShloMosaic.Lib.Pointwise

@[expose] public section

set_option maxRecDepth 16384

noncomputable section

namespace Cert.PostSIdeal.Block

open Cert.PostSIdeal Cert.PostSIdeal.Gen
open Idealize.ShloMosaic Idealize.ShloMosaic.TcCoe Idealize.SL.Sem
open Cert.PostSpec (one rms silu)

/-- The row before row `t` of a batch, the newer history row standing before row 0. -/
def prev1 (U : Fin 32 → EReal) (c1 : EReal) (r : Fin 32) : EReal :=
  if h : r.val = 0 then c1 else U ⟨r.val - 1, by omega⟩

/-- The row two before row `t` of a batch, the two history rows standing before row 0. -/
def prev2 (U : Fin 32 → EReal) (c0 c1 : EReal) (r : Fin 32) : EReal :=
  if h : r.val = 0 then c0 else if h' : r.val = 1 then c1 else U ⟨r.val - 2, by omega⟩

/-- The kernel's spelling of `prev1`: a rotation by one row, the first eight rows patched at row 0. -/
theorem prev1_eq (U : Fin 32 → EReal) (c1 : EReal) (r : Fin 32) :
    (if h : r.val < 8 then Scalar.select (IntOp.cmpi .eq (BitVec.ofNat 32 r.val) 0#32) c1
        (U ⟨(r.val + 32 - 1) % 32, Nat.mod_lt _ (by decide)⟩)
      else U ⟨(8 + (r.val - 8) + 32 - 1) % 32, Nat.mod_lt _ (by decide)⟩) = prev1 U c1 r := by
  unfold prev1
  split
  · rename_i h
    obtain ⟨r, hr⟩ := r
    dsimp only at h ⊢
    interval_cases r <;> rfl
  · rename_i h
    rw [dif_neg (by omega)]
    exact congrArg U (Fin.ext (by show (8 + (r.val - 8) + 32 - 1) % 32 = r.val - 1; omega))

/-- The kernel's spelling of `prev2`: a rotation by two rows, the first eight rows patched at rows 0 and 1. -/
theorem prev2_eq (U : Fin 32 → EReal) (c0 c1 : EReal) (r : Fin 32) :
    (if h : r.val < 8 then Scalar.select (IntOp.cmpi .eq (BitVec.ofNat 32 r.val) 0#32) c0
        (Scalar.select (IntOp.cmpi .eq (BitVec.ofNat 32 r.val) 1#32) c1
          (U ⟨(r.val + 32 - 2) % 32, Nat.mod_lt _ (by decide)⟩))
      else U ⟨(8 + (r.val - 8) + 32 - 2) % 32, Nat.mod_lt _ (by decide)⟩) = prev2 U c0 c1 r := by
  unfold prev2
  split
  · rename_i h
    obtain ⟨r, hr⟩ := r
    dsimp only at h ⊢
    interval_cases r <;> rfl
  · rename_i h
    rw [dif_neg (by omega), dif_neg (by omega)]
    exact congrArg U (Fin.ext (by show (8 + (r.val - 8) + 32 - 2) % 32 = r.val - 2; omega))

/-- The row counter of a batch's first eight rows, compared with `n`, over all channels. -/
def rowIs (n : BitVec 32) : IVec S8x2816 1 :=
  broadcastTo S8x2816 (shapeCast S8x1 (cmpi .eq (iota .tc S8x1 32 [0] iota_S8x1_d0_w32) (broadcast S8x1 n)) shapeCasts_S8x1_S8x1)
    broadcasts_S8x1_S8x2816

/-- A history row over a batch's first eight rows. -/
def histRow (h : Vec Ideal S1x1x2816 .f32) : FVec Ideal S8x2816 .f32 :=
  broadcastTo S8x2816 (shapeCast S1x2816 (shapeCast S1x2816 h shapeCasts_S1x1x2816_S1x2816) shapeCasts_S1x2816_S1x2816)
    broadcasts_S1x2816_S8x2816

/-- The first eight rows replaced in a rotated batch. -/
def patch (p : FVec Ideal S8x2816 .f32) (u : FVec Ideal S32x2816 .f32) : FVec Ideal S32x2816 .f32 :=
  concatenate S32x2816 0 [⟨S8x2816, p⟩, ⟨S24x2816, extractStridedSlice S24x2816 ![8, 0] u slices_S32x2816_o8_0_S24x2816⟩]
    concatenates_S8x2816_S24x2816_S32x2816_d0

/-- The causal filter of one batch's rows, as the kernel takes it: two rotations, patched with the history rows. -/
def seg (us : FVec Ideal S32x2816 .f32) (h0 h1 : Vec Ideal S1x1x2816 .f32) (w0 w1 w2 bi : Vec Ideal S1x2816 .f32) :
    FVec Ideal S32x2816 .f32 :=
  addf (addf (addf (mulf us (broadcastTo S32x2816 w2 broadcasts_S1x2816_S32x2816))
    (mulf (patch (select (rowIs 0#32) (histRow h1)
        (extractStridedSlice S8x2816 ![0, 0] (dynamicRotate 0 1#32 none us rotates_S32x2816_d0) slices_S32x2816_o0_0_S8x2816))
        (dynamicRotate 0 1#32 none us rotates_S32x2816_d0)) (broadcastTo S32x2816 w1 broadcasts_S1x2816_S32x2816)))
    (mulf (patch (select (rowIs 0#32) (histRow h0) (select (rowIs 1#32) (histRow h1)
        (extractStridedSlice S8x2816 ![0, 0] (dynamicRotate 0 2#32 none us rotates_S32x2816_d0) slices_S32x2816_o0_0_S8x2816)))
        (dynamicRotate 0 2#32 none us rotates_S32x2816_d0)) (broadcastTo S32x2816 w0 broadcasts_S1x2816_S32x2816)))
    (broadcastTo S32x2816 (shapeCast S1x2816 bi shapeCasts_S1x2816_S1x2816) broadcasts_S1x2816_S32x2816)

/-- The filter at an index: the row itself, the row before and the row two before. -/
theorem seg_apply (us : FVec Ideal S32x2816 .f32) (h0 h1 : Vec Ideal S1x1x2816 .f32) (w0 w1 w2 bi : Vec Ideal S1x2816 .f32)
    (t : Fin 32) (f : Fin 2816) :
    seg us h0 h1 w0 w1 w2 bi (ix2 t f)
      = us (ix2 t f) * w2 (ix2 0 f) + prev1 (fun t => us (ix2 t f)) (h1 (ix3 0 0 f)) t * w1 (ix2 0 f)
        + prev2 (fun t => us (ix2 t f)) (h0 (ix3 0 0 f)) (h1 (ix3 0 0 f)) t * w0 (ix2 0 f) + bi (ix2 0 f) := by
  pointwise [seg, patch, rowIs, histRow]
  rw [← prev1_eq, ← prev2_eq]

/-- The last two rows of a batch, as a block of the second result. -/
def last (us : FVec Ideal S32x2816 .f32) : FVec Ideal S1x2x2816 .f32 :=
  shapeCast S1x2x2816 (extractStridedSlice S2x2816 ![30, 0] us slices_S32x2816_o30_0_S2x2816) shapeCasts_S2x2816_S1x2x2816

/-- Those rows at an index. -/
theorem last_apply (us : FVec Ideal S32x2816 .f32) (b : Fin 1) (j : Fin 2) (f : Fin 2816) :
    last us (ix3 b j f) = us (ix2 ⟨30 + j.val, by omega⟩ f) := by
  pointwise [last]

/-- The batches' rows, one batch after the other. -/
def stack (g : Fin 16 → FVec Ideal S32x2816 .f32) : FVec Ideal S512x2816 .f32 :=
  concatenate S512x2816 0 (List.ofFn fun s : Fin 16 => (⟨S32x2816, g s⟩ : (s : Shape) × (s.Idx → Ideal .f32)))
    concatenates_S32x2816_S32x2816_S32x2816_S32x2816_S32x2816_S32x2816_S32x2816_S32x2816_S32x2816_S32x2816_S32x2816_S32x2816_S32x2816_S32x2816_S32x2816_S32x2816_S512x2816_d0

/-- The stacked rows at an index: the row's batch and its time within the batch. -/
theorem stack_apply (g : Fin 16 → FVec Ideal S32x2816 .f32) (r : Fin 512) (f : Fin 2816) :
    stack g (ix2 r f) = g ⟨r.val / 32, by omega⟩ (ix2 (⟨r.val % 32, by omega⟩ : Fin 32) f) :=
  concatenate_ofFn_apply (t := S512x2816) (s₁ := S32x2816) 0 g _ rfl 32 rfl (ix2 r f) ⟨r.val / 32, by omega⟩ rfl
    (ix2 (⟨r.val % 32, by omega⟩ : Fin 32) f) rfl (fun a ha => by
      match a, ha with
      | ⟨0, _⟩, ha => exact absurd rfl ha
      | ⟨1, _⟩, _ => rfl)

/-- The rows of batch `s`, cut out of all rows. -/
def rows (s : Fin 16) (u : FVec Ideal S512x2816 .f32) : FVec Ideal S32x2816 .f32 :=
  extractStridedSlice S32x2816 ![32 * s.val, 0] u ((by decide : ∀ s : Fin 16, S512x2816.Slices ![32 * s.val, 0] S32x2816) s)

/-- Those rows at an index. -/
theorem rows_apply (s : Fin 16) (u : FVec Ideal S512x2816 .f32) (t : Fin 32) (f : Fin 2816) :
    rows s u (ix2 t f) = u (ix2 ⟨32 * s.val + t.val, by omega⟩ f) := by
  pointwise [rows]

/-- The gated residual of a row: the product over 1024 channels is taken in two halves. -/
theorem pay1_apply (v0 : Vec Ideal S512x1024 .bf16) (v2 v5 : Vec Ideal S512x512 .bf16) (v7 : Vec Ideal S512x1024 .bf16)
    (v11 v13 : Vec Ideal S512x1024 .f32) (r : Fin 512) (d : Fin 1024) :
    k0_pay1 (F := Ideal) v0 v2 v5 v7 v11 v13 (ix2 r d) = v11 (ix2 r d) + v13 (ix2 r d)
      * (∑ k : Fin 512, v5 (ix2 r k) * v7 (ix2 k d) + ∑ k : Fin 512, v2 (ix2 r k) * v0 (ix2 k d)) := by
  pointwise [k0_pay1]

/-- The normalised row with its gain. -/
theorem pay4_apply (v0 : Vec Ideal S512x1024 .bf16) (v2 v5 : Vec Ideal S512x512 .bf16) (v7 : Vec Ideal S512x1024 .bf16)
    (v11 v13 : Vec Ideal S512x1024 .f32) (v17 : Vec Ideal S1x1024 .f32) (r : Fin 512) (d : Fin 1024) :
    k0_pay4 (F := Ideal) v0 v2 v5 v7 v11 v13 v17 (ix2 r d)
      = k0_pay1 (F := Ideal) v0 v2 v5 v7 v11 v13 (ix2 r d) * rms (fun k => k0_pay1 (F := Ideal) v0 v2 v5 v7 v11 v13 (ix2 r k))
        * v17 (ix2 0 d) := by
  unfold k0_pay4 rms
  generalize k0_pay1 (F := Ideal) v0 v2 v5 v7 v11 v13 = y
  pointwise

/-- The modulation of a row. -/
theorem pay5_apply (v4 v5 : Vec Ideal S512x1024 .f32) (v34 : FVec Ideal S512x1024 .f32) (r : Fin 512) (d : Fin 1024) :
    k0_pay5 (F := Ideal) (k0_pay2 v4) (k0_pay3 v5) v34 (Scalar.ofBits .f32 0x3F800000#32) (ix2 r d)
      = v34 (ix2 r d) * (one + v4 (ix2 r d)) + v5 (ix2 r d) := by
  pointwise [k0_pay5, k0_pay2, k0_pay3]

/-- One half of the up projection. -/
theorem pay7_apply (v20 v22 v34 : FVec Ideal S512x1024 .f32) (c : Ideal .f32) (w : Vec Ideal S1024x2816 .bf16) (r : Fin 512)
    (f : Fin 2816) :
    k0_pay7 (F := Ideal) v20 v22 v34 c w (ix2 r f) = ∑ k : Fin 1024, k0_pay5 (F := Ideal) v20 v22 v34 c (ix2 r k) * w (ix2 k f) := by
  unfold k0_pay7
  generalize k0_pay5 (F := Ideal) v20 v22 v34 c = y
  pointwise

/-- The second gated residual, as the kernel takes it: the down projection of the gated activation. -/
def x2F (x1 z : FVec Ideal S512x1024 .f32) (a g : FVec Ideal S512x2816 .f32) (w : Vec Ideal S2816x1024 .bf16)
    (gt : Vec Ideal S512x1024 .f32) : FVec Ideal S512x1024 .f32 :=
  addf x1 (mulf (shapeCast S512x1024 gt shapeCasts_S512x1024_S512x1024) (addf z
    (matmul dot_S512x2816_S2816x1024_S512x1024_1_0_0_1_n_n none (truncf .bf16 (mulf a (mulf g (logistic g))) bitsLt_bf16_f32)
      (show FVec Ideal S2816x1024 .bf16 from shapeCast S2816x1024 w shapeCasts_S2816x1024_S2816x1024) (constant S512x1024 .f32 0x00000000#32))))

/-- It at an index. -/
theorem x2F_apply (x1 z : FVec Ideal S512x1024 .f32) (a g : FVec Ideal S512x2816 .f32) (w : Vec Ideal S2816x1024 .bf16)
    (gt : Vec Ideal S512x1024 .f32) (r : Fin 512) (d : Fin 1024) :
    x2F x1 z a g w gt (ix2 r d) = x1 (ix2 r d) + gt (ix2 r d) * (z (ix2 r d)
      + ∑ f : Fin 2816, a (ix2 r f) * silu (g (ix2 r f)) * w (ix2 f d)) := by
  unfold silu
  pointwise [x2F]

/-- The final norm, as the kernel takes it. -/
def yF (v : FVec Ideal S512x1024 .f32) (g : Vec Ideal S1x1024 .f32) : FVec Ideal S512x1024 .f32 :=
  mulf (mulf v (broadcastTo S512x1024 (rsqrt (addf (divf (shapeCast S512x1 (multiReduction .add [1] S512 (mulf v v) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 (shapeCast S1x1024 g shapeCasts_S1x1024_S1x1024) broadcasts_S1x1024_S512x1024)

/-- It at an index. -/
theorem yF_apply (v : FVec Ideal S512x1024 .f32) (g : Vec Ideal S1x1024 .f32) (r : Fin 512) (d : Fin 1024) :
    yF v g (ix2 r d) = v (ix2 r d) * rms (fun k => v (ix2 r k)) * g (ix2 0 d) := by
  unfold rms
  pointwise [yF]

end Cert.PostSIdeal.Block

end
-- ==== Proof.PostSStep.lean ====
/-
The point's two results, spelt over the row part, the batches' causal filters and the gated residuals.  The channels come
in two halves, named by `h`: the values and the gates.
-/
module

public import proofs.«01_k».proof.Proof.Gen.PostSIdeal.Frame
public import proofs.«01_k».proof.Proof.PostSPay

@[expose] public section

set_option maxRecDepth 65536

noncomputable section

namespace Cert.PostSIdeal.Block

open Cert.PostSIdeal Cert.PostSIdeal.Gen
open Idealize.ShloMosaic Idealize.ShloMosaic.TcCoe Idealize.SL.Sem

/-- History row `j` of batch `s`, the channels of half `h`. -/
abbrev histAt (h : Fin 2) (s : Fin 16) (j : Fin 2) : Rect S16x2x5632 :=
  Rect.unit (s := S16x2x5632) ![s.val, j.val, 2816 * h.val] S1x1x2816.size
    ((by decide : ∀ (h : Fin 2) (s : Fin 16) (j : Fin 2) (a : Fin 3),
      (![s.val, j.val, 2816 * h.val] : Fin 3 → ℕ) a + S1x1x2816.size a ≤ S16x2x5632.size a) h s j)

/-- Both result rows of batch `s`, the channels of half `h`. -/
abbrev lastAt (h : Fin 2) (s : Fin 16) : Rect S16x2x5632 :=
  Rect.unit (s := S16x2x5632) ![s.val, 0, 2816 * h.val] S1x2x2816.size
    ((by decide : ∀ (h : Fin 2) (s : Fin 16) (a : Fin 3),
      (![s.val, 0, 2816 * h.val] : Fin 3 → ℕ) a + S1x2x2816.size a ≤ S16x2x5632.size a) h s)

/-- Tap `j` of the filter, the channels of half `h`. -/
abbrev tapAt (h : Fin 2) (j : Fin 3) : Rect S3x5632 :=
  Rect.unit (s := S3x5632) ![j.val, 2816 * h.val] S1x2816.size
    ((by decide : ∀ (h : Fin 2) (j : Fin 3) (a : Fin 2),
      (![j.val, 2816 * h.val] : Fin 2 → ℕ) a + S1x2816.size a ≤ S3x5632.size a) h j)

/-- The filter's bias, the channels of half `h`. -/
abbrev biasAt (h : Fin 2) : Rect S1x5632 :=
  Rect.unit (s := S1x5632) ![0, 2816 * h.val] S1x2816.size
    ((by decide : ∀ (h : Fin 2) (a : Fin 2), (![0, 2816 * h.val] : Fin 2 → ℕ) a + S1x2816.size a ≤ S1x5632.size a) h)

/-- The up projection's columns of half `h`. -/
abbrev colsAt (h : Fin 2) : Rect S1024x5632 :=
  Rect.unit (s := S1024x5632) ![0, 2816 * h.val] S1024x2816.size
    ((by decide : ∀ (h : Fin 2) (a : Fin 2), (![0, 2816 * h.val] : Fin 2 → ℕ) a + S1024x2816.size a ≤ S1024x5632.size a) h)

/-- Half `h` of the up projection. -/
def upB (h : Fin 2) (x0 : Vec Ideal S512x1024 .f32) (x1 x2 : Vec Ideal S512x512 .bf16) (x3 x4 x5 : Vec Ideal S512x1024 .f32)
    (x7 : Vec Ideal S1x1024 .f32) (x9 : Vec Ideal S1024x1024 .bf16) (x10 : Vec Ideal S1024x5632 .bf16) : FVec Ideal S512x2816 .f32 :=
  k0_pay7 (F := Ideal) (k0_pay2 (View.ld x4 r0_3)) (k0_pay3 (View.ld x5 r0_3)) (k0_pay4 (View.ld x9 r0_0) (View.ld x2 r0_1)
    (View.ld x1 r0_1) (View.ld x9 r0_2) (View.ld x0 r0_3) (View.ld x3 r0_3) (View.ld x7 r0_4)) (Scalar.ofBits .f32 0x3F800000#32)
    (View.ld x10 (colsAt h))

/-- Half `h` of the filtered channels, all batches: each batch is filtered apart, from its own history rows. -/
def filB (h : Fin 2) (u : FVec Ideal S512x2816 .f32) (x12 : Vec Ideal S3x5632 .f32) (x13 : Vec Ideal S1x5632 .f32)
    (x14 : Vec Ideal S16x2x5632 .f32) : FVec Ideal S512x2816 .f32 :=
  stack fun s => seg (rows s u) (View.ld x14 (histAt h s 0)) (View.ld x14 (histAt h s 1)) (View.ld x12 (tapAt h 0))
    (View.ld x12 (tapAt h 1)) (View.ld x12 (tapAt h 2)) (View.ld x13 (biasAt h))

/-- The gated residual's block. -/
def x1B (x0 : Vec Ideal S512x1024 .f32) (x1 x2 : Vec Ideal S512x512 .bf16) (x3 : Vec Ideal S512x1024 .f32) (x9 : Vec Ideal S1024x1024 .bf16) :
    FVec Ideal S512x1024 .f32 :=
  k0_pay1 (F := Ideal) (View.ld x9 r0_0) (View.ld x2 r0_1) (View.ld x1 r0_1) (View.ld x9 r0_2) (View.ld x0 r0_3) (View.ld x3 r0_3)

/-- The second gated residual's block. -/
def x2B (x0 : Vec Ideal S512x1024 .f32) (x1 x2 : Vec Ideal S512x512 .bf16) (x3 x4 x5 x6 : Vec Ideal S512x1024 .f32)
    (x7 : Vec Ideal S1x1024 .f32) (x9 : Vec Ideal S1024x1024 .bf16) (x10 : Vec Ideal S1024x5632 .bf16)
    (x11 : Vec Ideal S2816x1024 .bf16) (x12 : Vec Ideal S3x5632 .f32) (x13 : Vec Ideal S1x5632 .f32)
    (x14 : Vec Ideal S16x2x5632 .f32) : FVec Ideal S512x1024 .f32 :=
  x2F (x1B x0 x1 x2 x3 x9) (k0_pay6 (F := Ideal)) (filB 0 (upB 0 x0 x1 x2 x3 x4 x5 x7 x9 x10) x12 x13 x14)
    (filB 1 (upB 1 x0 x1 x2 x3 x4 x5 x7 x9 x10) x12 x13 x14) (View.ld x11 r0_111) (View.ld x6 r0_3)

/-- The second result's block of batch `p.2`, half `p.1`, where it is stored. -/
def lastPiece (x0 : Vec Ideal S512x1024 .f32) (x1 x2 : Vec Ideal S512x512 .bf16) (x3 x4 x5 : Vec Ideal S512x1024 .f32)
    (x7 : Vec Ideal S1x1024 .f32) (x9 : Vec Ideal S1024x1024 .bf16) (x10 : Vec Ideal S1024x5632 .bf16) (p : Fin 2 × Fin 16) :
    View.Piece (Elt Ideal) S16x2x5632 .f32 :=
  ⟨lastAt p.1 p.2, last (rows p.2 (upB p.1 x0 x1 x2 x3 x4 x5 x7 x9 x10))⟩

/-- Halves and batches in the order in which the second result's blocks lie, the last stored first. -/
def lastOrder : List (Fin 2 × Fin 16) :=
  (List.ofFn fun s : Fin 16 => ((1 : Fin 2), s.rev)) ++ List.ofFn fun s : Fin 16 => ((0 : Fin 2), s.rev)

set_option maxHeartbeats 4000000 in
/-- The first result's block. -/
theorem out15_eq (x0 : Vec Ideal S512x1024 .f32) (x1 x2 : Vec Ideal S512x512 .bf16) (x3 x4 x5 x6 : Vec Ideal S512x1024 .f32)
    (x7 x8 : Vec Ideal S1x1024 .f32) (x9 : Vec Ideal S1024x1024 .bf16) (x10 : Vec Ideal S1024x5632 .bf16)
    (x11 : Vec Ideal S2816x1024 .bf16) (x12 : Vec Ideal S3x5632 .f32) (x13 : Vec Ideal S1x5632 .f32)
    (x14 : Vec Ideal S16x2x5632 .f32) :
    out0_15 (F := Ideal) x0 x1 x2 x3 x4 x5 x6 x7 x8 x9 x10 x11 x12 x13 x14 = View.canon [⟨r0_3, yF (x2B x0 x1 x2 x3 x4 x5 x6 x7 x9 x10 x11 x12 x13 x14) (View.ld x8 r0_4)⟩] := by
  unfold_out out0_15
  rfl

set_option maxHeartbeats 4000000 in
/-- The second result's block: two rows of every batch, each half of the channels apart. -/
theorem out16_eq (x0 : Vec Ideal S512x1024 .f32) (x1 x2 : Vec Ideal S512x512 .bf16) (x3 x4 x5 x6 : Vec Ideal S512x1024 .f32)
    (x7 x8 : Vec Ideal S1x1024 .f32) (x9 : Vec Ideal S1024x1024 .bf16) (x10 : Vec Ideal S1024x5632 .bf16)
    (x11 : Vec Ideal S2816x1024 .bf16) (x12 : Vec Ideal S3x5632 .f32) (x13 : Vec Ideal S1x5632 .f32)
    (x14 : Vec Ideal S16x2x5632 .f32) :
    out0_16 (F := Ideal) x0 x1 x2 x3 x4 x5 x6 x7 x8 x9 x10 x11 x12 x13 x14 = View.canon (lastOrder.map (lastPiece x0 x1 x2 x3 x4 x5 x7 x9 x10)) := by
  unfold_out out0_16
  rfl

end Cert.PostSIdeal.Block

end
-- ==== Proof.PostSBlock.lean ====
/-
What the point computes, once its argument blocks hold the layer's arrays: the first result's block holds the layer's
output, row after row of every batch, and the second the up projection's last two rows of every batch.
-/
module

public import proofs.«01_k».proof.Proof.PostSStep

@[expose] public section

set_option maxRecDepth 16384

noncomputable section

namespace Cert.PostSIdeal.Block

open Cert.PostSIdeal Cert.PostSIdeal.Gen
open Idealize.ShloMosaic Idealize.ShloMosaic.TcCoe Idealize.SL.Sem
open Cert.PostSpec (one rms silu)
open Cert.PostSSpec

/-- The batch of a row. -/
abbrev rowB (r : Fin 512) : Fin 16 := ⟨r.val / 32, by omega⟩
/-- The time of a row within its batch. -/
abbrev rowT (r : Fin 512) : Fin 32 := ⟨r.val % 32, by omega⟩

/-- Channel `f` of half `h` among all of the up projection's. -/
abbrev chan (h : Fin 2) (f : Fin 2816) : Fin 5632 := ⟨2816 * h.val + f.val, by omega⟩

theorem off2 : (![0, 0] : Fin 2 → ℕ) = fun _ => 0 := by decide

/-- The argument blocks hold the arrays `A`, the rows of all batches one after the other. -/
structure Holds (A : Args) (x0 : Vec Ideal S512x1024 .f32) (x1 x2 : Vec Ideal S512x512 .bf16) (x3 x4 x5 x6 : Vec Ideal S512x1024 .f32)
    (x7 x8 : Vec Ideal S1x1024 .f32) (x9 : Vec Ideal S1024x1024 .bf16) (x10 : Vec Ideal S1024x5632 .bf16)
    (x11 : Vec Ideal S2816x1024 .bf16) (x12 : Vec Ideal S3x5632 .f32) (x13 : Vec Ideal S1x5632 .f32)
    (x14 : Vec Ideal S16x2x5632 .f32) : Prop where
  e0 : ∀ (r : Fin 512) (d : Fin 1024), x0 (ix2 r d) = A.x (rowB r) (rowT r) d
  e1 : ∀ (r : Fin 512) (d : Fin 512), x1 (ix2 r d) = A.conv (rowB r) (rowT r) d
  e2 : ∀ (r : Fin 512) (d : Fin 512), x2 (ix2 r d) = A.attn (rowB r) (rowT r) d
  e3 : ∀ (r : Fin 512) (d : Fin 1024), x3 (ix2 r d) = A.gt1 (rowB r) d
  e4 : ∀ (r : Fin 512) (d : Fin 1024), x4 (ix2 r d) = A.sc2 (rowB r) d
  e5 : ∀ (r : Fin 512) (d : Fin 1024), x5 (ix2 r d) = A.sh2 (rowB r) d
  e6 : ∀ (r : Fin 512) (d : Fin 1024), x6 (ix2 r d) = A.gt2 (rowB r) d
  e7 : ∀ d : Fin 1024, x7 (ix2 0 d) = A.g2 d
  e8 : ∀ d : Fin 1024, x8 (ix2 0 d) = A.gf d
  e9 : ∀ (k : Fin 1024) (d : Fin 1024), x9 (ix2 k d) = A.wout k d
  e10 : ∀ (k : Fin 1024) (f : Fin 5632), x10 (ix2 k f) = A.wup k f
  e11 : ∀ (f : Fin 2816) (d : Fin 1024), x11 (ix2 f d) = A.wdn f d
  e12 : ∀ (j : Fin 3) (f : Fin 5632), x12 (ix2 j f) = A.fw j f
  e13 : ∀ f : Fin 5632, x13 (ix2 0 f) = A.fb f
  e14 : ∀ (b : Fin 16) (j : Fin 2) (f : Fin 5632), x14 (ix3 b j f) = A.hist b j f

section
variable {A : Args}

/-- A row of the extended up projection past the history. -/
theorem ext_two (b : Fin 16) (t : Fin 32) (f : Fin 5632) : A.ext b ⟨t.val + 2, by omega⟩ f = A.up b t f := by
  unfold Args.ext
  rw [dif_neg (by show ¬t.val + 2 < 2; omega)]
  exact congrArg (fun z => A.up b z f) (Fin.ext (by show t.val + 2 - 2 = t.val; omega))

/-- A history row of the extended up projection. -/
theorem ext_hist (b : Fin 16) (j : Fin 2) (f : Fin 5632) : A.ext b ⟨j.val, by omega⟩ f = A.hist b j f := by
  unfold Args.ext
  rw [dif_pos (by show j.val < 2; omega)]

/-- The row before, over rows of the up projection and the newer history row. -/
theorem prev1_ext (b : Fin 16) (f : Fin 5632) (U : Fin 32 → EReal) (hU : ∀ t, U t = A.up b t f) (c1 : EReal)
    (h1 : c1 = A.hist b 1 f) (t : Fin 32) : prev1 U c1 t = A.ext b ⟨t.val + 1, by omega⟩ f := by
  unfold prev1
  split
  · rename_i h
    rw [h1, ← ext_hist]
    exact congrArg (fun z => A.ext b z f) (Fin.ext (by show 1 = t.val + 1; omega))
  · rename_i h
    rw [hU, ← ext_two]
    exact congrArg (fun z => A.ext b z f) (Fin.ext (by show t.val - 1 + 2 = t.val + 1; omega))

/-- The row two before, over rows of the up projection and the history rows. -/
theorem prev2_ext (b : Fin 16) (f : Fin 5632) (U : Fin 32 → EReal) (hU : ∀ t, U t = A.up b t f) (c0 c1 : EReal)
    (h0 : c0 = A.hist b 0 f) (h1 : c1 = A.hist b 1 f) (t : Fin 32) : prev2 U c0 c1 t = A.ext b ⟨t.val, by omega⟩ f := by
  unfold prev2
  split
  · rename_i h
    rw [h0, ← ext_hist]
    exact congrArg (fun z => A.ext b z f) (Fin.ext (by show 0 = t.val; omega))
  · split
    · rename_i h h'
      rw [h1, ← ext_hist]
      exact congrArg (fun z => A.ext b z f) (Fin.ext (by show 1 = t.val; omega))
    · rename_i h h'
      rw [hU, ← ext_two]
      exact congrArg (fun z => A.ext b z f) (Fin.ext (by show t.val - 2 + 2 = t.val; omega))

/-- One batch's filter, over its rows of the up projection. -/
theorem seg_at (b : Fin 16) (f' : Fin 5632) (us : FVec Ideal S32x2816 .f32) (h0 h1 : Vec Ideal S1x1x2816 .f32)
    (w0 w1 w2 bi : Vec Ideal S1x2816 .f32) (f : Fin 2816) (hu : ∀ t : Fin 32, us (ix2 t f) = A.up b t f')
    (e0 : h0 (ix3 0 0 f) = A.hist b 0 f') (e1 : h1 (ix3 0 0 f) = A.hist b 1 f') (k0 : w0 (ix2 0 f) = A.fw 0 f')
    (k1 : w1 (ix2 0 f) = A.fw 1 f') (k2 : w2 (ix2 0 f) = A.fw 2 f') (kb : bi (ix2 0 f) = A.fb f') (t : Fin 32) :
    seg us h0 h1 w0 w1 w2 bi (ix2 t f) = A.dw b t f' := by
  unfold Args.dw
  rw [seg_apply, k0, k1, k2, kb, prev1_ext b f' _ hu _ e1, prev2_ext b f' _ hu _ _ e0 e1, hu, ← ext_two]
  refine congrArg₂ (· + ·) ?_ rfl
  rw [add_comm, add_comm (A.ext b _ _ * A.fw 2 _)]
  exact (add_assoc _ _ _).symm

variable {x0 : Vec Ideal S512x1024 .f32} {x1 x2 : Vec Ideal S512x512 .bf16} {x3 x4 x5 x6 : Vec Ideal S512x1024 .f32}
    {x7 x8 : Vec Ideal S1x1024 .f32} {x9 : Vec Ideal S1024x1024 .bf16} {x10 : Vec Ideal S1024x5632 .bf16}
    {x11 : Vec Ideal S2816x1024 .bf16} {x12 : Vec Ideal S3x5632 .f32} {x13 : Vec Ideal S1x5632 .f32}
    {x14 : Vec Ideal S16x2x5632 .f32}
  (H : Holds A x0 x1 x2 x3 x4 x5 x6 x7 x8 x9 x10 x11 x12 x13 x14)
include H

/-- The gated residual's block. -/
theorem x1B_eq (r : Fin 512) (d : Fin 1024) : x1B x0 x1 x2 x3 x9 (ix2 r d) = A.x1 (rowB r) (rowT r) d := by
  have lo9 : ∀ k : Fin 512, View.ld x9 r0_2 (ix2 k d) = A.wout ⟨k.val, by omega⟩ d := fun k => by
    rw [← H.e9]; pointwise
  have hi9 : ∀ k : Fin 512, View.ld x9 r0_0 (ix2 k d) = A.wout ⟨512 + k.val, by omega⟩ d := fun k => by
    rw [← H.e9]; pointwise
  have l0 : View.ld x0 r0_3 = x0 := View.ld_unit_zero off2 _ x0
  have l1 : View.ld x1 r0_1 = x1 := View.ld_unit_zero off2 _ x1
  have l2 : View.ld x2 r0_1 = x2 := View.ld_unit_zero off2 _ x2
  have l3 : View.ld x3 r0_3 = x3 := View.ld_unit_zero off2 _ x3
  unfold x1B Args.x1
  rw [pay1_apply, l0, l1, l2, l3, H.e0, H.e3, Fin.sum_univ_two_halves 512 512 rfl]
  refine congrArg₂ (· + ·) rfl (congrArg₂ (· * ·) rfl (congrArg₂ (· + ·) ?_ ?_))
  · refine Finset.sum_congr rfl fun k _ => ?_
    rw [lo9, H.e1]
    unfold Args.cat
    rw [dif_pos k.isLt]
  · refine Finset.sum_congr rfl fun k _ => ?_
    rw [hi9, H.e2]
    unfold Args.cat
    rw [dif_neg (by show ¬512 + k.val < 512; omega)]
    exact congrArg₂ (· * ·) (congrArg (A.attn _ _) (Fin.ext (by show k.val = 512 + k.val - 512; omega))) rfl

/-- The modulated norm's block. -/
theorem h2B_eq (r : Fin 512) (d : Fin 1024) :
    k0_pay5 (F := Ideal) (k0_pay2 (View.ld x4 r0_3)) (k0_pay3 (View.ld x5 r0_3)) (k0_pay4 (View.ld x9 r0_0) (View.ld x2 r0_1)
      (View.ld x1 r0_1) (View.ld x9 r0_2) (View.ld x0 r0_3) (View.ld x3 r0_3) (View.ld x7 r0_4)) (Scalar.ofBits .f32 0x3F800000#32)
      (ix2 r d) = A.h2 (rowB r) (rowT r) d := by
  have l4 : View.ld x4 r0_3 = x4 := View.ld_unit_zero off2 _ x4
  have l5 : View.ld x5 r0_3 = x5 := View.ld_unit_zero off2 _ x5
  have l7 : View.ld x7 r0_4 = x7 := View.ld_unit_zero off2 _ x7
  have e : ∀ k : Fin 1024, k0_pay1 (F := Ideal) (View.ld x9 r0_0) (View.ld x2 r0_1) (View.ld x1 r0_1) (View.ld x9 r0_2)
      (View.ld x0 r0_3) (View.ld x3 r0_3) (ix2 r k) = A.x1 (rowB r) (rowT r) k := fun k => x1B_eq H r k
  unfold Args.h2
  rw [pay5_apply, pay4_apply, l4, l5, l7, H.e7, H.e4, H.e5, e,
    show (fun k => k0_pay1 (F := Ideal) (View.ld x9 r0_0) (View.ld x2 r0_1) (View.ld x1 r0_1) (View.ld x9 r0_2)
      (View.ld x0 r0_3) (View.ld x3 r0_3) (ix2 r k)) = A.x1 (rowB r) (rowT r) from funext e]

/-- Half `h` of the up projection. -/
theorem upB_eq (h : Fin 2) (r : Fin 512) (f : Fin 2816) :
    upB h x0 x1 x2 x3 x4 x5 x7 x9 x10 (ix2 r f) = A.up (rowB r) (rowT r) (chan h f) := by
  unfold upB Args.up
  rw [pay7_apply]
  refine Finset.sum_congr rfl fun k _ => ?_
  rw [h2B_eq H, ← H.e10]
  refine congrArg₂ (· * ·) rfl ?_
  pointwise

/-- Half `h` of the up projection at a row of batch `s`. -/
theorem upB_row (h : Fin 2) (s : Fin 16) (t : Fin 32) (f : Fin 2816) :
    rows s (upB h x0 x1 x2 x3 x4 x5 x7 x9 x10) (ix2 t f) = A.up s t (chan h f) := by
  have e1 : rowB ⟨32 * s.val + t.val, by omega⟩ = s := Fin.ext (by show (32 * s.val + t.val) / 32 = s.val; omega)
  have e2 : rowT ⟨32 * s.val + t.val, by omega⟩ = t := Fin.ext (by show (32 * s.val + t.val) % 32 = t.val; omega)
  rw [rows_apply, upB_eq H, e1, e2]

/-- Half `h` of the filtered channels, in batch and time. -/
theorem filB_eq (h : Fin 2) (r : Fin 512) (f : Fin 2816) :
    filB h (upB h x0 x1 x2 x3 x4 x5 x7 x9 x10) x12 x13 x14 (ix2 r f) = A.dw (rowB r) (rowT r) (chan h f) := by
  have k : ∀ j : Fin 3, View.ld x12 (tapAt h j) (ix2 0 f) = A.fw j (chan h f) := fun j => by
    rw [← H.e12]; pointwise
  have kb : View.ld x13 (biasAt h) (ix2 0 f) = A.fb (chan h f) := by
    rw [← H.e13]; pointwise
  have e : ∀ j : Fin 2, View.ld x14 (histAt h (rowB r) j) (ix3 0 0 f) = A.hist (rowB r) j (chan h f) := fun j => by
    rw [← H.e14]; pointwise
  unfold filB
  rw [stack_apply]
  exact seg_at (rowB r) (chan h f) _ _ _ _ _ _ _ f (fun t => upB_row H h (rowB r) t f) (e 0) (e 1) (k 0) (k 1) (k 2) kb (rowT r)

/-- The second gated residual. -/
theorem x2B_eq (r : Fin 512) (d : Fin 1024) :
    x2B x0 x1 x2 x3 x4 x5 x6 x7 x9 x10 x11 x12 x13 x14 (ix2 r d) = A.x2 (rowB r) (rowT r) d := by
  have z : k0_pay6 (F := Ideal) (ix2 r d) = 0 := by
    pointwise [k0_pay6]
  have l6 : View.ld x6 r0_3 = x6 := View.ld_unit_zero off2 _ x6
  have l11 : View.ld x11 r0_111 = x11 := View.ld_unit_zero off2 _ x11
  unfold x2B Args.x2
  rw [x2F_apply, z, zero_add, l6, l11, x1B_eq H, H.e6]
  refine congrArg₂ (· + ·) rfl (congrArg₂ (· * ·) rfl (Finset.sum_congr rfl fun f _ => ?_))
  rw [filB_eq H, filB_eq H, H.e11]
  refine congrArg₂ (· * ·) (congrArg₂ (· * ·) (congrArg (A.dw _ _) (Fin.ext ?_)) (congrArg silu (congrArg (A.dw _ _) (Fin.ext ?_)))) rfl
  · show 2816 * 0 + f.val = f.val; omega
  · show 2816 * 1 + f.val = 2816 + f.val; omega

/-- The first result's block. -/
theorem out15_at (r : Fin 512) (d : Fin 1024) :
    out0_15 (F := Ideal) x0 x1 x2 x3 x4 x5 x6 x7 x8 x9 x10 x11 x12 x13 x14 (ix2 r d) = A.y (rowB r) (rowT r) d := by
  have l8 : View.ld x8 r0_4 = x8 := View.ld_unit_zero off2 _ x8
  unfold Args.y
  rw [out15_eq, View.canon_unit_zero off2 _ _, yF_apply, l8, H.e8, x2B_eq H,
    show (fun k => x2B x0 x1 x2 x3 x4 x5 x6 x7 x9 x10 x11 x12 x13 x14 (ix2 r k)) = A.x2 (rowB r) (rowT r) from funext fun k => x2B_eq H r k]

/-- A block of the second result holds the last two rows of its batch of the extended up projection. -/
theorem lastPiece_eq (p : Fin 2 × Fin 16) (x : S1x2x2816.Idx) :
    last (rows p.2 (upB p.1 x0 x1 x2 x3 x4 x5 x7 x9 x10)) x = A.ext ((lastAt p.1 p.2).emb x 0)
      ⟨32 + ((lastAt p.1 p.2).emb x 1).val, by have := ((lastAt p.1 p.2).emb x 1).isLt; change _ < 2 at this; omega⟩ ((lastAt p.1 p.2).emb x 2) := by
  obtain ⟨h, s⟩ := p
  obtain ⟨b, j, f, rfl⟩ : ∃ (b : Fin 1) (j : Fin 2) (f : Fin 2816), x = ix3 b j f := ⟨_, _, _, eq_ix3 x⟩
  have e0 : (lastAt h s).emb (ix3 b j f) 0 = s := Fin.ext (by show s.val + 1 * b.val = s.val; omega)
  have e1 : (lastAt h s).emb (ix3 b j f) 1 = j := Fin.ext (by show 0 + 1 * j.val = j.val; omega)
  have e2 : (lastAt h s).emb (ix3 b j f) 2 = chan h f := Fin.ext (by show 2816 * h.val + 1 * f.val = 2816 * h.val + f.val; omega)
  refine Eq.trans ?_ (congr (congr (congrArg A.ext e0.symm) (Fin.ext (congrArg (fun z : Fin 2 => 32 + z.val) e1.symm))) e2.symm :
    A.ext s ⟨32 + j.val, by omega⟩ (chan h f) = _)
  rw [last_apply, upB_row H, ← ext_two]
  exact congrArg (fun z => A.ext _ z _) (Fin.ext (by show 30 + j.val + 2 = 32 + j.val; omega))

/-- The second result's block. -/
theorem out16_at (b : Fin 16) (j : Fin 2) (f : Fin 5632) :
    out0_16 (F := Ideal) x0 x1 x2 x3 x4 x5 x6 x7 x8 x9 x10 x11 x12 x13 x14 (ix3 b j f) = A.ext b ⟨32 + j.val, by omega⟩ f := by
  rw [out16_eq]
  refine View.canon_apply_of_pieces (Val := Elt Ideal) (S := S16x2x5632) (e := .f32)
    (fun y => A.ext (y 0) ⟨32 + (y 1).val, by have := (y 1).isLt; change _ < 2 at this; omega⟩ (y 2)) _ ?_ (ix3 b j f) (cover0_16 _ _ _ _ _ _ _ _ _ _ _ _ _ _ _ _ _ _ _ _ _ _ _ _ _ _ _ _ _ _ _ _ _)
  intro p hp
  obtain ⟨q, _, rfl⟩ := List.mem_map.mp hp
  exact fun x => lastPiece_eq H q x

end

end Cert.PostSIdeal.Block

end
-- ==== Proof.PostSHost.lean ====
/-
What the host code before the sample batch's second half leaves in the arrays of its windows: the rows of all batches one
after the other, the modulation vectors repeated for every row, the weights in the narrower format.
-/
module

public import proofs.«01_k».proof.Proof.PostSBlock
public import Idealize.ShloMosaic.Lib.StableHlo.ReadAt
public import Idealize.ShloMosaic.Lib.Claim

@[expose] public section

set_option maxRecDepth 16384

noncomputable section

namespace Cert.PostSIdeal.Block

open Cert.PostSIdeal Cert.PostSIdeal.Gen
open Idealize.ShloMosaic Idealize.ShloMosaic.TcCoe Idealize.SL.Sem
open Cert.PostSSpec

variable (m : (ℓ : Loc nD τ sig) → Buf (Elt Ideal) ℓ)

/-- The layer's arrays, read off the launch's memory. -/
abbrev argsAt (c : Dev nD) : Args :=
  argsOf (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14))

/-- A modulation vector, one copy per row of its batch. -/
theorem V_v1 (c : Dev nD) (r : Fin 512) (d : Fin 1024) :
    V m c main_v1 (ix2 r d) = m (c, main_arg3) (ix2 (⟨r.val / 32, by omega⟩ : Fin 16) d) := by
  unfold V
  after_reads_at

/-- A modulation vector, one copy per row of its batch. -/
theorem V_v3 (c : Dev nD) (r : Fin 512) (d : Fin 1024) :
    V m c main_v3 (ix2 r d) = m (c, main_arg4) (ix2 (⟨r.val / 32, by omega⟩ : Fin 16) d) := by
  unfold V
  after_reads_at

/-- A modulation vector, one copy per row of its batch. -/
theorem V_v5 (c : Dev nD) (r : Fin 512) (d : Fin 1024) :
    V m c main_v5 (ix2 r d) = m (c, main_arg5) (ix2 (⟨r.val / 32, by omega⟩ : Fin 16) d) := by
  unfold V
  after_reads_at

/-- A modulation vector, one copy per row of its batch. -/
theorem V_v7 (c : Dev nD) (r : Fin 512) (d : Fin 1024) :
    V m c main_v7 (ix2 r d) = m (c, main_arg6) (ix2 (⟨r.val / 32, by omega⟩ : Fin 16) d) := by
  unfold V
  after_reads_at

/-- The rows of all batches, one after the other. -/
theorem V_v8 (c : Dev nD) (r : Fin 512) (d : Fin 1024) :
    V m c main_v8 (ix2 r d) = m (c, main_arg0) (ix3 (⟨r.val / 32, by omega⟩ : Fin 16) (⟨r.val % 32, by omega⟩ : Fin 32) d) := by
  unfold V
  after_reads_at

/-- The rows of all batches, one after the other. -/
theorem V_v9 (c : Dev nD) (r : Fin 512) (d : Fin 512) :
    V m c main_v9 (ix2 r d) = m (c, main_arg1) (ix3 (⟨r.val / 32, by omega⟩ : Fin 16) (⟨r.val % 32, by omega⟩ : Fin 32) d) := by
  unfold V
  after_reads_at

/-- The rows of all batches, one after the other. -/
theorem V_v10 (c : Dev nD) (r : Fin 512) (d : Fin 512) :
    V m c main_v10 (ix2 r d) = m (c, main_arg2) (ix3 (⟨r.val / 32, by omega⟩ : Fin 16) (⟨r.val % 32, by omega⟩ : Fin 32) d) := by
  unfold V
  after_reads_at

/-- A vector as one row. -/
theorem V_v11 (c : Dev nD) (d : Fin 1024) :
    V m c main_v11 (ix2 0 d) = m (c, main_arg7) (ix1 d) := by
  unfold V
  after_reads_at

/-- A vector as one row. -/
theorem V_v12 (c : Dev nD) (d : Fin 1024) :
    V m c main_v12 (ix2 0 d) = m (c, main_arg8) (ix1 d) := by
  unfold V
  after_reads_at

/-- A vector as one row. -/
theorem V_v16 (c : Dev nD) (d : Fin 5632) :
    V m c main_v16 (ix2 0 d) = m (c, main_arg13) (ix1 d) := by
  unfold V
  after_reads_at

/-- A weight matrix in the narrower format: the same values. -/
theorem V_v13 (c : Dev nD) (k : Fin 1024) (d : Fin 1024) :
    V m c main_v13 (ix2 k d) = m (c, main_arg9) (ix2 k d) := by
  unfold V
  after_reads_at

/-- A weight matrix in the narrower format: the same values. -/
theorem V_v14 (c : Dev nD) (k : Fin 1024) (d : Fin 5632) :
    V m c main_v14 (ix2 k d) = m (c, main_arg10) (ix2 k d) := by
  unfold V
  after_reads_at

/-- A weight matrix in the narrower format: the same values. -/
theorem V_v15 (c : Dev nD) (k : Fin 2816) (d : Fin 1024) :
    V m c main_v15 (ix2 k d) = m (c, main_arg11) (ix2 k d) := by
  unfold V
  after_reads_at

/-- An argument the host leaves as it is. -/
theorem V_arg12 (c : Dev nD) (k : Fin 3) (d : Fin 5632) :
    V m c main_arg12 (ix2 k d) = m (c, main_arg12) (ix2 k d) := by
  unfold V
  after_reads_at

/-- An argument the host leaves as it is. -/
theorem V_arg14 (c : Dev nD) (b : Fin 16) (k : Fin 2) (d : Fin 5632) :
    V m c main_arg14 (ix3 b k d) = m (c, main_arg14) (ix3 b k d) := by
  unfold V
  after_reads_at

end Cert.PostSIdeal.Block

end
-- ==== Proof.PostSArray.lean ====
/-
What the result arrays of the sample batch's second half hold: the layer's output of every row, and the up projection's
last two rows of every batch, read back through the blocks the grid point leaves.
-/
module

public import proofs.«01_k».proof.Proof.Gen.PostSIdeal.Value
public import proofs.«01_k».proof.Proof.PostSHost

@[expose] public section

set_option maxRecDepth 16384

noncomputable section

namespace Cert.PostSIdeal.Block

open Cert.PostSIdeal Cert.PostSIdeal.Gen Cert.PostSIdeal.Value
open Idealize.ShloMosaic Idealize.ShloMosaic.TcCoe Idealize.SL.Sem
open Cert.PostSSpec

variable (m : (ℓ : Loc nD τ sig) → Buf (Elt Ideal) ℓ)

/-- Where the blocks of window 0 lie. -/
theorem at0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 0's block at an index. -/
theorem blk0 (c : Dev nD) (t : Fin cfg0.N) (i : Fin 512) (j : Fin 1024) :
    iblk m c 0 t (ix2 i j) = V m c main_v8 (ix2 i j) := by
  obtain ⟨h0, h1⟩ := at0 t
  show ((cfg0.win 0).blk t).view.read (Elt Ideal) (V m c (Pipeline.arrRef spec0 0)) _ = _
  rw [View.read_apply]
  refine congrArg (V m c main_v8) (funext fun a => Fin.ext ?_)
  exact (match a with
    | ⟨0, _⟩ => (by show win0_0.index t 0 * 512 + 1 * i.val = i.val; rw [h0]; omega)
    | ⟨1, _⟩ => (by show win0_0.index t 1 * 1024 + 1 * j.val = j.val; rw [h1]; omega)
    )

/-- Where the blocks of window 1 lie. -/
theorem at1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 1's block at an index. -/
theorem blk1 (c : Dev nD) (t : Fin cfg0.N) (i : Fin 512) (j : Fin 512) :
    iblk m c 1 t (ix2 i j) = V m c main_v9 (ix2 i j) := by
  obtain ⟨h0, h1⟩ := at1 t
  show ((cfg0.win 1).blk t).view.read (Elt Ideal) (V m c (Pipeline.arrRef spec0 1)) _ = _
  rw [View.read_apply]
  refine congrArg (V m c main_v9) (funext fun a => Fin.ext ?_)
  exact (match a with
    | ⟨0, _⟩ => (by show win0_1.index t 0 * 512 + 1 * i.val = i.val; rw [h0]; omega)
    | ⟨1, _⟩ => (by show win0_1.index t 1 * 512 + 1 * j.val = j.val; rw [h1]; omega)
    )

/-- Where the blocks of window 2 lie. -/
theorem at2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 2's block at an index. -/
theorem blk2 (c : Dev nD) (t : Fin cfg0.N) (i : Fin 512) (j : Fin 512) :
    iblk m c 2 t (ix2 i j) = V m c main_v10 (ix2 i j) := by
  obtain ⟨h0, h1⟩ := at2 t
  show ((cfg0.win 2).blk t).view.read (Elt Ideal) (V m c (Pipeline.arrRef spec0 2)) _ = _
  rw [View.read_apply]
  refine congrArg (V m c main_v10) (funext fun a => Fin.ext ?_)
  exact (match a with
    | ⟨0, _⟩ => (by show win0_2.index t 0 * 512 + 1 * i.val = i.val; rw [h0]; omega)
    | ⟨1, _⟩ => (by show win0_2.index t 1 * 512 + 1 * j.val = j.val; rw [h1]; omega)
    )

/-- Where the blocks of window 3 lie. -/
theorem at3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's block at an index. -/
theorem blk3 (c : Dev nD) (t : Fin cfg0.N) (i : Fin 512) (j : Fin 1024) :
    iblk m c 3 t (ix2 i j) = V m c main_v1 (ix2 i j) := by
  obtain ⟨h0, h1⟩ := at3 t
  show ((cfg0.win 3).blk t).view.read (Elt Ideal) (V m c (Pipeline.arrRef spec0 3)) _ = _
  rw [View.read_apply]
  refine congrArg (V m c main_v1) (funext fun a => Fin.ext ?_)
  exact (match a with
    | ⟨0, _⟩ => (by show win0_3.index t 0 * 512 + 1 * i.val = i.val; rw [h0]; omega)
    | ⟨1, _⟩ => (by show win0_3.index t 1 * 1024 + 1 * j.val = j.val; rw [h1]; omega)
    )

/-- Where the blocks of window 4 lie. -/
theorem at4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's block at an index. -/
theorem blk4 (c : Dev nD) (t : Fin cfg0.N) (i : Fin 512) (j : Fin 1024) :
    iblk m c 4 t (ix2 i j) = V m c main_v3 (ix2 i j) := by
  obtain ⟨h0, h1⟩ := at4 t
  show ((cfg0.win 4).blk t).view.read (Elt Ideal) (V m c (Pipeline.arrRef spec0 4)) _ = _
  rw [View.read_apply]
  refine congrArg (V m c main_v3) (funext fun a => Fin.ext ?_)
  exact (match a with
    | ⟨0, _⟩ => (by show win0_4.index t 0 * 512 + 1 * i.val = i.val; rw [h0]; omega)
    | ⟨1, _⟩ => (by show win0_4.index t 1 * 1024 + 1 * j.val = j.val; rw [h1]; omega)
    )

/-- Where the blocks of window 5 lie. -/
theorem at5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's block at an index. -/
theorem blk5 (c : Dev nD) (t : Fin cfg0.N) (i : Fin 512) (j : Fin 1024) :
    iblk m c 5 t (ix2 i j) = V m c main_v5 (ix2 i j) := by
  obtain ⟨h0, h1⟩ := at5 t
  show ((cfg0.win 5).blk t).view.read (Elt Ideal) (V m c (Pipeline.arrRef spec0 5)) _ = _
  rw [View.read_apply]
  refine congrArg (V m c main_v5) (funext fun a => Fin.ext ?_)
  exact (match a with
    | ⟨0, _⟩ => (by show win0_5.index t 0 * 512 + 1 * i.val = i.val; rw [h0]; omega)
    | ⟨1, _⟩ => (by show win0_5.index t 1 * 1024 + 1 * j.val = j.val; rw [h1]; omega)
    )

/-- Where the blocks of window 6 lie. -/
theorem at6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's block at an index. -/
theorem blk6 (c : Dev nD) (t : Fin cfg0.N) (i : Fin 512) (j : Fin 1024) :
    iblk m c 6 t (ix2 i j) = V m c main_v7 (ix2 i j) := by
  obtain ⟨h0, h1⟩ := at6 t
  show ((cfg0.win 6).blk t).view.read (Elt Ideal) (V m c (Pipeline.arrRef spec0 6)) _ = _
  rw [View.read_apply]
  refine congrArg (V m c main_v7) (funext fun a => Fin.ext ?_)
  exact (match a with
    | ⟨0, _⟩ => (by show win0_6.index t 0 * 512 + 1 * i.val = i.val; rw [h0]; omega)
    | ⟨1, _⟩ => (by show win0_6.index t 1 * 1024 + 1 * j.val = j.val; rw [h1]; omega)
    )

/-- Where the blocks of window 7 lie. -/
theorem at7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7's block at an index. -/
theorem blk7 (c : Dev nD) (t : Fin cfg0.N) (i : Fin 1) (j : Fin 1024) :
    iblk m c 7 t (ix2 i j) = V m c main_v11 (ix2 i j) := by
  obtain ⟨h0, h1⟩ := at7 t
  show ((cfg0.win 7).blk t).view.read (Elt Ideal) (V m c (Pipeline.arrRef spec0 7)) _ = _
  rw [View.read_apply]
  refine congrArg (V m c main_v11) (funext fun a => Fin.ext ?_)
  exact (match a with
    | ⟨0, _⟩ => (by show win0_7.index t 0 * 1 + 1 * i.val = i.val; rw [h0]; omega)
    | ⟨1, _⟩ => (by show win0_7.index t 1 * 1024 + 1 * j.val = j.val; rw [h1]; omega)
    )

/-- Where the blocks of window 8 lie. -/
theorem at8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8's block at an index. -/
theorem blk8 (c : Dev nD) (t : Fin cfg0.N) (i : Fin 1) (j : Fin 1024) :
    iblk m c 8 t (ix2 i j) = V m c main_v12 (ix2 i j) := by
  obtain ⟨h0, h1⟩ := at8 t
  show ((cfg0.win 8).blk t).view.read (Elt Ideal) (V m c (Pipeline.arrRef spec0 8)) _ = _
  rw [View.read_apply]
  refine congrArg (V m c main_v12) (funext fun a => Fin.ext ?_)
  exact (match a with
    | ⟨0, _⟩ => (by show win0_8.index t 0 * 1 + 1 * i.val = i.val; rw [h0]; omega)
    | ⟨1, _⟩ => (by show win0_8.index t 1 * 1024 + 1 * j.val = j.val; rw [h1]; omega)
    )

/-- Where the blocks of window 9 lie. -/
theorem at9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 9's block at an index. -/
theorem blk9 (c : Dev nD) (t : Fin cfg0.N) (i : Fin 1024) (j : Fin 1024) :
    iblk m c 9 t (ix2 i j) = V m c main_v13 (ix2 i j) := by
  obtain ⟨h0, h1⟩ := at9 t
  show ((cfg0.win 9).blk t).view.read (Elt Ideal) (V m c (Pipeline.arrRef spec0 9)) _ = _
  rw [View.read_apply]
  refine congrArg (V m c main_v13) (funext fun a => Fin.ext ?_)
  exact (match a with
    | ⟨0, _⟩ => (by show win0_9.index t 0 * 1024 + 1 * i.val = i.val; rw [h0]; omega)
    | ⟨1, _⟩ => (by show win0_9.index t 1 * 1024 + 1 * j.val = j.val; rw [h1]; omega)
    )

/-- Where the blocks of window 10 lie. -/
theorem at10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 10's block at an index. -/
theorem blk10 (c : Dev nD) (t : Fin cfg0.N) (i : Fin 1024) (j : Fin 5632) :
    iblk m c 10 t (ix2 i j) = V m c main_v14 (ix2 i j) := by
  obtain ⟨h0, h1⟩ := at10 t
  show ((cfg0.win 10).blk t).view.read (Elt Ideal) (V m c (Pipeline.arrRef spec0 10)) _ = _
  rw [View.read_apply]
  refine congrArg (V m c main_v14) (funext fun a => Fin.ext ?_)
  exact (match a with
    | ⟨0, _⟩ => (by show win0_10.index t 0 * 1024 + 1 * i.val = i.val; rw [h0]; omega)
    | ⟨1, _⟩ => (by show win0_10.index t 1 * 5632 + 1 * j.val = j.val; rw [h1]; omega)
    )

/-- Where the blocks of window 11 lie. -/
theorem at11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- Window 11's block at an index. -/
theorem blk11 (c : Dev nD) (t : Fin cfg0.N) (i : Fin 2816) (j : Fin 1024) :
    iblk m c 11 t (ix2 i j) = V m c main_v15 (ix2 i j) := by
  obtain ⟨h0, h1⟩ := at11 t
  show ((cfg0.win 11).blk t).view.read (Elt Ideal) (V m c (Pipeline.arrRef spec0 11)) _ = _
  rw [View.read_apply]
  refine congrArg (V m c main_v15) (funext fun a => Fin.ext ?_)
  exact (match a with
    | ⟨0, _⟩ => (by show win0_11.index t 0 * 2816 + 1 * i.val = i.val; rw [h0]; omega)
    | ⟨1, _⟩ => (by show win0_11.index t 1 * 1024 + 1 * j.val = j.val; rw [h1]; omega)
    )

/-- Where the blocks of window 12 lie. -/
theorem at12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- Window 12's block at an index. -/
theorem blk12 (c : Dev nD) (t : Fin cfg0.N) (i : Fin 3) (j : Fin 5632) :
    iblk m c 12 t (ix2 i j) = V m c main_arg12 (ix2 i j) := by
  obtain ⟨h0, h1⟩ := at12 t
  show ((cfg0.win 12).blk t).view.read (Elt Ideal) (V m c (Pipeline.arrRef spec0 12)) _ = _
  rw [View.read_apply]
  refine congrArg (V m c main_arg12) (funext fun a => Fin.ext ?_)
  exact (match a with
    | ⟨0, _⟩ => (by show win0_12.index t 0 * 3 + 1 * i.val = i.val; rw [h0]; omega)
    | ⟨1, _⟩ => (by show win0_12.index t 1 * 5632 + 1 * j.val = j.val; rw [h1]; omega)
    )

/-- Where the blocks of window 13 lie. -/
theorem at13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- Window 13's block at an index. -/
theorem blk13 (c : Dev nD) (t : Fin cfg0.N) (i : Fin 1) (j : Fin 5632) :
    iblk m c 13 t (ix2 i j) = V m c main_v16 (ix2 i j) := by
  obtain ⟨h0, h1⟩ := at13 t
  show ((cfg0.win 13).blk t).view.read (Elt Ideal) (V m c (Pipeline.arrRef spec0 13)) _ = _
  rw [View.read_apply]
  refine congrArg (V m c main_v16) (funext fun a => Fin.ext ?_)
  exact (match a with
    | ⟨0, _⟩ => (by show win0_13.index t 0 * 1 + 1 * i.val = i.val; rw [h0]; omega)
    | ⟨1, _⟩ => (by show win0_13.index t 1 * 5632 + 1 * j.val = j.val; rw [h1]; omega)
    )

/-- Where the blocks of window 14 lie. -/
theorem at14 : ∀ t : Fin cfg0.N, win0_14.index t (0 : Fin 3) = 0 ∧ win0_14.index t (1 : Fin 3) = 0 ∧ win0_14.index t (2 : Fin 3) = 0 :=
  (by decide +kernel : ∀ t : Fin grid0.N, win0_14.index t (0 : Fin 3) = 0 ∧ win0_14.index t (1 : Fin 3) = 0 ∧ win0_14.index t (2 : Fin 3) = 0)

/-- Window 14's block at an index. -/
theorem blk14 (c : Dev nD) (t : Fin cfg0.N) (i : Fin 16) (j : Fin 2) (k : Fin 5632) :
    iblk m c 14 t (ix3 i j k) = V m c main_arg14 (ix3 i j k) := by
  obtain ⟨h0, h1, h2⟩ := at14 t
  show ((cfg0.win 14).blk t).view.read (Elt Ideal) (V m c (Pipeline.arrRef spec0 14)) _ = _
  rw [View.read_apply]
  refine congrArg (V m c main_arg14) (funext fun a => Fin.ext ?_)
  exact (match a with
    | ⟨0, _⟩ => (by show win0_14.index t 0 * 16 + 1 * i.val = i.val; rw [h0]; omega)
    | ⟨1, _⟩ => (by show win0_14.index t 1 * 2 + 1 * j.val = j.val; rw [h1]; omega)
    | ⟨2, _⟩ => (by show win0_14.index t 2 * 5632 + 1 * k.val = k.val; rw [h2]; omega)
    )

/-- The blocks of the grid point hold the layer's arrays. -/
theorem holds (c : Dev nD) (t : Fin cfg0.N) :
    Holds (argsAt m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) where
  e0 := fun r d => (blk0 m c t r d).trans (V_v8 m c r d)
  e1 := fun r d => (blk1 m c t r d).trans (V_v9 m c r d)
  e2 := fun r d => (blk2 m c t r d).trans (V_v10 m c r d)
  e3 := fun r d => (blk3 m c t r d).trans (V_v1 m c r d)
  e4 := fun r d => (blk4 m c t r d).trans (V_v3 m c r d)
  e5 := fun r d => (blk5 m c t r d).trans (V_v5 m c r d)
  e6 := fun r d => (blk6 m c t r d).trans (V_v7 m c r d)
  e7 := fun d => (blk7 m c t 0 d).trans (V_v11 m c d)
  e8 := fun d => (blk8 m c t 0 d).trans (V_v12 m c d)
  e9 := fun r d => (blk9 m c t r d).trans (V_v13 m c r d)
  e10 := fun r d => (blk10 m c t r d).trans (V_v14 m c r d)
  e11 := fun r d => (blk11 m c t r d).trans (V_v15 m c r d)
  e12 := fun r d => (blk12 m c t r d).trans (V_arg12 m c r d)
  e13 := fun d => (blk13 m c t 0 d).trans (V_v16 m c d)
  e14 := fun b j f => (blk14 m c t b j f).trans (V_arg14 m c b j f)

/-- Where the blocks of window 15 lie. -/
theorem at15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

/-- The grid point writes window 15 back. -/
theorem flush15 : ∀ t : Fin cfg0.N, (cfg0.win 15).flush t = true :=
  (by decide +kernel : ∀ t : Fin grid0.N, win0_15.flush t = true)

/-- The array of the output, by row. -/
theorem arr15 (c : Dev nD) (i : Fin 512) (j : Fin 1024) :
    (dats m 0 c).arrAt 15 cfg0.N (ix2 i j) = Args.y (argsAt m c) (rowB i) (rowT i) j := by
  have hN : cfg0.N = 1 := N_0
  obtain ⟨t, ht⟩ : ∃ t : Fin cfg0.N, t.val = 0 := ⟨⟨0, by omega⟩, rfl⟩
  obtain ⟨h0, h1⟩ := at15 t
  have e := congrFun ((blocks15 m c t (flush15 t)).trans (flushed15 m c t)) (ix2 i j)
  rw [View.read_apply] at e
  have hi : ((cfg0.win 15).blk t).view.emb (ix2 i j) = ix2 i j := funext fun a => Fin.ext (by
    exact (match a with
    | ⟨0, _⟩ => (by show win0_15.index t 0 * 512 + 1 * i.val = i.val; rw [h0]; omega)
    | ⟨1, _⟩ => (by show win0_15.index t 1 * 1024 + 1 * j.val = j.val; rw [h1]; omega)))
  rw [hi] at e
  exact e.trans (out15_at (holds m c t) i j)

/-- Where the blocks of window 16 lie. -/
theorem at16 : ∀ t : Fin cfg0.N, win0_16.index t (0 : Fin 3) = 0 ∧ win0_16.index t (1 : Fin 3) = 0 ∧ win0_16.index t (2 : Fin 3) = 0 :=
  (by decide +kernel : ∀ t : Fin grid0.N, win0_16.index t (0 : Fin 3) = 0 ∧ win0_16.index t (1 : Fin 3) = 0 ∧ win0_16.index t (2 : Fin 3) = 0)

/-- The grid point writes window 16 back. -/
theorem flush16 : ∀ t : Fin cfg0.N, (cfg0.win 16).flush t = true :=
  (by decide +kernel : ∀ t : Fin grid0.N, win0_16.flush t = true)

/-- The array of the up projection's last two rows, by batch. -/
theorem arr16 (c : Dev nD) (i : Fin 16) (j : Fin 2) (k : Fin 5632) :
    (dats m 0 c).arrAt 16 cfg0.N (ix3 i j k) = Args.ext (argsAt m c) i ⟨32 + j.val, by omega⟩ k := by
  have hN : cfg0.N = 1 := N_0
  obtain ⟨t, ht⟩ : ∃ t : Fin cfg0.N, t.val = 0 := ⟨⟨0, by omega⟩, rfl⟩
  obtain ⟨h0, h1, h2⟩ := at16 t
  have e := congrFun ((blocks16 m c t (flush16 t)).trans (flushed16 m c t)) (ix3 i j k)
  rw [View.read_apply] at e
  have hi : ((cfg0.win 16).blk t).view.emb (ix3 i j k) = ix3 i j k := funext fun a => Fin.ext (by
    exact (match a with
    | ⟨0, _⟩ => (by show win0_16.index t 0 * 16 + 1 * i.val = i.val; rw [h0]; omega)
    | ⟨1, _⟩ => (by show win0_16.index t 1 * 2 + 1 * j.val = j.val; rw [h1]; omega)
    | ⟨2, _⟩ => (by show win0_16.index t 2 * 5632 + 1 * k.val = k.val; rw [h2]; omega)))
  rw [hi] at e
  exact e.trans (out16_at (holds m c t) i j k)

end Cert.PostSIdeal.Block

end
-- ==== Proof.PostSRefValue.lean ====
/-
What the reference of the sample batch's second half computes, read at an index: its two results are the output and the last
two rows of the extended up projection, as PostSSpec names them.
-/
module

public import proofs.«01_k».proof.Proof.Gen.PostSRefIdeal.Read
public import Idealize.ShloMosaic.Lib.Pointwise
public import Idealize.ShloMosaic.Lib.IdealHost
public import proofs.«01_k».proof.Proof.PostSSpec

@[expose] public section

set_option maxRecDepth 16384

noncomputable section

namespace Cert.PostSRefIdeal.RefValue

open Cert.PostSRefIdeal Cert.PostSRefIdeal.Gen Cert.PostSRefIdeal.Read
open Idealize.ShloMosaic Idealize.ShloMosaic.TcCoe Idealize.SL.Sem
open Cert.PostSpec (one width eps rms silu)
open Cert.PostSSpec

variable (x0 : (⟨S16x32x1024, .f32⟩ : BufTy).Contents (Elt Ideal)) (x1 : (⟨S16x32x512, .bf16⟩ : BufTy).Contents (Elt Ideal))
  (x2 : (⟨S16x32x512, .bf16⟩ : BufTy).Contents (Elt Ideal)) (x3 x4 x5 x6 : (⟨S16x1024, .f32⟩ : BufTy).Contents (Elt Ideal))
  (x7 x8 : (⟨S1024, .f32⟩ : BufTy).Contents (Elt Ideal)) (x9 : (⟨S1024x1024, .f32⟩ : BufTy).Contents (Elt Ideal))
  (x10 : (⟨S1024x5632, .f32⟩ : BufTy).Contents (Elt Ideal)) (x11 : (⟨S2816x1024, .f32⟩ : BufTy).Contents (Elt Ideal))
  (x12 : (⟨S3x5632, .f32⟩ : BufTy).Contents (Elt Ideal)) (x13 : (⟨S5632, .f32⟩ : BufTy).Contents (Elt Ideal))
  (x14 : (⟨S16x2x5632, .f32⟩ : BufTy).Contents (Elt Ideal))

/-- The concatenated branches. -/
theorem cat_eq (b : Fin 16) (t : Fin 32) (k : Fin 1024) :
    val_main_v6 (F := Ideal) x1 x2 (ix3 b t k) = Args.cat (argsOf x0 x1 x2 x3 x4 x5 x6 x7 x8 x9 x10 x11 x12 x13 x14) b t k := by
  unfold val_main_v6 Args.cat
  split
  · rename_i h
    rw [concatenate_pair_apply_left (t := S16x32x1024) (s₁ := S16x32x512) (s₂ := S16x32x512) 2 _ _ _ (ix3 b t k) rfl (ix3 b t ⟨k.val, h⟩)
      (fun a => by match a with | ⟨0, _⟩ => rfl | ⟨1, _⟩ => rfl | ⟨2, _⟩ => rfl)]
    rfl
  · rename_i h
    rw [concatenate_pair_apply_right (t := S16x32x1024) (s₁ := S16x32x512) (s₂ := S16x32x512) 2 _ _ _ (ix3 b t k) rfl rfl (ix3 b t ⟨k.val - 512, by omega⟩)
      (fun a ha => by
        match a, ha with
        | ⟨0, _⟩, _ => rfl
        | ⟨1, _⟩, _ => rfl
        | ⟨2, _⟩, ha => exact absurd rfl ha)
      (by show k.val - 512 + 512 = k.val; omega)]
    rfl

/-- The gated residual. -/
theorem x1_eq (b : Fin 16) (t : Fin 32) (d : Fin 1024) :
    val_main_v10 (F := Ideal) x0 x1 x2 x3 x9 (ix3 b t d) = Args.x1 (argsOf x0 x1 x2 x3 x4 x5 x6 x7 x8 x9 x10 x11 x12 x13 x14) b t d := by
  rw [val_main_v10_apply, val_main_v9_apply, val_main_v8_apply, val_main_v0_apply, val_main_v7_apply]
  unfold Args.x1
  refine congrArg₂ (· + ·) rfl (congrArg₂ (· * ·) ?_ (Finset.sum_congr rfl fun k _ => ?_))
  · exact congrArg x3 (eq_ix2 _)
  · rw [← cat_eq x0 x1 x2 x3 x4 x5 x6 x7 x8 x9 x10 x11 x12 x13 x14]
    exact congrArg₂ (· * ·) (congrArg _ (eq_ix3 _)) (congrArg x9 (eq_ix2 _))

/-- The reciprocal root of the mean square of the gated residual's row. -/
theorem rms1_eq (b : Fin 16) (t : Fin 32) (i : S16x32x1.Idx) (h0 : i 0 = b) (h1 : i 1 = t) :
    val_main_v18 (F := Ideal) x0 x1 x2 x3 x9 i = rms (Args.x1 (argsOf x0 x1 x2 x3 x4 x5 x6 x7 x8 x9 x10 x11 x12 x13 x14) b t) := by
  rw [val_main_v18_apply, val_main_v17_apply, val_main_v16_apply, val_main_v15_apply, val_main_v14_apply,
    val_main_v13_apply, val_main_v12_apply, val_main_cst_apply, val_main_cst_0_apply, val_main_cst_1_apply]
  show Ideal.rsqrt (Ideal.div (Ideal.ofBits .f32 0x00000000#32 + _) width + eps) = _
  rw [Ideal.ofBits_zero_f32, zero_add]
  unfold rms
  refine congrArg Ideal.rsqrt (congrArg (· + eps) (congrArg (Ideal.div · width) (Finset.sum_congr rfl fun k _ => ?_)))
  have e : idx_main_v12 (idx_main_v13 i) k = ix3 b t k := by
    subst h0 h1
    funext a; match a with | ⟨0, _⟩ => rfl | ⟨1, _⟩ => rfl | ⟨2, _⟩ => rfl
  rw [e, val_main_v11_apply]
  exact congrArg₂ (· * ·) (x1_eq x0 x1 x2 x3 x4 x5 x6 x7 x8 x9 x10 x11 x12 x13 x14 b t k) (x1_eq x0 x1 x2 x3 x4 x5 x6 x7 x8 x9 x10 x11 x12 x13 x14 b t k)

/-- The modulated row. -/
theorem h2_eq (b : Fin 16) (t : Fin 32) (d : Fin 1024) :
    val_main_v29 (F := Ideal) x0 x1 x2 x3 x4 x5 x7 x9 (ix3 b t d) = Args.h2 (argsOf x0 x1 x2 x3 x4 x5 x6 x7 x8 x9 x10 x11 x12 x13 x14) b t d := by
  rw [val_main_v29_apply, val_main_v28_apply, val_main_v27_apply, val_main_v26_apply, val_main_v25_apply,
    val_main_v24_apply, val_main_v23_apply, val_main_v22_apply, val_main_v21_apply, val_main_v20_apply,
    val_main_v19_apply, val_main_v2_apply, val_main_v1_apply, val_main_cst_2_apply, x1_eq x0 x1 x2 x3 x4 x5 x6 x7 x8 x9 x10 x11 x12 x13 x14,
    rms1_eq x0 x1 x2 x3 x4 x5 x6 x7 x8 x9 x10 x11 x12 x13 x14 b t _ rfl rfl]
  unfold Args.h2
  refine congrArg₂ (· + ·) (congrArg₂ (· * ·) (congrArg₂ (· * ·) rfl ?_) (congrArg₂ (· + ·) rfl ?_)) ?_
  · exact congrArg x7 (eq_ix1 _)
  · exact congrArg x4 (eq_ix2 _)
  · exact congrArg x5 (eq_ix2 _)

/-- The up projection. -/
theorem up_eq (b : Fin 16) (t : Fin 32) (f : Fin 5632) :
    val_main_v30 (F := Ideal) x0 x1 x2 x3 x4 x5 x7 x9 x10 (ix3 b t f) = Args.up (argsOf x0 x1 x2 x3 x4 x5 x6 x7 x8 x9 x10 x11 x12 x13 x14) b t f := by
  rw [val_main_v30_apply]
  unfold Args.up
  refine Finset.sum_congr rfl fun k _ => ?_
  rw [← h2_eq x0 x1 x2 x3 x4 x5 x6 x7 x8 x9 x10 x11 x12 x13 x14]
  exact congrArg₂ (· * ·) (congrArg _ (eq_ix3 _)) (congrArg x10 (eq_ix2 _))

/-- The up projection after its history rows. -/
theorem ext_eq (b : Fin 16) (s : Fin 34) (f : Fin 5632) :
    val_main_v31 (F := Ideal) x0 x1 x2 x3 x4 x5 x7 x9 x10 x14 (ix3 b s f) = Args.ext (argsOf x0 x1 x2 x3 x4 x5 x6 x7 x8 x9 x10 x11 x12 x13 x14) b s f := by
  unfold val_main_v31 Args.ext
  split
  · rename_i h
    rw [concatenate_pair_apply_left (t := S16x34x5632) (s₁ := S16x2x5632) (s₂ := S16x32x5632) 1 _ _ _ (ix3 b s f) rfl (ix3 b ⟨s.val, h⟩ f)
      (fun a => by match a with | ⟨0, _⟩ => rfl | ⟨1, _⟩ => rfl | ⟨2, _⟩ => rfl)]
  · rename_i h
    rw [concatenate_pair_apply_right (t := S16x34x5632) (s₁ := S16x2x5632) (s₂ := S16x32x5632) 1 _ _ _ (ix3 b s f) rfl rfl (ix3 b ⟨s.val - 2, by omega⟩ f)
      (fun a ha => by
        match a, ha with
        | ⟨0, _⟩, _ => rfl
        | ⟨1, _⟩, ha => exact absurd rfl ha
        | ⟨2, _⟩, _ => rfl)
      (by show s.val - 2 + 2 = s.val; omega), up_eq x0 x1 x2 x3 x4 x5 x6 x7 x8 x9 x10 x11 x12 x13 x14]

/-- The causal filter with its bias. -/
theorem dw_eq (b : Fin 16) (t : Fin 32) (f : Fin 5632) :
    val_main_v54 (F := Ideal) x0 x1 x2 x3 x4 x5 x7 x9 x10 x12 x13 x14 (ix3 b t f) = Args.dw (argsOf x0 x1 x2 x3 x4 x5 x6 x7 x8 x9 x10 x11 x12 x13 x14) b t f := by
  rw [val_main_v54_apply, val_main_v53_apply, val_main_v52_apply, val_main_v51_apply, val_main_v50_apply,
    val_main_v49_apply, val_main_v48_apply, val_main_v47_apply, val_main_v46_apply, val_main_v45_apply,
    val_main_v44_apply, val_main_v43_apply, val_main_v42_apply, val_main_v41_apply, val_main_v40_apply,
    val_main_v39_apply, val_main_v38_apply, val_main_v37_apply, val_main_v36_apply, val_main_v35_apply,
    val_main_v34_apply, val_main_v33_apply, val_main_v32_apply]
  unfold Args.dw
  rw [← ext_eq x0 x1 x2 x3 x4 x5 x6 x7 x8 x9 x10 x11 x12 x13 x14, ← ext_eq x0 x1 x2 x3 x4 x5 x6 x7 x8 x9 x10 x11 x12 x13 x14, ← ext_eq x0 x1 x2 x3 x4 x5 x6 x7 x8 x9 x10 x11 x12 x13 x14]
  refine congrArg₂ (· + ·) (congrArg₂ (· + ·) (congrArg₂ (· + ·) (congrArg₂ (· * ·) ?_ ?_) (congrArg₂ (· * ·) ?_ ?_))
    (congrArg₂ (· * ·) ?_ ?_)) ?_
  · exact congrArg _ (funext fun a => Fin.ext (by match a with | ⟨0, _⟩ => rfl | ⟨1, _⟩ => rfl | ⟨2, _⟩ => rfl))
  · exact congrArg x12 (funext fun a => Fin.ext (by match a with | ⟨0, _⟩ => rfl | ⟨1, _⟩ => exact Nat.mod_eq_of_lt f.isLt))
  · exact congrArg _ (funext fun a => Fin.ext (by match a with | ⟨0, _⟩ => rfl | ⟨1, _⟩ => exact Nat.add_comm 1 t.val | ⟨2, _⟩ => rfl))
  · exact congrArg x12 (funext fun a => Fin.ext (by match a with | ⟨0, _⟩ => rfl | ⟨1, _⟩ => exact Nat.mod_eq_of_lt f.isLt))
  · exact congrArg _ (funext fun a => Fin.ext (by match a with | ⟨0, _⟩ => rfl | ⟨1, _⟩ => exact Nat.add_comm 2 t.val | ⟨2, _⟩ => rfl))
  · exact congrArg x12 (funext fun a => Fin.ext (by match a with | ⟨0, _⟩ => rfl | ⟨1, _⟩ => exact Nat.mod_eq_of_lt f.isLt))
  · exact congrArg x13 (eq_ix1 _)

/-- The gated activation. -/
theorem act_eq (b : Fin 16) (t : Fin 32) (f : Fin 2816) :
    val_main_v58 (F := Ideal) x0 x1 x2 x3 x4 x5 x7 x9 x10 x12 x13 x14 (ix3 b t f) = Args.act (argsOf x0 x1 x2 x3 x4 x5 x6 x7 x8 x9 x10 x11 x12 x13 x14) b t f := by
  rw [val_main_v58_apply, val_main_v57_apply, val_main_call0_v5_apply, val_main_call0_v4_apply,
    val_main_call0_v3_apply, val_main_call0_v2_apply, val_main_call0_v1_apply, val_main_call0_v0_apply,
    val_main_call0_cst_apply, val_main_call0_cst_0_apply, val_main_v56_apply, val_main_v55_apply]
  unfold Args.act silu
  have e0 : idx_main_v55 (ix3 b t f) = ix3 b t ⟨f.val, by omega⟩ := funext fun a => Fin.ext (by
    match a with | ⟨0, _⟩ => rfl | ⟨1, _⟩ => rfl | ⟨2, _⟩ => rfl)
  have e1 : idx_main_v56 (ix3 b t f) = ix3 b t ⟨2816 + f.val, by omega⟩ := funext fun a => Fin.ext (by
    match a with | ⟨0, _⟩ => rfl | ⟨1, _⟩ => rfl | ⟨2, _⟩ => rfl)
  rw [e0, e1, dw_eq x0 x1 x2 x3 x4 x5 x6 x7 x8 x9 x10 x11 x12 x13 x14, dw_eq x0 x1 x2 x3 x4 x5 x6 x7 x8 x9 x10 x11 x12 x13 x14]
  refine congrArg₂ (· * ·) rfl (congrArg₂ (· * ·) rfl ?_)
  show Ideal.div one (one + Ideal.exp (- _)) = Ideal.logistic _
  unfold Ideal.logistic one
  rw [Ideal.ofBits_one_f32]

/-- The gated residual after the down projection. -/
theorem x2_eq (b : Fin 16) (t : Fin 32) (d : Fin 1024) :
    val_main_v62 (F := Ideal) x0 x1 x2 x3 x4 x5 x6 x7 x9 x10 x11 x12 x13 x14 (ix3 b t d) = Args.x2 (argsOf x0 x1 x2 x3 x4 x5 x6 x7 x8 x9 x10 x11 x12 x13 x14) b t d := by
  rw [val_main_v62_apply, val_main_v61_apply, val_main_v60_apply, val_main_v59_apply, val_main_v3_apply, x1_eq x0 x1 x2 x3 x4 x5 x6 x7 x8 x9 x10 x11 x12 x13 x14]
  unfold Args.x2
  refine congrArg₂ (· + ·) rfl (congrArg₂ (· * ·) ?_ (Finset.sum_congr rfl fun k _ => ?_))
  · exact congrArg x6 (eq_ix2 _)
  · rw [← act_eq x0 x1 x2 x3 x4 x5 x6 x7 x8 x9 x10 x11 x12 x13 x14]
    exact congrArg₂ (· * ·) (congrArg _ (eq_ix3 _)) (congrArg x11 (eq_ix2 _))

/-- The reciprocal root of the mean square of that residual's row. -/
theorem rms2_eq (b : Fin 16) (t : Fin 32) (i : S16x32x1.Idx) (h0 : i 0 = b) (h1 : i 1 = t) :
    val_main_v70 (F := Ideal) x0 x1 x2 x3 x4 x5 x6 x7 x9 x10 x11 x12 x13 x14 i = rms (Args.x2 (argsOf x0 x1 x2 x3 x4 x5 x6 x7 x8 x9 x10 x11 x12 x13 x14) b t) := by
  rw [val_main_v70_apply, val_main_v69_apply, val_main_v68_apply, val_main_v67_apply, val_main_v66_apply,
    val_main_v65_apply, val_main_v64_apply, val_main_cst_3_apply, val_main_cst_4_apply, val_main_cst_5_apply]
  show Ideal.rsqrt (Ideal.div (Ideal.ofBits .f32 0x00000000#32 + _) width + eps) = _
  rw [Ideal.ofBits_zero_f32, zero_add]
  unfold rms
  refine congrArg Ideal.rsqrt (congrArg (· + eps) (congrArg (Ideal.div · width) (Finset.sum_congr rfl fun k _ => ?_)))
  have e : idx_main_v64 (idx_main_v65 i) k = ix3 b t k := by
    subst h0 h1
    funext a; match a with | ⟨0, _⟩ => rfl | ⟨1, _⟩ => rfl | ⟨2, _⟩ => rfl
  rw [e, val_main_v63_apply]
  exact congrArg₂ (· * ·) (x2_eq x0 x1 x2 x3 x4 x5 x6 x7 x8 x9 x10 x11 x12 x13 x14 b t k) (x2_eq x0 x1 x2 x3 x4 x5 x6 x7 x8 x9 x10 x11 x12 x13 x14 b t k)

/-- The output. -/
theorem y_eq (b : Fin 16) (t : Fin 32) (d : Fin 1024) :
    val_main_v75 (F := Ideal) x0 x1 x2 x3 x4 x5 x6 x7 x8 x9 x10 x11 x12 x13 x14 (ix3 b t d) = Args.y (argsOf x0 x1 x2 x3 x4 x5 x6 x7 x8 x9 x10 x11 x12 x13 x14) b t d := by
  rw [val_main_v75_apply, val_main_v74_apply, val_main_v73_apply, val_main_v72_apply, val_main_v71_apply, x2_eq x0 x1 x2 x3 x4 x5 x6 x7 x8 x9 x10 x11 x12 x13 x14,
    rms2_eq x0 x1 x2 x3 x4 x5 x6 x7 x8 x9 x10 x11 x12 x13 x14 b t _ rfl rfl]
  unfold Args.y
  exact congrArg₂ (· * ·) rfl (congrArg x8 (eq_ix1 _))

/-- The first result, in the flat row order. -/
theorem result_y (r : Fin 512) (d : Fin 1024) :
    val_main_v76 (F := Ideal) x0 x1 x2 x3 x4 x5 x6 x7 x8 x9 x10 x11 x12 x13 x14 (ix2 r d)
      = Args.y (argsOf x0 x1 x2 x3 x4 x5 x6 x7 x8 x9 x10 x11 x12 x13 x14) ⟨r.val / 32, by omega⟩ ⟨r.val % 32, by omega⟩ d := by
  rw [val_main_v76_apply, ← y_eq x0 x1 x2 x3 x4 x5 x6 x7 x8 x9 x10 x11 x12 x13 x14]
  refine congrArg _ (funext fun a => Fin.ext ?_)
  match a with
  | ⟨0, _⟩ => show (r.val * 1024 + d.val) / 32768 = r.val / 32; omega
  | ⟨1, _⟩ => show (r.val * 1024 + d.val) / 1024 % 32 = r.val % 32; omega
  | ⟨2, _⟩ => show (r.val * 1024 + d.val) % 1024 = d.val; omega

/-- The second result: the last two rows of the extended up projection. -/
theorem result_hist (b : Fin 16) (j : Fin 2) (f : Fin 5632) :
    val_main_v77 (F := Ideal) x0 x1 x2 x3 x4 x5 x7 x9 x10 x14 (ix3 b j f)
      = Args.ext (argsOf x0 x1 x2 x3 x4 x5 x6 x7 x8 x9 x10 x11 x12 x13 x14) b ⟨32 + j.val, by omega⟩ f := by
  rw [val_main_v77_apply, ← ext_eq x0 x1 x2 x3 x4 x5 x6 x7 x8 x9 x10 x11 x12 x13 x14]
  refine congrArg _ (funext fun a => Fin.ext ?_)
  match a with
  | ⟨0, _⟩ => rfl
  | ⟨1, _⟩ => rfl
  | ⟨2, _⟩ => rfl

end Cert.PostSRefIdeal.RefValue
-- ==== Proof.PostSClaim.lean ====
/-
The claim about the sample batch's second half: from equal arguments, the tiled program and the plain one end with equal
results over the extended reals.
-/
module

public import proofs.«01_k».proof.Defs
public import proofs.«01_k».proof.Proof.PostSArray
public import proofs.«01_k».proof.Proof.PostSRefValue

@[expose] public section

set_option maxRecDepth 16384

noncomputable section

namespace Cert.PostSClaim

open Idealize.ShloMosaic Idealize.ShloMosaic.TcCoe Idealize.SL.Sem Idealize.ShloMosaic.StableHlo
open Cert.PostSSpec Cert.PostSRefIdeal.Read

variable (m : (ℓ : Loc Cert.PostSIdeal.nD Cert.PostSIdeal.τ Cert.PostSIdeal.sig) → Buf (Elt Ideal) ℓ)

/-- What the tiled program leaves in the array of window `w`. -/
abbrev out (w : Fin 17) (c : Dev Cert.PostSIdeal.nD) :=
  (Cert.PostSIdeal.Gen.dats m 0 c).arrAt w Cert.PostSIdeal.cfg0.N

/-- The plain program's first result, on the tiled program's arguments, is the tiled program's. -/
theorem y_agree (c : Dev Cert.PostSIdeal.nD) :
    val_main_v76 (F := Ideal) (m (c, Cert.PostSIdeal.main_arg0)) (m (c, Cert.PostSIdeal.main_arg1)) (m (c,
      Cert.PostSIdeal.main_arg2)) (m (c, Cert.PostSIdeal.main_arg3)) (m (c, Cert.PostSIdeal.main_arg4)) (m (c,
      Cert.PostSIdeal.main_arg5)) (m (c, Cert.PostSIdeal.main_arg6)) (m (c, Cert.PostSIdeal.main_arg7)) (m (c,
      Cert.PostSIdeal.main_arg8)) (m (c, Cert.PostSIdeal.main_arg9)) (m (c, Cert.PostSIdeal.main_arg10)) (m (c,
      Cert.PostSIdeal.main_arg11)) (m (c, Cert.PostSIdeal.main_arg12)) (m (c, Cert.PostSIdeal.main_arg13)) (m (c,
      Cert.PostSIdeal.main_arg14))
      = out m 15 c := by
  funext i
  obtain ⟨r, d, rfl⟩ : ∃ (r : Fin 512) (d : Fin 1024), i = ix2 r d := ⟨i 0, i 1, eq_ix2 i⟩
  exact (Cert.PostSRefIdeal.RefValue.result_y _ _ _ _ _ _ _ _ _ _ _ _ _ _ _ r d).trans
    (Cert.PostSIdeal.Block.arr15 m c r d).symm

/-- The plain program's second result, on the tiled program's arguments, is the tiled program's. -/
theorem hist_agree (c : Dev Cert.PostSIdeal.nD) :
    val_main_v77 (F := Ideal) (m (c, Cert.PostSIdeal.main_arg0)) (m (c, Cert.PostSIdeal.main_arg1)) (m (c,
      Cert.PostSIdeal.main_arg2)) (m (c, Cert.PostSIdeal.main_arg3)) (m (c, Cert.PostSIdeal.main_arg4)) (m (c,
      Cert.PostSIdeal.main_arg5)) (m (c, Cert.PostSIdeal.main_arg7)) (m (c, Cert.PostSIdeal.main_arg9)) (m (c,
      Cert.PostSIdeal.main_arg10)) (m (c, Cert.PostSIdeal.main_arg14))
      = out m 16 c := by
  funext i
  obtain ⟨b, j, f, rfl⟩ : ∃ (b : Fin 16) (j : Fin 2) (f : Fin 5632), i = ix3 b j f := ⟨i 0, i 1, i 2, eq_ix3 i⟩
  exact (Cert.PostSRefIdeal.RefValue.result_hist (m (c, Cert.PostSIdeal.main_arg0)) (m (c, Cert.PostSIdeal.main_arg1)) (m (c, Cert.PostSIdeal.main_arg2)) (m (c,
      Cert.PostSIdeal.main_arg3)) (m (c, Cert.PostSIdeal.main_arg4)) (m (c, Cert.PostSIdeal.main_arg5)) (m (c,
      Cert.PostSIdeal.main_arg6)) (m (c, Cert.PostSIdeal.main_arg7)) (m (c, Cert.PostSIdeal.main_arg8)) (m (c,
      Cert.PostSIdeal.main_arg9)) (m (c, Cert.PostSIdeal.main_arg10)) (m (c, Cert.PostSIdeal.main_arg11)) (m (c,
      Cert.PostSIdeal.main_arg12)) (m (c, Cert.PostSIdeal.main_arg13)) (m (c, Cert.PostSIdeal.main_arg14)) b j f).trans
    (Cert.PostSIdeal.Block.arr16 m c b j f).symm

/-- Both programs end with the layer's output and the up projection's last rows. -/
theorem algebraic : Cert.algebraic_PostSIdeal_PostSRefIdeal (hPostSIdeal := Cert.PostSIdeal.Gen.facts)
    (hPostSRefIdeal := Cert.PostSRefIdeal.Gen.facts) := fun m ρ m' ρ' _ hag =>
  ⟨fun c => out m 15 c, fun c => out m 16 c, Cert.PostSIdeal.Value.run_blocks m ρ,
    (θ_run _ _ _).mono (fun r h c => by
      obtain ⟨e0, e1, e2, e3, e4, e5, e6, e7, e8, e9, e10, e11, e12, e13, e14⟩ := hag c
      have f0 : launchContents m' c (Proc.devRef .tc Cert.PostSRefIdeal.main_arg0) = m (c, Cert.PostSIdeal.main_arg0) := e0
      have f1 : launchContents m' c (Proc.devRef .tc Cert.PostSRefIdeal.main_arg1) = m (c, Cert.PostSIdeal.main_arg1) := e1
      have f2 : launchContents m' c (Proc.devRef .tc Cert.PostSRefIdeal.main_arg2) = m (c, Cert.PostSIdeal.main_arg2) := e2
      have f3 : launchContents m' c (Proc.devRef .tc Cert.PostSRefIdeal.main_arg3) = m (c, Cert.PostSIdeal.main_arg3) := e3
      have f4 : launchContents m' c (Proc.devRef .tc Cert.PostSRefIdeal.main_arg4) = m (c, Cert.PostSIdeal.main_arg4) := e4
      have f5 : launchContents m' c (Proc.devRef .tc Cert.PostSRefIdeal.main_arg5) = m (c, Cert.PostSIdeal.main_arg5) := e5
      have f6 : launchContents m' c (Proc.devRef .tc Cert.PostSRefIdeal.main_arg6) = m (c, Cert.PostSIdeal.main_arg6) := e6
      have f7 : launchContents m' c (Proc.devRef .tc Cert.PostSRefIdeal.main_arg7) = m (c, Cert.PostSIdeal.main_arg7) := e7
      have f8 : launchContents m' c (Proc.devRef .tc Cert.PostSRefIdeal.main_arg8) = m (c, Cert.PostSIdeal.main_arg8) := e8
      have f9 : launchContents m' c (Proc.devRef .tc Cert.PostSRefIdeal.main_arg9) = m (c, Cert.PostSIdeal.main_arg9) := e9
      have f10 : launchContents m' c (Proc.devRef .tc Cert.PostSRefIdeal.main_arg10) = m (c, Cert.PostSIdeal.main_arg10) := e10
      have f11 : launchContents m' c (Proc.devRef .tc Cert.PostSRefIdeal.main_arg11) = m (c, Cert.PostSIdeal.main_arg11) := e11
      have f12 : launchContents m' c (Proc.devRef .tc Cert.PostSRefIdeal.main_arg12) = m (c, Cert.PostSIdeal.main_arg12) := e12
      have f13 : launchContents m' c (Proc.devRef .tc Cert.PostSRefIdeal.main_arg13) = m (c, Cert.PostSIdeal.main_arg13) := e13
      have f14 : launchContents m' c (Proc.devRef .tc Cert.PostSRefIdeal.main_arg14) = m (c, Cert.PostSIdeal.main_arg14) := e14
      refine ⟨(h c).1.trans ((val_main_v76_eq (launchContents m' c)).trans ?_),
        (h c).2.1.trans ((val_main_v77_eq (launchContents m' c)).trans ?_), (h c).2.2⟩
      · rw [f0, f1, f2, f3, f4, f5, f6, f7, f8, f9, f10, f11, f12, f13, f14]
        exact y_agree m c
      · rw [f0, f1, f2, f3, f4, f5, f7, f9, f10, f14]
        exact hist_agree m c)
      (Cert.PostSRefIdeal.Value.run m' ρ')⟩

end Cert.PostSClaim
-- ==== Proof.ModSpec.lean ====
/-
The mathematics of the modulation vectors, as plain functions of coordinates.

No program is named here: both batches' conditioning rows, one after the other, go through the activation, a matrix and
a bias.
-/
module

public import proofs.«01_k».proof.Proof.PostSpec

@[expose] public section

noncomputable section

namespace Cert.ModSpec

open Idealize.ShloMosaic
open Cert.PostSpec (silu)

/-- The arrays of the call, by coordinates. -/
structure Args where
  cp : Fin 8 → Fin 1024 → EReal
  cs : Fin 16 → Fin 1024 → EReal
  w : Fin 1024 → Fin 6144 → EReal
  b : Fin 6144 → EReal

/-- The arrays as functions of coordinates, from the arrays as functions of an index. -/
abbrev argsOf (x0 : (⟨2, ![8, 1024]⟩ : Shape).Idx → EReal) (x1 : (⟨2, ![16, 1024]⟩ : Shape).Idx → EReal)
    (x2 : (⟨2, ![1024, 6144]⟩ : Shape).Idx → EReal) (x3 : (⟨1, ![6144]⟩ : Shape).Idx → EReal) : Args :=
  ⟨fun r k => x0 (ix2 r k), fun r k => x1 (ix2 r k), fun k f => x2 (ix2 k f), fun f => x3 (ix1 f)⟩

variable (A : Args)

/-- The prompt's conditioning rows, then the sample's. -/
def Args.c (r : Fin 24) (k : Fin 1024) : EReal :=
  if h : r.val < 8 then A.cp ⟨r.val, h⟩ k else A.cs ⟨r.val - 8, by omega⟩ k

/-- A row's modulation vectors, side by side. -/
def Args.mod (r : Fin 24) (f : Fin 6144) : EReal := (∑ k : Fin 1024, silu (A.c r k) * A.w k f) + A.b f

end Cert.ModSpec

end
-- ==== Proof.ModBlock.lean ====
/-
What a grid point of the modulation call leaves in its output buffer, and what its argument blocks hold: all the
conditioning rows, and the matrix's and the bias's columns of the point's tile.
-/
module

public import proofs.«01_k».proof.Proof.Gen.ModIdeal.Frame
public import proofs.«01_k».proof.Proof.ModSpec
public import Idealize.ShloMosaic.Lib.StableHlo.ReadAt
public import Idealize.ShloMosaic.Lib.Claim

@[expose] public section

set_option maxRecDepth 16384

noncomputable section

namespace Cert.ModIdeal.Block

open Cert.ModIdeal Cert.ModIdeal.Gen
open Idealize.ShloMosaic Idealize.ShloMosaic.TcCoe Idealize.SL.Sem
open Cert.ModSpec
open Cert.PostSpec (silu)

/-- The block computation at an index, over any blocks. -/
theorem pay1_apply (v0 : Vec Ideal S24x1024 .f32) (v5 : Vec Ideal S1024x512 .f32) (v8 : Vec Ideal S1x512 .f32)
    (r : Fin 24) (f : Fin 512) :
    k0_pay1 (F := Ideal) v0 v5 v8 (ix2 r f)
      = (∑ k : Fin 1024, silu (v0 (ix2 r k)) * v5 (ix2 k f)) + v8 (ix2 0 f) := by
  unfold silu
  pointwise [k0_pay1]

/-- The offset of a rectangle over a whole buffer. -/
theorem off2 : (![0, 0] : Fin 2 → ℕ) = fun _ => 0 := by
  funext a
  match a with
  | ⟨0, _⟩ => rfl
  | ⟨1, _⟩ => rfl

/-- The output buffer at an index, over any blocks. -/
theorem out3_apply (X0 : Vec Ideal S24x1024 .f32) (X1 : Vec Ideal S1024x512 .f32) (X2 : Vec Ideal S1x512 .f32)
    (r : Fin 24) (f : Fin 512) :
    out0_3 (F := Ideal) X0 X1 X2 (ix2 r f)
      = (∑ k : Fin 1024, silu (X0 (ix2 r k)) * X1 (ix2 k f)) + X2 (ix2 0 f) := by
  rw [← pay1_apply]
  unfold out0_3
  rw [View.ld_unit_zero off2 _ X0, View.ld_unit_zero off2 _ X1, View.ld_unit_zero off2 _ X2]
  exact congrFun (View.canon_unit_zero off2 _ _) _

variable (m : (ℓ : Loc nD τ sig) → Buf (Elt Ideal) ℓ)

/-- The call's arrays, read off the launch's memory. -/
abbrev argsAt (c : Dev nD) : Args :=
  argsOf (m (c, main_arg0)) (m (c, main_arg1)) (m (c, main_arg2)) (m (c, main_arg3))

/-- The conditioning rows of both batches. -/
theorem V_v0 (c : Dev nD) (r : Fin 24) (k : Fin 1024) : V m c main_v0 (ix2 r k) = (argsAt m c).c r k := by
  unfold V Args.c
  after_reads_at

/-- The bias as one row. -/
theorem V_v1 (c : Dev nD) (f : Fin 6144) : V m c main_v1 (ix2 0 f) = (argsAt m c).b f := by
  unfold V
  after_reads_at

/-- The matrix, as launched. -/
theorem V_arg2 (c : Dev nD) (k : Fin 1024) (f : Fin 6144) : V m c main_arg2 (ix2 k f) = (argsAt m c).w k f :=
  congrFun (V_main_arg2 m c) _

/-- Column `f` of tile `t`. -/
abbrev col (t : Fin cfg0.N) (f : Fin 512) : Fin 6144 :=
  ⟨512 * t.val + f.val, by have h : t.val < 12 := t.isLt; omega⟩

/-- Where the blocks of each window lie. -/
theorem at_all : ∀ t : Fin cfg0.N, (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val))

/-- The block of conditioning rows. -/
theorem blk0 (c : Dev nD) (t : Fin cfg0.N) (r : Fin 24) (k : Fin 1024) :
    iblk m c 0 t (ix2 r k) = (argsAt m c).c r k := by
  obtain ⟨⟨h0, h1⟩, -, -, -⟩ := at_all t
  rw [← V_v0]
  show ((cfg0.win 0).blk t).view.read (Elt Ideal) (V m c (Pipeline.arrRef spec0 0)) _ = _
  rw [View.read_apply]
  refine congrArg (V m c main_v0) (funext fun a => Fin.ext ?_)
  exact (match a with
    | ⟨0, _⟩ => (by show win0_0.index t 0 * 24 + 1 * r.val = r.val; rw [h0]; omega)
    | ⟨1, _⟩ => (by show win0_0.index t 1 * 1024 + 1 * k.val = k.val; rw [h1]; omega))

/-- The block of the matrix. -/
theorem blk1 (c : Dev nD) (t : Fin cfg0.N) (k : Fin 1024) (f : Fin 512) :
    iblk m c 1 t (ix2 k f) = (argsAt m c).w k (col t f) := by
  obtain ⟨-, ⟨h0, h1⟩, -, -⟩ := at_all t
  rw [← V_arg2]
  show ((cfg0.win 1).blk t).view.read (Elt Ideal) (V m c (Pipeline.arrRef spec0 1)) _ = _
  rw [View.read_apply]
  refine congrArg (V m c main_arg2) (funext fun a => Fin.ext ?_)
  exact (match a with
    | ⟨0, _⟩ => (by show win0_1.index t 0 * 1024 + 1 * k.val = k.val; rw [h0]; omega)
    | ⟨1, _⟩ => (by show win0_1.index t 1 * 512 + 1 * f.val = 512 * t.val + f.val; rw [h1]; omega))

/-- The block of the bias. -/
theorem blk2 (c : Dev nD) (t : Fin cfg0.N) (f : Fin 512) :
    iblk m c 2 t (ix2 0 f) = (argsAt m c).b (col t f) := by
  obtain ⟨-, -, ⟨h0, h1⟩, -⟩ := at_all t
  rw [← V_v1]
  show ((cfg0.win 2).blk t).view.read (Elt Ideal) (V m c (Pipeline.arrRef spec0 2)) _ = _
  rw [View.read_apply]
  refine congrArg (V m c main_v1) (funext fun a => Fin.ext ?_)
  exact (match a with
    | ⟨0, _⟩ => (by show win0_2.index t 0 * 1 + 1 * 0 = 0; rw [h0])
    | ⟨1, _⟩ => (by show win0_2.index t 1 * 512 + 1 * f.val = 512 * t.val + f.val; rw [h1]; omega))

/-- What a grid point leaves in the output buffer: its tile's columns. -/
theorem out3_at (c : Dev nD) (t : Fin cfg0.N) (r : Fin 24) (f : Fin 512) :
    out0_3 (F := Ideal) (iblk m c 0 t) (iblk m c 1 t) (iblk m c 2 t) (ix2 r f) = (argsAt m c).mod r (col t f) := by
  rw [out3_apply]
  unfold Args.mod
  exact congrArg₂ (· + ·) (Finset.sum_congr rfl fun k _ => congrArg₂ (fun a b => silu a * b) (blk0 m c t r k) (blk1 m c t k f))
    (blk2 m c t f)

end Cert.ModIdeal.Block

end
-- ==== Proof.ModRefValue.lean ====
/-
What the plain program of the modulation vectors computes, at an index.
-/
module

public import proofs.«01_k».proof.Proof.Gen.ModRefIdeal.Read
public import proofs.«01_k».proof.Proof.ModSpec

@[expose] public section

set_option maxRecDepth 16384

noncomputable section

namespace Cert.ModRefIdeal.RefValue

open Cert.ModRefIdeal Cert.ModRefIdeal.Read
open Idealize.ShloMosaic Idealize.ShloMosaic.TcCoe Idealize.SL.Sem
open Cert.ModSpec
open Cert.PostSpec (silu one)

variable (x0 : (⟨S8x1024, .f32⟩ : BufTy).Contents (Elt Ideal)) (x1 : (⟨S16x1024, .f32⟩ : BufTy).Contents (Elt Ideal))
  (x2 : (⟨S1024x6144, .f32⟩ : BufTy).Contents (Elt Ideal)) (x3 : (⟨S6144, .f32⟩ : BufTy).Contents (Elt Ideal))

/-- The conditioning rows of both batches. -/
theorem c_eq (r : Fin 24) (k : Fin 1024) :
    val_main_v0 (F := Ideal) x0 x1 (ix2 r k) = Args.c (argsOf x0 x1 x2 x3) r k := by
  unfold val_main_v0 Args.c
  split
  · rename_i h
    rw [concatenate_pair_apply_left (t := S24x1024) (s₁ := S8x1024) (s₂ := S16x1024) 0 _ _ _ (ix2 r k) rfl (ix2 ⟨r.val, h⟩ k)
      (fun a => by match a with | ⟨0, _⟩ => rfl | ⟨1, _⟩ => rfl)]
  · rename_i h
    rw [concatenate_pair_apply_right (t := S24x1024) (s₁ := S8x1024) (s₂ := S16x1024) 0 _ _ _ (ix2 r k) rfl rfl
      (ix2 ⟨r.val - 8, by omega⟩ k)
      (fun a ha => by
        match a, ha with
        | ⟨0, _⟩, ha => exact absurd rfl ha
        | ⟨1, _⟩, _ => rfl)
      (by show r.val - 8 + 8 = r.val; omega)]

/-- The activation of a conditioning row. -/
theorem s_eq (r : Fin 24) (k : Fin 1024) :
    val_main_v1 (F := Ideal) x0 x1 (ix2 r k) = silu (Args.c (argsOf x0 x1 x2 x3) r k) := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply, c_eq x0 x1 x2 x3]
  unfold silu
  refine congrArg₂ (· * ·) rfl ?_
  show Ideal.div one (one + Ideal.exp (- _)) = Ideal.logistic _
  unfold Ideal.logistic one
  rw [Ideal.ofBits_one_f32]

/-- The result. -/
theorem result (r : Fin 24) (f : Fin 6144) :
    val_main_v5 (F := Ideal) x0 x1 x2 x3 (ix2 r f) = Args.mod (argsOf x0 x1 x2 x3) r f := by
  rw [val_main_v5_apply, val_main_v4_apply, val_main_v3_apply, val_main_v2_apply]
  unfold Args.mod
  refine congrArg₂ (· + ·) (Finset.sum_congr rfl fun k _ => ?_) (congrArg x3 (eq_ix1 _))
  rw [← s_eq x0 x1 x2 x3]
  exact congrArg₂ (· * ·) (congrArg _ (eq_ix2 _)) (congrArg x2 (eq_ix2 _))

end Cert.ModRefIdeal.RefValue

end
-- ==== Proof.ModClaim.lean ====
/-
The claim about the modulation vectors: from equal arguments, the tiled program and the plain one end with equal results
over the extended reals.
-/
module

public import proofs.«01_k».proof.Defs
public import proofs.«01_k».proof.Proof.Gen.ModIdeal.Value
public import proofs.«01_k».proof.Proof.ModBlock
public import proofs.«01_k».proof.Proof.ModRefValue

@[expose] public section

set_option maxRecDepth 16384

noncomputable section

namespace Cert.ModClaim

open Cert.ModIdeal Cert.ModIdeal.Gen Cert.ModIdeal.Value Cert.ModIdeal.Block
open Idealize.ShloMosaic Idealize.ShloMosaic.TcCoe Idealize.SL.Sem
open Cert.ModSpec

variable (m : (ℓ : Loc nD τ sig) → Buf (Elt Ideal) ℓ)

/-- Every grid point writes its output block back. -/
theorem flush3 : ∀ t : Fin cfg0.N, (cfg0.win 3).flush t = true :=
  (by decide +kernel : ∀ t : Fin grid0.N, win0_3.flush t = true)

/-- The result array: column `f` comes from the grid point of its tile. -/
theorem arr3 (c : Dev nD) (r : Fin 24) (f : Fin 6144) :
    (dats m 0 c).arrAt 3 cfg0.N (ix2 r f) = (argsAt m c).mod r f := by
  have hN : cfg0.N = 12 := N_0
  obtain ⟨t, ht⟩ : ∃ t : Fin cfg0.N, t.val = f.val / 512 := ⟨⟨f.val / 512, by omega⟩, rfl⟩
  obtain ⟨-, -, -, ⟨h0, h1⟩⟩ := at_all t
  have e := congrFun ((blocks3 m c t (flush3 t)).trans (flushed3 m c t)) (ix2 r (⟨f.val % 512, by omega⟩ : Fin 512))
  rw [View.read_apply] at e
  have hi : ((cfg0.win 3).blk t).view.emb (ix2 r (⟨f.val % 512, by omega⟩ : Fin 512)) = ix2 r f := funext fun a => Fin.ext (by
    exact (match a with
    | ⟨0, _⟩ => (by show win0_3.index t 0 * 24 + 1 * r.val = r.val; rw [h0]; omega)
    | ⟨1, _⟩ => (by show win0_3.index t 1 * 512 + 1 * (f.val % 512) = f.val; rw [h1]; omega)))
  rw [hi] at e
  refine e.trans ((out3_at m c t r (⟨f.val % 512, by omega⟩ : Fin 512)).trans ?_)
  exact congrArg (Args.mod (argsAt m c) r) (Fin.ext (by show 512 * t.val + f.val % 512 = f.val; omega))

/-- The plain program's result, on the tiled program's arguments, is the tiled program's. -/
theorem agree (c : Dev nD) (y0 : (⟨Cert.ModRefIdeal.S8x1024, .f32⟩ : BufTy).Contents (Elt Ideal))
    (y1 : (⟨Cert.ModRefIdeal.S16x1024, .f32⟩ : BufTy).Contents (Elt Ideal))
    (y2 : (⟨Cert.ModRefIdeal.S1024x6144, .f32⟩ : BufTy).Contents (Elt Ideal))
    (y3 : (⟨Cert.ModRefIdeal.S6144, .f32⟩ : BufTy).Contents (Elt Ideal))
    (e0 : y0 = m (c, main_arg0)) (e1 : y1 = m (c, main_arg1)) (e2 : y2 = m (c, main_arg2)) (e3 : y3 = m (c, main_arg3)) :
    Cert.ModRefIdeal.Read.val_main_v5 (F := Ideal) y0 y1 y2 y3 = (dats m 0 c).arrAt 3 cfg0.N := by
  subst e0 e1 e2 e3
  funext i
  obtain ⟨r, f, rfl⟩ : ∃ (r : Fin 24) (f : Fin 6144), i = ix2 r f := ⟨i 0, i 1, eq_ix2 i⟩
  exact (Cert.ModRefIdeal.RefValue.result _ _ _ _ r f).trans (arr3 m c r f).symm

/-- Both programs end with the same modulation vectors. -/
theorem algebraic : Cert.algebraic_ModIdeal_ModRefIdeal (hModIdeal := Cert.ModIdeal.Gen.facts)
    (hModRefIdeal := Cert.ModRefIdeal.Gen.facts) := fun m ρ m' ρ' _ hag =>
  ⟨fun c => (dats m 0 c).arrAt 3 cfg0.N, Cert.ModIdeal.Value.run_blocks m ρ,
    (θ_run _ _ _).mono (fun r h c => by
      obtain ⟨e0, e1, e2, e3⟩ := hag c
      obtain ⟨h0, kept⟩ := h c
      exact ⟨h0.trans ((Cert.ModRefIdeal.Read.val_main_v5_eq _ _ _ _).trans (agree m c _ _ _ _ e0 e1 e2 e3)), kept⟩)
      (Cert.ModRefIdeal.Value.run m' ρ')⟩

end Cert.ModClaim

end
-- ==== Proof.lean ====
/-
The certificate: every program's frame, the idealisation of each kernel, and the equality of each kernel with its
plain reference over the extended reals.
-/
module

public import proofs.«01_k».proof.Defs
public import proofs.«01_k».proof.Proof.Gen.Post.Frame
public import proofs.«01_k».proof.Proof.Gen.PostIdeal.Frame
public import proofs.«01_k».proof.Proof.Gen.PostRefIdeal.Run
public import proofs.«01_k».proof.Proof.Gen.Conv.Frame
public import proofs.«01_k».proof.Proof.Gen.ConvIdeal.Frame
public import proofs.«01_k».proof.Proof.Gen.ConvRefIdeal.Run
public import proofs.«01_k».proof.Proof.Gen.Inproj.Frame
public import proofs.«01_k».proof.Proof.Gen.InprojIdeal.Frame
public import proofs.«01_k».proof.Proof.Gen.InprojRefIdeal.Run
public import proofs.«01_k».proof.Proof.Gen.InprojS.Frame
public import proofs.«01_k».proof.Proof.Gen.InprojSIdeal.Frame
public import proofs.«01_k».proof.Proof.Gen.InprojSRefIdeal.Run
public import proofs.«01_k».proof.Proof.Gen.PostS.Frame
public import proofs.«01_k».proof.Proof.Gen.PostSIdeal.Frame
public import proofs.«01_k».proof.Proof.Gen.PostSRefIdeal.Run
public import proofs.«01_k».proof.Proof.Gen.Mod.Frame
public import proofs.«01_k».proof.Proof.Gen.ModIdeal.Frame
public import proofs.«01_k».proof.Proof.Gen.ModRefIdeal.Run
public import proofs.«01_k».proof.Proof.PostClaim
public import proofs.«01_k».proof.Proof.InprojClaim
public import proofs.«01_k».proof.Proof.InprojSClaim
public import proofs.«01_k».proof.Proof.PostSClaim
public import proofs.«01_k».proof.Proof.ModClaim
public import Idealize.ShloMosaic.Adequacy
public import Idealize.ShloMosaic.Init
public import Idealize.ShloMosaic.Lib.Quiescent

@[expose] public section

noncomputable section

namespace Cert.Proof

open Idealize.ShloMosaic Idealize.SL.Sem

/-- The plain program `PostRef` ends with its arguments unchanged and, having no semaphore, with every counter at zero. -/
theorem framePostRef : Cert.quiescent_PostRefIdeal (hPostRefIdeal := Cert.PostRefIdeal.Gen.facts) := fun m ρ _ =>
  (θ_run Cert.PostRefIdeal.defs _ _).mono (fun r h => ⟨fun c => (h c).2.2,
      Idealize.ShloMosaic.sem_eq_zero_of_no_sems (by decide) r.2⟩)
    (Cert.PostRefIdeal.Value.run (F := Ideal) m ρ)

/-- The plain program `ConvRef` ends with its arguments unchanged and, having no semaphore, with every counter at zero. -/
theorem frameConvRef : Cert.quiescent_ConvRefIdeal (hConvRefIdeal := Cert.ConvRefIdeal.Gen.facts) := fun m ρ _ =>
  (θ_run Cert.ConvRefIdeal.defs _ _).mono (fun r h => ⟨fun c => (h c).2,
      Idealize.ShloMosaic.sem_eq_zero_of_no_sems (by decide) r.2⟩)
    (Cert.ConvRefIdeal.Value.run (F := Ideal) m ρ)

/-- The plain program `InprojRef` ends with its arguments unchanged and, having no semaphore, with every counter at zero. -/
theorem frameInprojRef : Cert.quiescent_InprojRefIdeal (hInprojRefIdeal := Cert.InprojRefIdeal.Gen.facts) := fun m ρ _ =>
  (θ_run Cert.InprojRefIdeal.defs _ _).mono (fun r h => ⟨fun c => (h c).2.2.2.2.2.2.2.2.2.2,
      Idealize.ShloMosaic.sem_eq_zero_of_no_sems (by decide) r.2⟩)
    (Cert.InprojRefIdeal.Value.run (F := Ideal) m ρ)

/-- The plain program `InprojSRef` ends with its arguments unchanged and, having no semaphore, with every counter at zero. -/
theorem frameInprojSRef : Cert.quiescent_InprojSRefIdeal (hInprojSRefIdeal := Cert.InprojSRefIdeal.Gen.facts) := fun m ρ _ =>
  (θ_run Cert.InprojSRefIdeal.defs _ _).mono (fun r h => ⟨fun c => (h c).2.2.2.2.2.2.2,
      Idealize.ShloMosaic.sem_eq_zero_of_no_sems (by decide) r.2⟩)
    (Cert.InprojSRefIdeal.Value.run (F := Ideal) m ρ)

/-- The plain program `PostSRef` ends with its arguments unchanged and, having no semaphore, with every counter at zero. -/
theorem framePostSRef : Cert.quiescent_PostSRefIdeal (hPostSRefIdeal := Cert.PostSRefIdeal.Gen.facts) := fun m ρ _ =>
  (θ_run Cert.PostSRefIdeal.defs _ _).mono (fun r h => ⟨fun c => (h c).2.2,
      Idealize.ShloMosaic.sem_eq_zero_of_no_sems (by decide) r.2⟩)
    (Cert.PostSRefIdeal.Value.run (F := Ideal) m ρ)

/-- The plain program `ModRef` ends with its arguments unchanged and, having no semaphore, with every counter at zero. -/
theorem frameModRef : Cert.quiescent_ModRefIdeal (hModRefIdeal := Cert.ModRefIdeal.Gen.facts) := fun m ρ _ =>
  (θ_run Cert.ModRefIdeal.defs _ _).mono (fun r h => ⟨fun c => (h c).2,
      Idealize.ShloMosaic.sem_eq_zero_of_no_sems (by decide) r.2⟩)
    (Cert.ModRefIdeal.Value.run (F := Ideal) m ρ)

/-- Everything that is claimed. -/
theorem claim : Cert.Claim := ⟨Cert.Post.Gen.facts, Cert.PostIdeal.Gen.facts, Cert.PostRefIdeal.Gen.facts,
  Cert.Conv.Gen.facts, Cert.ConvIdeal.Gen.facts, Cert.ConvRefIdeal.Gen.facts,
  Cert.Inproj.Gen.facts, Cert.InprojIdeal.Gen.facts, Cert.InprojRefIdeal.Gen.facts,
  Cert.InprojS.Gen.facts, Cert.InprojSIdeal.Gen.facts, Cert.InprojSRefIdeal.Gen.facts,
  Cert.PostS.Gen.facts, Cert.PostSIdeal.Gen.facts, Cert.PostSRefIdeal.Gen.facts,
  Cert.Mod.Gen.facts, Cert.ModIdeal.Gen.facts, Cert.ModRefIdeal.Gen.facts,
  fun m ρ _ => Cert.Post.Gen.frame m ρ, fun m ρ _ => Cert.PostIdeal.Gen.frame m ρ, framePostRef,
  fun m ρ _ => Cert.Conv.Gen.frame m ρ, fun m ρ _ => Cert.ConvIdeal.Gen.frame m ρ, frameConvRef,
  fun m ρ _ => Cert.Inproj.Gen.frame m ρ, fun m ρ _ => Cert.InprojIdeal.Gen.frame m ρ, frameInprojRef,
  fun m ρ _ => Cert.InprojS.Gen.frame m ρ, fun m ρ _ => Cert.InprojSIdeal.Gen.frame m ρ, frameInprojSRef,
  fun m ρ _ => Cert.PostS.Gen.frame m ρ, fun m ρ _ => Cert.PostSIdeal.Gen.frame m ρ, framePostSRef,
  fun m ρ _ => Cert.Mod.Gen.frame m ρ, fun m ρ _ => Cert.ModIdeal.Gen.frame m ρ, frameModRef,
  trivial, Cert.PostClaim.algebraic,
  trivial,
  trivial, Cert.InprojClaim.algebraic,
  trivial, Cert.InprojSClaim.algebraic,
  trivial, Cert.PostSClaim.algebraic,
  trivial, Cert.ModClaim.algebraic⟩

end Cert.Proof

end
